-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S16x4x128x256 : Shape := ⟨4, ![16, 4, 128, 256]⟩
abbrev S3x256x512 : Shape := ⟨3, ![3, 256, 512]⟩
abbrev S3x512x256 : Shape := ⟨3, ![3, 512, 256]⟩
abbrev S8x4 : Shape := ⟨2, ![8, 4]⟩
abbrev S7x4 : Shape := ⟨2, ![7, 4]⟩
abbrev S_ : Shape := ⟨0, ![]⟩
abbrev S1x256x512 : Shape := ⟨3, ![1, 256, 512]⟩
abbrev S1x512x256 : Shape := ⟨3, ![1, 512, 256]⟩
abbrev S128x256 : Shape := ⟨2, ![128, 256]⟩
abbrev S1x1x128x256 : Shape := ⟨4, ![1, 1, 128, 256]⟩
abbrev S1x1 : Shape := ⟨2, ![1, 1]⟩
abbrev S128x512 : Shape := ⟨2, ![128, 512]⟩

abbrev nBuf : Space → Nat
  | .hbm => 8
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S16x4x128x256, .f32⟩
  | .local _ .vmem, ⟨0, _⟩ => ⟨S512x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S16x4x128x256, .f32⟩
  | .local _ .vmem, ⟨8, _⟩ => ⟨S16x4x128x256, .bf16⟩
  | .local _ .vmem, ⟨9, _⟩ => ⟨S16x4x128x256, .f32⟩
  | .local _ .vmem, ⟨10, _⟩ => ⟨S16x4x128x256, .bf16⟩
  | .local _ .vmem, ⟨11, _⟩ => ⟨S16x4x128x256, .bf16⟩
  | .local _ .vmem, ⟨12, _⟩ => ⟨S3x256x512, .bf16⟩
  | .local _ .vmem, ⟨13, _⟩ => ⟨S3x512x256, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  (ofTc nBuf bufTy 1 128 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_607 : BitVec 32 := 1#32
  let v616 : BitVec 32 := Scalar.muli v290 c1_i32_607
  let v617 : BitVec 32 := Scalar.addi c0_i32_608 v616
  v617.toNat
def k0_dev2 (d0 : Dev nD) : Nat :=
  let c0_i32_611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_610 : BitVec 32 := 1#32
  let v618 : BitVec 32 := Scalar.muli v354 c1_i32_610
  let v619 : BitVec 32 := Scalar.addi c0_i32_611 v618
  v619.toNat
def k0_off1 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v623 : Index := Scalar.indexCast v2
  let c0_615 : Index := 0#32
  let c0_616 : Index := 0#32
  let c0_617 : Index := 0#32
  ![v623.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v630 : Index := Scalar.indexCast v2
  let c1_619 : Index := 1#32
  let c0_620 : Index := 0#32
  let c0_621 : Index := 0#32
  ![v630.toNat, 1, 0, 0]
def k0_off3 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v637 : Index := Scalar.indexCast v2
  let c2_623 : Index := 2#32
  let c0_624 : Index := 0#32
  let c0_625 : Index := 0#32
  ![v637.toNat, 2, 0, 0]
def k0_off4 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v644 : Index := Scalar.indexCast v2
  let c3 : Index := 3#32
  let c0_627 : Index := 0#32
  let c0_628 : Index := 0#32
  ![v644.toNat, 3, 0, 0]
def k0_off5 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_630 : BitVec 32 := 0#32
  let c0_i32_637 : BitVec 32 := 0#32
  let c0_i32_638 : BitVec 32 := 0#32
  ![v2.toNat, 0, 0, 0]
def k0_dev3 (d0 : Dev nD) : Nat :=
  let c0_i32_636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_635 : BitVec 32 := 1#32
  let v648 : BitVec 32 := Scalar.muli v354 c1_i32_635
  let v649 : BitVec 32 := Scalar.addi c0_i32_636 v648
  v649.toNat
def k0_dev4 (d0 : Dev nD) : Nat :=
  let c0_i32_648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_647 : BitVec 32 := 1#32
  let v658 : BitVec 32 := Scalar.muli v290 c1_i32_647
  let v659 : BitVec 32 := Scalar.addi c0_i32_648 v658
  v659.toNat
def k0_off6 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_654 : BitVec 32 := 1#32
  let c0_i32_661 : BitVec 32 := 0#32
  let c0_i32_662 : BitVec 32 := 0#32
  ![v2.toNat, 1, 0, 0]
def k0_dev5 (d0 : Dev nD) : Nat :=
  let c0_i32_660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_659 : BitVec 32 := 1#32
  let v668 : BitVec 32 := Scalar.muli v354 c1_i32_659
  let v669 : BitVec 32 := Scalar.addi c0_i32_660 v668
  v669.toNat
def k0_dev6 (d0 : Dev nD) : Nat :=
  let c0_i32_672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_671 : BitVec 32 := 1#32
  let v678 : BitVec 32 := Scalar.muli v290 c1_i32_671
  let v679 : BitVec 32 := Scalar.addi c0_i32_672 v678
  v679.toNat
def k0_off7 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_678 : BitVec 32 := 2#32
  let c0_i32_685 : BitVec 32 := 0#32
  let c0_i32_686 : BitVec 32 := 0#32
  ![v2.toNat, 2, 0, 0]
def k0_dev7 (d0 : Dev nD) : Nat :=
  let c0_i32_684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_683 : BitVec 32 := 1#32
  let v688 : BitVec 32 := Scalar.muli v354 c1_i32_683
  let v689 : BitVec 32 := Scalar.addi c0_i32_684 v688
  v689.toNat
def k0_dev8 (d0 : Dev nD) : Nat :=
  let c0_i32_696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_695 : BitVec 32 := 1#32
  let v698 : BitVec 32 := Scalar.muli v290 c1_i32_695
  let v699 : BitVec 32 := Scalar.addi c0_i32_696 v698
  v699.toNat
def k0_off8 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_702 : BitVec 32 := 3#32
  let c0_i32_709 : BitVec 32 := 0#32
  let c0_i32_710 : BitVec 32 := 0#32
  ![v2.toNat, 3, 0, 0]
def k0_dev9 (d0 : Dev nD) : Nat :=
  let c0_i32_708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_707 : BitVec 32 := 1#32
  let v708 : BitVec 32 := Scalar.muli v354 c1_i32_707
  let v709 : BitVec 32 := Scalar.addi c0_i32_708 v708
  v709.toNat
def k0_dev10 (d0 : Dev nD) : Nat :=
  let c0_i32_720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_719 : BitVec 32 := 1#32
  let v718 : BitVec 32 := Scalar.muli v290 c1_i32_719
  let v719 : BitVec 32 := Scalar.addi c0_i32_720 v718
  v719.toNat
def k0_off9 (d0 : Dev nD) (c7_i32_281 : BitVec 32) (c11_i32_279 : BitVec 32) (c15_i32_277 : BitVec 32) (c14_i32_275 : BitVec 32) (c10_i32_273 : BitVec 32) (c6_i32_271 : BitVec 32) (c2_i32_269 : BitVec 32) (c1_i32_267 : BitVec 32) (c5_i32_265 : BitVec 32) (c9_i32_263 : BitVec 32) (c13_i32_261 : BitVec 32) (c12_i32_259 : BitVec 32) (c8_i32_257 : BitVec 32) (c4_i32_255 : BitVec 32) (c0_i32_253 : BitVec 32) (c3_i32_250 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c14_i32_278 : BitVec 32 := 14#32
  let v287 : BitVec 1 := Scalar.cmpi .eq v34 c14_i32_278
  let c13_i32_276 : BitVec 32 := 13#32
  let v285 : BitVec 1 := Scalar.cmpi .eq v34 c13_i32_276
  let c12_i32_274 : BitVec 32 := 12#32
  let v283 : BitVec 1 := Scalar.cmpi .eq v34 c12_i32_274
  let c11_i32_272 : BitVec 32 := 11#32
  let v281 : BitVec 1 := Scalar.cmpi .eq v34 c11_i32_272
  let c10_i32_270 : BitVec 32 := 10#32
  let v279 : BitVec 1 := Scalar.cmpi .eq v34 c10_i32_270
  let c9_i32_268 : BitVec 32 := 9#32
  let v277 : BitVec 1 := Scalar.cmpi .eq v34 c9_i32_268
  let c8_i32_266 : BitVec 32 := 8#32
  let v275 : BitVec 1 := Scalar.cmpi .eq v34 c8_i32_266
  let c7_i32_264 : BitVec 32 := 7#32
  let v273 : BitVec 1 := Scalar.cmpi .eq v34 c7_i32_264
  let c6_i32_262 : BitVec 32 := 6#32
  let v271 : BitVec 1 := Scalar.cmpi .eq v34 c6_i32_262
  let c5_i32_260 : BitVec 32 := 5#32
  let v269 : BitVec 1 := Scalar.cmpi .eq v34 c5_i32_260
  let c4_i32_258 : BitVec 32 := 4#32
  let v267 : BitVec 1 := Scalar.cmpi .eq v34 c4_i32_258
  let c3_i32_256 : BitVec 32 := 3#32
  let v265 : BitVec 1 := Scalar.cmpi .eq v34 c3_i32_256
  let c2_i32_254 : BitVec 32 := 2#32
  let v263 : BitVec 1 := Scalar.cmpi .eq v34 c2_i32_254
  let c1_i32_252 : BitVec 32 := 1#32
  let v261 : BitVec 1 := Scalar.cmpi .eq v34 c1_i32_252
  let c0_i32_249 : BitVec 32 := 0#32
  let v259 : BitVec 1 := Scalar.cmpi .eq v34 c0_i32_249
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c0_i32_785 : BitVec 32 := 0#32
  let c0_i32_792 : BitVec 32 := 0#32
  let c0_i32_793 : BitVec 32 := 0#32
  ![v290.toNat, 0, 0, 0]
def k0_off9_at (r : Fin 16) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 8 then
    if r.val < 4 then
      if r.val < 2 then
        if r.val < 1 then
          (7#32, 11#32, 15#32, 14#32, 10#32, 6#32, 2#32, 1#32, 5#32, 9#32, 13#32, 12#32, 8#32, 4#32, 0#32, 3#32)
        else
          (0#32, 3#32, 7#32, 11#32, 15#32, 14#32, 10#32, 6#32, 2#32, 1#32, 5#32, 9#32, 13#32, 12#32, 8#32, 4#32)
      else
        if r.val < 3 then
          (11#32, 15#32, 14#32, 10#32, 6#32, 2#32, 1#32, 5#32, 9#32, 13#32, 12#32, 8#32, 4#32, 0#32, 3#32, 7#32)
        else
          (4#32, 0#32, 3#32, 7#32, 11#32, 15#32, 14#32, 10#32, 6#32, 2#32, 1#32, 5#32, 9#32, 13#32, 12#32, 8#32)
    else
      if r.val < 6 then
        if r.val < 5 then
          (15#32, 14#32, 10#32, 6#32, 2#32, 1#32, 5#32, 9#32, 13#32, 12#32, 8#32, 4#32, 0#32, 3#32, 7#32, 11#32)
        else
          (8#32, 4#32, 0#32, 3#32, 7#32, 11#32, 15#32, 14#32, 10#32, 6#32, 2#32, 1#32, 5#32, 9#32, 13#32, 12#32)
      else
        if r.val < 7 then
          (14#32, 10#32, 6#32, 2#32, 1#32, 5#32, 9#32, 13#32, 12#32, 8#32, 4#32, 0#32, 3#32, 7#32, 11#32, 15#32)
        else
          (12#32, 8#32, 4#32, 0#32, 3#32, 7#32, 11#32, 15#32, 14#32, 10#32, 6#32, 2#32, 1#32, 5#32, 9#32, 13#32)
  else
    if r.val < 12 then
      if r.val < 10 then
        if r.val < 9 then
          (10#32, 6#32, 2#32, 1#32, 5#32, 9#32, 13#32, 12#32, 8#32, 4#32, 0#32, 3#32, 7#32, 11#32, 15#32, 14#32)
        else
          (13#32, 12#32, 8#32, 4#32, 0#32, 3#32, 7#32, 11#32, 15#32, 14#32, 10#32, 6#32, 2#32, 1#32, 5#32, 9#32)
      else
        if r.val < 11 then
          (6#32, 2#32, 1#32, 5#32, 9#32, 13#32, 12#32, 8#32, 4#32, 0#32, 3#32, 7#32, 11#32, 15#32, 14#32, 10#32)
        else
          (9#32, 13#32, 12#32, 8#32, 4#32, 0#32, 3#32, 7#32, 11#32, 15#32, 14#32, 10#32, 6#32, 2#32, 1#32, 5#32)
    else
      if r.val < 14 then
        if r.val < 13 then
          (2#32, 1#32, 5#32, 9#32, 13#32, 12#32, 8#32, 4#32, 0#32, 3#32, 7#32, 11#32, 15#32, 14#32, 10#32, 6#32)
        else
          (5#32, 9#32, 13#32, 12#32, 8#32, 4#32, 0#32, 3#32, 7#32, 11#32, 15#32, 14#32, 10#32, 6#32, 2#32, 1#32)
      else
        if r.val < 15 then
          (1#32, 5#32, 9#32, 13#32, 12#32, 8#32, 4#32, 0#32, 3#32, 7#32, 11#32, 15#32, 14#32, 10#32, 6#32, 2#32)
        else
          (3#32, 7#32, 11#32, 15#32, 14#32, 10#32, 6#32, 2#32, 1#32, 5#32, 9#32, 13#32, 12#32, 8#32, 4#32, 0#32)
def k0_dev11 (d0 : Dev nD) : Nat :=
  let c0_i32_803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_802 : BitVec 32 := 1#32
  let v800 : BitVec 32 := Scalar.muli v354 c1_i32_802
  let v801 : BitVec 32 := Scalar.addi c0_i32_803 v800
  v801.toNat
def k0_dev12 (d0 : Dev nD) : Nat :=
  let c0_i32_827 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_826 : BitVec 32 := 1#32
  let v818 : BitVec 32 := Scalar.muli v290 c1_i32_826
  let v819 : BitVec 32 := Scalar.addi c0_i32_827 v818
  v819.toNat
def k0_off10 (d0 : Dev nD) (c7_i32_281 : BitVec 32) (c11_i32_279 : BitVec 32) (c15_i32_277 : BitVec 32) (c14_i32_275 : BitVec 32) (c10_i32_273 : BitVec 32) (c6_i32_271 : BitVec 32) (c2_i32_269 : BitVec 32) (c1_i32_267 : BitVec 32) (c5_i32_265 : BitVec 32) (c9_i32_263 : BitVec 32) (c13_i32_261 : BitVec 32) (c12_i32_259 : BitVec 32) (c8_i32_257 : BitVec 32) (c4_i32_255 : BitVec 32) (c0_i32_253 : BitVec 32) (c3_i32_250 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c14_i32_278 : BitVec 32 := 14#32
  let v287 : BitVec 1 := Scalar.cmpi .eq v34 c14_i32_278
  let c13_i32_276 : BitVec 32 := 13#32
  let v285 : BitVec 1 := Scalar.cmpi .eq v34 c13_i32_276
  let c12_i32_274 : BitVec 32 := 12#32
  let v283 : BitVec 1 := Scalar.cmpi .eq v34 c12_i32_274
  let c11_i32_272 : BitVec 32 := 11#32
  let v281 : BitVec 1 := Scalar.cmpi .eq v34 c11_i32_272
  let c10_i32_270 : BitVec 32 := 10#32
  let v279 : BitVec 1 := Scalar.cmpi .eq v34 c10_i32_270
  let c9_i32_268 : BitVec 32 := 9#32
  let v277 : BitVec 1 := Scalar.cmpi .eq v34 c9_i32_268
  let c8_i32_266 : BitVec 32 := 8#32
  let v275 : BitVec 1 := Scalar.cmpi .eq v34 c8_i32_266
  let c7_i32_264 : BitVec 32 := 7#32
  let v273 : BitVec 1 := Scalar.cmpi .eq v34 c7_i32_264
  let c6_i32_262 : BitVec 32 := 6#32
  let v271 : BitVec 1 := Scalar.cmpi .eq v34 c6_i32_262
  let c5_i32_260 : BitVec 32 := 5#32
  let v269 : BitVec 1 := Scalar.cmpi .eq v34 c5_i32_260
  let c4_i32_258 : BitVec 32 := 4#32
  let v267 : BitVec 1 := Scalar.cmpi .eq v34 c4_i32_258
  let c3_i32_256 : BitVec 32 := 3#32
  let v265 : BitVec 1 := Scalar.cmpi .eq v34 c3_i32_256
  let c2_i32_254 : BitVec 32 := 2#32
  let v263 : BitVec 1 := Scalar.cmpi .eq v34 c2_i32_254
  let c1_i32_252 : BitVec 32 := 1#32
  let v261 : BitVec 1 := Scalar.cmpi .eq v34 c1_i32_252
  let c0_i32_249 : BitVec 32 := 0#32
  let v259 : BitVec 1 := Scalar.cmpi .eq v34 c0_i32_249
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_833 : BitVec 32 := 1#32
  let c0_i32_840 : BitVec 32 := 0#32
  let c0_i32_841 : BitVec 32 := 0#32
  ![v290.toNat, 1, 0, 0]
def k0_off10_at (r : Fin 16) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 8 then
    if r.val < 4 then
      if r.val < 2 then
        if r.val < 1 then
          (7#32, 11#32, 15#32, 14#32, 10#32, 6#32, 2#32, 1#32, 5#32, 9#32, 13#32, 12#32, 8#32, 4#32, 0#32, 3#32)
        else
          (0#32, 3#32, 7#32, 11#32, 15#32, 14#32, 10#32, 6#32, 2#32, 1#32, 5#32, 9#32, 13#32, 12#32, 8#32, 4#32)
      else
        if r.val < 3 then
          (11#32, 15#32, 14#32, 10#32, 6#32, 2#32, 1#32, 5#32, 9#32, 13#32, 12#32, 8#32, 4#32, 0#32, 3#32, 7#32)
        else
          (4#32, 0#32, 3#32, 7#32, 11#32, 15#32, 14#32, 10#32, 6#32, 2#32, 1#32, 5#32, 9#32, 13#32, 12#32, 8#32)
    else
      if r.val < 6 then
        if r.val < 5 then
          (15#32, 14#32, 10#32, 6#32, 2#32, 1#32, 5#32, 9#32, 13#32, 12#32, 8#32, 4#32, 0#32, 3#32, 7#32, 11#32)
        else
          (8#32, 4#32, 0#32, 3#32, 7#32, 11#32, 15#32, 14#32, 10#32, 6#32, 2#32, 1#32, 5#32, 9#32, 13#32, 12#32)
      else
        if r.val < 7 then
          (14#32, 10#32, 6#32, 2#32, 1#32, 5#32, 9#32, 13#32, 12#32, 8#32, 4#32, 0#32, 3#32, 7#32, 11#32, 15#32)
        else
          (12#32, 8#32, 4#32, 0#32, 3#32, 7#32, 11#32, 15#32, 14#32, 10#32, 6#32, 2#32, 1#32, 5#32, 9#32, 13#32)
  else
    if r.val < 12 then
      if r.val < 10 then
        if r.val < 9 then
          (10#32, 6#32, 2#32, 1#32, 5#32, 9#32, 13#32, 12#32, 8#32, 4#32, 0#32, 3#32, 7#32, 11#32, 15#32, 14#32)
        else
          (13#32, 12#32, 8#32, 4#32, 0#32, 3#32, 7#32, 11#32, 15#32, 14#32, 10#32, 6#32, 2#32, 1#32, 5#32, 9#32)
      else
        if r.val < 11 then
          (6#32, 2#32, 1#32, 5#32, 9#32, 13#32, 12#32, 8#32, 4#32, 0#32, 3#32, 7#32, 11#32, 15#32, 14#32, 10#32)
        else
          (9#32, 13#32, 12#32, 8#32, 4#32, 0#32, 3#32, 7#32, 11#32, 15#32, 14#32, 10#32, 6#32, 2#32, 1#32, 5#32)
    else
      if r.val < 14 then
        if r.val < 13 then
          (2#32, 1#32, 5#32, 9#32, 13#32, 12#32, 8#32, 4#32, 0#32, 3#32, 7#32, 11#32, 15#32, 14#32, 10#32, 6#32)
        else
          (5#32, 9#32, 13#32, 12#32, 8#32, 4#32, 0#32, 3#32, 7#32, 11#32, 15#32, 14#32, 10#32, 6#32, 2#32, 1#32)
      else
        if r.val < 15 then
          (1#32, 5#32, 9#32, 13#32, 12#32, 8#32, 4#32, 0#32, 3#32, 7#32, 11#32, 15#32, 14#32, 10#32, 6#32, 2#32)
        else
          (3#32, 7#32, 11#32, 15#32, 14#32, 10#32, 6#32, 2#32, 1#32, 5#32, 9#32, 13#32, 12#32, 8#32, 4#32, 0#32)
def k0_dev13 (d0 : Dev nD) : Nat :=
  let c0_i32_851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_850 : BitVec 32 := 1#32
  let v836 : BitVec 32 := Scalar.muli v354 c1_i32_850
  let v837 : BitVec 32 := Scalar.addi c0_i32_851 v836
  v837.toNat
def k0_dev14 (d0 : Dev nD) : Nat :=
  let c0_i32_875 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_874 : BitVec 32 := 1#32
  let v854 : BitVec 32 := Scalar.muli v290 c1_i32_874
  let v855 : BitVec 32 := Scalar.addi c0_i32_875 v854
  v855.toNat
def k0_off11 (d0 : Dev nD) (c7_i32_281 : BitVec 32) (c11_i32_279 : BitVec 32) (c15_i32_277 : BitVec 32) (c14_i32_275 : BitVec 32) (c10_i32_273 : BitVec 32) (c6_i32_271 : BitVec 32) (c2_i32_269 : BitVec 32) (c1_i32_267 : BitVec 32) (c5_i32_265 : BitVec 32) (c9_i32_263 : BitVec 32) (c13_i32_261 : BitVec 32) (c12_i32_259 : BitVec 32) (c8_i32_257 : BitVec 32) (c4_i32_255 : BitVec 32) (c0_i32_253 : BitVec 32) (c3_i32_250 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c14_i32_278 : BitVec 32 := 14#32
  let v287 : BitVec 1 := Scalar.cmpi .eq v34 c14_i32_278
  let c13_i32_276 : BitVec 32 := 13#32
  let v285 : BitVec 1 := Scalar.cmpi .eq v34 c13_i32_276
  let c12_i32_274 : BitVec 32 := 12#32
  let v283 : BitVec 1 := Scalar.cmpi .eq v34 c12_i32_274
  let c11_i32_272 : BitVec 32 := 11#32
  let v281 : BitVec 1 := Scalar.cmpi .eq v34 c11_i32_272
  let c10_i32_270 : BitVec 32 := 10#32
  let v279 : BitVec 1 := Scalar.cmpi .eq v34 c10_i32_270
  let c9_i32_268 : BitVec 32 := 9#32
  let v277 : BitVec 1 := Scalar.cmpi .eq v34 c9_i32_268
  let c8_i32_266 : BitVec 32 := 8#32
  let v275 : BitVec 1 := Scalar.cmpi .eq v34 c8_i32_266
  let c7_i32_264 : BitVec 32 := 7#32
  let v273 : BitVec 1 := Scalar.cmpi .eq v34 c7_i32_264
  let c6_i32_262 : BitVec 32 := 6#32
  let v271 : BitVec 1 := Scalar.cmpi .eq v34 c6_i32_262
  let c5_i32_260 : BitVec 32 := 5#32
  let v269 : BitVec 1 := Scalar.cmpi .eq v34 c5_i32_260
  let c4_i32_258 : BitVec 32 := 4#32
  let v267 : BitVec 1 := Scalar.cmpi .eq v34 c4_i32_258
  let c3_i32_256 : BitVec 32 := 3#32
  let v265 : BitVec 1 := Scalar.cmpi .eq v34 c3_i32_256
  let c2_i32_254 : BitVec 32 := 2#32
  let v263 : BitVec 1 := Scalar.cmpi .eq v34 c2_i32_254
  let c1_i32_252 : BitVec 32 := 1#32
  let v261 : BitVec 1 := Scalar.cmpi .eq v34 c1_i32_252
  let c0_i32_249 : BitVec 32 := 0#32
  let v259 : BitVec 1 := Scalar.cmpi .eq v34 c0_i32_249
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c2_i32_881 : BitVec 32 := 2#32
  let c0_i32_888 : BitVec 32 := 0#32
  let c0_i32_889 : BitVec 32 := 0#32
  ![v290.toNat, 2, 0, 0]
def k0_off11_at (r : Fin 16) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 8 then
    if r.val < 4 then
      if r.val < 2 then
        if r.val < 1 then
          (7#32, 11#32, 15#32, 14#32, 10#32, 6#32, 2#32, 1#32, 5#32, 9#32, 13#32, 12#32, 8#32, 4#32, 0#32, 3#32)
        else
          (0#32, 3#32, 7#32, 11#32, 15#32, 14#32, 10#32, 6#32, 2#32, 1#32, 5#32, 9#32, 13#32, 12#32, 8#32, 4#32)
      else
        if r.val < 3 then
          (11#32, 15#32, 14#32, 10#32, 6#32, 2#32, 1#32, 5#32, 9#32, 13#32, 12#32, 8#32, 4#32, 0#32, 3#32, 7#32)
        else
          (4#32, 0#32, 3#32, 7#32, 11#32, 15#32, 14#32, 10#32, 6#32, 2#32, 1#32, 5#32, 9#32, 13#32, 12#32, 8#32)
    else
      if r.val < 6 then
        if r.val < 5 then
          (15#32, 14#32, 10#32, 6#32, 2#32, 1#32, 5#32, 9#32, 13#32, 12#32, 8#32, 4#32, 0#32, 3#32, 7#32, 11#32)
        else
          (8#32, 4#32, 0#32, 3#32, 7#32, 11#32, 15#32, 14#32, 10#32, 6#32, 2#32, 1#32, 5#32, 9#32, 13#32, 12#32)
      else
        if r.val < 7 then
          (14#32, 10#32, 6#32, 2#32, 1#32, 5#32, 9#32, 13#32, 12#32, 8#32, 4#32, 0#32, 3#32, 7#32, 11#32, 15#32)
        else
          (12#32, 8#32, 4#32, 0#32, 3#32, 7#32, 11#32, 15#32, 14#32, 10#32, 6#32, 2#32, 1#32, 5#32, 9#32, 13#32)
  else
    if r.val < 12 then
      if r.val < 10 then
        if r.val < 9 then
          (10#32, 6#32, 2#32, 1#32, 5#32, 9#32, 13#32, 12#32, 8#32, 4#32, 0#32, 3#32, 7#32, 11#32, 15#32, 14#32)
        else
          (13#32, 12#32, 8#32, 4#32, 0#32, 3#32, 7#32, 11#32, 15#32, 14#32, 10#32, 6#32, 2#32, 1#32, 5#32, 9#32)
      else
        if r.val < 11 then
          (6#32, 2#32, 1#32, 5#32, 9#32, 13#32, 12#32, 8#32, 4#32, 0#32, 3#32, 7#32, 11#32, 15#32, 14#32, 10#32)
        else
          (9#32, 13#32, 12#32, 8#32, 4#32, 0#32, 3#32, 7#32, 11#32, 15#32, 14#32, 10#32, 6#32, 2#32, 1#32, 5#32)
    else
      if r.val < 14 then
        if r.val < 13 then
          (2#32, 1#32, 5#32, 9#32, 13#32, 12#32, 8#32, 4#32, 0#32, 3#32, 7#32, 11#32, 15#32, 14#32, 10#32, 6#32)
        else
          (5#32, 9#32, 13#32, 12#32, 8#32, 4#32, 0#32, 3#32, 7#32, 11#32, 15#32, 14#32, 10#32, 6#32, 2#32, 1#32)
      else
        if r.val < 15 then
          (1#32, 5#32, 9#32, 13#32, 12#32, 8#32, 4#32, 0#32, 3#32, 7#32, 11#32, 15#32, 14#32, 10#32, 6#32, 2#32)
        else
          (3#32, 7#32, 11#32, 15#32, 14#32, 10#32, 6#32, 2#32, 1#32, 5#32, 9#32, 13#32, 12#32, 8#32, 4#32, 0#32)
def k0_dev15 (d0 : Dev nD) : Nat :=
  let c0_i32_899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_898 : BitVec 32 := 1#32
  let v872 : BitVec 32 := Scalar.muli v354 c1_i32_898
  let v873 : BitVec 32 := Scalar.addi c0_i32_899 v872
  v873.toNat
def k0_dev16 (d0 : Dev nD) : Nat :=
  let c0_i32_923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_922 : BitVec 32 := 1#32
  let v890 : BitVec 32 := Scalar.muli v290 c1_i32_922
  let v891 : BitVec 32 := Scalar.addi c0_i32_923 v890
  v891.toNat
def k0_off12 (d0 : Dev nD) (c7_i32_281 : BitVec 32) (c11_i32_279 : BitVec 32) (c15_i32_277 : BitVec 32) (c14_i32_275 : BitVec 32) (c10_i32_273 : BitVec 32) (c6_i32_271 : BitVec 32) (c2_i32_269 : BitVec 32) (c1_i32_267 : BitVec 32) (c5_i32_265 : BitVec 32) (c9_i32_263 : BitVec 32) (c13_i32_261 : BitVec 32) (c12_i32_259 : BitVec 32) (c8_i32_257 : BitVec 32) (c4_i32_255 : BitVec 32) (c0_i32_253 : BitVec 32) (c3_i32_250 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c14_i32_278 : BitVec 32 := 14#32
  let v287 : BitVec 1 := Scalar.cmpi .eq v34 c14_i32_278
  let c13_i32_276 : BitVec 32 := 13#32
  let v285 : BitVec 1 := Scalar.cmpi .eq v34 c13_i32_276
  let c12_i32_274 : BitVec 32 := 12#32
  let v283 : BitVec 1 := Scalar.cmpi .eq v34 c12_i32_274
  let c11_i32_272 : BitVec 32 := 11#32
  let v281 : BitVec 1 := Scalar.cmpi .eq v34 c11_i32_272
  let c10_i32_270 : BitVec 32 := 10#32
  let v279 : BitVec 1 := Scalar.cmpi .eq v34 c10_i32_270
  let c9_i32_268 : BitVec 32 := 9#32
  let v277 : BitVec 1 := Scalar.cmpi .eq v34 c9_i32_268
  let c8_i32_266 : BitVec 32 := 8#32
  let v275 : BitVec 1 := Scalar.cmpi .eq v34 c8_i32_266
  let c7_i32_264 : BitVec 32 := 7#32
  let v273 : BitVec 1 := Scalar.cmpi .eq v34 c7_i32_264
  let c6_i32_262 : BitVec 32 := 6#32
  let v271 : BitVec 1 := Scalar.cmpi .eq v34 c6_i32_262
  let c5_i32_260 : BitVec 32 := 5#32
  let v269 : BitVec 1 := Scalar.cmpi .eq v34 c5_i32_260
  let c4_i32_258 : BitVec 32 := 4#32
  let v267 : BitVec 1 := Scalar.cmpi .eq v34 c4_i32_258
  let c3_i32_256 : BitVec 32 := 3#32
  let v265 : BitVec 1 := Scalar.cmpi .eq v34 c3_i32_256
  let c2_i32_254 : BitVec 32 := 2#32
  let v263 : BitVec 1 := Scalar.cmpi .eq v34 c2_i32_254
  let c1_i32_252 : BitVec 32 := 1#32
  let v261 : BitVec 1 := Scalar.cmpi .eq v34 c1_i32_252
  let c0_i32_249 : BitVec 32 := 0#32
  let v259 : BitVec 1 := Scalar.cmpi .eq v34 c0_i32_249
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c3_i32_929 : BitVec 32 := 3#32
  let c0_i32_936 : BitVec 32 := 0#32
  let c0_i32_937 : BitVec 32 := 0#32
  ![v290.toNat, 3, 0, 0]
def k0_off12_at (r : Fin 16) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 8 then
    if r.val < 4 then
      if r.val < 2 then
        if r.val < 1 then
          (7#32, 11#32, 15#32, 14#32, 10#32, 6#32, 2#32, 1#32, 5#32, 9#32, 13#32, 12#32, 8#32, 4#32, 0#32, 3#32)
        else
          (0#32, 3#32, 7#32, 11#32, 15#32, 14#32, 10#32, 6#32, 2#32, 1#32, 5#32, 9#32, 13#32, 12#32, 8#32, 4#32)
      else
        if r.val < 3 then
          (11#32, 15#32, 14#32, 10#32, 6#32, 2#32, 1#32, 5#32, 9#32, 13#32, 12#32, 8#32, 4#32, 0#32, 3#32, 7#32)
        else
          (4#32, 0#32, 3#32, 7#32, 11#32, 15#32, 14#32, 10#32, 6#32, 2#32, 1#32, 5#32, 9#32, 13#32, 12#32, 8#32)
    else
      if r.val < 6 then
        if r.val < 5 then
          (15#32, 14#32, 10#32, 6#32, 2#32, 1#32, 5#32, 9#32, 13#32, 12#32, 8#32, 4#32, 0#32, 3#32, 7#32, 11#32)
        else
          (8#32, 4#32, 0#32, 3#32, 7#32, 11#32, 15#32, 14#32, 10#32, 6#32, 2#32, 1#32, 5#32, 9#32, 13#32, 12#32)
      else
        if r.val < 7 then
          (14#32, 10#32, 6#32, 2#32, 1#32, 5#32, 9#32, 13#32, 12#32, 8#32, 4#32, 0#32, 3#32, 7#32, 11#32, 15#32)
        else
          (12#32, 8#32, 4#32, 0#32, 3#32, 7#32, 11#32, 15#32, 14#32, 10#32, 6#32, 2#32, 1#32, 5#32, 9#32, 13#32)
  else
    if r.val < 12 then
      if r.val < 10 then
        if r.val < 9 then
          (10#32, 6#32, 2#32, 1#32, 5#32, 9#32, 13#32, 12#32, 8#32, 4#32, 0#32, 3#32, 7#32, 11#32, 15#32, 14#32)
        else
          (13#32, 12#32, 8#32, 4#32, 0#32, 3#32, 7#32, 11#32, 15#32, 14#32, 10#32, 6#32, 2#32, 1#32, 5#32, 9#32)
      else
        if r.val < 11 then
          (6#32, 2#32, 1#32, 5#32, 9#32, 13#32, 12#32, 8#32, 4#32, 0#32, 3#32, 7#32, 11#32, 15#32, 14#32, 10#32)
        else
          (9#32, 13#32, 12#32, 8#32, 4#32, 0#32, 3#32, 7#32, 11#32, 15#32, 14#32, 10#32, 6#32, 2#32, 1#32, 5#32)
    else
      if r.val < 14 then
        if r.val < 13 then
          (2#32, 1#32, 5#32, 9#32, 13#32, 12#32, 8#32, 4#32, 0#32, 3#32, 7#32, 11#32, 15#32, 14#32, 10#32, 6#32)
        else
          (5#32, 9#32, 13#32, 12#32, 8#32, 4#32, 0#32, 3#32, 7#32, 11#32, 15#32, 14#32, 10#32, 6#32, 2#32, 1#32)
      else
        if r.val < 15 then
          (1#32, 5#32, 9#32, 13#32, 12#32, 8#32, 4#32, 0#32, 3#32, 7#32, 11#32, 15#32, 14#32, 10#32, 6#32, 2#32)
        else
          (3#32, 7#32, 11#32, 15#32, 14#32, 10#32, 6#32, 2#32, 1#32, 5#32, 9#32, 13#32, 12#32, 8#32, 4#32, 0#32)
def k0_dev17 (d0 : Dev nD) : Nat :=
  let c0_i32_947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_946 : BitVec 32 := 1#32
  let v908 : BitVec 32 := Scalar.muli v354 c1_i32_946
  let v909 : BitVec 32 := Scalar.addi c0_i32_947 v908
  v909.toNat
def k0_dev18 (d0 : Dev nD) : Nat :=
  let c0_i32_971 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_970 : BitVec 32 := 1#32
  let v926 : BitVec 32 := Scalar.muli v290 c1_i32_970
  let v927 : BitVec 32 := Scalar.addi c0_i32_971 v926
  v927.toNat
def k0_off13 (d0 : Dev nD) (c7_i32_281 : BitVec 32) (c11_i32_279 : BitVec 32) (c15_i32_277 : BitVec 32) (c14_i32_275 : BitVec 32) (c10_i32_273 : BitVec 32) (c6_i32_271 : BitVec 32) (c2_i32_269 : BitVec 32) (c1_i32_267 : BitVec 32) (c5_i32_265 : BitVec 32) (c9_i32_263 : BitVec 32) (c13_i32_261 : BitVec 32) (c12_i32_259 : BitVec 32) (c8_i32_257 : BitVec 32) (c4_i32_255 : BitVec 32) (c0_i32_253 : BitVec 32) (c3_i32_250 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c14_i32_278 : BitVec 32 := 14#32
  let v287 : BitVec 1 := Scalar.cmpi .eq v34 c14_i32_278
  let c13_i32_276 : BitVec 32 := 13#32
  let v285 : BitVec 1 := Scalar.cmpi .eq v34 c13_i32_276
  let c12_i32_274 : BitVec 32 := 12#32
  let v283 : BitVec 1 := Scalar.cmpi .eq v34 c12_i32_274
  let c11_i32_272 : BitVec 32 := 11#32
  let v281 : BitVec 1 := Scalar.cmpi .eq v34 c11_i32_272
  let c10_i32_270 : BitVec 32 := 10#32
  let v279 : BitVec 1 := Scalar.cmpi .eq v34 c10_i32_270
  let c9_i32_268 : BitVec 32 := 9#32
  let v277 : BitVec 1 := Scalar.cmpi .eq v34 c9_i32_268
  let c8_i32_266 : BitVec 32 := 8#32
  let v275 : BitVec 1 := Scalar.cmpi .eq v34 c8_i32_266
  let c7_i32_264 : BitVec 32 := 7#32
  let v273 : BitVec 1 := Scalar.cmpi .eq v34 c7_i32_264
  let c6_i32_262 : BitVec 32 := 6#32
  let v271 : BitVec 1 := Scalar.cmpi .eq v34 c6_i32_262
  let c5_i32_260 : BitVec 32 := 5#32
  let v269 : BitVec 1 := Scalar.cmpi .eq v34 c5_i32_260
  let c4_i32_258 : BitVec 32 := 4#32
  let v267 : BitVec 1 := Scalar.cmpi .eq v34 c4_i32_258
  let c3_i32_256 : BitVec 32 := 3#32
  let v265 : BitVec 1 := Scalar.cmpi .eq v34 c3_i32_256
  let c2_i32_254 : BitVec 32 := 2#32
  let v263 : BitVec 1 := Scalar.cmpi .eq v34 c2_i32_254
  let c1_i32_252 : BitVec 32 := 1#32
  let v261 : BitVec 1 := Scalar.cmpi .eq v34 c1_i32_252
  let c0_i32_249 : BitVec 32 := 0#32
  let v259 : BitVec 1 := Scalar.cmpi .eq v34 c0_i32_249
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let v936 : Index := Scalar.indexCast v290
  let c0_976 : Index := 0#32
  let c0_977 : Index := 0#32
  let c0_978 : Index := 0#32
  ![v936.toNat, 0, 0, 0]
def k0_off13_at (r : Fin 15) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 7 then
    if r.val < 3 then
      if r.val < 1 then
        (7#32, 11#32, 15#32, 14#32, 10#32, 6#32, 2#32, 1#32, 5#32, 9#32, 13#32, 12#32, 8#32, 4#32, 0#32, 3#32)
      else
        if r.val < 2 then
          (0#32, 3#32, 7#32, 11#32, 15#32, 14#32, 10#32, 6#32, 2#32, 1#32, 5#32, 9#32, 13#32, 12#32, 8#32, 4#32)
        else
          (11#32, 15#32, 14#32, 10#32, 6#32, 2#32, 1#32, 5#32, 9#32, 13#32, 12#32, 8#32, 4#32, 0#32, 3#32, 7#32)
    else
      if r.val < 5 then
        if r.val < 4 then
          (4#32, 0#32, 3#32, 7#32, 11#32, 15#32, 14#32, 10#32, 6#32, 2#32, 1#32, 5#32, 9#32, 13#32, 12#32, 8#32)
        else
          (15#32, 14#32, 10#32, 6#32, 2#32, 1#32, 5#32, 9#32, 13#32, 12#32, 8#32, 4#32, 0#32, 3#32, 7#32, 11#32)
      else
        if r.val < 6 then
          (8#32, 4#32, 0#32, 3#32, 7#32, 11#32, 15#32, 14#32, 10#32, 6#32, 2#32, 1#32, 5#32, 9#32, 13#32, 12#32)
        else
          (14#32, 10#32, 6#32, 2#32, 1#32, 5#32, 9#32, 13#32, 12#32, 8#32, 4#32, 0#32, 3#32, 7#32, 11#32, 15#32)
  else
    if r.val < 11 then
      if r.val < 9 then
        if r.val < 8 then
          (12#32, 8#32, 4#32, 0#32, 3#32, 7#32, 11#32, 15#32, 14#32, 10#32, 6#32, 2#32, 1#32, 5#32, 9#32, 13#32)
        else
          (10#32, 6#32, 2#32, 1#32, 5#32, 9#32, 13#32, 12#32, 8#32, 4#32, 0#32, 3#32, 7#32, 11#32, 15#32, 14#32)
      else
        if r.val < 10 then
          (13#32, 12#32, 8#32, 4#32, 0#32, 3#32, 7#32, 11#32, 15#32, 14#32, 10#32, 6#32, 2#32, 1#32, 5#32, 9#32)
        else
          (6#32, 2#32, 1#32, 5#32, 9#32, 13#32, 12#32, 8#32, 4#32, 0#32, 3#32, 7#32, 11#32, 15#32, 14#32, 10#32)
    else
      if r.val < 13 then
        if r.val < 12 then
          (9#32, 13#32, 12#32, 8#32, 4#32, 0#32, 3#32, 7#32, 11#32, 15#32, 14#32, 10#32, 6#32, 2#32, 1#32, 5#32)
        else
          (2#32, 1#32, 5#32, 9#32, 13#32, 12#32, 8#32, 4#32, 0#32, 3#32, 7#32, 11#32, 15#32, 14#32, 10#32, 6#32)
      else
        if r.val < 14 then
          (5#32, 9#32, 13#32, 12#32, 8#32, 4#32, 0#32, 3#32, 7#32, 11#32, 15#32, 14#32, 10#32, 6#32, 2#32, 1#32)
        else
          (1#32, 5#32, 9#32, 13#32, 12#32, 8#32, 4#32, 0#32, 3#32, 7#32, 11#32, 15#32, 14#32, 10#32, 6#32, 2#32)
def k0_off14 (d0 : Dev nD) (c7_i32_281 : BitVec 32) (c11_i32_279 : BitVec 32) (c15_i32_277 : BitVec 32) (c14_i32_275 : BitVec 32) (c10_i32_273 : BitVec 32) (c6_i32_271 : BitVec 32) (c2_i32_269 : BitVec 32) (c1_i32_267 : BitVec 32) (c5_i32_265 : BitVec 32) (c9_i32_263 : BitVec 32) (c13_i32_261 : BitVec 32) (c12_i32_259 : BitVec 32) (c8_i32_257 : BitVec 32) (c4_i32_255 : BitVec 32) (c0_i32_253 : BitVec 32) (c3_i32_250 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c14_i32_278 : BitVec 32 := 14#32
  let v287 : BitVec 1 := Scalar.cmpi .eq v34 c14_i32_278
  let c13_i32_276 : BitVec 32 := 13#32
  let v285 : BitVec 1 := Scalar.cmpi .eq v34 c13_i32_276
  let c12_i32_274 : BitVec 32 := 12#32
  let v283 : BitVec 1 := Scalar.cmpi .eq v34 c12_i32_274
  let c11_i32_272 : BitVec 32 := 11#32
  let v281 : BitVec 1 := Scalar.cmpi .eq v34 c11_i32_272
  let c10_i32_270 : BitVec 32 := 10#32
  let v279 : BitVec 1 := Scalar.cmpi .eq v34 c10_i32_270
  let c9_i32_268 : BitVec 32 := 9#32
  let v277 : BitVec 1 := Scalar.cmpi .eq v34 c9_i32_268
  let c8_i32_266 : BitVec 32 := 8#32
  let v275 : BitVec 1 := Scalar.cmpi .eq v34 c8_i32_266
  let c7_i32_264 : BitVec 32 := 7#32
  let v273 : BitVec 1 := Scalar.cmpi .eq v34 c7_i32_264
  let c6_i32_262 : BitVec 32 := 6#32
  let v271 : BitVec 1 := Scalar.cmpi .eq v34 c6_i32_262
  let c5_i32_260 : BitVec 32 := 5#32
  let v269 : BitVec 1 := Scalar.cmpi .eq v34 c5_i32_260
  let c4_i32_258 : BitVec 32 := 4#32
  let v267 : BitVec 1 := Scalar.cmpi .eq v34 c4_i32_258
  let c3_i32_256 : BitVec 32 := 3#32
  let v265 : BitVec 1 := Scalar.cmpi .eq v34 c3_i32_256
  let c2_i32_254 : BitVec 32 := 2#32
  let v263 : BitVec 1 := Scalar.cmpi .eq v34 c2_i32_254
  let c1_i32_252 : BitVec 32 := 1#32
  let v261 : BitVec 1 := Scalar.cmpi .eq v34 c1_i32_252
  let c0_i32_249 : BitVec 32 := 0#32
  let v259 : BitVec 1 := Scalar.cmpi .eq v34 c0_i32_249
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let v952 : Index := Scalar.indexCast v290
  let c1_991 : Index := 1#32
  let c0_992 : Index := 0#32
  let c0_993 : Index := 0#32
  ![v952.toNat, 1, 0, 0]
def k0_off14_at (r : Fin 15) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 7 then
    if r.val < 3 then
      if r.val < 1 then
        (7#32, 11#32, 15#32, 14#32, 10#32, 6#32, 2#32, 1#32, 5#32, 9#32, 13#32, 12#32, 8#32, 4#32, 0#32, 3#32)
      else
        if r.val < 2 then
          (0#32, 3#32, 7#32, 11#32, 15#32, 14#32, 10#32, 6#32, 2#32, 1#32, 5#32, 9#32, 13#32, 12#32, 8#32, 4#32)
        else
          (11#32, 15#32, 14#32, 10#32, 6#32, 2#32, 1#32, 5#32, 9#32, 13#32, 12#32, 8#32, 4#32, 0#32, 3#32, 7#32)
    else
      if r.val < 5 then
        if r.val < 4 then
          (4#32, 0#32, 3#32, 7#32, 11#32, 15#32, 14#32, 10#32, 6#32, 2#32, 1#32, 5#32, 9#32, 13#32, 12#32, 8#32)
        else
          (15#32, 14#32, 10#32, 6#32, 2#32, 1#32, 5#32, 9#32, 13#32, 12#32, 8#32, 4#32, 0#32, 3#32, 7#32, 11#32)
      else
        if r.val < 6 then
          (8#32, 4#32, 0#32, 3#32, 7#32, 11#32, 15#32, 14#32, 10#32, 6#32, 2#32, 1#32, 5#32, 9#32, 13#32, 12#32)
        else
          (14#32, 10#32, 6#32, 2#32, 1#32, 5#32, 9#32, 13#32, 12#32, 8#32, 4#32, 0#32, 3#32, 7#32, 11#32, 15#32)
  else
    if r.val < 11 then
      if r.val < 9 then
        if r.val < 8 then
          (12#32, 8#32, 4#32, 0#32, 3#32, 7#32, 11#32, 15#32, 14#32, 10#32, 6#32, 2#32, 1#32, 5#32, 9#32, 13#32)
        else
          (10#32, 6#32, 2#32, 1#32, 5#32, 9#32, 13#32, 12#32, 8#32, 4#32, 0#32, 3#32, 7#32, 11#32, 15#32, 14#32)
      else
        if r.val < 10 then
          (13#32, 12#32, 8#32, 4#32, 0#32, 3#32, 7#32, 11#32, 15#32, 14#32, 10#32, 6#32, 2#32, 1#32, 5#32, 9#32)
        else
          (6#32, 2#32, 1#32, 5#32, 9#32, 13#32, 12#32, 8#32, 4#32, 0#32, 3#32, 7#32, 11#32, 15#32, 14#32, 10#32)
    else
      if r.val < 13 then
        if r.val < 12 then
          (9#32, 13#32, 12#32, 8#32, 4#32, 0#32, 3#32, 7#32, 11#32, 15#32, 14#32, 10#32, 6#32, 2#32, 1#32, 5#32)
        else
          (2#32, 1#32, 5#32, 9#32, 13#32, 12#32, 8#32, 4#32, 0#32, 3#32, 7#32, 11#32, 15#32, 14#32, 10#32, 6#32)
      else
        if r.val < 14 then
          (5#32, 9#32, 13#32, 12#32, 8#32, 4#32, 0#32, 3#32, 7#32, 11#32, 15#32, 14#32, 10#32, 6#32, 2#32, 1#32)
        else
          (1#32, 5#32, 9#32, 13#32, 12#32, 8#32, 4#32, 0#32, 3#32, 7#32, 11#32, 15#32, 14#32, 10#32, 6#32, 2#32)
def k0_off15 (d0 : Dev nD) (c7_i32_281 : BitVec 32) (c11_i32_279 : BitVec 32) (c15_i32_277 : BitVec 32) (c14_i32_275 : BitVec 32) (c10_i32_273 : BitVec 32) (c6_i32_271 : BitVec 32) (c2_i32_269 : BitVec 32) (c1_i32_267 : BitVec 32) (c5_i32_265 : BitVec 32) (c9_i32_263 : BitVec 32) (c13_i32_261 : BitVec 32) (c12_i32_259 : BitVec 32) (c8_i32_257 : BitVec 32) (c4_i32_255 : BitVec 32) (c0_i32_253 : BitVec 32) (c3_i32_250 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c14_i32_278 : BitVec 32 := 14#32
  let v287 : BitVec 1 := Scalar.cmpi .eq v34 c14_i32_278
  let c13_i32_276 : BitVec 32 := 13#32
  let v285 : BitVec 1 := Scalar.cmpi .eq v34 c13_i32_276
  let c12_i32_274 : BitVec 32 := 12#32
  let v283 : BitVec 1 := Scalar.cmpi .eq v34 c12_i32_274
  let c11_i32_272 : BitVec 32 := 11#32
  let v281 : BitVec 1 := Scalar.cmpi .eq v34 c11_i32_272
  let c10_i32_270 : BitVec 32 := 10#32
  let v279 : BitVec 1 := Scalar.cmpi .eq v34 c10_i32_270
  let c9_i32_268 : BitVec 32 := 9#32
  let v277 : BitVec 1 := Scalar.cmpi .eq v34 c9_i32_268
  let c8_i32_266 : BitVec 32 := 8#32
  let v275 : BitVec 1 := Scalar.cmpi .eq v34 c8_i32_266
  let c7_i32_264 : BitVec 32 := 7#32
  let v273 : BitVec 1 := Scalar.cmpi .eq v34 c7_i32_264
  let c6_i32_262 : BitVec 32 := 6#32
  let v271 : BitVec 1 := Scalar.cmpi .eq v34 c6_i32_262
  let c5_i32_260 : BitVec 32 := 5#32
  let v269 : BitVec 1 := Scalar.cmpi .eq v34 c5_i32_260
  let c4_i32_258 : BitVec 32 := 4#32
  let v267 : BitVec 1 := Scalar.cmpi .eq v34 c4_i32_258
  let c3_i32_256 : BitVec 32 := 3#32
  let v265 : BitVec 1 := Scalar.cmpi .eq v34 c3_i32_256
  let c2_i32_254 : BitVec 32 := 2#32
  let v263 : BitVec 1 := Scalar.cmpi .eq v34 c2_i32_254
  let c1_i32_252 : BitVec 32 := 1#32
  let v261 : BitVec 1 := Scalar.cmpi .eq v34 c1_i32_252
  let c0_i32_249 : BitVec 32 := 0#32
  let v259 : BitVec 1 := Scalar.cmpi .eq v34 c0_i32_249
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let v968 : Index := Scalar.indexCast v290
  let c2_1006 : Index := 2#32
  let c0_1007 : Index := 0#32
  let c0_1008 : Index := 0#32
  ![v968.toNat, 2, 0, 0]
def k0_off15_at (r : Fin 15) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 7 then
    if r.val < 3 then
      if r.val < 1 then
        (7#32, 11#32, 15#32, 14#32, 10#32, 6#32, 2#32, 1#32, 5#32, 9#32, 13#32, 12#32, 8#32, 4#32, 0#32, 3#32)
      else
        if r.val < 2 then
          (0#32, 3#32, 7#32, 11#32, 15#32, 14#32, 10#32, 6#32, 2#32, 1#32, 5#32, 9#32, 13#32, 12#32, 8#32, 4#32)
        else
          (11#32, 15#32, 14#32, 10#32, 6#32, 2#32, 1#32, 5#32, 9#32, 13#32, 12#32, 8#32, 4#32, 0#32, 3#32, 7#32)
    else
      if r.val < 5 then
        if r.val < 4 then
          (4#32, 0#32, 3#32, 7#32, 11#32, 15#32, 14#32, 10#32, 6#32, 2#32, 1#32, 5#32, 9#32, 13#32, 12#32, 8#32)
        else
          (15#32, 14#32, 10#32, 6#32, 2#32, 1#32, 5#32, 9#32, 13#32, 12#32, 8#32, 4#32, 0#32, 3#32, 7#32, 11#32)
      else
        if r.val < 6 then
          (8#32, 4#32, 0#32, 3#32, 7#32, 11#32, 15#32, 14#32, 10#32, 6#32, 2#32, 1#32, 5#32, 9#32, 13#32, 12#32)
        else
          (14#32, 10#32, 6#32, 2#32, 1#32, 5#32, 9#32, 13#32, 12#32, 8#32, 4#32, 0#32, 3#32, 7#32, 11#32, 15#32)
  else
    if r.val < 11 then
      if r.val < 9 then
        if r.val < 8 then
          (12#32, 8#32, 4#32, 0#32, 3#32, 7#32, 11#32, 15#32, 14#32, 10#32, 6#32, 2#32, 1#32, 5#32, 9#32, 13#32)
        else
          (10#32, 6#32, 2#32, 1#32, 5#32, 9#32, 13#32, 12#32, 8#32, 4#32, 0#32, 3#32, 7#32, 11#32, 15#32, 14#32)
      else
        if r.val < 10 then
          (13#32, 12#32, 8#32, 4#32, 0#32, 3#32, 7#32, 11#32, 15#32, 14#32, 10#32, 6#32, 2#32, 1#32, 5#32, 9#32)
        else
          (6#32, 2#32, 1#32, 5#32, 9#32, 13#32, 12#32, 8#32, 4#32, 0#32, 3#32, 7#32, 11#32, 15#32, 14#32, 10#32)
    else
      if r.val < 13 then
        if r.val < 12 then
          (9#32, 13#32, 12#32, 8#32, 4#32, 0#32, 3#32, 7#32, 11#32, 15#32, 14#32, 10#32, 6#32, 2#32, 1#32, 5#32)
        else
          (2#32, 1#32, 5#32, 9#32, 13#32, 12#32, 8#32, 4#32, 0#32, 3#32, 7#32, 11#32, 15#32, 14#32, 10#32, 6#32)
      else
        if r.val < 14 then
          (5#32, 9#32, 13#32, 12#32, 8#32, 4#32, 0#32, 3#32, 7#32, 11#32, 15#32, 14#32, 10#32, 6#32, 2#32, 1#32)
        else
          (1#32, 5#32, 9#32, 13#32, 12#32, 8#32, 4#32, 0#32, 3#32, 7#32, 11#32, 15#32, 14#32, 10#32, 6#32, 2#32)
def k0_off16 (d0 : Dev nD) (c7_i32_281 : BitVec 32) (c11_i32_279 : BitVec 32) (c15_i32_277 : BitVec 32) (c14_i32_275 : BitVec 32) (c10_i32_273 : BitVec 32) (c6_i32_271 : BitVec 32) (c2_i32_269 : BitVec 32) (c1_i32_267 : BitVec 32) (c5_i32_265 : BitVec 32) (c9_i32_263 : BitVec 32) (c13_i32_261 : BitVec 32) (c12_i32_259 : BitVec 32) (c8_i32_257 : BitVec 32) (c4_i32_255 : BitVec 32) (c0_i32_253 : BitVec 32) (c3_i32_250 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c14_i32_278 : BitVec 32 := 14#32
  let v287 : BitVec 1 := Scalar.cmpi .eq v34 c14_i32_278
  let c13_i32_276 : BitVec 32 := 13#32
  let v285 : BitVec 1 := Scalar.cmpi .eq v34 c13_i32_276
  let c12_i32_274 : BitVec 32 := 12#32
  let v283 : BitVec 1 := Scalar.cmpi .eq v34 c12_i32_274
  let c11_i32_272 : BitVec 32 := 11#32
  let v281 : BitVec 1 := Scalar.cmpi .eq v34 c11_i32_272
  let c10_i32_270 : BitVec 32 := 10#32
  let v279 : BitVec 1 := Scalar.cmpi .eq v34 c10_i32_270
  let c9_i32_268 : BitVec 32 := 9#32
  let v277 : BitVec 1 := Scalar.cmpi .eq v34 c9_i32_268
  let c8_i32_266 : BitVec 32 := 8#32
  let v275 : BitVec 1 := Scalar.cmpi .eq v34 c8_i32_266
  let c7_i32_264 : BitVec 32 := 7#32
  let v273 : BitVec 1 := Scalar.cmpi .eq v34 c7_i32_264
  let c6_i32_262 : BitVec 32 := 6#32
  let v271 : BitVec 1 := Scalar.cmpi .eq v34 c6_i32_262
  let c5_i32_260 : BitVec 32 := 5#32
  let v269 : BitVec 1 := Scalar.cmpi .eq v34 c5_i32_260
  let c4_i32_258 : BitVec 32 := 4#32
  let v267 : BitVec 1 := Scalar.cmpi .eq v34 c4_i32_258
  let c3_i32_256 : BitVec 32 := 3#32
  let v265 : BitVec 1 := Scalar.cmpi .eq v34 c3_i32_256
  let c2_i32_254 : BitVec 32 := 2#32
  let v263 : BitVec 1 := Scalar.cmpi .eq v34 c2_i32_254
  let c1_i32_252 : BitVec 32 := 1#32
  let v261 : BitVec 1 := Scalar.cmpi .eq v34 c1_i32_252
  let c0_i32_249 : BitVec 32 := 0#32
  let v259 : BitVec 1 := Scalar.cmpi .eq v34 c0_i32_249
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let v984 : Index := Scalar.indexCast v290
  let c3_1021 : Index := 3#32
  let c0_1022 : Index := 0#32
  let c0_1023 : Index := 0#32
  ![v984.toNat, 3, 0, 0]
def k0_off16_at (r : Fin 15) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 7 then
    if r.val < 3 then
      if r.val < 1 then
        (7#32, 11#32, 15#32, 14#32, 10#32, 6#32, 2#32, 1#32, 5#32, 9#32, 13#32, 12#32, 8#32, 4#32, 0#32, 3#32)
      else
        if r.val < 2 then
          (0#32, 3#32, 7#32, 11#32, 15#32, 14#32, 10#32, 6#32, 2#32, 1#32, 5#32, 9#32, 13#32, 12#32, 8#32, 4#32)
        else
          (11#32, 15#32, 14#32, 10#32, 6#32, 2#32, 1#32, 5#32, 9#32, 13#32, 12#32, 8#32, 4#32, 0#32, 3#32, 7#32)
    else
      if r.val < 5 then
        if r.val < 4 then
          (4#32, 0#32, 3#32, 7#32, 11#32, 15#32, 14#32, 10#32, 6#32, 2#32, 1#32, 5#32, 9#32, 13#32, 12#32, 8#32)
        else
          (15#32, 14#32, 10#32, 6#32, 2#32, 1#32, 5#32, 9#32, 13#32, 12#32, 8#32, 4#32, 0#32, 3#32, 7#32, 11#32)
      else
        if r.val < 6 then
          (8#32, 4#32, 0#32, 3#32, 7#32, 11#32, 15#32, 14#32, 10#32, 6#32, 2#32, 1#32, 5#32, 9#32, 13#32, 12#32)
        else
          (14#32, 10#32, 6#32, 2#32, 1#32, 5#32, 9#32, 13#32, 12#32, 8#32, 4#32, 0#32, 3#32, 7#32, 11#32, 15#32)
  else
    if r.val < 11 then
      if r.val < 9 then
        if r.val < 8 then
          (12#32, 8#32, 4#32, 0#32, 3#32, 7#32, 11#32, 15#32, 14#32, 10#32, 6#32, 2#32, 1#32, 5#32, 9#32, 13#32)
        else
          (10#32, 6#32, 2#32, 1#32, 5#32, 9#32, 13#32, 12#32, 8#32, 4#32, 0#32, 3#32, 7#32, 11#32, 15#32, 14#32)
      else
        if r.val < 10 then
          (13#32, 12#32, 8#32, 4#32, 0#32, 3#32, 7#32, 11#32, 15#32, 14#32, 10#32, 6#32, 2#32, 1#32, 5#32, 9#32)
        else
          (6#32, 2#32, 1#32, 5#32, 9#32, 13#32, 12#32, 8#32, 4#32, 0#32, 3#32, 7#32, 11#32, 15#32, 14#32, 10#32)
    else
      if r.val < 13 then
        if r.val < 12 then
          (9#32, 13#32, 12#32, 8#32, 4#32, 0#32, 3#32, 7#32, 11#32, 15#32, 14#32, 10#32, 6#32, 2#32, 1#32, 5#32)
        else
          (2#32, 1#32, 5#32, 9#32, 13#32, 12#32, 8#32, 4#32, 0#32, 3#32, 7#32, 11#32, 15#32, 14#32, 10#32, 6#32)
      else
        if r.val < 14 then
          (5#32, 9#32, 13#32, 12#32, 8#32, 4#32, 0#32, 3#32, 7#32, 11#32, 15#32, 14#32, 10#32, 6#32, 2#32, 1#32)
        else
          (1#32, 5#32, 9#32, 13#32, 12#32, 8#32, 4#32, 0#32, 3#32, 7#32, 11#32, 15#32, 14#32, 10#32, 6#32, 2#32)
def k0_dev19 (d0 : Dev nD) : Nat :=
  let c0_i32_1115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_1114 : BitVec 32 := 1#32
  let v1072 : BitVec 32 := Scalar.muli v354 c1_i32_1114
  let v1073 : BitVec 32 := Scalar.addi c0_i32_1115 v1072
  v1073.toNat
def k0_dev20 (d0 : Dev nD) : Nat :=
  let c0_i32_1139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_1138 : BitVec 32 := 1#32
  let v1090 : BitVec 32 := Scalar.muli v290 c1_i32_1138
  let v1091 : BitVec 32 := Scalar.addi c0_i32_1139 v1090
  v1091.toNat
def k0_dev21 (d0 : Dev nD) : Nat :=
  let c0_i32_1163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_1162 : BitVec 32 := 1#32
  let v1108 : BitVec 32 := Scalar.muli v354 c1_i32_1162
  let v1109 : BitVec 32 := Scalar.addi c0_i32_1163 v1108
  v1109.toNat
def k0_dev22 (d0 : Dev nD) : Nat :=
  let c0_i32_1187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_1186 : BitVec 32 := 1#32
  let v1126 : BitVec 32 := Scalar.muli v290 c1_i32_1186
  let v1127 : BitVec 32 := Scalar.addi c0_i32_1187 v1126
  v1127.toNat
def k0_dev23 (d0 : Dev nD) : Nat :=
  let c0_i32_1211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_1210 : BitVec 32 := 1#32
  let v1144 : BitVec 32 := Scalar.muli v354 c1_i32_1210
  let v1145 : BitVec 32 := Scalar.addi c0_i32_1211 v1144
  v1145.toNat
def k0_dev24 (d0 : Dev nD) : Nat :=
  let c0_i32_1235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_1234 : BitVec 32 := 1#32
  let v1162 : BitVec 32 := Scalar.muli v290 c1_i32_1234
  let v1163 : BitVec 32 := Scalar.addi c0_i32_1235 v1162
  v1163.toNat
def k0_dev25 (d0 : Dev nD) : Nat :=
  let c0_i32_1259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_1258 : BitVec 32 := 1#32
  let v1180 : BitVec 32 := Scalar.muli v354 c1_i32_1258
  let v1181 : BitVec 32 := Scalar.addi c0_i32_1259 v1180
  v1181.toNat
def k0_dev26 (d0 : Dev nD) : Nat :=
  let c0_i32_1283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_1282 : BitVec 32 := 1#32
  let v1198 : BitVec 32 := Scalar.muli v290 c1_i32_1282
  let v1199 : BitVec 32 := Scalar.addi c0_i32_1283 v1198
  v1199.toNat
def k0_dev27 (d0 : Dev nD) : Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_1426 : BitVec 32 := 1#32
  let v1344 : BitVec 32 := Scalar.muli v354 c1_i32_1426
  let v1345 : BitVec 32 := Scalar.addi c0_i32_1427 v1344
  v1345.toNat
def k0_dev28 (d0 : Dev nD) : Nat :=
  let c0_i32_1451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_1450 : BitVec 32 := 1#32
  let v1362 : BitVec 32 := Scalar.muli v290 c1_i32_1450
  let v1363 : BitVec 32 := Scalar.addi c0_i32_1451 v1362
  v1363.toNat
def k0_dev29 (d0 : Dev nD) : Nat :=
  let c0_i32_1475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_1474 : BitVec 32 := 1#32
  let v1380 : BitVec 32 := Scalar.muli v354 c1_i32_1474
  let v1381 : BitVec 32 := Scalar.addi c0_i32_1475 v1380
  v1381.toNat
def k0_dev30 (d0 : Dev nD) : Nat :=
  let c0_i32_1499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_1498 : BitVec 32 := 1#32
  let v1398 : BitVec 32 := Scalar.muli v290 c1_i32_1498
  let v1399 : BitVec 32 := Scalar.addi c0_i32_1499 v1398
  v1399.toNat
def k0_dev31 (d0 : Dev nD) : Nat :=
  let c0_i32_1523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_1522 : BitVec 32 := 1#32
  let v1416 : BitVec 32 := Scalar.muli v354 c1_i32_1522
  let v1417 : BitVec 32 := Scalar.addi c0_i32_1523 v1416
  v1417.toNat
def k0_dev32 (d0 : Dev nD) : Nat :=
  let c0_i32_1547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_1546 : BitVec 32 := 1#32
  let v1434 : BitVec 32 := Scalar.muli v290 c1_i32_1546
  let v1435 : BitVec 32 := Scalar.addi c0_i32_1547 v1434
  v1435.toNat
def k0_dev33 (d0 : Dev nD) : Nat :=
  let c0_i32_1571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_1570 : BitVec 32 := 1#32
  let v1452 : BitVec 32 := Scalar.muli v354 c1_i32_1570
  let v1453 : BitVec 32 := Scalar.addi c0_i32_1571 v1452
  v1453.toNat
def k0_dev34 (d0 : Dev nD) : Nat :=
  let c0_i32_1595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_1594 : BitVec 32 := 1#32
  let v1470 : BitVec 32 := Scalar.muli v290 c1_i32_1594
  let v1471 : BitVec 32 := Scalar.addi c0_i32_1595 v1470
  v1471.toNat
def k0_dev35 (d0 : Dev nD) : Nat :=
  let c0_i32_1739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_1738 : BitVec 32 := 1#32
  let v1616 : BitVec 32 := Scalar.muli v354 c1_i32_1738
  let v1617 : BitVec 32 := Scalar.addi c0_i32_1739 v1616
  v1617.toNat
def k0_dev36 (d0 : Dev nD) : Nat :=
  let c0_i32_1763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_1762 : BitVec 32 := 1#32
  let v1634 : BitVec 32 := Scalar.muli v290 c1_i32_1762
  let v1635 : BitVec 32 := Scalar.addi c0_i32_1763 v1634
  v1635.toNat
def k0_dev37 (d0 : Dev nD) : Nat :=
  let c0_i32_1787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_1786 : BitVec 32 := 1#32
  let v1652 : BitVec 32 := Scalar.muli v354 c1_i32_1786
  let v1653 : BitVec 32 := Scalar.addi c0_i32_1787 v1652
  v1653.toNat
def k0_dev38 (d0 : Dev nD) : Nat :=
  let c0_i32_1811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_1810 : BitVec 32 := 1#32
  let v1670 : BitVec 32 := Scalar.muli v290 c1_i32_1810
  let v1671 : BitVec 32 := Scalar.addi c0_i32_1811 v1670
  v1671.toNat
def k0_dev39 (d0 : Dev nD) : Nat :=
  let c0_i32_1835 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_1834 : BitVec 32 := 1#32
  let v1688 : BitVec 32 := Scalar.muli v354 c1_i32_1834
  let v1689 : BitVec 32 := Scalar.addi c0_i32_1835 v1688
  v1689.toNat
def k0_dev40 (d0 : Dev nD) : Nat :=
  let c0_i32_1859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_1858 : BitVec 32 := 1#32
  let v1706 : BitVec 32 := Scalar.muli v290 c1_i32_1858
  let v1707 : BitVec 32 := Scalar.addi c0_i32_1859 v1706
  v1707.toNat
def k0_dev41 (d0 : Dev nD) : Nat :=
  let c0_i32_1883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_1882 : BitVec 32 := 1#32
  let v1724 : BitVec 32 := Scalar.muli v354 c1_i32_1882
  let v1725 : BitVec 32 := Scalar.addi c0_i32_1883 v1724
  v1725.toNat
def k0_dev42 (d0 : Dev nD) : Nat :=
  let c0_i32_1907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_1906 : BitVec 32 := 1#32
  let v1742 : BitVec 32 := Scalar.muli v290 c1_i32_1906
  let v1743 : BitVec 32 := Scalar.addi c0_i32_1907 v1742
  v1743.toNat
def k0_dev43 (d0 : Dev nD) : Nat :=
  let c0_i32_2051 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_2050 : BitVec 32 := 1#32
  let v1888 : BitVec 32 := Scalar.muli v354 c1_i32_2050
  let v1889 : BitVec 32 := Scalar.addi c0_i32_2051 v1888
  v1889.toNat
def k0_dev44 (d0 : Dev nD) : Nat :=
  let c0_i32_2075 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_2074 : BitVec 32 := 1#32
  let v1906 : BitVec 32 := Scalar.muli v290 c1_i32_2074
  let v1907 : BitVec 32 := Scalar.addi c0_i32_2075 v1906
  v1907.toNat
def k0_dev45 (d0 : Dev nD) : Nat :=
  let c0_i32_2099 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_2098 : BitVec 32 := 1#32
  let v1924 : BitVec 32 := Scalar.muli v354 c1_i32_2098
  let v1925 : BitVec 32 := Scalar.addi c0_i32_2099 v1924
  v1925.toNat
def k0_dev46 (d0 : Dev nD) : Nat :=
  let c0_i32_2123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_2122 : BitVec 32 := 1#32
  let v1942 : BitVec 32 := Scalar.muli v290 c1_i32_2122
  let v1943 : BitVec 32 := Scalar.addi c0_i32_2123 v1942
  v1943.toNat
def k0_dev47 (d0 : Dev nD) : Nat :=
  let c0_i32_2147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_2146 : BitVec 32 := 1#32
  let v1960 : BitVec 32 := Scalar.muli v354 c1_i32_2146
  let v1961 : BitVec 32 := Scalar.addi c0_i32_2147 v1960
  v1961.toNat
def k0_dev48 (d0 : Dev nD) : Nat :=
  let c0_i32_2171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_2170 : BitVec 32 := 1#32
  let v1978 : BitVec 32 := Scalar.muli v290 c1_i32_2170
  let v1979 : BitVec 32 := Scalar.addi c0_i32_2171 v1978
  v1979.toNat
def k0_dev49 (d0 : Dev nD) : Nat :=
  let c0_i32_2195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_2194 : BitVec 32 := 1#32
  let v1996 : BitVec 32 := Scalar.muli v354 c1_i32_2194
  let v1997 : BitVec 32 := Scalar.addi c0_i32_2195 v1996
  v1997.toNat
def k0_dev50 (d0 : Dev nD) : Nat :=
  let c0_i32_2219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_2218 : BitVec 32 := 1#32
  let v2014 : BitVec 32 := Scalar.muli v290 c1_i32_2218
  let v2015 : BitVec 32 := Scalar.addi c0_i32_2219 v2014
  v2015.toNat
def k0_dev51 (d0 : Dev nD) : Nat :=
  let c0_i32_2363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_2362 : BitVec 32 := 1#32
  let v2160 : BitVec 32 := Scalar.muli v354 c1_i32_2362
  let v2161 : BitVec 32 := Scalar.addi c0_i32_2363 v2160
  v2161.toNat
def k0_dev52 (d0 : Dev nD) : Nat :=
  let c0_i32_2387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_2386 : BitVec 32 := 1#32
  let v2178 : BitVec 32 := Scalar.muli v290 c1_i32_2386
  let v2179 : BitVec 32 := Scalar.addi c0_i32_2387 v2178
  v2179.toNat
def k0_dev53 (d0 : Dev nD) : Nat :=
  let c0_i32_2411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_2410 : BitVec 32 := 1#32
  let v2196 : BitVec 32 := Scalar.muli v354 c1_i32_2410
  let v2197 : BitVec 32 := Scalar.addi c0_i32_2411 v2196
  v2197.toNat
def k0_dev54 (d0 : Dev nD) : Nat :=
  let c0_i32_2435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_2434 : BitVec 32 := 1#32
  let v2214 : BitVec 32 := Scalar.muli v290 c1_i32_2434
  let v2215 : BitVec 32 := Scalar.addi c0_i32_2435 v2214
  v2215.toNat
def k0_dev55 (d0 : Dev nD) : Nat :=
  let c0_i32_2459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_2458 : BitVec 32 := 1#32
  let v2232 : BitVec 32 := Scalar.muli v354 c1_i32_2458
  let v2233 : BitVec 32 := Scalar.addi c0_i32_2459 v2232
  v2233.toNat
def k0_dev56 (d0 : Dev nD) : Nat :=
  let c0_i32_2483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_2482 : BitVec 32 := 1#32
  let v2250 : BitVec 32 := Scalar.muli v290 c1_i32_2482
  let v2251 : BitVec 32 := Scalar.addi c0_i32_2483 v2250
  v2251.toNat
def k0_dev57 (d0 : Dev nD) : Nat :=
  let c0_i32_2507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_2506 : BitVec 32 := 1#32
  let v2268 : BitVec 32 := Scalar.muli v354 c1_i32_2506
  let v2269 : BitVec 32 := Scalar.addi c0_i32_2507 v2268
  v2269.toNat
def k0_dev58 (d0 : Dev nD) : Nat :=
  let c0_i32_2531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_2530 : BitVec 32 := 1#32
  let v2286 : BitVec 32 := Scalar.muli v290 c1_i32_2530
  let v2287 : BitVec 32 := Scalar.addi c0_i32_2531 v2286
  v2287.toNat
def k0_dev59 (d0 : Dev nD) : Nat :=
  let c0_i32_2675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_2674 : BitVec 32 := 1#32
  let v2432 : BitVec 32 := Scalar.muli v354 c1_i32_2674
  let v2433 : BitVec 32 := Scalar.addi c0_i32_2675 v2432
  v2433.toNat
def k0_dev60 (d0 : Dev nD) : Nat :=
  let c0_i32_2711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_2710 : BitVec 32 := 1#32
  let v2458 : BitVec 32 := Scalar.muli v354 c1_i32_2710
  let v2459 : BitVec 32 := Scalar.addi c0_i32_2711 v2458
  v2459.toNat
def k0_dev61 (d0 : Dev nD) : Nat :=
  let c0_i32_2747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_2746 : BitVec 32 := 1#32
  let v2484 : BitVec 32 := Scalar.muli v354 c1_i32_2746
  let v2485 : BitVec 32 := Scalar.addi c0_i32_2747 v2484
  v2485.toNat
def k0_dev62 (d0 : Dev nD) : Nat :=
  let c0_i32_2783 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_2782 : BitVec 32 := 1#32
  let v2510 : BitVec 32 := Scalar.muli v354 c1_i32_2782
  let v2511 : BitVec 32 := Scalar.addi c0_i32_2783 v2510
  v2511.toNat
def k0_dev63 (d0 : Dev nD) : Nat :=
  let c0_i32_3810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_3809 : BitVec 32 := 1#32
  let v3112 : BitVec 32 := Scalar.muli v290 c1_i32_3809
  let v3113 : BitVec 32 := Scalar.addi c0_i32_3810 v3112
  v3113.toNat
def k0_dev64 (d0 : Dev nD) : Nat :=
  let c0_i32_3813 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_3812 : BitVec 32 := 1#32
  let v3114 : BitVec 32 := Scalar.muli v354 c1_i32_3812
  let v3115 : BitVec 32 := Scalar.addi c0_i32_3813 v3114
  v3115.toNat
def k0_dev65 (d0 : Dev nD) : Nat :=
  let c0_i32_3829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_3828 : BitVec 32 := 1#32
  let v3124 : BitVec 32 := Scalar.muli v354 c1_i32_3828
  let v3125 : BitVec 32 := Scalar.addi c0_i32_3829 v3124
  v3125.toNat
def k0_dev66 (d0 : Dev nD) : Nat :=
  let c0_i32_3847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_3846 : BitVec 32 := 1#32
  let v3142 : BitVec 32 := Scalar.muli v290 c1_i32_3846
  let v3143 : BitVec 32 := Scalar.addi c0_i32_3847 v3142
  v3143.toNat
def k0_dev67 (d0 : Dev nD) : Nat :=
  let c0_i32_3865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_3864 : BitVec 32 := 1#32
  let v3160 : BitVec 32 := Scalar.muli v354 c1_i32_3864
  let v3161 : BitVec 32 := Scalar.addi c0_i32_3865 v3160
  v3161.toNat
def k0_dev68 (d0 : Dev nD) : Nat :=
  let c0_i32_3883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_3882 : BitVec 32 := 1#32
  let v3178 : BitVec 32 := Scalar.muli v290 c1_i32_3882
  let v3179 : BitVec 32 := Scalar.addi c0_i32_3883 v3178
  v3179.toNat
def k0_dev69 (d0 : Dev nD) : Nat :=
  let c0_i32_3901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_3900 : BitVec 32 := 1#32
  let v3196 : BitVec 32 := Scalar.muli v354 c1_i32_3900
  let v3197 : BitVec 32 := Scalar.addi c0_i32_3901 v3196
  v3197.toNat
def k0_dev70 (d0 : Dev nD) : Nat :=
  let c0_i32_3919 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_3918 : BitVec 32 := 1#32
  let v3214 : BitVec 32 := Scalar.muli v290 c1_i32_3918
  let v3215 : BitVec 32 := Scalar.addi c0_i32_3919 v3214
  v3215.toNat
def k0_dev71 (d0 : Dev nD) : Nat :=
  let c0_i32_3937 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_3936 : BitVec 32 := 1#32
  let v3232 : BitVec 32 := Scalar.muli v354 c1_i32_3936
  let v3233 : BitVec 32 := Scalar.addi c0_i32_3937 v3232
  v3233.toNat
def k0_dev72 (d0 : Dev nD) : Nat :=
  let c0_i32_3955 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_3954 : BitVec 32 := 1#32
  let v3250 : BitVec 32 := Scalar.muli v290 c1_i32_3954
  let v3251 : BitVec 32 := Scalar.addi c0_i32_3955 v3250
  v3251.toNat
def k0_dev73 (d0 : Dev nD) : Nat :=
  let c0_i32_3988 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_3987 : BitVec 32 := 1#32
  let v3281 : BitVec 32 := Scalar.muli v354 c1_i32_3987
  let v3282 : BitVec 32 := Scalar.addi c0_i32_3988 v3281
  v3282.toNat
def k0_dev74 (d0 : Dev nD) : Nat :=
  let c0_i32_4021 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_4020 : BitVec 32 := 1#32
  let v3312 : BitVec 32 := Scalar.muli v354 c1_i32_4020
  let v3313 : BitVec 32 := Scalar.addi c0_i32_4021 v3312
  v3313.toNat
def k0_dev75 (d0 : Dev nD) : Nat :=
  let c0_i32_4054 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_4053 : BitVec 32 := 1#32
  let v3343 : BitVec 32 := Scalar.muli v354 c1_i32_4053
  let v3344 : BitVec 32 := Scalar.addi c0_i32_4054 v3343
  v3344.toNat
def k0_dev76 (d0 : Dev nD) : Nat :=
  let c0_i32_4087 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_4086 : BitVec 32 := 1#32
  let v3374 : BitVec 32 := Scalar.muli v354 c1_i32_4086
  let v3375 : BitVec 32 := Scalar.addi c0_i32_4087 v3374
  v3375.toNat
def k0_dev77 (d0 : Dev nD) : Nat :=
  let c0_i32_4120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_4119 : BitVec 32 := 1#32
  let v3405 : BitVec 32 := Scalar.muli v290 c1_i32_4119
  let v3406 : BitVec 32 := Scalar.addi c0_i32_4120 v3405
  v3406.toNat
def k0_dev78 (d0 : Dev nD) : Nat :=
  let c0_i32_4153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_4152 : BitVec 32 := 1#32
  let v3436 : BitVec 32 := Scalar.muli v290 c1_i32_4152
  let v3437 : BitVec 32 := Scalar.addi c0_i32_4153 v3436
  v3437.toNat
def k0_dev79 (d0 : Dev nD) : Nat :=
  let c0_i32_4186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_4185 : BitVec 32 := 1#32
  let v3467 : BitVec 32 := Scalar.muli v290 c1_i32_4185
  let v3468 : BitVec 32 := Scalar.addi c0_i32_4186 v3467
  v3468.toNat
def k0_dev80 (d0 : Dev nD) : Nat :=
  let c0_i32_4219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_4218 : BitVec 32 := 1#32
  let v3498 : BitVec 32 := Scalar.muli v290 c1_i32_4218
  let v3499 : BitVec 32 := Scalar.addi c0_i32_4219 v3498
  v3499.toNat
def k0_dev81 (d0 : Dev nD) : Nat :=
  let c0_i32_4252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_4251 : BitVec 32 := 1#32
  let v3529 : BitVec 32 := Scalar.muli v354 c1_i32_4251
  let v3530 : BitVec 32 := Scalar.addi c0_i32_4252 v3529
  v3530.toNat
def k0_dev82 (d0 : Dev nD) : Nat :=
  let c0_i32_4285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_4284 : BitVec 32 := 1#32
  let v3560 : BitVec 32 := Scalar.muli v354 c1_i32_4284
  let v3561 : BitVec 32 := Scalar.addi c0_i32_4285 v3560
  v3561.toNat
def k0_dev83 (d0 : Dev nD) : Nat :=
  let c0_i32_4318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_4317 : BitVec 32 := 1#32
  let v3591 : BitVec 32 := Scalar.muli v354 c1_i32_4317
  let v3592 : BitVec 32 := Scalar.addi c0_i32_4318 v3591
  v3592.toNat
def k0_dev84 (d0 : Dev nD) : Nat :=
  let c0_i32_4351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_4350 : BitVec 32 := 1#32
  let v3622 : BitVec 32 := Scalar.muli v354 c1_i32_4350
  let v3623 : BitVec 32 := Scalar.addi c0_i32_4351 v3622
  v3623.toNat
def k0_dev85 (d0 : Dev nD) : Nat :=
  let c0_i32_4384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_4383 : BitVec 32 := 1#32
  let v3653 : BitVec 32 := Scalar.muli v290 c1_i32_4383
  let v3654 : BitVec 32 := Scalar.addi c0_i32_4384 v3653
  v3654.toNat
def k0_dev86 (d0 : Dev nD) : Nat :=
  let c0_i32_4417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_4416 : BitVec 32 := 1#32
  let v3684 : BitVec 32 := Scalar.muli v290 c1_i32_4416
  let v3685 : BitVec 32 := Scalar.addi c0_i32_4417 v3684
  v3685.toNat
def k0_dev87 (d0 : Dev nD) : Nat :=
  let c0_i32_4450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_4449 : BitVec 32 := 1#32
  let v3715 : BitVec 32 := Scalar.muli v290 c1_i32_4449
  let v3716 : BitVec 32 := Scalar.addi c0_i32_4450 v3715
  v3716.toNat
def k0_dev88 (d0 : Dev nD) : Nat :=
  let c0_i32_4483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_4482 : BitVec 32 := 1#32
  let v3746 : BitVec 32 := Scalar.muli v290 c1_i32_4482
  let v3747 : BitVec 32 := Scalar.addi c0_i32_4483 v3746
  v3747.toNat
def k0_dev89 (d0 : Dev nD) : Nat :=
  let c0_i32_4516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_4515 : BitVec 32 := 1#32
  let v3777 : BitVec 32 := Scalar.muli v354 c1_i32_4515
  let v3778 : BitVec 32 := Scalar.addi c0_i32_4516 v3777
  v3778.toNat
def k0_dev90 (d0 : Dev nD) : Nat :=
  let c0_i32_4549 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_4548 : BitVec 32 := 1#32
  let v3808 : BitVec 32 := Scalar.muli v354 c1_i32_4548
  let v3809 : BitVec 32 := Scalar.addi c0_i32_4549 v3808
  v3809.toNat
def k0_dev91 (d0 : Dev nD) : Nat :=
  let c0_i32_4582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_4581 : BitVec 32 := 1#32
  let v3839 : BitVec 32 := Scalar.muli v354 c1_i32_4581
  let v3840 : BitVec 32 := Scalar.addi c0_i32_4582 v3839
  v3840.toNat
def k0_dev92 (d0 : Dev nD) : Nat :=
  let c0_i32_4615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_4614 : BitVec 32 := 1#32
  let v3870 : BitVec 32 := Scalar.muli v354 c1_i32_4614
  let v3871 : BitVec 32 := Scalar.addi c0_i32_4615 v3870
  v3871.toNat
def k0_dev93 (d0 : Dev nD) : Nat :=
  let c0_i32_4648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_4647 : BitVec 32 := 1#32
  let v3901 : BitVec 32 := Scalar.muli v290 c1_i32_4647
  let v3902 : BitVec 32 := Scalar.addi c0_i32_4648 v3901
  v3902.toNat
def k0_dev94 (d0 : Dev nD) : Nat :=
  let c0_i32_4681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_4680 : BitVec 32 := 1#32
  let v3932 : BitVec 32 := Scalar.muli v290 c1_i32_4680
  let v3933 : BitVec 32 := Scalar.addi c0_i32_4681 v3932
  v3933.toNat
def k0_dev95 (d0 : Dev nD) : Nat :=
  let c0_i32_4714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_4713 : BitVec 32 := 1#32
  let v3963 : BitVec 32 := Scalar.muli v290 c1_i32_4713
  let v3964 : BitVec 32 := Scalar.addi c0_i32_4714 v3963
  v3964.toNat
def k0_dev96 (d0 : Dev nD) : Nat :=
  let c0_i32_4747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_4746 : BitVec 32 := 1#32
  let v3994 : BitVec 32 := Scalar.muli v290 c1_i32_4746
  let v3995 : BitVec 32 := Scalar.addi c0_i32_4747 v3994
  v3995.toNat
def k0_dev97 (d0 : Dev nD) : Nat :=
  let c0_i32_4780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_4779 : BitVec 32 := 1#32
  let v4025 : BitVec 32 := Scalar.muli v354 c1_i32_4779
  let v4026 : BitVec 32 := Scalar.addi c0_i32_4780 v4025
  v4026.toNat
def k0_dev98 (d0 : Dev nD) : Nat :=
  let c0_i32_4813 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_4812 : BitVec 32 := 1#32
  let v4056 : BitVec 32 := Scalar.muli v354 c1_i32_4812
  let v4057 : BitVec 32 := Scalar.addi c0_i32_4813 v4056
  v4057.toNat
def k0_dev99 (d0 : Dev nD) : Nat :=
  let c0_i32_4846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_4845 : BitVec 32 := 1#32
  let v4087 : BitVec 32 := Scalar.muli v354 c1_i32_4845
  let v4088 : BitVec 32 := Scalar.addi c0_i32_4846 v4087
  v4088.toNat
def k0_dev100 (d0 : Dev nD) : Nat :=
  let c0_i32_4879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_4878 : BitVec 32 := 1#32
  let v4118 : BitVec 32 := Scalar.muli v354 c1_i32_4878
  let v4119 : BitVec 32 := Scalar.addi c0_i32_4879 v4118
  v4119.toNat
def k0_dev101 (d0 : Dev nD) : Nat :=
  let c0_i32_4912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_4911 : BitVec 32 := 1#32
  let v4149 : BitVec 32 := Scalar.muli v290 c1_i32_4911
  let v4150 : BitVec 32 := Scalar.addi c0_i32_4912 v4149
  v4150.toNat
def k0_dev102 (d0 : Dev nD) : Nat :=
  let c0_i32_4945 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_4944 : BitVec 32 := 1#32
  let v4180 : BitVec 32 := Scalar.muli v290 c1_i32_4944
  let v4181 : BitVec 32 := Scalar.addi c0_i32_4945 v4180
  v4181.toNat
def k0_dev103 (d0 : Dev nD) : Nat :=
  let c0_i32_4978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_4977 : BitVec 32 := 1#32
  let v4211 : BitVec 32 := Scalar.muli v290 c1_i32_4977
  let v4212 : BitVec 32 := Scalar.addi c0_i32_4978 v4211
  v4212.toNat
def k0_dev104 (d0 : Dev nD) : Nat :=
  let c0_i32_5011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_5010 : BitVec 32 := 1#32
  let v4242 : BitVec 32 := Scalar.muli v290 c1_i32_5010
  let v4243 : BitVec 32 := Scalar.addi c0_i32_5011 v4242
  v4243.toNat
def k0_dev105 (d0 : Dev nD) : Nat :=
  let c0_i32_5044 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_5043 : BitVec 32 := 1#32
  let v4273 : BitVec 32 := Scalar.muli v354 c1_i32_5043
  let v4274 : BitVec 32 := Scalar.addi c0_i32_5044 v4273
  v4274.toNat
def k0_dev106 (d0 : Dev nD) : Nat :=
  let c0_i32_5077 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_5076 : BitVec 32 := 1#32
  let v4304 : BitVec 32 := Scalar.muli v354 c1_i32_5076
  let v4305 : BitVec 32 := Scalar.addi c0_i32_5077 v4304
  v4305.toNat
def k0_dev107 (d0 : Dev nD) : Nat :=
  let c0_i32_5110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_5109 : BitVec 32 := 1#32
  let v4335 : BitVec 32 := Scalar.muli v354 c1_i32_5109
  let v4336 : BitVec 32 := Scalar.addi c0_i32_5110 v4335
  v4336.toNat
def k0_dev108 (d0 : Dev nD) : Nat :=
  let c0_i32_5143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_5142 : BitVec 32 := 1#32
  let v4366 : BitVec 32 := Scalar.muli v354 c1_i32_5142
  let v4367 : BitVec 32 := Scalar.addi c0_i32_5143 v4366
  v4367.toNat
def k0_dev109 (d0 : Dev nD) : Nat :=
  let c0_i32_5176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_5175 : BitVec 32 := 1#32
  let v4397 : BitVec 32 := Scalar.muli v290 c1_i32_5175
  let v4398 : BitVec 32 := Scalar.addi c0_i32_5176 v4397
  v4398.toNat
def k0_dev110 (d0 : Dev nD) : Nat :=
  let c0_i32_5209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_5208 : BitVec 32 := 1#32
  let v4428 : BitVec 32 := Scalar.muli v290 c1_i32_5208
  let v4429 : BitVec 32 := Scalar.addi c0_i32_5209 v4428
  v4429.toNat
def k0_dev111 (d0 : Dev nD) : Nat :=
  let c0_i32_5242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_5241 : BitVec 32 := 1#32
  let v4459 : BitVec 32 := Scalar.muli v290 c1_i32_5241
  let v4460 : BitVec 32 := Scalar.addi c0_i32_5242 v4459
  v4460.toNat
def k0_dev112 (d0 : Dev nD) : Nat :=
  let c0_i32_5275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_5274 : BitVec 32 := 1#32
  let v4490 : BitVec 32 := Scalar.muli v290 c1_i32_5274
  let v4491 : BitVec 32 := Scalar.addi c0_i32_5275 v4490
  v4491.toNat
def k0_dev113 (d0 : Dev nD) : Nat :=
  let c0_i32_5308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_5307 : BitVec 32 := 1#32
  let v4521 : BitVec 32 := Scalar.muli v354 c1_i32_5307
  let v4522 : BitVec 32 := Scalar.addi c0_i32_5308 v4521
  v4522.toNat
def k0_dev114 (d0 : Dev nD) : Nat :=
  let c0_i32_5341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_5340 : BitVec 32 := 1#32
  let v4552 : BitVec 32 := Scalar.muli v354 c1_i32_5340
  let v4553 : BitVec 32 := Scalar.addi c0_i32_5341 v4552
  v4553.toNat
def k0_dev115 (d0 : Dev nD) : Nat :=
  let c0_i32_5374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_5373 : BitVec 32 := 1#32
  let v4583 : BitVec 32 := Scalar.muli v354 c1_i32_5373
  let v4584 : BitVec 32 := Scalar.addi c0_i32_5374 v4583
  v4584.toNat
def k0_dev116 (d0 : Dev nD) : Nat :=
  let c0_i32_5407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_5406 : BitVec 32 := 1#32
  let v4614 : BitVec 32 := Scalar.muli v354 c1_i32_5406
  let v4615 : BitVec 32 := Scalar.addi c0_i32_5407 v4614
  v4615.toNat
def k0_dev117 (d0 : Dev nD) : Nat :=
  let c0_i32_5440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_5439 : BitVec 32 := 1#32
  let v4645 : BitVec 32 := Scalar.muli v290 c1_i32_5439
  let v4646 : BitVec 32 := Scalar.addi c0_i32_5440 v4645
  v4646.toNat
def k0_dev118 (d0 : Dev nD) : Nat :=
  let c0_i32_5473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_5472 : BitVec 32 := 1#32
  let v4676 : BitVec 32 := Scalar.muli v290 c1_i32_5472
  let v4677 : BitVec 32 := Scalar.addi c0_i32_5473 v4676
  v4677.toNat
def k0_dev119 (d0 : Dev nD) : Nat :=
  let c0_i32_5506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_5505 : BitVec 32 := 1#32
  let v4707 : BitVec 32 := Scalar.muli v290 c1_i32_5505
  let v4708 : BitVec 32 := Scalar.addi c0_i32_5506 v4707
  v4708.toNat
def k0_dev120 (d0 : Dev nD) : Nat :=
  let c0_i32_5539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_5538 : BitVec 32 := 1#32
  let v4738 : BitVec 32 := Scalar.muli v290 c1_i32_5538
  let v4739 : BitVec 32 := Scalar.addi c0_i32_5539 v4738
  v4739.toNat
def k0_dev121 (d0 : Dev nD) : Nat :=
  let c0_i32_5572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_5571 : BitVec 32 := 1#32
  let v4769 : BitVec 32 := Scalar.muli v354 c1_i32_5571
  let v4770 : BitVec 32 := Scalar.addi c0_i32_5572 v4769
  v4770.toNat
def k0_dev122 (d0 : Dev nD) : Nat :=
  let c0_i32_5605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_5604 : BitVec 32 := 1#32
  let v4800 : BitVec 32 := Scalar.muli v354 c1_i32_5604
  let v4801 : BitVec 32 := Scalar.addi c0_i32_5605 v4800
  v4801.toNat
def k0_dev123 (d0 : Dev nD) : Nat :=
  let c0_i32_5638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_5637 : BitVec 32 := 1#32
  let v4831 : BitVec 32 := Scalar.muli v354 c1_i32_5637
  let v4832 : BitVec 32 := Scalar.addi c0_i32_5638 v4831
  v4832.toNat
def k0_dev124 (d0 : Dev nD) : Nat :=
  let c0_i32_5671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_5670 : BitVec 32 := 1#32
  let v4862 : BitVec 32 := Scalar.muli v354 c1_i32_5670
  let v4863 : BitVec 32 := Scalar.addi c0_i32_5671 v4862
  v4863.toNat
def k0_dev125 (d0 : Dev nD) : Nat :=
  let c0_i32_6602 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_6601 : BitVec 32 := 1#32
  let v5364 : BitVec 32 := Scalar.muli v290 c1_i32_6601
  let v5365 : BitVec 32 := Scalar.addi c0_i32_6602 v5364
  v5365.toNat
def k0_dev126 (d0 : Dev nD) : Nat :=
  let c0_i32_6605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_6604 : BitVec 32 := 1#32
  let v5366 : BitVec 32 := Scalar.muli v354 c1_i32_6604
  let v5367 : BitVec 32 := Scalar.addi c0_i32_6605 v5366
  v5367.toNat
def k0_dev127 (d0 : Dev nD) : Nat :=
  let c0_i32_6615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_6614 : BitVec 32 := 1#32
  let v5368 : BitVec 32 := Scalar.muli v354 c1_i32_6614
  let v5369 : BitVec 32 := Scalar.addi c0_i32_6615 v5368
  v5369.toNat
def k0_dev128 (d0 : Dev nD) : Nat :=
  let c0_i32_6627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_6626 : BitVec 32 := 1#32
  let v5378 : BitVec 32 := Scalar.muli v290 c1_i32_6626
  let v5379 : BitVec 32 := Scalar.addi c0_i32_6627 v5378
  v5379.toNat
def k0_dev129 (d0 : Dev nD) : Nat :=
  let c0_i32_6639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_6638 : BitVec 32 := 1#32
  let v5388 : BitVec 32 := Scalar.muli v354 c1_i32_6638
  let v5389 : BitVec 32 := Scalar.addi c0_i32_6639 v5388
  v5389.toNat
def k0_dev130 (d0 : Dev nD) : Nat :=
  let c0_i32_6651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_6650 : BitVec 32 := 1#32
  let v5398 : BitVec 32 := Scalar.muli v290 c1_i32_6650
  let v5399 : BitVec 32 := Scalar.addi c0_i32_6651 v5398
  v5399.toNat
def k0_dev131 (d0 : Dev nD) : Nat :=
  let c0_i32_6663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_6662 : BitVec 32 := 1#32
  let v5408 : BitVec 32 := Scalar.muli v354 c1_i32_6662
  let v5409 : BitVec 32 := Scalar.addi c0_i32_6663 v5408
  v5409.toNat
def k0_dev132 (d0 : Dev nD) : Nat :=
  let c0_i32_6675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_6674 : BitVec 32 := 1#32
  let v5418 : BitVec 32 := Scalar.muli v290 c1_i32_6674
  let v5419 : BitVec 32 := Scalar.addi c0_i32_6675 v5418
  v5419.toNat
def k0_dev133 (d0 : Dev nD) : Nat :=
  let c0_i32_6687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_6686 : BitVec 32 := 1#32
  let v5428 : BitVec 32 := Scalar.muli v354 c1_i32_6686
  let v5429 : BitVec 32 := Scalar.addi c0_i32_6687 v5428
  v5429.toNat
def k0_dev134 (d0 : Dev nD) : Nat :=
  let c0_i32_6699 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_6698 : BitVec 32 := 1#32
  let v5438 : BitVec 32 := Scalar.muli v290 c1_i32_6698
  let v5439 : BitVec 32 := Scalar.addi c0_i32_6699 v5438
  v5439.toNat
def k0_dev135 (d0 : Dev nD) : Nat :=
  let c0_i32_6783 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_6782 : BitVec 32 := 1#32
  let v5520 : BitVec 32 := Scalar.muli v354 c1_i32_6782
  let v5521 : BitVec 32 := Scalar.addi c0_i32_6783 v5520
  v5521.toNat
def k0_dev136 (d0 : Dev nD) : Nat :=
  let c0_i32_6807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_6806 : BitVec 32 := 1#32
  let v5538 : BitVec 32 := Scalar.muli v290 c1_i32_6806
  let v5539 : BitVec 32 := Scalar.addi c0_i32_6807 v5538
  v5539.toNat
def k0_dev137 (d0 : Dev nD) : Nat :=
  let c0_i32_6831 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_6830 : BitVec 32 := 1#32
  let v5556 : BitVec 32 := Scalar.muli v354 c1_i32_6830
  let v5557 : BitVec 32 := Scalar.addi c0_i32_6831 v5556
  v5557.toNat
def k0_dev138 (d0 : Dev nD) : Nat :=
  let c0_i32_6855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_6854 : BitVec 32 := 1#32
  let v5574 : BitVec 32 := Scalar.muli v290 c1_i32_6854
  let v5575 : BitVec 32 := Scalar.addi c0_i32_6855 v5574
  v5575.toNat
def k0_dev139 (d0 : Dev nD) : Nat :=
  let c0_i32_6879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_6878 : BitVec 32 := 1#32
  let v5592 : BitVec 32 := Scalar.muli v354 c1_i32_6878
  let v5593 : BitVec 32 := Scalar.addi c0_i32_6879 v5592
  v5593.toNat
def k0_dev140 (d0 : Dev nD) : Nat :=
  let c0_i32_6903 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_6902 : BitVec 32 := 1#32
  let v5610 : BitVec 32 := Scalar.muli v290 c1_i32_6902
  let v5611 : BitVec 32 := Scalar.addi c0_i32_6903 v5610
  v5611.toNat
def k0_dev141 (d0 : Dev nD) : Nat :=
  let c0_i32_6927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_6926 : BitVec 32 := 1#32
  let v5628 : BitVec 32 := Scalar.muli v354 c1_i32_6926
  let v5629 : BitVec 32 := Scalar.addi c0_i32_6927 v5628
  v5629.toNat
def k0_dev142 (d0 : Dev nD) : Nat :=
  let c0_i32_6951 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_6950 : BitVec 32 := 1#32
  let v5646 : BitVec 32 := Scalar.muli v290 c1_i32_6950
  let v5647 : BitVec 32 := Scalar.addi c0_i32_6951 v5646
  v5647.toNat
def k0_dev143 (d0 : Dev nD) : Nat :=
  let c0_i32_7095 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_7094 : BitVec 32 := 1#32
  let v5792 : BitVec 32 := Scalar.muli v354 c1_i32_7094
  let v5793 : BitVec 32 := Scalar.addi c0_i32_7095 v5792
  v5793.toNat
def k0_dev144 (d0 : Dev nD) : Nat :=
  let c0_i32_7119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_7118 : BitVec 32 := 1#32
  let v5810 : BitVec 32 := Scalar.muli v290 c1_i32_7118
  let v5811 : BitVec 32 := Scalar.addi c0_i32_7119 v5810
  v5811.toNat
def k0_dev145 (d0 : Dev nD) : Nat :=
  let c0_i32_7143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_7142 : BitVec 32 := 1#32
  let v5828 : BitVec 32 := Scalar.muli v354 c1_i32_7142
  let v5829 : BitVec 32 := Scalar.addi c0_i32_7143 v5828
  v5829.toNat
def k0_dev146 (d0 : Dev nD) : Nat :=
  let c0_i32_7167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_7166 : BitVec 32 := 1#32
  let v5846 : BitVec 32 := Scalar.muli v290 c1_i32_7166
  let v5847 : BitVec 32 := Scalar.addi c0_i32_7167 v5846
  v5847.toNat
def k0_dev147 (d0 : Dev nD) : Nat :=
  let c0_i32_7191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_7190 : BitVec 32 := 1#32
  let v5864 : BitVec 32 := Scalar.muli v354 c1_i32_7190
  let v5865 : BitVec 32 := Scalar.addi c0_i32_7191 v5864
  v5865.toNat
def k0_dev148 (d0 : Dev nD) : Nat :=
  let c0_i32_7215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_7214 : BitVec 32 := 1#32
  let v5882 : BitVec 32 := Scalar.muli v290 c1_i32_7214
  let v5883 : BitVec 32 := Scalar.addi c0_i32_7215 v5882
  v5883.toNat
def k0_dev149 (d0 : Dev nD) : Nat :=
  let c0_i32_7239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_7238 : BitVec 32 := 1#32
  let v5900 : BitVec 32 := Scalar.muli v354 c1_i32_7238
  let v5901 : BitVec 32 := Scalar.addi c0_i32_7239 v5900
  v5901.toNat
def k0_dev150 (d0 : Dev nD) : Nat :=
  let c0_i32_7263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_7262 : BitVec 32 := 1#32
  let v5918 : BitVec 32 := Scalar.muli v290 c1_i32_7262
  let v5919 : BitVec 32 := Scalar.addi c0_i32_7263 v5918
  v5919.toNat
def k0_dev151 (d0 : Dev nD) : Nat :=
  let c0_i32_7407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_7406 : BitVec 32 := 1#32
  let v6064 : BitVec 32 := Scalar.muli v354 c1_i32_7406
  let v6065 : BitVec 32 := Scalar.addi c0_i32_7407 v6064
  v6065.toNat
def k0_dev152 (d0 : Dev nD) : Nat :=
  let c0_i32_7431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_7430 : BitVec 32 := 1#32
  let v6082 : BitVec 32 := Scalar.muli v290 c1_i32_7430
  let v6083 : BitVec 32 := Scalar.addi c0_i32_7431 v6082
  v6083.toNat
def k0_dev153 (d0 : Dev nD) : Nat :=
  let c0_i32_7455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_7454 : BitVec 32 := 1#32
  let v6100 : BitVec 32 := Scalar.muli v354 c1_i32_7454
  let v6101 : BitVec 32 := Scalar.addi c0_i32_7455 v6100
  v6101.toNat
def k0_dev154 (d0 : Dev nD) : Nat :=
  let c0_i32_7479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_7478 : BitVec 32 := 1#32
  let v6118 : BitVec 32 := Scalar.muli v290 c1_i32_7478
  let v6119 : BitVec 32 := Scalar.addi c0_i32_7479 v6118
  v6119.toNat
def k0_dev155 (d0 : Dev nD) : Nat :=
  let c0_i32_7503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_7502 : BitVec 32 := 1#32
  let v6136 : BitVec 32 := Scalar.muli v354 c1_i32_7502
  let v6137 : BitVec 32 := Scalar.addi c0_i32_7503 v6136
  v6137.toNat
def k0_dev156 (d0 : Dev nD) : Nat :=
  let c0_i32_7527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_7526 : BitVec 32 := 1#32
  let v6154 : BitVec 32 := Scalar.muli v290 c1_i32_7526
  let v6155 : BitVec 32 := Scalar.addi c0_i32_7527 v6154
  v6155.toNat
def k0_dev157 (d0 : Dev nD) : Nat :=
  let c0_i32_7551 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_7550 : BitVec 32 := 1#32
  let v6172 : BitVec 32 := Scalar.muli v354 c1_i32_7550
  let v6173 : BitVec 32 := Scalar.addi c0_i32_7551 v6172
  v6173.toNat
def k0_dev158 (d0 : Dev nD) : Nat :=
  let c0_i32_7575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_7574 : BitVec 32 := 1#32
  let v6190 : BitVec 32 := Scalar.muli v290 c1_i32_7574
  let v6191 : BitVec 32 := Scalar.addi c0_i32_7575 v6190
  v6191.toNat
def k0_dev159 (d0 : Dev nD) : Nat :=
  let c0_i32_7719 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_7718 : BitVec 32 := 1#32
  let v6336 : BitVec 32 := Scalar.muli v354 c1_i32_7718
  let v6337 : BitVec 32 := Scalar.addi c0_i32_7719 v6336
  v6337.toNat
def k0_dev160 (d0 : Dev nD) : Nat :=
  let c0_i32_7743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_7742 : BitVec 32 := 1#32
  let v6354 : BitVec 32 := Scalar.muli v290 c1_i32_7742
  let v6355 : BitVec 32 := Scalar.addi c0_i32_7743 v6354
  v6355.toNat
def k0_dev161 (d0 : Dev nD) : Nat :=
  let c0_i32_7767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_7766 : BitVec 32 := 1#32
  let v6372 : BitVec 32 := Scalar.muli v354 c1_i32_7766
  let v6373 : BitVec 32 := Scalar.addi c0_i32_7767 v6372
  v6373.toNat
def k0_dev162 (d0 : Dev nD) : Nat :=
  let c0_i32_7791 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_7790 : BitVec 32 := 1#32
  let v6390 : BitVec 32 := Scalar.muli v290 c1_i32_7790
  let v6391 : BitVec 32 := Scalar.addi c0_i32_7791 v6390
  v6391.toNat
def k0_dev163 (d0 : Dev nD) : Nat :=
  let c0_i32_7815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_7814 : BitVec 32 := 1#32
  let v6408 : BitVec 32 := Scalar.muli v354 c1_i32_7814
  let v6409 : BitVec 32 := Scalar.addi c0_i32_7815 v6408
  v6409.toNat
def k0_dev164 (d0 : Dev nD) : Nat :=
  let c0_i32_7839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_7838 : BitVec 32 := 1#32
  let v6426 : BitVec 32 := Scalar.muli v290 c1_i32_7838
  let v6427 : BitVec 32 := Scalar.addi c0_i32_7839 v6426
  v6427.toNat
def k0_dev165 (d0 : Dev nD) : Nat :=
  let c0_i32_7863 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_7862 : BitVec 32 := 1#32
  let v6444 : BitVec 32 := Scalar.muli v354 c1_i32_7862
  let v6445 : BitVec 32 := Scalar.addi c0_i32_7863 v6444
  v6445.toNat
def k0_dev166 (d0 : Dev nD) : Nat :=
  let c0_i32_7887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_7886 : BitVec 32 := 1#32
  let v6462 : BitVec 32 := Scalar.muli v290 c1_i32_7886
  let v6463 : BitVec 32 := Scalar.addi c0_i32_7887 v6462
  v6463.toNat
def k0_dev167 (d0 : Dev nD) : Nat :=
  let c0_i32_8031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_8030 : BitVec 32 := 1#32
  let v6608 : BitVec 32 := Scalar.muli v354 c1_i32_8030
  let v6609 : BitVec 32 := Scalar.addi c0_i32_8031 v6608
  v6609.toNat
def k0_dev168 (d0 : Dev nD) : Nat :=
  let c0_i32_8055 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_8054 : BitVec 32 := 1#32
  let v6626 : BitVec 32 := Scalar.muli v290 c1_i32_8054
  let v6627 : BitVec 32 := Scalar.addi c0_i32_8055 v6626
  v6627.toNat
def k0_dev169 (d0 : Dev nD) : Nat :=
  let c0_i32_8079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_8078 : BitVec 32 := 1#32
  let v6644 : BitVec 32 := Scalar.muli v354 c1_i32_8078
  let v6645 : BitVec 32 := Scalar.addi c0_i32_8079 v6644
  v6645.toNat
def k0_dev170 (d0 : Dev nD) : Nat :=
  let c0_i32_8103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_8102 : BitVec 32 := 1#32
  let v6662 : BitVec 32 := Scalar.muli v290 c1_i32_8102
  let v6663 : BitVec 32 := Scalar.addi c0_i32_8103 v6662
  v6663.toNat
def k0_dev171 (d0 : Dev nD) : Nat :=
  let c0_i32_8127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_8126 : BitVec 32 := 1#32
  let v6680 : BitVec 32 := Scalar.muli v354 c1_i32_8126
  let v6681 : BitVec 32 := Scalar.addi c0_i32_8127 v6680
  v6681.toNat
def k0_dev172 (d0 : Dev nD) : Nat :=
  let c0_i32_8151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_8150 : BitVec 32 := 1#32
  let v6698 : BitVec 32 := Scalar.muli v290 c1_i32_8150
  let v6699 : BitVec 32 := Scalar.addi c0_i32_8151 v6698
  v6699.toNat
def k0_dev173 (d0 : Dev nD) : Nat :=
  let c0_i32_8175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_8174 : BitVec 32 := 1#32
  let v6716 : BitVec 32 := Scalar.muli v354 c1_i32_8174
  let v6717 : BitVec 32 := Scalar.addi c0_i32_8175 v6716
  v6717.toNat
def k0_dev174 (d0 : Dev nD) : Nat :=
  let c0_i32_8199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_8198 : BitVec 32 := 1#32
  let v6734 : BitVec 32 := Scalar.muli v290 c1_i32_8198
  let v6735 : BitVec 32 := Scalar.addi c0_i32_8199 v6734
  v6735.toNat
def k0_dev175 (d0 : Dev nD) : Nat :=
  let c0_i32_8343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_8342 : BitVec 32 := 1#32
  let v6880 : BitVec 32 := Scalar.muli v354 c1_i32_8342
  let v6881 : BitVec 32 := Scalar.addi c0_i32_8343 v6880
  v6881.toNat
def k0_dev176 (d0 : Dev nD) : Nat :=
  let c0_i32_8367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_8366 : BitVec 32 := 1#32
  let v6898 : BitVec 32 := Scalar.muli v290 c1_i32_8366
  let v6899 : BitVec 32 := Scalar.addi c0_i32_8367 v6898
  v6899.toNat
def k0_dev177 (d0 : Dev nD) : Nat :=
  let c0_i32_8391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_8390 : BitVec 32 := 1#32
  let v6916 : BitVec 32 := Scalar.muli v354 c1_i32_8390
  let v6917 : BitVec 32 := Scalar.addi c0_i32_8391 v6916
  v6917.toNat
def k0_dev178 (d0 : Dev nD) : Nat :=
  let c0_i32_8415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_8414 : BitVec 32 := 1#32
  let v6934 : BitVec 32 := Scalar.muli v290 c1_i32_8414
  let v6935 : BitVec 32 := Scalar.addi c0_i32_8415 v6934
  v6935.toNat
def k0_dev179 (d0 : Dev nD) : Nat :=
  let c0_i32_8439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_8438 : BitVec 32 := 1#32
  let v6952 : BitVec 32 := Scalar.muli v354 c1_i32_8438
  let v6953 : BitVec 32 := Scalar.addi c0_i32_8439 v6952
  v6953.toNat
def k0_dev180 (d0 : Dev nD) : Nat :=
  let c0_i32_8463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_8462 : BitVec 32 := 1#32
  let v6970 : BitVec 32 := Scalar.muli v290 c1_i32_8462
  let v6971 : BitVec 32 := Scalar.addi c0_i32_8463 v6970
  v6971.toNat
def k0_dev181 (d0 : Dev nD) : Nat :=
  let c0_i32_8487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_8486 : BitVec 32 := 1#32
  let v6988 : BitVec 32 := Scalar.muli v354 c1_i32_8486
  let v6989 : BitVec 32 := Scalar.addi c0_i32_8487 v6988
  v6989.toNat
def k0_dev182 (d0 : Dev nD) : Nat :=
  let c0_i32_8511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_8510 : BitVec 32 := 1#32
  let v7006 : BitVec 32 := Scalar.muli v290 c1_i32_8510
  let v7007 : BitVec 32 := Scalar.addi c0_i32_8511 v7006
  v7007.toNat
def k0_dev183 (d0 : Dev nD) : Nat :=
  let c0_i32_8655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_8654 : BitVec 32 := 1#32
  let v7152 : BitVec 32 := Scalar.muli v354 c1_i32_8654
  let v7153 : BitVec 32 := Scalar.addi c0_i32_8655 v7152
  v7153.toNat
def k0_dev184 (d0 : Dev nD) : Nat :=
  let c0_i32_8691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_8690 : BitVec 32 := 1#32
  let v7178 : BitVec 32 := Scalar.muli v354 c1_i32_8690
  let v7179 : BitVec 32 := Scalar.addi c0_i32_8691 v7178
  v7179.toNat
def k0_dev185 (d0 : Dev nD) : Nat :=
  let c0_i32_8727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_8726 : BitVec 32 := 1#32
  let v7204 : BitVec 32 := Scalar.muli v354 c1_i32_8726
  let v7205 : BitVec 32 := Scalar.addi c0_i32_8727 v7204
  v7205.toNat
def k0_dev186 (d0 : Dev nD) : Nat :=
  let c0_i32_8763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_8762 : BitVec 32 := 1#32
  let v7230 : BitVec 32 := Scalar.muli v354 c1_i32_8762
  let v7231 : BitVec 32 := Scalar.addi c0_i32_8763 v7230
  v7231.toNat
def k0_dev187 (d0 : Dev nD) : Nat :=
  let c0_i32_9790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_9789 : BitVec 32 := 1#32
  let v7832 : BitVec 32 := Scalar.muli v290 c1_i32_9789
  let v7833 : BitVec 32 := Scalar.addi c0_i32_9790 v7832
  v7833.toNat
def k0_dev188 (d0 : Dev nD) : Nat :=
  let c0_i32_9793 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_9792 : BitVec 32 := 1#32
  let v7834 : BitVec 32 := Scalar.muli v354 c1_i32_9792
  let v7835 : BitVec 32 := Scalar.addi c0_i32_9793 v7834
  v7835.toNat
def k0_dev189 (d0 : Dev nD) : Nat :=
  let c0_i32_9809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_9808 : BitVec 32 := 1#32
  let v7844 : BitVec 32 := Scalar.muli v354 c1_i32_9808
  let v7845 : BitVec 32 := Scalar.addi c0_i32_9809 v7844
  v7845.toNat
def k0_dev190 (d0 : Dev nD) : Nat :=
  let c0_i32_9827 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_9826 : BitVec 32 := 1#32
  let v7862 : BitVec 32 := Scalar.muli v290 c1_i32_9826
  let v7863 : BitVec 32 := Scalar.addi c0_i32_9827 v7862
  v7863.toNat
def k0_dev191 (d0 : Dev nD) : Nat :=
  let c0_i32_9845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_9844 : BitVec 32 := 1#32
  let v7880 : BitVec 32 := Scalar.muli v354 c1_i32_9844
  let v7881 : BitVec 32 := Scalar.addi c0_i32_9845 v7880
  v7881.toNat
def k0_dev192 (d0 : Dev nD) : Nat :=
  let c0_i32_9863 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_9862 : BitVec 32 := 1#32
  let v7898 : BitVec 32 := Scalar.muli v290 c1_i32_9862
  let v7899 : BitVec 32 := Scalar.addi c0_i32_9863 v7898
  v7899.toNat
def k0_dev193 (d0 : Dev nD) : Nat :=
  let c0_i32_9881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_9880 : BitVec 32 := 1#32
  let v7916 : BitVec 32 := Scalar.muli v354 c1_i32_9880
  let v7917 : BitVec 32 := Scalar.addi c0_i32_9881 v7916
  v7917.toNat
def k0_dev194 (d0 : Dev nD) : Nat :=
  let c0_i32_9899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_9898 : BitVec 32 := 1#32
  let v7934 : BitVec 32 := Scalar.muli v290 c1_i32_9898
  let v7935 : BitVec 32 := Scalar.addi c0_i32_9899 v7934
  v7935.toNat
def k0_dev195 (d0 : Dev nD) : Nat :=
  let c0_i32_9917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_9916 : BitVec 32 := 1#32
  let v7952 : BitVec 32 := Scalar.muli v354 c1_i32_9916
  let v7953 : BitVec 32 := Scalar.addi c0_i32_9917 v7952
  v7953.toNat
def k0_dev196 (d0 : Dev nD) : Nat :=
  let c0_i32_9935 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_9934 : BitVec 32 := 1#32
  let v7970 : BitVec 32 := Scalar.muli v290 c1_i32_9934
  let v7971 : BitVec 32 := Scalar.addi c0_i32_9935 v7970
  v7971.toNat
def k0_dev197 (d0 : Dev nD) : Nat :=
  let c0_i32_9968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_9967 : BitVec 32 := 1#32
  let v8001 : BitVec 32 := Scalar.muli v354 c1_i32_9967
  let v8002 : BitVec 32 := Scalar.addi c0_i32_9968 v8001
  v8002.toNat
def k0_dev198 (d0 : Dev nD) : Nat :=
  let c0_i32_10001 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_10000 : BitVec 32 := 1#32
  let v8032 : BitVec 32 := Scalar.muli v354 c1_i32_10000
  let v8033 : BitVec 32 := Scalar.addi c0_i32_10001 v8032
  v8033.toNat
def k0_dev199 (d0 : Dev nD) : Nat :=
  let c0_i32_10034 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_10033 : BitVec 32 := 1#32
  let v8063 : BitVec 32 := Scalar.muli v354 c1_i32_10033
  let v8064 : BitVec 32 := Scalar.addi c0_i32_10034 v8063
  v8064.toNat
def k0_dev200 (d0 : Dev nD) : Nat :=
  let c0_i32_10067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_10066 : BitVec 32 := 1#32
  let v8094 : BitVec 32 := Scalar.muli v354 c1_i32_10066
  let v8095 : BitVec 32 := Scalar.addi c0_i32_10067 v8094
  v8095.toNat
def k0_dev201 (d0 : Dev nD) : Nat :=
  let c0_i32_10100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_10099 : BitVec 32 := 1#32
  let v8125 : BitVec 32 := Scalar.muli v290 c1_i32_10099
  let v8126 : BitVec 32 := Scalar.addi c0_i32_10100 v8125
  v8126.toNat
def k0_dev202 (d0 : Dev nD) : Nat :=
  let c0_i32_10133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_10132 : BitVec 32 := 1#32
  let v8156 : BitVec 32 := Scalar.muli v290 c1_i32_10132
  let v8157 : BitVec 32 := Scalar.addi c0_i32_10133 v8156
  v8157.toNat
def k0_dev203 (d0 : Dev nD) : Nat :=
  let c0_i32_10166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_10165 : BitVec 32 := 1#32
  let v8187 : BitVec 32 := Scalar.muli v290 c1_i32_10165
  let v8188 : BitVec 32 := Scalar.addi c0_i32_10166 v8187
  v8188.toNat
def k0_dev204 (d0 : Dev nD) : Nat :=
  let c0_i32_10199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_10198 : BitVec 32 := 1#32
  let v8218 : BitVec 32 := Scalar.muli v290 c1_i32_10198
  let v8219 : BitVec 32 := Scalar.addi c0_i32_10199 v8218
  v8219.toNat
def k0_dev205 (d0 : Dev nD) : Nat :=
  let c0_i32_10232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_10231 : BitVec 32 := 1#32
  let v8249 : BitVec 32 := Scalar.muli v354 c1_i32_10231
  let v8250 : BitVec 32 := Scalar.addi c0_i32_10232 v8249
  v8250.toNat
def k0_dev206 (d0 : Dev nD) : Nat :=
  let c0_i32_10265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_10264 : BitVec 32 := 1#32
  let v8280 : BitVec 32 := Scalar.muli v354 c1_i32_10264
  let v8281 : BitVec 32 := Scalar.addi c0_i32_10265 v8280
  v8281.toNat
def k0_dev207 (d0 : Dev nD) : Nat :=
  let c0_i32_10298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_10297 : BitVec 32 := 1#32
  let v8311 : BitVec 32 := Scalar.muli v354 c1_i32_10297
  let v8312 : BitVec 32 := Scalar.addi c0_i32_10298 v8311
  v8312.toNat
def k0_dev208 (d0 : Dev nD) : Nat :=
  let c0_i32_10331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_10330 : BitVec 32 := 1#32
  let v8342 : BitVec 32 := Scalar.muli v354 c1_i32_10330
  let v8343 : BitVec 32 := Scalar.addi c0_i32_10331 v8342
  v8343.toNat
def k0_dev209 (d0 : Dev nD) : Nat :=
  let c0_i32_10364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_10363 : BitVec 32 := 1#32
  let v8373 : BitVec 32 := Scalar.muli v290 c1_i32_10363
  let v8374 : BitVec 32 := Scalar.addi c0_i32_10364 v8373
  v8374.toNat
def k0_dev210 (d0 : Dev nD) : Nat :=
  let c0_i32_10397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_10396 : BitVec 32 := 1#32
  let v8404 : BitVec 32 := Scalar.muli v290 c1_i32_10396
  let v8405 : BitVec 32 := Scalar.addi c0_i32_10397 v8404
  v8405.toNat
def k0_dev211 (d0 : Dev nD) : Nat :=
  let c0_i32_10430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_10429 : BitVec 32 := 1#32
  let v8435 : BitVec 32 := Scalar.muli v290 c1_i32_10429
  let v8436 : BitVec 32 := Scalar.addi c0_i32_10430 v8435
  v8436.toNat
def k0_dev212 (d0 : Dev nD) : Nat :=
  let c0_i32_10463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_10462 : BitVec 32 := 1#32
  let v8466 : BitVec 32 := Scalar.muli v290 c1_i32_10462
  let v8467 : BitVec 32 := Scalar.addi c0_i32_10463 v8466
  v8467.toNat
def k0_dev213 (d0 : Dev nD) : Nat :=
  let c0_i32_10496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_10495 : BitVec 32 := 1#32
  let v8497 : BitVec 32 := Scalar.muli v354 c1_i32_10495
  let v8498 : BitVec 32 := Scalar.addi c0_i32_10496 v8497
  v8498.toNat
def k0_dev214 (d0 : Dev nD) : Nat :=
  let c0_i32_10529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_10528 : BitVec 32 := 1#32
  let v8528 : BitVec 32 := Scalar.muli v354 c1_i32_10528
  let v8529 : BitVec 32 := Scalar.addi c0_i32_10529 v8528
  v8529.toNat
def k0_dev215 (d0 : Dev nD) : Nat :=
  let c0_i32_10562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_10561 : BitVec 32 := 1#32
  let v8559 : BitVec 32 := Scalar.muli v354 c1_i32_10561
  let v8560 : BitVec 32 := Scalar.addi c0_i32_10562 v8559
  v8560.toNat
def k0_dev216 (d0 : Dev nD) : Nat :=
  let c0_i32_10595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_10594 : BitVec 32 := 1#32
  let v8590 : BitVec 32 := Scalar.muli v354 c1_i32_10594
  let v8591 : BitVec 32 := Scalar.addi c0_i32_10595 v8590
  v8591.toNat
def k0_dev217 (d0 : Dev nD) : Nat :=
  let c0_i32_10628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_10627 : BitVec 32 := 1#32
  let v8621 : BitVec 32 := Scalar.muli v290 c1_i32_10627
  let v8622 : BitVec 32 := Scalar.addi c0_i32_10628 v8621
  v8622.toNat
def k0_dev218 (d0 : Dev nD) : Nat :=
  let c0_i32_10661 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_10660 : BitVec 32 := 1#32
  let v8652 : BitVec 32 := Scalar.muli v290 c1_i32_10660
  let v8653 : BitVec 32 := Scalar.addi c0_i32_10661 v8652
  v8653.toNat
def k0_dev219 (d0 : Dev nD) : Nat :=
  let c0_i32_10694 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_10693 : BitVec 32 := 1#32
  let v8683 : BitVec 32 := Scalar.muli v290 c1_i32_10693
  let v8684 : BitVec 32 := Scalar.addi c0_i32_10694 v8683
  v8684.toNat
def k0_dev220 (d0 : Dev nD) : Nat :=
  let c0_i32_10727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_10726 : BitVec 32 := 1#32
  let v8714 : BitVec 32 := Scalar.muli v290 c1_i32_10726
  let v8715 : BitVec 32 := Scalar.addi c0_i32_10727 v8714
  v8715.toNat
def k0_dev221 (d0 : Dev nD) : Nat :=
  let c0_i32_10760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_10759 : BitVec 32 := 1#32
  let v8745 : BitVec 32 := Scalar.muli v354 c1_i32_10759
  let v8746 : BitVec 32 := Scalar.addi c0_i32_10760 v8745
  v8746.toNat
def k0_dev222 (d0 : Dev nD) : Nat :=
  let c0_i32_10793 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_10792 : BitVec 32 := 1#32
  let v8776 : BitVec 32 := Scalar.muli v354 c1_i32_10792
  let v8777 : BitVec 32 := Scalar.addi c0_i32_10793 v8776
  v8777.toNat
def k0_dev223 (d0 : Dev nD) : Nat :=
  let c0_i32_10826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_10825 : BitVec 32 := 1#32
  let v8807 : BitVec 32 := Scalar.muli v354 c1_i32_10825
  let v8808 : BitVec 32 := Scalar.addi c0_i32_10826 v8807
  v8808.toNat
def k0_dev224 (d0 : Dev nD) : Nat :=
  let c0_i32_10859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_10858 : BitVec 32 := 1#32
  let v8838 : BitVec 32 := Scalar.muli v354 c1_i32_10858
  let v8839 : BitVec 32 := Scalar.addi c0_i32_10859 v8838
  v8839.toNat
def k0_dev225 (d0 : Dev nD) : Nat :=
  let c0_i32_10892 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_10891 : BitVec 32 := 1#32
  let v8869 : BitVec 32 := Scalar.muli v290 c1_i32_10891
  let v8870 : BitVec 32 := Scalar.addi c0_i32_10892 v8869
  v8870.toNat
def k0_dev226 (d0 : Dev nD) : Nat :=
  let c0_i32_10925 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_10924 : BitVec 32 := 1#32
  let v8900 : BitVec 32 := Scalar.muli v290 c1_i32_10924
  let v8901 : BitVec 32 := Scalar.addi c0_i32_10925 v8900
  v8901.toNat
def k0_dev227 (d0 : Dev nD) : Nat :=
  let c0_i32_10958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_10957 : BitVec 32 := 1#32
  let v8931 : BitVec 32 := Scalar.muli v290 c1_i32_10957
  let v8932 : BitVec 32 := Scalar.addi c0_i32_10958 v8931
  v8932.toNat
def k0_dev228 (d0 : Dev nD) : Nat :=
  let c0_i32_10991 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_10990 : BitVec 32 := 1#32
  let v8962 : BitVec 32 := Scalar.muli v290 c1_i32_10990
  let v8963 : BitVec 32 := Scalar.addi c0_i32_10991 v8962
  v8963.toNat
def k0_dev229 (d0 : Dev nD) : Nat :=
  let c0_i32_11024 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_11023 : BitVec 32 := 1#32
  let v8993 : BitVec 32 := Scalar.muli v354 c1_i32_11023
  let v8994 : BitVec 32 := Scalar.addi c0_i32_11024 v8993
  v8994.toNat
def k0_dev230 (d0 : Dev nD) : Nat :=
  let c0_i32_11057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_11056 : BitVec 32 := 1#32
  let v9024 : BitVec 32 := Scalar.muli v354 c1_i32_11056
  let v9025 : BitVec 32 := Scalar.addi c0_i32_11057 v9024
  v9025.toNat
def k0_dev231 (d0 : Dev nD) : Nat :=
  let c0_i32_11090 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_11089 : BitVec 32 := 1#32
  let v9055 : BitVec 32 := Scalar.muli v354 c1_i32_11089
  let v9056 : BitVec 32 := Scalar.addi c0_i32_11090 v9055
  v9056.toNat
def k0_dev232 (d0 : Dev nD) : Nat :=
  let c0_i32_11123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_11122 : BitVec 32 := 1#32
  let v9086 : BitVec 32 := Scalar.muli v354 c1_i32_11122
  let v9087 : BitVec 32 := Scalar.addi c0_i32_11123 v9086
  v9087.toNat
def k0_dev233 (d0 : Dev nD) : Nat :=
  let c0_i32_11156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_11155 : BitVec 32 := 1#32
  let v9117 : BitVec 32 := Scalar.muli v290 c1_i32_11155
  let v9118 : BitVec 32 := Scalar.addi c0_i32_11156 v9117
  v9118.toNat
def k0_dev234 (d0 : Dev nD) : Nat :=
  let c0_i32_11189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_11188 : BitVec 32 := 1#32
  let v9148 : BitVec 32 := Scalar.muli v290 c1_i32_11188
  let v9149 : BitVec 32 := Scalar.addi c0_i32_11189 v9148
  v9149.toNat
def k0_dev235 (d0 : Dev nD) : Nat :=
  let c0_i32_11222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_11221 : BitVec 32 := 1#32
  let v9179 : BitVec 32 := Scalar.muli v290 c1_i32_11221
  let v9180 : BitVec 32 := Scalar.addi c0_i32_11222 v9179
  v9180.toNat
def k0_dev236 (d0 : Dev nD) : Nat :=
  let c0_i32_11255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_11254 : BitVec 32 := 1#32
  let v9210 : BitVec 32 := Scalar.muli v290 c1_i32_11254
  let v9211 : BitVec 32 := Scalar.addi c0_i32_11255 v9210
  v9211.toNat
def k0_dev237 (d0 : Dev nD) : Nat :=
  let c0_i32_11288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_11287 : BitVec 32 := 1#32
  let v9241 : BitVec 32 := Scalar.muli v354 c1_i32_11287
  let v9242 : BitVec 32 := Scalar.addi c0_i32_11288 v9241
  v9242.toNat
def k0_dev238 (d0 : Dev nD) : Nat :=
  let c0_i32_11321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_11320 : BitVec 32 := 1#32
  let v9272 : BitVec 32 := Scalar.muli v354 c1_i32_11320
  let v9273 : BitVec 32 := Scalar.addi c0_i32_11321 v9272
  v9273.toNat
def k0_dev239 (d0 : Dev nD) : Nat :=
  let c0_i32_11354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_11353 : BitVec 32 := 1#32
  let v9303 : BitVec 32 := Scalar.muli v354 c1_i32_11353
  let v9304 : BitVec 32 := Scalar.addi c0_i32_11354 v9303
  v9304.toNat
def k0_dev240 (d0 : Dev nD) : Nat :=
  let c0_i32_11387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_11386 : BitVec 32 := 1#32
  let v9334 : BitVec 32 := Scalar.muli v354 c1_i32_11386
  let v9335 : BitVec 32 := Scalar.addi c0_i32_11387 v9334
  v9335.toNat
def k0_dev241 (d0 : Dev nD) : Nat :=
  let c0_i32_11420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_11419 : BitVec 32 := 1#32
  let v9365 : BitVec 32 := Scalar.muli v290 c1_i32_11419
  let v9366 : BitVec 32 := Scalar.addi c0_i32_11420 v9365
  v9366.toNat
def k0_dev242 (d0 : Dev nD) : Nat :=
  let c0_i32_11453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_11452 : BitVec 32 := 1#32
  let v9396 : BitVec 32 := Scalar.muli v290 c1_i32_11452
  let v9397 : BitVec 32 := Scalar.addi c0_i32_11453 v9396
  v9397.toNat
def k0_dev243 (d0 : Dev nD) : Nat :=
  let c0_i32_11486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_11485 : BitVec 32 := 1#32
  let v9427 : BitVec 32 := Scalar.muli v290 c1_i32_11485
  let v9428 : BitVec 32 := Scalar.addi c0_i32_11486 v9427
  v9428.toNat
def k0_dev244 (d0 : Dev nD) : Nat :=
  let c0_i32_11519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_11518 : BitVec 32 := 1#32
  let v9458 : BitVec 32 := Scalar.muli v290 c1_i32_11518
  let v9459 : BitVec 32 := Scalar.addi c0_i32_11519 v9458
  v9459.toNat
def k0_dev245 (d0 : Dev nD) : Nat :=
  let c0_i32_11552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_11551 : BitVec 32 := 1#32
  let v9489 : BitVec 32 := Scalar.muli v354 c1_i32_11551
  let v9490 : BitVec 32 := Scalar.addi c0_i32_11552 v9489
  v9490.toNat
def k0_dev246 (d0 : Dev nD) : Nat :=
  let c0_i32_11585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_11584 : BitVec 32 := 1#32
  let v9520 : BitVec 32 := Scalar.muli v354 c1_i32_11584
  let v9521 : BitVec 32 := Scalar.addi c0_i32_11585 v9520
  v9521.toNat
def k0_dev247 (d0 : Dev nD) : Nat :=
  let c0_i32_11618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_11617 : BitVec 32 := 1#32
  let v9551 : BitVec 32 := Scalar.muli v354 c1_i32_11617
  let v9552 : BitVec 32 := Scalar.addi c0_i32_11618 v9551
  v9552.toNat
def k0_dev248 (d0 : Dev nD) : Nat :=
  let c0_i32_11651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_11650 : BitVec 32 := 1#32
  let v9582 : BitVec 32 := Scalar.muli v354 c1_i32_11650
  let v9583 : BitVec 32 := Scalar.addi c0_i32_11651 v9582
  v9583.toNat
def k0_dev249 (d0 : Dev nD) : Nat :=
  let c0_i32_12582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_12581 : BitVec 32 := 1#32
  let v10084 : BitVec 32 := Scalar.muli v290 c1_i32_12581
  let v10085 : BitVec 32 := Scalar.addi c0_i32_12582 v10084
  v10085.toNat
def k0_dev250 (d0 : Dev nD) : Nat :=
  let c0_i32_12585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_12584 : BitVec 32 := 1#32
  let v10086 : BitVec 32 := Scalar.muli v354 c1_i32_12584
  let v10087 : BitVec 32 := Scalar.addi c0_i32_12585 v10086
  v10087.toNat
def k0_dev251 (d0 : Dev nD) : Nat :=
  let c0_i32_12595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_12594 : BitVec 32 := 1#32
  let v10088 : BitVec 32 := Scalar.muli v354 c1_i32_12594
  let v10089 : BitVec 32 := Scalar.addi c0_i32_12595 v10088
  v10089.toNat

variable {F : FTy → Type} [FloatOps F]

def k0_dev252 (d0 : Dev nD) : Nat :=
  let c0_i32_12607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_12606 : BitVec 32 := 1#32
  let v10098 : BitVec 32 := Scalar.muli v290 c1_i32_12606
  let v10099 : BitVec 32 := Scalar.addi c0_i32_12607 v10098
  v10099.toNat
def k0_dev253 (d0 : Dev nD) : Nat :=
  let c0_i32_12619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_12618 : BitVec 32 := 1#32
  let v10108 : BitVec 32 := Scalar.muli v354 c1_i32_12618
  let v10109 : BitVec 32 := Scalar.addi c0_i32_12619 v10108
  v10109.toNat
def k0_dev254 (d0 : Dev nD) : Nat :=
  let c0_i32_12631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_12630 : BitVec 32 := 1#32
  let v10118 : BitVec 32 := Scalar.muli v290 c1_i32_12630
  let v10119 : BitVec 32 := Scalar.addi c0_i32_12631 v10118
  v10119.toNat
def k0_dev255 (d0 : Dev nD) : Nat :=
  let c0_i32_12643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_12642 : BitVec 32 := 1#32
  let v10128 : BitVec 32 := Scalar.muli v354 c1_i32_12642
  let v10129 : BitVec 32 := Scalar.addi c0_i32_12643 v10128
  v10129.toNat
def k0_dev256 (d0 : Dev nD) : Nat :=
  let c0_i32_12655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_12654 : BitVec 32 := 1#32
  let v10138 : BitVec 32 := Scalar.muli v290 c1_i32_12654
  let v10139 : BitVec 32 := Scalar.addi c0_i32_12655 v10138
  v10139.toNat
def k0_dev257 (d0 : Dev nD) : Nat :=
  let c0_i32_12667 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_12666 : BitVec 32 := 1#32
  let v10148 : BitVec 32 := Scalar.muli v354 c1_i32_12666
  let v10149 : BitVec 32 := Scalar.addi c0_i32_12667 v10148
  v10149.toNat
def k0_dev258 (d0 : Dev nD) : Nat :=
  let c0_i32_12679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_12678 : BitVec 32 := 1#32
  let v10158 : BitVec 32 := Scalar.muli v290 c1_i32_12678
  let v10159 : BitVec 32 := Scalar.addi c0_i32_12679 v10158
  v10159.toNat
def k0_dev259 (d0 : Dev nD) : Nat :=
  let c0_i32_12763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_12762 : BitVec 32 := 1#32
  let v10240 : BitVec 32 := Scalar.muli v354 c1_i32_12762
  let v10241 : BitVec 32 := Scalar.addi c0_i32_12763 v10240
  v10241.toNat
def k0_dev260 (d0 : Dev nD) : Nat :=
  let c0_i32_12787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_12786 : BitVec 32 := 1#32
  let v10258 : BitVec 32 := Scalar.muli v290 c1_i32_12786
  let v10259 : BitVec 32 := Scalar.addi c0_i32_12787 v10258
  v10259.toNat
def k0_dev261 (d0 : Dev nD) : Nat :=
  let c0_i32_12811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_12810 : BitVec 32 := 1#32
  let v10276 : BitVec 32 := Scalar.muli v354 c1_i32_12810
  let v10277 : BitVec 32 := Scalar.addi c0_i32_12811 v10276
  v10277.toNat
def k0_dev262 (d0 : Dev nD) : Nat :=
  let c0_i32_12835 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_12834 : BitVec 32 := 1#32
  let v10294 : BitVec 32 := Scalar.muli v290 c1_i32_12834
  let v10295 : BitVec 32 := Scalar.addi c0_i32_12835 v10294
  v10295.toNat
def k0_dev263 (d0 : Dev nD) : Nat :=
  let c0_i32_12859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_12858 : BitVec 32 := 1#32
  let v10312 : BitVec 32 := Scalar.muli v354 c1_i32_12858
  let v10313 : BitVec 32 := Scalar.addi c0_i32_12859 v10312
  v10313.toNat
def k0_dev264 (d0 : Dev nD) : Nat :=
  let c0_i32_12883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_12882 : BitVec 32 := 1#32
  let v10330 : BitVec 32 := Scalar.muli v290 c1_i32_12882
  let v10331 : BitVec 32 := Scalar.addi c0_i32_12883 v10330
  v10331.toNat
def k0_dev265 (d0 : Dev nD) : Nat :=
  let c0_i32_12907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_12906 : BitVec 32 := 1#32
  let v10348 : BitVec 32 := Scalar.muli v354 c1_i32_12906
  let v10349 : BitVec 32 := Scalar.addi c0_i32_12907 v10348
  v10349.toNat
def k0_dev266 (d0 : Dev nD) : Nat :=
  let c0_i32_12931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_12930 : BitVec 32 := 1#32
  let v10366 : BitVec 32 := Scalar.muli v290 c1_i32_12930
  let v10367 : BitVec 32 := Scalar.addi c0_i32_12931 v10366
  v10367.toNat
def k0_dev267 (d0 : Dev nD) : Nat :=
  let c0_i32_13075 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_13074 : BitVec 32 := 1#32
  let v10512 : BitVec 32 := Scalar.muli v354 c1_i32_13074
  let v10513 : BitVec 32 := Scalar.addi c0_i32_13075 v10512
  v10513.toNat
def k0_dev268 (d0 : Dev nD) : Nat :=
  let c0_i32_13099 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_13098 : BitVec 32 := 1#32
  let v10530 : BitVec 32 := Scalar.muli v290 c1_i32_13098
  let v10531 : BitVec 32 := Scalar.addi c0_i32_13099 v10530
  v10531.toNat
def k0_dev269 (d0 : Dev nD) : Nat :=
  let c0_i32_13123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_13122 : BitVec 32 := 1#32
  let v10548 : BitVec 32 := Scalar.muli v354 c1_i32_13122
  let v10549 : BitVec 32 := Scalar.addi c0_i32_13123 v10548
  v10549.toNat
def k0_dev270 (d0 : Dev nD) : Nat :=
  let c0_i32_13147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_13146 : BitVec 32 := 1#32
  let v10566 : BitVec 32 := Scalar.muli v290 c1_i32_13146
  let v10567 : BitVec 32 := Scalar.addi c0_i32_13147 v10566
  v10567.toNat
def k0_dev271 (d0 : Dev nD) : Nat :=
  let c0_i32_13171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_13170 : BitVec 32 := 1#32
  let v10584 : BitVec 32 := Scalar.muli v354 c1_i32_13170
  let v10585 : BitVec 32 := Scalar.addi c0_i32_13171 v10584
  v10585.toNat
def k0_dev272 (d0 : Dev nD) : Nat :=
  let c0_i32_13195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_13194 : BitVec 32 := 1#32
  let v10602 : BitVec 32 := Scalar.muli v290 c1_i32_13194
  let v10603 : BitVec 32 := Scalar.addi c0_i32_13195 v10602
  v10603.toNat
def k0_dev273 (d0 : Dev nD) : Nat :=
  let c0_i32_13219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_13218 : BitVec 32 := 1#32
  let v10620 : BitVec 32 := Scalar.muli v354 c1_i32_13218
  let v10621 : BitVec 32 := Scalar.addi c0_i32_13219 v10620
  v10621.toNat
def k0_dev274 (d0 : Dev nD) : Nat :=
  let c0_i32_13243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_13242 : BitVec 32 := 1#32
  let v10638 : BitVec 32 := Scalar.muli v290 c1_i32_13242
  let v10639 : BitVec 32 := Scalar.addi c0_i32_13243 v10638
  v10639.toNat
def k0_dev275 (d0 : Dev nD) : Nat :=
  let c0_i32_13387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_13386 : BitVec 32 := 1#32
  let v10784 : BitVec 32 := Scalar.muli v354 c1_i32_13386
  let v10785 : BitVec 32 := Scalar.addi c0_i32_13387 v10784
  v10785.toNat
def k0_dev276 (d0 : Dev nD) : Nat :=
  let c0_i32_13411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_13410 : BitVec 32 := 1#32
  let v10802 : BitVec 32 := Scalar.muli v290 c1_i32_13410
  let v10803 : BitVec 32 := Scalar.addi c0_i32_13411 v10802
  v10803.toNat
def k0_dev277 (d0 : Dev nD) : Nat :=
  let c0_i32_13435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_13434 : BitVec 32 := 1#32
  let v10820 : BitVec 32 := Scalar.muli v354 c1_i32_13434
  let v10821 : BitVec 32 := Scalar.addi c0_i32_13435 v10820
  v10821.toNat
def k0_dev278 (d0 : Dev nD) : Nat :=
  let c0_i32_13459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_13458 : BitVec 32 := 1#32
  let v10838 : BitVec 32 := Scalar.muli v290 c1_i32_13458
  let v10839 : BitVec 32 := Scalar.addi c0_i32_13459 v10838
  v10839.toNat
def k0_dev279 (d0 : Dev nD) : Nat :=
  let c0_i32_13483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_13482 : BitVec 32 := 1#32
  let v10856 : BitVec 32 := Scalar.muli v354 c1_i32_13482
  let v10857 : BitVec 32 := Scalar.addi c0_i32_13483 v10856
  v10857.toNat
def k0_dev280 (d0 : Dev nD) : Nat :=
  let c0_i32_13507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_13506 : BitVec 32 := 1#32
  let v10874 : BitVec 32 := Scalar.muli v290 c1_i32_13506
  let v10875 : BitVec 32 := Scalar.addi c0_i32_13507 v10874
  v10875.toNat
def k0_dev281 (d0 : Dev nD) : Nat :=
  let c0_i32_13531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_13530 : BitVec 32 := 1#32
  let v10892 : BitVec 32 := Scalar.muli v354 c1_i32_13530
  let v10893 : BitVec 32 := Scalar.addi c0_i32_13531 v10892
  v10893.toNat
def k0_dev282 (d0 : Dev nD) : Nat :=
  let c0_i32_13555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_13554 : BitVec 32 := 1#32
  let v10910 : BitVec 32 := Scalar.muli v290 c1_i32_13554
  let v10911 : BitVec 32 := Scalar.addi c0_i32_13555 v10910
  v10911.toNat
def k0_dev283 (d0 : Dev nD) : Nat :=
  let c0_i32_13699 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_13698 : BitVec 32 := 1#32
  let v11056 : BitVec 32 := Scalar.muli v354 c1_i32_13698
  let v11057 : BitVec 32 := Scalar.addi c0_i32_13699 v11056
  v11057.toNat
def k0_dev284 (d0 : Dev nD) : Nat :=
  let c0_i32_13723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_13722 : BitVec 32 := 1#32
  let v11074 : BitVec 32 := Scalar.muli v290 c1_i32_13722
  let v11075 : BitVec 32 := Scalar.addi c0_i32_13723 v11074
  v11075.toNat
def k0_dev285 (d0 : Dev nD) : Nat :=
  let c0_i32_13747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_13746 : BitVec 32 := 1#32
  let v11092 : BitVec 32 := Scalar.muli v354 c1_i32_13746
  let v11093 : BitVec 32 := Scalar.addi c0_i32_13747 v11092
  v11093.toNat
def k0_dev286 (d0 : Dev nD) : Nat :=
  let c0_i32_13771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_13770 : BitVec 32 := 1#32
  let v11110 : BitVec 32 := Scalar.muli v290 c1_i32_13770
  let v11111 : BitVec 32 := Scalar.addi c0_i32_13771 v11110
  v11111.toNat
def k0_dev287 (d0 : Dev nD) : Nat :=
  let c0_i32_13795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_13794 : BitVec 32 := 1#32
  let v11128 : BitVec 32 := Scalar.muli v354 c1_i32_13794
  let v11129 : BitVec 32 := Scalar.addi c0_i32_13795 v11128
  v11129.toNat
def k0_dev288 (d0 : Dev nD) : Nat :=
  let c0_i32_13819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_13818 : BitVec 32 := 1#32
  let v11146 : BitVec 32 := Scalar.muli v290 c1_i32_13818
  let v11147 : BitVec 32 := Scalar.addi c0_i32_13819 v11146
  v11147.toNat
def k0_dev289 (d0 : Dev nD) : Nat :=
  let c0_i32_13843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_13842 : BitVec 32 := 1#32
  let v11164 : BitVec 32 := Scalar.muli v354 c1_i32_13842
  let v11165 : BitVec 32 := Scalar.addi c0_i32_13843 v11164
  v11165.toNat
def k0_dev290 (d0 : Dev nD) : Nat :=
  let c0_i32_13867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_13866 : BitVec 32 := 1#32
  let v11182 : BitVec 32 := Scalar.muli v290 c1_i32_13866
  let v11183 : BitVec 32 := Scalar.addi c0_i32_13867 v11182
  v11183.toNat
def k0_dev291 (d0 : Dev nD) : Nat :=
  let c0_i32_14011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_14010 : BitVec 32 := 1#32
  let v11328 : BitVec 32 := Scalar.muli v354 c1_i32_14010
  let v11329 : BitVec 32 := Scalar.addi c0_i32_14011 v11328
  v11329.toNat
def k0_dev292 (d0 : Dev nD) : Nat :=
  let c0_i32_14035 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_14034 : BitVec 32 := 1#32
  let v11346 : BitVec 32 := Scalar.muli v290 c1_i32_14034
  let v11347 : BitVec 32 := Scalar.addi c0_i32_14035 v11346
  v11347.toNat
def k0_dev293 (d0 : Dev nD) : Nat :=
  let c0_i32_14059 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_14058 : BitVec 32 := 1#32
  let v11364 : BitVec 32 := Scalar.muli v354 c1_i32_14058
  let v11365 : BitVec 32 := Scalar.addi c0_i32_14059 v11364
  v11365.toNat
def k0_dev294 (d0 : Dev nD) : Nat :=
  let c0_i32_14083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_14082 : BitVec 32 := 1#32
  let v11382 : BitVec 32 := Scalar.muli v290 c1_i32_14082
  let v11383 : BitVec 32 := Scalar.addi c0_i32_14083 v11382
  v11383.toNat
def k0_dev295 (d0 : Dev nD) : Nat :=
  let c0_i32_14107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_14106 : BitVec 32 := 1#32
  let v11400 : BitVec 32 := Scalar.muli v354 c1_i32_14106
  let v11401 : BitVec 32 := Scalar.addi c0_i32_14107 v11400
  v11401.toNat
def k0_dev296 (d0 : Dev nD) : Nat :=
  let c0_i32_14131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_14130 : BitVec 32 := 1#32
  let v11418 : BitVec 32 := Scalar.muli v290 c1_i32_14130
  let v11419 : BitVec 32 := Scalar.addi c0_i32_14131 v11418
  v11419.toNat
def k0_dev297 (d0 : Dev nD) : Nat :=
  let c0_i32_14155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_14154 : BitVec 32 := 1#32
  let v11436 : BitVec 32 := Scalar.muli v354 c1_i32_14154
  let v11437 : BitVec 32 := Scalar.addi c0_i32_14155 v11436
  v11437.toNat
def k0_dev298 (d0 : Dev nD) : Nat :=
  let c0_i32_14179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_14178 : BitVec 32 := 1#32
  let v11454 : BitVec 32 := Scalar.muli v290 c1_i32_14178
  let v11455 : BitVec 32 := Scalar.addi c0_i32_14179 v11454
  v11455.toNat
def k0_dev299 (d0 : Dev nD) : Nat :=
  let c0_i32_14323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_14322 : BitVec 32 := 1#32
  let v11600 : BitVec 32 := Scalar.muli v354 c1_i32_14322
  let v11601 : BitVec 32 := Scalar.addi c0_i32_14323 v11600
  v11601.toNat
def k0_dev300 (d0 : Dev nD) : Nat :=
  let c0_i32_14347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_14346 : BitVec 32 := 1#32
  let v11618 : BitVec 32 := Scalar.muli v290 c1_i32_14346
  let v11619 : BitVec 32 := Scalar.addi c0_i32_14347 v11618
  v11619.toNat
def k0_dev301 (d0 : Dev nD) : Nat :=
  let c0_i32_14371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_14370 : BitVec 32 := 1#32
  let v11636 : BitVec 32 := Scalar.muli v354 c1_i32_14370
  let v11637 : BitVec 32 := Scalar.addi c0_i32_14371 v11636
  v11637.toNat
def k0_dev302 (d0 : Dev nD) : Nat :=
  let c0_i32_14395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_14394 : BitVec 32 := 1#32
  let v11654 : BitVec 32 := Scalar.muli v290 c1_i32_14394
  let v11655 : BitVec 32 := Scalar.addi c0_i32_14395 v11654
  v11655.toNat
def k0_dev303 (d0 : Dev nD) : Nat :=
  let c0_i32_14419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_14418 : BitVec 32 := 1#32
  let v11672 : BitVec 32 := Scalar.muli v354 c1_i32_14418
  let v11673 : BitVec 32 := Scalar.addi c0_i32_14419 v11672
  v11673.toNat
def k0_dev304 (d0 : Dev nD) : Nat :=
  let c0_i32_14443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_14442 : BitVec 32 := 1#32
  let v11690 : BitVec 32 := Scalar.muli v290 c1_i32_14442
  let v11691 : BitVec 32 := Scalar.addi c0_i32_14443 v11690
  v11691.toNat
def k0_dev305 (d0 : Dev nD) : Nat :=
  let c0_i32_14467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_14466 : BitVec 32 := 1#32
  let v11708 : BitVec 32 := Scalar.muli v354 c1_i32_14466
  let v11709 : BitVec 32 := Scalar.addi c0_i32_14467 v11708
  v11709.toNat
def k0_dev306 (d0 : Dev nD) : Nat :=
  let c0_i32_14491 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_14490 : BitVec 32 := 1#32
  let v11726 : BitVec 32 := Scalar.muli v290 c1_i32_14490
  let v11727 : BitVec 32 := Scalar.addi c0_i32_14491 v11726
  v11727.toNat
def k0_dev307 (d0 : Dev nD) : Nat :=
  let c0_i32_14635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_14634 : BitVec 32 := 1#32
  let v11872 : BitVec 32 := Scalar.muli v354 c1_i32_14634
  let v11873 : BitVec 32 := Scalar.addi c0_i32_14635 v11872
  v11873.toNat
def k0_dev308 (d0 : Dev nD) : Nat :=
  let c0_i32_14671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_14670 : BitVec 32 := 1#32
  let v11898 : BitVec 32 := Scalar.muli v354 c1_i32_14670
  let v11899 : BitVec 32 := Scalar.addi c0_i32_14671 v11898
  v11899.toNat
def k0_dev309 (d0 : Dev nD) : Nat :=
  let c0_i32_14707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_14706 : BitVec 32 := 1#32
  let v11924 : BitVec 32 := Scalar.muli v354 c1_i32_14706
  let v11925 : BitVec 32 := Scalar.addi c0_i32_14707 v11924
  v11925.toNat
def k0_dev310 (d0 : Dev nD) : Nat :=
  let c0_i32_14743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_14742 : BitVec 32 := 1#32
  let v11950 : BitVec 32 := Scalar.muli v354 c1_i32_14742
  let v11951 : BitVec 32 := Scalar.addi c0_i32_14743 v11950
  v11951.toNat
def k0_dev311 (d0 : Dev nD) : Nat :=
  let c0_i32_15770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_15769 : BitVec 32 := 1#32
  let v12552 : BitVec 32 := Scalar.muli v290 c1_i32_15769
  let v12553 : BitVec 32 := Scalar.addi c0_i32_15770 v12552
  v12553.toNat
def k0_dev312 (d0 : Dev nD) : Nat :=
  let c0_i32_15773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_15772 : BitVec 32 := 1#32
  let v12554 : BitVec 32 := Scalar.muli v354 c1_i32_15772
  let v12555 : BitVec 32 := Scalar.addi c0_i32_15773 v12554
  v12555.toNat
def k0_dev313 (d0 : Dev nD) : Nat :=
  let c0_i32_15789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_15788 : BitVec 32 := 1#32
  let v12564 : BitVec 32 := Scalar.muli v354 c1_i32_15788
  let v12565 : BitVec 32 := Scalar.addi c0_i32_15789 v12564
  v12565.toNat
def k0_dev314 (d0 : Dev nD) : Nat :=
  let c0_i32_15807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_15806 : BitVec 32 := 1#32
  let v12582 : BitVec 32 := Scalar.muli v290 c1_i32_15806
  let v12583 : BitVec 32 := Scalar.addi c0_i32_15807 v12582
  v12583.toNat
def k0_dev315 (d0 : Dev nD) : Nat :=
  let c0_i32_15825 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_15824 : BitVec 32 := 1#32
  let v12600 : BitVec 32 := Scalar.muli v354 c1_i32_15824
  let v12601 : BitVec 32 := Scalar.addi c0_i32_15825 v12600
  v12601.toNat
def k0_dev316 (d0 : Dev nD) : Nat :=
  let c0_i32_15843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_15842 : BitVec 32 := 1#32
  let v12618 : BitVec 32 := Scalar.muli v290 c1_i32_15842
  let v12619 : BitVec 32 := Scalar.addi c0_i32_15843 v12618
  v12619.toNat
def k0_dev317 (d0 : Dev nD) : Nat :=
  let c0_i32_15861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_15860 : BitVec 32 := 1#32
  let v12636 : BitVec 32 := Scalar.muli v354 c1_i32_15860
  let v12637 : BitVec 32 := Scalar.addi c0_i32_15861 v12636
  v12637.toNat
def k0_dev318 (d0 : Dev nD) : Nat :=
  let c0_i32_15879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_15878 : BitVec 32 := 1#32
  let v12654 : BitVec 32 := Scalar.muli v290 c1_i32_15878
  let v12655 : BitVec 32 := Scalar.addi c0_i32_15879 v12654
  v12655.toNat
def k0_dev319 (d0 : Dev nD) : Nat :=
  let c0_i32_15897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_15896 : BitVec 32 := 1#32
  let v12672 : BitVec 32 := Scalar.muli v354 c1_i32_15896
  let v12673 : BitVec 32 := Scalar.addi c0_i32_15897 v12672
  v12673.toNat
def k0_dev320 (d0 : Dev nD) : Nat :=
  let c0_i32_15915 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_15914 : BitVec 32 := 1#32
  let v12690 : BitVec 32 := Scalar.muli v290 c1_i32_15914
  let v12691 : BitVec 32 := Scalar.addi c0_i32_15915 v12690
  v12691.toNat
def k0_dev321 (d0 : Dev nD) : Nat :=
  let c0_i32_15948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_15947 : BitVec 32 := 1#32
  let v12721 : BitVec 32 := Scalar.muli v354 c1_i32_15947
  let v12722 : BitVec 32 := Scalar.addi c0_i32_15948 v12721
  v12722.toNat
def k0_dev322 (d0 : Dev nD) : Nat :=
  let c0_i32_15981 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_15980 : BitVec 32 := 1#32
  let v12752 : BitVec 32 := Scalar.muli v354 c1_i32_15980
  let v12753 : BitVec 32 := Scalar.addi c0_i32_15981 v12752
  v12753.toNat
def k0_dev323 (d0 : Dev nD) : Nat :=
  let c0_i32_16014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_16013 : BitVec 32 := 1#32
  let v12783 : BitVec 32 := Scalar.muli v354 c1_i32_16013
  let v12784 : BitVec 32 := Scalar.addi c0_i32_16014 v12783
  v12784.toNat
def k0_dev324 (d0 : Dev nD) : Nat :=
  let c0_i32_16047 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_16046 : BitVec 32 := 1#32
  let v12814 : BitVec 32 := Scalar.muli v354 c1_i32_16046
  let v12815 : BitVec 32 := Scalar.addi c0_i32_16047 v12814
  v12815.toNat
def k0_dev325 (d0 : Dev nD) : Nat :=
  let c0_i32_16080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_16079 : BitVec 32 := 1#32
  let v12845 : BitVec 32 := Scalar.muli v290 c1_i32_16079
  let v12846 : BitVec 32 := Scalar.addi c0_i32_16080 v12845
  v12846.toNat
def k0_dev326 (d0 : Dev nD) : Nat :=
  let c0_i32_16113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_16112 : BitVec 32 := 1#32
  let v12876 : BitVec 32 := Scalar.muli v290 c1_i32_16112
  let v12877 : BitVec 32 := Scalar.addi c0_i32_16113 v12876
  v12877.toNat
def k0_dev327 (d0 : Dev nD) : Nat :=
  let c0_i32_16146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_16145 : BitVec 32 := 1#32
  let v12907 : BitVec 32 := Scalar.muli v290 c1_i32_16145
  let v12908 : BitVec 32 := Scalar.addi c0_i32_16146 v12907
  v12908.toNat
def k0_dev328 (d0 : Dev nD) : Nat :=
  let c0_i32_16179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_16178 : BitVec 32 := 1#32
  let v12938 : BitVec 32 := Scalar.muli v290 c1_i32_16178
  let v12939 : BitVec 32 := Scalar.addi c0_i32_16179 v12938
  v12939.toNat
def k0_dev329 (d0 : Dev nD) : Nat :=
  let c0_i32_16212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_16211 : BitVec 32 := 1#32
  let v12969 : BitVec 32 := Scalar.muli v354 c1_i32_16211
  let v12970 : BitVec 32 := Scalar.addi c0_i32_16212 v12969
  v12970.toNat
def k0_dev330 (d0 : Dev nD) : Nat :=
  let c0_i32_16245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_16244 : BitVec 32 := 1#32
  let v13000 : BitVec 32 := Scalar.muli v354 c1_i32_16244
  let v13001 : BitVec 32 := Scalar.addi c0_i32_16245 v13000
  v13001.toNat
def k0_dev331 (d0 : Dev nD) : Nat :=
  let c0_i32_16278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_16277 : BitVec 32 := 1#32
  let v13031 : BitVec 32 := Scalar.muli v354 c1_i32_16277
  let v13032 : BitVec 32 := Scalar.addi c0_i32_16278 v13031
  v13032.toNat
def k0_dev332 (d0 : Dev nD) : Nat :=
  let c0_i32_16311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_16310 : BitVec 32 := 1#32
  let v13062 : BitVec 32 := Scalar.muli v354 c1_i32_16310
  let v13063 : BitVec 32 := Scalar.addi c0_i32_16311 v13062
  v13063.toNat
def k0_dev333 (d0 : Dev nD) : Nat :=
  let c0_i32_16344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_16343 : BitVec 32 := 1#32
  let v13093 : BitVec 32 := Scalar.muli v290 c1_i32_16343
  let v13094 : BitVec 32 := Scalar.addi c0_i32_16344 v13093
  v13094.toNat
def k0_dev334 (d0 : Dev nD) : Nat :=
  let c0_i32_16377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_16376 : BitVec 32 := 1#32
  let v13124 : BitVec 32 := Scalar.muli v290 c1_i32_16376
  let v13125 : BitVec 32 := Scalar.addi c0_i32_16377 v13124
  v13125.toNat
def k0_dev335 (d0 : Dev nD) : Nat :=
  let c0_i32_16410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_16409 : BitVec 32 := 1#32
  let v13155 : BitVec 32 := Scalar.muli v290 c1_i32_16409
  let v13156 : BitVec 32 := Scalar.addi c0_i32_16410 v13155
  v13156.toNat
def k0_dev336 (d0 : Dev nD) : Nat :=
  let c0_i32_16443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_16442 : BitVec 32 := 1#32
  let v13186 : BitVec 32 := Scalar.muli v290 c1_i32_16442
  let v13187 : BitVec 32 := Scalar.addi c0_i32_16443 v13186
  v13187.toNat
def k0_dev337 (d0 : Dev nD) : Nat :=
  let c0_i32_16476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_16475 : BitVec 32 := 1#32
  let v13217 : BitVec 32 := Scalar.muli v354 c1_i32_16475
  let v13218 : BitVec 32 := Scalar.addi c0_i32_16476 v13217
  v13218.toNat
def k0_dev338 (d0 : Dev nD) : Nat :=
  let c0_i32_16509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_16508 : BitVec 32 := 1#32
  let v13248 : BitVec 32 := Scalar.muli v354 c1_i32_16508
  let v13249 : BitVec 32 := Scalar.addi c0_i32_16509 v13248
  v13249.toNat
def k0_dev339 (d0 : Dev nD) : Nat :=
  let c0_i32_16542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_16541 : BitVec 32 := 1#32
  let v13279 : BitVec 32 := Scalar.muli v354 c1_i32_16541
  let v13280 : BitVec 32 := Scalar.addi c0_i32_16542 v13279
  v13280.toNat
def k0_dev340 (d0 : Dev nD) : Nat :=
  let c0_i32_16575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_16574 : BitVec 32 := 1#32
  let v13310 : BitVec 32 := Scalar.muli v354 c1_i32_16574
  let v13311 : BitVec 32 := Scalar.addi c0_i32_16575 v13310
  v13311.toNat
def k0_dev341 (d0 : Dev nD) : Nat :=
  let c0_i32_16608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_16607 : BitVec 32 := 1#32
  let v13341 : BitVec 32 := Scalar.muli v290 c1_i32_16607
  let v13342 : BitVec 32 := Scalar.addi c0_i32_16608 v13341
  v13342.toNat
def k0_dev342 (d0 : Dev nD) : Nat :=
  let c0_i32_16641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_16640 : BitVec 32 := 1#32
  let v13372 : BitVec 32 := Scalar.muli v290 c1_i32_16640
  let v13373 : BitVec 32 := Scalar.addi c0_i32_16641 v13372
  v13373.toNat
def k0_dev343 (d0 : Dev nD) : Nat :=
  let c0_i32_16674 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_16673 : BitVec 32 := 1#32
  let v13403 : BitVec 32 := Scalar.muli v290 c1_i32_16673
  let v13404 : BitVec 32 := Scalar.addi c0_i32_16674 v13403
  v13404.toNat
def k0_dev344 (d0 : Dev nD) : Nat :=
  let c0_i32_16707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_16706 : BitVec 32 := 1#32
  let v13434 : BitVec 32 := Scalar.muli v290 c1_i32_16706
  let v13435 : BitVec 32 := Scalar.addi c0_i32_16707 v13434
  v13435.toNat
def k0_dev345 (d0 : Dev nD) : Nat :=
  let c0_i32_16740 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_16739 : BitVec 32 := 1#32
  let v13465 : BitVec 32 := Scalar.muli v354 c1_i32_16739
  let v13466 : BitVec 32 := Scalar.addi c0_i32_16740 v13465
  v13466.toNat
def k0_dev346 (d0 : Dev nD) : Nat :=
  let c0_i32_16773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_16772 : BitVec 32 := 1#32
  let v13496 : BitVec 32 := Scalar.muli v354 c1_i32_16772
  let v13497 : BitVec 32 := Scalar.addi c0_i32_16773 v13496
  v13497.toNat
def k0_dev347 (d0 : Dev nD) : Nat :=
  let c0_i32_16806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_16805 : BitVec 32 := 1#32
  let v13527 : BitVec 32 := Scalar.muli v354 c1_i32_16805
  let v13528 : BitVec 32 := Scalar.addi c0_i32_16806 v13527
  v13528.toNat
def k0_dev348 (d0 : Dev nD) : Nat :=
  let c0_i32_16839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_16838 : BitVec 32 := 1#32
  let v13558 : BitVec 32 := Scalar.muli v354 c1_i32_16838
  let v13559 : BitVec 32 := Scalar.addi c0_i32_16839 v13558
  v13559.toNat
def k0_dev349 (d0 : Dev nD) : Nat :=
  let c0_i32_16872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_16871 : BitVec 32 := 1#32
  let v13589 : BitVec 32 := Scalar.muli v290 c1_i32_16871
  let v13590 : BitVec 32 := Scalar.addi c0_i32_16872 v13589
  v13590.toNat
def k0_dev350 (d0 : Dev nD) : Nat :=
  let c0_i32_16905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_16904 : BitVec 32 := 1#32
  let v13620 : BitVec 32 := Scalar.muli v290 c1_i32_16904
  let v13621 : BitVec 32 := Scalar.addi c0_i32_16905 v13620
  v13621.toNat
def k0_dev351 (d0 : Dev nD) : Nat :=
  let c0_i32_16938 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_16937 : BitVec 32 := 1#32
  let v13651 : BitVec 32 := Scalar.muli v290 c1_i32_16937
  let v13652 : BitVec 32 := Scalar.addi c0_i32_16938 v13651
  v13652.toNat
def k0_dev352 (d0 : Dev nD) : Nat :=
  let c0_i32_16971 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_16970 : BitVec 32 := 1#32
  let v13682 : BitVec 32 := Scalar.muli v290 c1_i32_16970
  let v13683 : BitVec 32 := Scalar.addi c0_i32_16971 v13682
  v13683.toNat
def k0_dev353 (d0 : Dev nD) : Nat :=
  let c0_i32_17004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_17003 : BitVec 32 := 1#32
  let v13713 : BitVec 32 := Scalar.muli v354 c1_i32_17003
  let v13714 : BitVec 32 := Scalar.addi c0_i32_17004 v13713
  v13714.toNat
def k0_dev354 (d0 : Dev nD) : Nat :=
  let c0_i32_17037 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_17036 : BitVec 32 := 1#32
  let v13744 : BitVec 32 := Scalar.muli v354 c1_i32_17036
  let v13745 : BitVec 32 := Scalar.addi c0_i32_17037 v13744
  v13745.toNat
def k0_dev355 (d0 : Dev nD) : Nat :=
  let c0_i32_17070 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_17069 : BitVec 32 := 1#32
  let v13775 : BitVec 32 := Scalar.muli v354 c1_i32_17069
  let v13776 : BitVec 32 := Scalar.addi c0_i32_17070 v13775
  v13776.toNat
def k0_dev356 (d0 : Dev nD) : Nat :=
  let c0_i32_17103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_17102 : BitVec 32 := 1#32
  let v13806 : BitVec 32 := Scalar.muli v354 c1_i32_17102
  let v13807 : BitVec 32 := Scalar.addi c0_i32_17103 v13806
  v13807.toNat
def k0_dev357 (d0 : Dev nD) : Nat :=
  let c0_i32_17136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_17135 : BitVec 32 := 1#32
  let v13837 : BitVec 32 := Scalar.muli v290 c1_i32_17135
  let v13838 : BitVec 32 := Scalar.addi c0_i32_17136 v13837
  v13838.toNat
def k0_dev358 (d0 : Dev nD) : Nat :=
  let c0_i32_17169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_17168 : BitVec 32 := 1#32
  let v13868 : BitVec 32 := Scalar.muli v290 c1_i32_17168
  let v13869 : BitVec 32 := Scalar.addi c0_i32_17169 v13868
  v13869.toNat
def k0_dev359 (d0 : Dev nD) : Nat :=
  let c0_i32_17202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_17201 : BitVec 32 := 1#32
  let v13899 : BitVec 32 := Scalar.muli v290 c1_i32_17201
  let v13900 : BitVec 32 := Scalar.addi c0_i32_17202 v13899
  v13900.toNat
def k0_dev360 (d0 : Dev nD) : Nat :=
  let c0_i32_17235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_17234 : BitVec 32 := 1#32
  let v13930 : BitVec 32 := Scalar.muli v290 c1_i32_17234
  let v13931 : BitVec 32 := Scalar.addi c0_i32_17235 v13930
  v13931.toNat
def k0_dev361 (d0 : Dev nD) : Nat :=
  let c0_i32_17268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_17267 : BitVec 32 := 1#32
  let v13961 : BitVec 32 := Scalar.muli v354 c1_i32_17267
  let v13962 : BitVec 32 := Scalar.addi c0_i32_17268 v13961
  v13962.toNat
def k0_dev362 (d0 : Dev nD) : Nat :=
  let c0_i32_17301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_17300 : BitVec 32 := 1#32
  let v13992 : BitVec 32 := Scalar.muli v354 c1_i32_17300
  let v13993 : BitVec 32 := Scalar.addi c0_i32_17301 v13992
  v13993.toNat
def k0_dev363 (d0 : Dev nD) : Nat :=
  let c0_i32_17334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_17333 : BitVec 32 := 1#32
  let v14023 : BitVec 32 := Scalar.muli v354 c1_i32_17333
  let v14024 : BitVec 32 := Scalar.addi c0_i32_17334 v14023
  v14024.toNat
def k0_dev364 (d0 : Dev nD) : Nat :=
  let c0_i32_17367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_17366 : BitVec 32 := 1#32
  let v14054 : BitVec 32 := Scalar.muli v354 c1_i32_17366
  let v14055 : BitVec 32 := Scalar.addi c0_i32_17367 v14054
  v14055.toNat
def k0_dev365 (d0 : Dev nD) : Nat :=
  let c0_i32_17400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_17399 : BitVec 32 := 1#32
  let v14085 : BitVec 32 := Scalar.muli v290 c1_i32_17399
  let v14086 : BitVec 32 := Scalar.addi c0_i32_17400 v14085
  v14086.toNat
def k0_dev366 (d0 : Dev nD) : Nat :=
  let c0_i32_17433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_17432 : BitVec 32 := 1#32
  let v14116 : BitVec 32 := Scalar.muli v290 c1_i32_17432
  let v14117 : BitVec 32 := Scalar.addi c0_i32_17433 v14116
  v14117.toNat
def k0_dev367 (d0 : Dev nD) : Nat :=
  let c0_i32_17466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_17465 : BitVec 32 := 1#32
  let v14147 : BitVec 32 := Scalar.muli v290 c1_i32_17465
  let v14148 : BitVec 32 := Scalar.addi c0_i32_17466 v14147
  v14148.toNat
def k0_dev368 (d0 : Dev nD) : Nat :=
  let c0_i32_17499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_17498 : BitVec 32 := 1#32
  let v14178 : BitVec 32 := Scalar.muli v290 c1_i32_17498
  let v14179 : BitVec 32 := Scalar.addi c0_i32_17499 v14178
  v14179.toNat
def k0_dev369 (d0 : Dev nD) : Nat :=
  let c0_i32_17532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_17531 : BitVec 32 := 1#32
  let v14209 : BitVec 32 := Scalar.muli v354 c1_i32_17531
  let v14210 : BitVec 32 := Scalar.addi c0_i32_17532 v14209
  v14210.toNat
def k0_dev370 (d0 : Dev nD) : Nat :=
  let c0_i32_17565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_17564 : BitVec 32 := 1#32
  let v14240 : BitVec 32 := Scalar.muli v354 c1_i32_17564
  let v14241 : BitVec 32 := Scalar.addi c0_i32_17565 v14240
  v14241.toNat
def k0_dev371 (d0 : Dev nD) : Nat :=
  let c0_i32_17598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_17597 : BitVec 32 := 1#32
  let v14271 : BitVec 32 := Scalar.muli v354 c1_i32_17597
  let v14272 : BitVec 32 := Scalar.addi c0_i32_17598 v14271
  v14272.toNat
def k0_dev372 (d0 : Dev nD) : Nat :=
  let c0_i32_17631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_17630 : BitVec 32 := 1#32
  let v14302 : BitVec 32 := Scalar.muli v354 c1_i32_17630
  let v14303 : BitVec 32 := Scalar.addi c0_i32_17631 v14302
  v14303.toNat
def k0_dev373 (d0 : Dev nD) : Nat :=
  let c0_i32_18562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_18561 : BitVec 32 := 1#32
  let v14804 : BitVec 32 := Scalar.muli v290 c1_i32_18561
  let v14805 : BitVec 32 := Scalar.addi c0_i32_18562 v14804
  v14805.toNat
def k0_dev374 (d0 : Dev nD) : Nat :=
  let c0_i32_18565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_18564 : BitVec 32 := 1#32
  let v14806 : BitVec 32 := Scalar.muli v354 c1_i32_18564
  let v14807 : BitVec 32 := Scalar.addi c0_i32_18565 v14806
  v14807.toNat
def k0_dev375 (d0 : Dev nD) : Nat :=
  let c0_i32_18575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_18574 : BitVec 32 := 1#32
  let v14808 : BitVec 32 := Scalar.muli v354 c1_i32_18574
  let v14809 : BitVec 32 := Scalar.addi c0_i32_18575 v14808
  v14809.toNat
def k0_dev376 (d0 : Dev nD) : Nat :=
  let c0_i32_18587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_18586 : BitVec 32 := 1#32
  let v14818 : BitVec 32 := Scalar.muli v290 c1_i32_18586
  let v14819 : BitVec 32 := Scalar.addi c0_i32_18587 v14818
  v14819.toNat
def k0_dev377 (d0 : Dev nD) : Nat :=
  let c0_i32_18599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_18598 : BitVec 32 := 1#32
  let v14828 : BitVec 32 := Scalar.muli v354 c1_i32_18598
  let v14829 : BitVec 32 := Scalar.addi c0_i32_18599 v14828
  v14829.toNat
def k0_dev378 (d0 : Dev nD) : Nat :=
  let c0_i32_18611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_18610 : BitVec 32 := 1#32
  let v14838 : BitVec 32 := Scalar.muli v290 c1_i32_18610
  let v14839 : BitVec 32 := Scalar.addi c0_i32_18611 v14838
  v14839.toNat
def k0_dev379 (d0 : Dev nD) : Nat :=
  let c0_i32_18623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_18622 : BitVec 32 := 1#32
  let v14848 : BitVec 32 := Scalar.muli v354 c1_i32_18622
  let v14849 : BitVec 32 := Scalar.addi c0_i32_18623 v14848
  v14849.toNat
def k0_dev380 (d0 : Dev nD) : Nat :=
  let c0_i32_18635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_18634 : BitVec 32 := 1#32
  let v14858 : BitVec 32 := Scalar.muli v290 c1_i32_18634
  let v14859 : BitVec 32 := Scalar.addi c0_i32_18635 v14858
  v14859.toNat
def k0_dev381 (d0 : Dev nD) : Nat :=
  let c0_i32_18647 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_18646 : BitVec 32 := 1#32
  let v14868 : BitVec 32 := Scalar.muli v354 c1_i32_18646
  let v14869 : BitVec 32 := Scalar.addi c0_i32_18647 v14868
  v14869.toNat
def k0_dev382 (d0 : Dev nD) : Nat :=
  let c0_i32_18659 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_18658 : BitVec 32 := 1#32
  let v14878 : BitVec 32 := Scalar.muli v290 c1_i32_18658
  let v14879 : BitVec 32 := Scalar.addi c0_i32_18659 v14878
  v14879.toNat
def k0_dev383 (d0 : Dev nD) : Nat :=
  let c0_i32_18683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_18682 : BitVec 32 := 1#32
  let v14896 : BitVec 32 := Scalar.muli v354 c1_i32_18682
  let v14897 : BitVec 32 := Scalar.addi c0_i32_18683 v14896
  v14897.toNat
def k0_dev384 (d0 : Dev nD) : Nat :=
  let c0_i32_18707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_18706 : BitVec 32 := 1#32
  let v14914 : BitVec 32 := Scalar.muli v290 c1_i32_18706
  let v14915 : BitVec 32 := Scalar.addi c0_i32_18707 v14914
  v14915.toNat
def k0_dev385 (d0 : Dev nD) : Nat :=
  let c0_i32_18731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_18730 : BitVec 32 := 1#32
  let v14932 : BitVec 32 := Scalar.muli v354 c1_i32_18730
  let v14933 : BitVec 32 := Scalar.addi c0_i32_18731 v14932
  v14933.toNat
def k0_dev386 (d0 : Dev nD) : Nat :=
  let c0_i32_18755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_18754 : BitVec 32 := 1#32
  let v14950 : BitVec 32 := Scalar.muli v290 c1_i32_18754
  let v14951 : BitVec 32 := Scalar.addi c0_i32_18755 v14950
  v14951.toNat
def k0_dev387 (d0 : Dev nD) : Nat :=
  let c0_i32_18779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_18778 : BitVec 32 := 1#32
  let v14968 : BitVec 32 := Scalar.muli v354 c1_i32_18778
  let v14969 : BitVec 32 := Scalar.addi c0_i32_18779 v14968
  v14969.toNat
def k0_dev388 (d0 : Dev nD) : Nat :=
  let c0_i32_18803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_18802 : BitVec 32 := 1#32
  let v14986 : BitVec 32 := Scalar.muli v290 c1_i32_18802
  let v14987 : BitVec 32 := Scalar.addi c0_i32_18803 v14986
  v14987.toNat
def k0_dev389 (d0 : Dev nD) : Nat :=
  let c0_i32_18827 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_18826 : BitVec 32 := 1#32
  let v15004 : BitVec 32 := Scalar.muli v354 c1_i32_18826
  let v15005 : BitVec 32 := Scalar.addi c0_i32_18827 v15004
  v15005.toNat
def k0_dev390 (d0 : Dev nD) : Nat :=
  let c0_i32_18851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_18850 : BitVec 32 := 1#32
  let v15022 : BitVec 32 := Scalar.muli v290 c1_i32_18850
  let v15023 : BitVec 32 := Scalar.addi c0_i32_18851 v15022
  v15023.toNat
def k0_dev391 (d0 : Dev nD) : Nat :=
  let c0_i32_18875 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_18874 : BitVec 32 := 1#32
  let v15040 : BitVec 32 := Scalar.muli v354 c1_i32_18874
  let v15041 : BitVec 32 := Scalar.addi c0_i32_18875 v15040
  v15041.toNat
def k0_dev392 (d0 : Dev nD) : Nat :=
  let c0_i32_18899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_18898 : BitVec 32 := 1#32
  let v15058 : BitVec 32 := Scalar.muli v290 c1_i32_18898
  let v15059 : BitVec 32 := Scalar.addi c0_i32_18899 v15058
  v15059.toNat
def k0_dev393 (d0 : Dev nD) : Nat :=
  let c0_i32_18923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_18922 : BitVec 32 := 1#32
  let v15076 : BitVec 32 := Scalar.muli v354 c1_i32_18922
  let v15077 : BitVec 32 := Scalar.addi c0_i32_18923 v15076
  v15077.toNat
def k0_dev394 (d0 : Dev nD) : Nat :=
  let c0_i32_18947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_18946 : BitVec 32 := 1#32
  let v15094 : BitVec 32 := Scalar.muli v290 c1_i32_18946
  let v15095 : BitVec 32 := Scalar.addi c0_i32_18947 v15094
  v15095.toNat
def k0_dev395 (d0 : Dev nD) : Nat :=
  let c0_i32_18971 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_18970 : BitVec 32 := 1#32
  let v15112 : BitVec 32 := Scalar.muli v354 c1_i32_18970
  let v15113 : BitVec 32 := Scalar.addi c0_i32_18971 v15112
  v15113.toNat
def k0_dev396 (d0 : Dev nD) : Nat :=
  let c0_i32_18995 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_18994 : BitVec 32 := 1#32
  let v15130 : BitVec 32 := Scalar.muli v290 c1_i32_18994
  let v15131 : BitVec 32 := Scalar.addi c0_i32_18995 v15130
  v15131.toNat
def k0_dev397 (d0 : Dev nD) : Nat :=
  let c0_i32_19019 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_19018 : BitVec 32 := 1#32
  let v15148 : BitVec 32 := Scalar.muli v354 c1_i32_19018
  let v15149 : BitVec 32 := Scalar.addi c0_i32_19019 v15148
  v15149.toNat
def k0_dev398 (d0 : Dev nD) : Nat :=
  let c0_i32_19043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_19042 : BitVec 32 := 1#32
  let v15166 : BitVec 32 := Scalar.muli v290 c1_i32_19042
  let v15167 : BitVec 32 := Scalar.addi c0_i32_19043 v15166
  v15167.toNat
def k0_dev399 (d0 : Dev nD) : Nat :=
  let c0_i32_19067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_19066 : BitVec 32 := 1#32
  let v15184 : BitVec 32 := Scalar.muli v354 c1_i32_19066
  let v15185 : BitVec 32 := Scalar.addi c0_i32_19067 v15184
  v15185.toNat
def k0_dev400 (d0 : Dev nD) : Nat :=
  let c0_i32_19091 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_19090 : BitVec 32 := 1#32
  let v15202 : BitVec 32 := Scalar.muli v290 c1_i32_19090
  let v15203 : BitVec 32 := Scalar.addi c0_i32_19091 v15202
  v15203.toNat
def k0_dev401 (d0 : Dev nD) : Nat :=
  let c0_i32_19115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_19114 : BitVec 32 := 1#32
  let v15220 : BitVec 32 := Scalar.muli v354 c1_i32_19114
  let v15221 : BitVec 32 := Scalar.addi c0_i32_19115 v15220
  v15221.toNat
def k0_dev402 (d0 : Dev nD) : Nat :=
  let c0_i32_19139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_19138 : BitVec 32 := 1#32
  let v15238 : BitVec 32 := Scalar.muli v290 c1_i32_19138
  let v15239 : BitVec 32 := Scalar.addi c0_i32_19139 v15238
  v15239.toNat
def k0_dev403 (d0 : Dev nD) : Nat :=
  let c0_i32_19163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_19162 : BitVec 32 := 1#32
  let v15256 : BitVec 32 := Scalar.muli v354 c1_i32_19162
  let v15257 : BitVec 32 := Scalar.addi c0_i32_19163 v15256
  v15257.toNat
def k0_dev404 (d0 : Dev nD) : Nat :=
  let c0_i32_19187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_19186 : BitVec 32 := 1#32
  let v15274 : BitVec 32 := Scalar.muli v290 c1_i32_19186
  let v15275 : BitVec 32 := Scalar.addi c0_i32_19187 v15274
  v15275.toNat
def k0_dev405 (d0 : Dev nD) : Nat :=
  let c0_i32_19211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_19210 : BitVec 32 := 1#32
  let v15292 : BitVec 32 := Scalar.muli v354 c1_i32_19210
  let v15293 : BitVec 32 := Scalar.addi c0_i32_19211 v15292
  v15293.toNat
def k0_dev406 (d0 : Dev nD) : Nat :=
  let c0_i32_19235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_19234 : BitVec 32 := 1#32
  let v15310 : BitVec 32 := Scalar.muli v290 c1_i32_19234
  let v15311 : BitVec 32 := Scalar.addi c0_i32_19235 v15310
  v15311.toNat
def k0_dev407 (d0 : Dev nD) : Nat :=
  let c0_i32_19259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_19258 : BitVec 32 := 1#32
  let v15328 : BitVec 32 := Scalar.muli v354 c1_i32_19258
  let v15329 : BitVec 32 := Scalar.addi c0_i32_19259 v15328
  v15329.toNat
def k0_dev408 (d0 : Dev nD) : Nat :=
  let c0_i32_19283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_19282 : BitVec 32 := 1#32
  let v15346 : BitVec 32 := Scalar.muli v290 c1_i32_19282
  let v15347 : BitVec 32 := Scalar.addi c0_i32_19283 v15346
  v15347.toNat
def k0_dev409 (d0 : Dev nD) : Nat :=
  let c0_i32_19307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_19306 : BitVec 32 := 1#32
  let v15364 : BitVec 32 := Scalar.muli v354 c1_i32_19306
  let v15365 : BitVec 32 := Scalar.addi c0_i32_19307 v15364
  v15365.toNat
def k0_dev410 (d0 : Dev nD) : Nat :=
  let c0_i32_19331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_19330 : BitVec 32 := 1#32
  let v15382 : BitVec 32 := Scalar.muli v290 c1_i32_19330
  let v15383 : BitVec 32 := Scalar.addi c0_i32_19331 v15382
  v15383.toNat
def k0_dev411 (d0 : Dev nD) : Nat :=
  let c0_i32_19355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_19354 : BitVec 32 := 1#32
  let v15400 : BitVec 32 := Scalar.muli v354 c1_i32_19354
  let v15401 : BitVec 32 := Scalar.addi c0_i32_19355 v15400
  v15401.toNat
def k0_dev412 (d0 : Dev nD) : Nat :=
  let c0_i32_19379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_19378 : BitVec 32 := 1#32
  let v15418 : BitVec 32 := Scalar.muli v290 c1_i32_19378
  let v15419 : BitVec 32 := Scalar.addi c0_i32_19379 v15418
  v15419.toNat
def k0_dev413 (d0 : Dev nD) : Nat :=
  let c0_i32_19403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_19402 : BitVec 32 := 1#32
  let v15436 : BitVec 32 := Scalar.muli v354 c1_i32_19402
  let v15437 : BitVec 32 := Scalar.addi c0_i32_19403 v15436
  v15437.toNat
def k0_dev414 (d0 : Dev nD) : Nat :=
  let c0_i32_19427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_19426 : BitVec 32 := 1#32
  let v15454 : BitVec 32 := Scalar.muli v290 c1_i32_19426
  let v15455 : BitVec 32 := Scalar.addi c0_i32_19427 v15454
  v15455.toNat
def k0_dev415 (d0 : Dev nD) : Nat :=
  let c0_i32_19451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_19450 : BitVec 32 := 1#32
  let v15472 : BitVec 32 := Scalar.muli v354 c1_i32_19450
  let v15473 : BitVec 32 := Scalar.addi c0_i32_19451 v15472
  v15473.toNat
def k0_dev416 (d0 : Dev nD) : Nat :=
  let c0_i32_19475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_19474 : BitVec 32 := 1#32
  let v15490 : BitVec 32 := Scalar.muli v290 c1_i32_19474
  let v15491 : BitVec 32 := Scalar.addi c0_i32_19475 v15490
  v15491.toNat
def k0_dev417 (d0 : Dev nD) : Nat :=
  let c0_i32_19499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_19498 : BitVec 32 := 1#32
  let v15508 : BitVec 32 := Scalar.muli v354 c1_i32_19498
  let v15509 : BitVec 32 := Scalar.addi c0_i32_19499 v15508
  v15509.toNat
def k0_dev418 (d0 : Dev nD) : Nat :=
  let c0_i32_19523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_19522 : BitVec 32 := 1#32
  let v15526 : BitVec 32 := Scalar.muli v290 c1_i32_19522
  let v15527 : BitVec 32 := Scalar.addi c0_i32_19523 v15526
  v15527.toNat
def k0_dev419 (d0 : Dev nD) : Nat :=
  let c0_i32_19547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_19546 : BitVec 32 := 1#32
  let v15544 : BitVec 32 := Scalar.muli v354 c1_i32_19546
  let v15545 : BitVec 32 := Scalar.addi c0_i32_19547 v15544
  v15545.toNat
def k0_dev420 (d0 : Dev nD) : Nat :=
  let c0_i32_19571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_19570 : BitVec 32 := 1#32
  let v15562 : BitVec 32 := Scalar.muli v290 c1_i32_19570
  let v15563 : BitVec 32 := Scalar.addi c0_i32_19571 v15562
  v15563.toNat
def k0_dev421 (d0 : Dev nD) : Nat :=
  let c0_i32_19595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_19594 : BitVec 32 := 1#32
  let v15580 : BitVec 32 := Scalar.muli v354 c1_i32_19594
  let v15581 : BitVec 32 := Scalar.addi c0_i32_19595 v15580
  v15581.toNat
def k0_dev422 (d0 : Dev nD) : Nat :=
  let c0_i32_19619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_19618 : BitVec 32 := 1#32
  let v15598 : BitVec 32 := Scalar.muli v290 c1_i32_19618
  let v15599 : BitVec 32 := Scalar.addi c0_i32_19619 v15598
  v15599.toNat
def k0_dev423 (d0 : Dev nD) : Nat :=
  let c0_i32_19643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_19642 : BitVec 32 := 1#32
  let v15616 : BitVec 32 := Scalar.muli v354 c1_i32_19642
  let v15617 : BitVec 32 := Scalar.addi c0_i32_19643 v15616
  v15617.toNat
def k0_dev424 (d0 : Dev nD) : Nat :=
  let c0_i32_19667 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_19666 : BitVec 32 := 1#32
  let v15634 : BitVec 32 := Scalar.muli v290 c1_i32_19666
  let v15635 : BitVec 32 := Scalar.addi c0_i32_19667 v15634
  v15635.toNat
def k0_dev425 (d0 : Dev nD) : Nat :=
  let c0_i32_19691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_19690 : BitVec 32 := 1#32
  let v15652 : BitVec 32 := Scalar.muli v354 c1_i32_19690
  let v15653 : BitVec 32 := Scalar.addi c0_i32_19691 v15652
  v15653.toNat
def k0_dev426 (d0 : Dev nD) : Nat :=
  let c0_i32_19715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_19714 : BitVec 32 := 1#32
  let v15670 : BitVec 32 := Scalar.muli v290 c1_i32_19714
  let v15671 : BitVec 32 := Scalar.addi c0_i32_19715 v15670
  v15671.toNat
def k0_dev427 (d0 : Dev nD) : Nat :=
  let c0_i32_19739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_19738 : BitVec 32 := 1#32
  let v15688 : BitVec 32 := Scalar.muli v354 c1_i32_19738
  let v15689 : BitVec 32 := Scalar.addi c0_i32_19739 v15688
  v15689.toNat
def k0_dev428 (d0 : Dev nD) : Nat :=
  let c0_i32_19763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_19762 : BitVec 32 := 1#32
  let v15706 : BitVec 32 := Scalar.muli v290 c1_i32_19762
  let v15707 : BitVec 32 := Scalar.addi c0_i32_19763 v15706
  v15707.toNat
def k0_dev429 (d0 : Dev nD) : Nat :=
  let c0_i32_19787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_19786 : BitVec 32 := 1#32
  let v15724 : BitVec 32 := Scalar.muli v354 c1_i32_19786
  let v15725 : BitVec 32 := Scalar.addi c0_i32_19787 v15724
  v15725.toNat
def k0_dev430 (d0 : Dev nD) : Nat :=
  let c0_i32_19811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_280 : BitVec 32 := 15#32
  let v289 : BitVec 1 := Scalar.cmpi .eq v34 c15_i32_280
  let c7_i32_281 : BitVec 32 := 7#32
  let c14_i32_278 : BitVec 32 := 14#32
  let v287 : BitVec 1 := Scalar.cmpi .eq v34 c14_i32_278
  let c11_i32_279 : BitVec 32 := 11#32
  let c13_i32_276 : BitVec 32 := 13#32
  let v285 : BitVec 1 := Scalar.cmpi .eq v34 c13_i32_276
  let c15_i32_277 : BitVec 32 := 15#32
  let c12_i32_274 : BitVec 32 := 12#32
  let v283 : BitVec 1 := Scalar.cmpi .eq v34 c12_i32_274
  let c14_i32_275 : BitVec 32 := 14#32
  let c11_i32_272 : BitVec 32 := 11#32
  let v281 : BitVec 1 := Scalar.cmpi .eq v34 c11_i32_272
  let c10_i32_273 : BitVec 32 := 10#32
  let c10_i32_270 : BitVec 32 := 10#32
  let v279 : BitVec 1 := Scalar.cmpi .eq v34 c10_i32_270
  let c6_i32_271 : BitVec 32 := 6#32
  let c9_i32_268 : BitVec 32 := 9#32
  let v277 : BitVec 1 := Scalar.cmpi .eq v34 c9_i32_268
  let c2_i32_269 : BitVec 32 := 2#32
  let c8_i32_266 : BitVec 32 := 8#32
  let v275 : BitVec 1 := Scalar.cmpi .eq v34 c8_i32_266
  let c1_i32_267 : BitVec 32 := 1#32
  let c7_i32_264 : BitVec 32 := 7#32
  let v273 : BitVec 1 := Scalar.cmpi .eq v34 c7_i32_264
  let c5_i32_265 : BitVec 32 := 5#32
  let c6_i32_262 : BitVec 32 := 6#32
  let v271 : BitVec 1 := Scalar.cmpi .eq v34 c6_i32_262
  let c9_i32_263 : BitVec 32 := 9#32
  let c5_i32_260 : BitVec 32 := 5#32
  let v269 : BitVec 1 := Scalar.cmpi .eq v34 c5_i32_260
  let c13_i32_261 : BitVec 32 := 13#32
  let c4_i32_258 : BitVec 32 := 4#32
  let v267 : BitVec 1 := Scalar.cmpi .eq v34 c4_i32_258
  let c12_i32_259 : BitVec 32 := 12#32
  let c3_i32_256 : BitVec 32 := 3#32
  let v265 : BitVec 1 := Scalar.cmpi .eq v34 c3_i32_256
  let c8_i32_257 : BitVec 32 := 8#32
  let c2_i32_254 : BitVec 32 := 2#32
  let v263 : BitVec 1 := Scalar.cmpi .eq v34 c2_i32_254
  let c4_i32_255 : BitVec 32 := 4#32
  let c1_i32_252 : BitVec 32 := 1#32
  let v261 : BitVec 1 := Scalar.cmpi .eq v34 c1_i32_252
  let c0_i32_253 : BitVec 32 := 0#32
  let c0_i32_249 : BitVec 32 := 0#32
  let v259 : BitVec 1 := Scalar.cmpi .eq v34 c0_i32_249
  let c3_i32_250 : BitVec 32 := 3#32
  let c0_i32_251 : BitVec 32 := 0#32
  let v260 : BitVec 32 := Scalar.select v259 c3_i32_250 c0_i32_251
  let v262 : BitVec 32 := Scalar.select v261 c0_i32_253 v260
  let v264 : BitVec 32 := Scalar.select v263 c4_i32_255 v262
  let v266 : BitVec 32 := Scalar.select v265 c8_i32_257 v264
  let v268 : BitVec 32 := Scalar.select v267 c12_i32_259 v266
  let v270 : BitVec 32 := Scalar.select v269 c13_i32_261 v268
  let v272 : BitVec 32 := Scalar.select v271 c9_i32_263 v270
  let v274 : BitVec 32 := Scalar.select v273 c5_i32_265 v272
  let v276 : BitVec 32 := Scalar.select v275 c1_i32_267 v274
  let v278 : BitVec 32 := Scalar.select v277 c2_i32_269 v276
  let v280 : BitVec 32 := Scalar.select v279 c6_i32_271 v278
  let v282 : BitVec 32 := Scalar.select v281 c10_i32_273 v280
  let v284 : BitVec 32 := Scalar.select v283 c14_i32_275 v282
  let v286 : BitVec 32 := Scalar.select v285 c15_i32_277 v284
  let v288 : BitVec 32 := Scalar.select v287 c11_i32_279 v286
  let v290 : BitVec 32 := Scalar.select v289 c7_i32_281 v288
  let c1_i32_19810 : BitVec 32 := 1#32
  let v15742 : BitVec 32 := Scalar.muli v290 c1_i32_19810
  let v15743 : BitVec 32 := Scalar.addi c0_i32_19811 v15742
  v15743.toNat
def k0_dev431 (d0 : Dev nD) : Nat :=
  let c0_i32_19835 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_19834 : BitVec 32 := 1#32
  let v15760 : BitVec 32 := Scalar.muli v354 c1_i32_19834
  let v15761 : BitVec 32 := Scalar.addi c0_i32_19835 v15760
  v15761.toNat
def k0_dev432 (d0 : Dev nD) : Nat :=
  let c0_i32_19871 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_19870 : BitVec 32 := 1#32
  let v15786 : BitVec 32 := Scalar.muli v354 c1_i32_19870
  let v15787 : BitVec 32 := Scalar.addi c0_i32_19871 v15786
  v15787.toNat
def k0_dev433 (d0 : Dev nD) : Nat :=
  let c0_i32_19907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_19906 : BitVec 32 := 1#32
  let v15812 : BitVec 32 := Scalar.muli v354 c1_i32_19906
  let v15813 : BitVec 32 := Scalar.addi c0_i32_19907 v15812
  v15813.toNat
def k0_dev434 (d0 : Dev nD) : Nat :=
  let c0_i32_19943 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_16 : BitVec 32 := 3#32
  let v33 : BitVec 1 := Scalar.cmpi .eq v2 c3_i32_16
  let c15_i32_17 : BitVec 32 := 15#32
  let c7_i32_14 : BitVec 32 := 7#32
  let v31 : BitVec 1 := Scalar.cmpi .eq v2 c7_i32_14
  let c14_i32_15 : BitVec 32 := 14#32
  let c11_i32_12 : BitVec 32 := 11#32
  let v29 : BitVec 1 := Scalar.cmpi .eq v2 c11_i32_12
  let c13_i32_13 : BitVec 32 := 13#32
  let c15_i32 : BitVec 32 := 15#32
  let v27 : BitVec 1 := Scalar.cmpi .eq v2 c15_i32
  let c12_i32_11 : BitVec 32 := 12#32
  let c14_i32 : BitVec 32 := 14#32
  let v25 : BitVec 1 := Scalar.cmpi .eq v2 c14_i32
  let c11_i32 : BitVec 32 := 11#32
  let c10_i32 : BitVec 32 := 10#32
  let v23 : BitVec 1 := Scalar.cmpi .eq v2 c10_i32
  let c10_i32_10 : BitVec 32 := 10#32
  let c6_i32_8 : BitVec 32 := 6#32
  let v21 : BitVec 1 := Scalar.cmpi .eq v2 c6_i32_8
  let c9_i32_9 : BitVec 32 := 9#32
  let c2_i32_6 : BitVec 32 := 2#32
  let v19 : BitVec 1 := Scalar.cmpi .eq v2 c2_i32_6
  let c8_i32_7 : BitVec 32 := 8#32
  let c1_i32_5 : BitVec 32 := 1#32
  let v17 : BitVec 1 := Scalar.cmpi .eq v2 c1_i32_5
  let c7_i32 : BitVec 32 := 7#32
  let c5_i32_4 : BitVec 32 := 5#32
  let v15 : BitVec 1 := Scalar.cmpi .eq v2 c5_i32_4
  let c6_i32 : BitVec 32 := 6#32
  let c9_i32 : BitVec 32 := 9#32
  let v13 : BitVec 1 := Scalar.cmpi .eq v2 c9_i32
  let c5_i32 : BitVec 32 := 5#32
  let c13_i32 : BitVec 32 := 13#32
  let v11 : BitVec 1 := Scalar.cmpi .eq v2 c13_i32
  let c4_i32_3 : BitVec 32 := 4#32
  let c12_i32 : BitVec 32 := 12#32
  let v9 : BitVec 1 := Scalar.cmpi .eq v2 c12_i32
  let c3_i32 : BitVec 32 := 3#32
  let c8_i32 : BitVec 32 := 8#32
  let v7 : BitVec 1 := Scalar.cmpi .eq v2 c8_i32
  let c2_i32 : BitVec 32 := 2#32
  let c4_i32 : BitVec 32 := 4#32
  let v5 : BitVec 1 := Scalar.cmpi .eq v2 c4_i32
  let c1_i32_2 : BitVec 32 := 1#32
  let c0_i32 : BitVec 32 := 0#32
  let v3 : BitVec 1 := Scalar.cmpi .eq v2 c0_i32
  let c0_i32_0 : BitVec 32 := 0#32
  let c0_i32_1 : BitVec 32 := 0#32
  let v4 : BitVec 32 := Scalar.select v3 c0_i32_0 c0_i32_1
  let v6 : BitVec 32 := Scalar.select v5 c1_i32_2 v4
  let v8 : BitVec 32 := Scalar.select v7 c2_i32 v6
  let v10 : BitVec 32 := Scalar.select v9 c3_i32 v8
  let v12 : BitVec 32 := Scalar.select v11 c4_i32_3 v10
  let v14 : BitVec 32 := Scalar.select v13 c5_i32 v12
  let v16 : BitVec 32 := Scalar.select v15 c6_i32 v14
  let v18 : BitVec 32 := Scalar.select v17 c7_i32 v16
  let v20 : BitVec 32 := Scalar.select v19 c8_i32_7 v18
  let v22 : BitVec 32 := Scalar.select v21 c9_i32_9 v20
  let v24 : BitVec 32 := Scalar.select v23 c10_i32_10 v22
  let v26 : BitVec 32 := Scalar.select v25 c11_i32 v24
  let v28 : BitVec 32 := Scalar.select v27 c12_i32_11 v26
  let v30 : BitVec 32 := Scalar.select v29 c13_i32_13 v28
  let v32 : BitVec 32 := Scalar.select v31 c14_i32_15 v30
  let v34 : BitVec 32 := Scalar.select v33 c15_i32_17 v32
  let c15_i32_346 : BitVec 32 := 15#32
  let v353 : BitVec 1 := Scalar.cmpi .eq v34 c15_i32_346
  let c0_i32_347 : BitVec 32 := 0#32
  let c14_i32_344 : BitVec 32 := 14#32
  let v351 : BitVec 1 := Scalar.cmpi .eq v34 c14_i32_344
  let c3_i32_345 : BitVec 32 := 3#32
  let c13_i32_342 : BitVec 32 := 13#32
  let v349 : BitVec 1 := Scalar.cmpi .eq v34 c13_i32_342
  let c7_i32_343 : BitVec 32 := 7#32
  let c12_i32_340 : BitVec 32 := 12#32
  let v347 : BitVec 1 := Scalar.cmpi .eq v34 c12_i32_340
  let c11_i32_341 : BitVec 32 := 11#32
  let c11_i32_338 : BitVec 32 := 11#32
  let v345 : BitVec 1 := Scalar.cmpi .eq v34 c11_i32_338
  let c15_i32_339 : BitVec 32 := 15#32
  let c10_i32_336 : BitVec 32 := 10#32
  let v343 : BitVec 1 := Scalar.cmpi .eq v34 c10_i32_336
  let c14_i32_337 : BitVec 32 := 14#32
  let c9_i32_334 : BitVec 32 := 9#32
  let v341 : BitVec 1 := Scalar.cmpi .eq v34 c9_i32_334
  let c10_i32_335 : BitVec 32 := 10#32
  let c8_i32_332 : BitVec 32 := 8#32
  let v339 : BitVec 1 := Scalar.cmpi .eq v34 c8_i32_332
  let c6_i32_333 : BitVec 32 := 6#32
  let c7_i32_330 : BitVec 32 := 7#32
  let v337 : BitVec 1 := Scalar.cmpi .eq v34 c7_i32_330
  let c2_i32_331 : BitVec 32 := 2#32
  let c6_i32_328 : BitVec 32 := 6#32
  let v335 : BitVec 1 := Scalar.cmpi .eq v34 c6_i32_328
  let c1_i32_329 : BitVec 32 := 1#32
  let c5_i32_326 : BitVec 32 := 5#32
  let v333 : BitVec 1 := Scalar.cmpi .eq v34 c5_i32_326
  let c5_i32_327 : BitVec 32 := 5#32
  let c4_i32_324 : BitVec 32 := 4#32
  let v331 : BitVec 1 := Scalar.cmpi .eq v34 c4_i32_324
  let c9_i32_325 : BitVec 32 := 9#32
  let c3_i32_322 : BitVec 32 := 3#32
  let v329 : BitVec 1 := Scalar.cmpi .eq v34 c3_i32_322
  let c13_i32_323 : BitVec 32 := 13#32
  let c2_i32_320 : BitVec 32 := 2#32
  let v327 : BitVec 1 := Scalar.cmpi .eq v34 c2_i32_320
  let c12_i32_321 : BitVec 32 := 12#32
  let c1_i32_318 : BitVec 32 := 1#32
  let v325 : BitVec 1 := Scalar.cmpi .eq v34 c1_i32_318
  let c8_i32_319 : BitVec 32 := 8#32
  let c0_i32_315 : BitVec 32 := 0#32
  let v323 : BitVec 1 := Scalar.cmpi .eq v34 c0_i32_315
  let c4_i32_316 : BitVec 32 := 4#32
  let c0_i32_317 : BitVec 32 := 0#32
  let v324 : BitVec 32 := Scalar.select v323 c4_i32_316 c0_i32_317
  let v326 : BitVec 32 := Scalar.select v325 c8_i32_319 v324
  let v328 : BitVec 32 := Scalar.select v327 c12_i32_321 v326
  let v330 : BitVec 32 := Scalar.select v329 c13_i32_323 v328
  let v332 : BitVec 32 := Scalar.select v331 c9_i32_325 v330
  let v334 : BitVec 32 := Scalar.select v333 c5_i32_327 v332
  let v336 : BitVec 32 := Scalar.select v335 c1_i32_329 v334
  let v338 : BitVec 32 := Scalar.select v337 c2_i32_331 v336
  let v340 : BitVec 32 := Scalar.select v339 c6_i32_333 v338
  let v342 : BitVec 32 := Scalar.select v341 c10_i32_335 v340
  let v344 : BitVec 32 := Scalar.select v343 c14_i32_337 v342
  let v346 : BitVec 32 := Scalar.select v345 c15_i32_339 v344
  let v348 : BitVec 32 := Scalar.select v347 c11_i32_341 v346
  let v350 : BitVec 32 := Scalar.select v349 c7_i32_343 v348
  let v352 : BitVec 32 := Scalar.select v351 c3_i32_345 v350
  let v354 : BitVec 32 := Scalar.select v353 c0_i32_347 v352
  let c1_i32_19942 : BitVec 32 := 1#32
  let v15838 : BitVec 32 := Scalar.muli v354 c1_i32_19942
  let v15839 : BitVec 32 := Scalar.addi c0_i32_19943 v15838
  v15839.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x4x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S8192x256 : Shape := ⟨2, ![8192, 256]⟩
abbrev S256x8192 : Shape := ⟨2, ![256, 8192]⟩
abbrev S8192x8192 : Shape := ⟨2, ![8192, 8192]⟩
abbrev S_ : Shape := ⟨0, ![]⟩
abbrev S16x4x128x256 : Shape := ⟨4, ![16, 4, 128, 256]⟩

abbrev nBuf : Space → Nat
  | .hbm => 23
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x8192, .f32⟩
  | .hbm, ⟨2, _⟩ => ⟨S256x8192, .f32⟩
  | .hbm, ⟨3, _⟩ => ⟨S256x8192, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x256, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x256, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x256, .f32⟩
  | .hbm, ⟨22, _⟩ => ⟨S16x4x128x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== Proof.Kernel.Prog.lean ====
module

public import proofs.«01_k».proof.Kernel

@[expose] public section

/-! # The body as a program of loops

The printed body is straight-line text: every hop of every ring, every layer and every sub-chunk written out.
This module says the same program with its loops back: a ring direction is a `Bool` (`true` clockwise), a hop is a
number below the direction's hop count, a sub-chunk a number below four, and a chunk of the sixteen is named by the
row of the table in which the printed text looks its device up. `body_eq` states that the two are one program. -/

noncomputable section

namespace Cert.Kernel

open Idealize.ShloMosaic Idealize.SL.Sem Facts₀ Facts

variable {F : FTy → Type} [FloatOps F] [Facts]

/-- The programs of the TensorCore. -/
abbrev PR (F : FTy → Type) [FloatOps F] : Type 1 := Prog (TpuEff nD τ sig (Elt F) Λ₀ .tc) PUnit

/-- The loop over a list. -/
def each {ι : Type} : List ι → (ι → PR F) → PR F
  | [], _ => pure ⟨⟩
  | i :: l, f => f i >>= fun _ => each l f

/-! ## Names for the parts of the program -/

/-- The hops of a direction: eight clockwise, seven counter-clockwise. -/
abbrev HN : Bool → ℕ
  | true => 8
  | false => 7

/-- The hops of a direction, in order. -/
def hops : (d : Bool) → List (Fin (HN d))
  | true => [0, 1, 2, 3, 4, 5, 6, 7]
  | false => [0, 1, 2, 3, 4, 5, 6]

/-- The sub-chunks, in order. -/
def subs : List (Fin 4) := [0, 1, 2, 3]

/-- The neighbour a direction sends to: the right one clockwise, the left one counter-clockwise. -/
def nb : Bool → Dev nD → Dev nD
  | true, c => ⟨k0_dev2 c, k0_dev2_lt c⟩
  | false, c => ⟨k0_dev1 c, k0_dev1_lt c⟩

/-- The activations, the partial products and the two reduce-scatter buffers; the weights in bf16. -/
abbrev act : Memref sig .tc .vmem S16x4x128x256 .bf16 := Memref.whole cc0_scratch0
abbrev par : Memref sig .tc .vmem S16x4x128x256 .f32 := Memref.whole cc0_scratch1
abbrev winB : Memref sig .tc .vmem S3x256x512 .bf16 := Memref.whole cc0_scratch4
abbrev woutB : Memref sig .tc .vmem S3x512x256 .bf16 := Memref.whole cc0_scratch5

/-- The reduce-scatter buffer of a direction. -/
def stgRef : Bool → Ref sig .tc
  | true => cc0_scratch2
  | false => cc0_scratch3

def stg : Bool → Memref sig .tc .vmem S16x4x128x256 .bf16
  | true => Memref.whole cc0_scratch2
  | false => Memref.whole cc0_scratch3

theorem stg_whole : ∀ d, (stg d).IsWhole
  | true => Memref.isWhole_whole _
  | false => Memref.isWhole_whole _

theorem inb84 : ∀ (h : Fin 8) (k : Fin 4) (a : Fin 2), (![h.val, k.val] : Fin 2 → Nat) a + S1x1.size a ≤ S8x4.size a := by
  decide
theorem inb74 : ∀ (h : Fin 7) (k : Fin 4) (a : Fin 2), (![h.val, k.val] : Fin 2 → Nat) a + S1x1.size a ≤ S7x4.size a := by
  decide

/-- The semaphore a direction's hop signals on its sender. -/
def sndS : (d : Bool) → Fin (HN d) → Fin 4 → DmaSem sig
  | true, h, k => ((cc0_scratch6.slice (Rect.unit (s := S8x4) ![h.val, k.val] S1x1.size (inb84 h k))).squeeze S_ squeezes_S1x1_S_).sem
  | false, h, k => ((cc0_scratch7.slice (Rect.unit (s := S7x4) ![h.val, k.val] S1x1.size (inb74 h k))).squeeze S_ squeezes_S1x1_S_).sem

/-- The semaphore a direction's hop signals on its receiver. -/
def rcvS : (d : Bool) → Fin (HN d) → Fin 4 → DmaSem sig
  | true, h, k => ((cc0_scratch8.slice (Rect.unit (s := S8x4) ![h.val, k.val] S1x1.size (inb84 h k))).squeeze S_ squeezes_S1x1_S_).sem
  | false, h, k => ((cc0_scratch9.slice (Rect.unit (s := S7x4) ![h.val, k.val] S1x1.size (inb74 h k))).squeeze S_ squeezes_S1x1_S_).sem

/-- The barrier's semaphore. -/
def barS : Sem sig := (SemArray.scalar (sig.barrier 0 rfl) : Sems sig S_).sem

/-! ## Offsets, as the printed text computes them -/

/-- The offsets of a transfer's sub-chunk `k` of the chunk in row `r` of the printed table. -/
def vOff (c : Dev nD) (r : Fin 16) : Fin 4 → Fin 4 → Nat
  | 0 => k0_off9 c (k0_off9_at r).1 (k0_off9_at r).2.1 (k0_off9_at r).2.2.1 (k0_off9_at r).2.2.2.1 (k0_off9_at r).2.2.2.2.1 (k0_off9_at r).2.2.2.2.2.1 (k0_off9_at r).2.2.2.2.2.2.1 (k0_off9_at r).2.2.2.2.2.2.2.1 (k0_off9_at r).2.2.2.2.2.2.2.2.1 (k0_off9_at r).2.2.2.2.2.2.2.2.2.1 (k0_off9_at r).2.2.2.2.2.2.2.2.2.2.1 (k0_off9_at r).2.2.2.2.2.2.2.2.2.2.2.1 (k0_off9_at r).2.2.2.2.2.2.2.2.2.2.2.2.1 (k0_off9_at r).2.2.2.2.2.2.2.2.2.2.2.2.2.1 (k0_off9_at r).2.2.2.2.2.2.2.2.2.2.2.2.2.2.1 (k0_off9_at r).2.2.2.2.2.2.2.2.2.2.2.2.2.2.2
  | 1 => k0_off10 c (k0_off10_at r).1 (k0_off10_at r).2.1 (k0_off10_at r).2.2.1 (k0_off10_at r).2.2.2.1 (k0_off10_at r).2.2.2.2.1 (k0_off10_at r).2.2.2.2.2.1 (k0_off10_at r).2.2.2.2.2.2.1 (k0_off10_at r).2.2.2.2.2.2.2.1 (k0_off10_at r).2.2.2.2.2.2.2.2.1 (k0_off10_at r).2.2.2.2.2.2.2.2.2.1 (k0_off10_at r).2.2.2.2.2.2.2.2.2.2.1 (k0_off10_at r).2.2.2.2.2.2.2.2.2.2.2.1 (k0_off10_at r).2.2.2.2.2.2.2.2.2.2.2.2.1 (k0_off10_at r).2.2.2.2.2.2.2.2.2.2.2.2.2.1 (k0_off10_at r).2.2.2.2.2.2.2.2.2.2.2.2.2.2.1 (k0_off10_at r).2.2.2.2.2.2.2.2.2.2.2.2.2.2.2
  | 2 => k0_off11 c (k0_off11_at r).1 (k0_off11_at r).2.1 (k0_off11_at r).2.2.1 (k0_off11_at r).2.2.2.1 (k0_off11_at r).2.2.2.2.1 (k0_off11_at r).2.2.2.2.2.1 (k0_off11_at r).2.2.2.2.2.2.1 (k0_off11_at r).2.2.2.2.2.2.2.1 (k0_off11_at r).2.2.2.2.2.2.2.2.1 (k0_off11_at r).2.2.2.2.2.2.2.2.2.1 (k0_off11_at r).2.2.2.2.2.2.2.2.2.2.1 (k0_off11_at r).2.2.2.2.2.2.2.2.2.2.2.1 (k0_off11_at r).2.2.2.2.2.2.2.2.2.2.2.2.1 (k0_off11_at r).2.2.2.2.2.2.2.2.2.2.2.2.2.1 (k0_off11_at r).2.2.2.2.2.2.2.2.2.2.2.2.2.2.1 (k0_off11_at r).2.2.2.2.2.2.2.2.2.2.2.2.2.2.2
  | 3 => k0_off12 c (k0_off12_at r).1 (k0_off12_at r).2.1 (k0_off12_at r).2.2.1 (k0_off12_at r).2.2.2.1 (k0_off12_at r).2.2.2.2.1 (k0_off12_at r).2.2.2.2.2.1 (k0_off12_at r).2.2.2.2.2.2.1 (k0_off12_at r).2.2.2.2.2.2.2.1 (k0_off12_at r).2.2.2.2.2.2.2.2.1 (k0_off12_at r).2.2.2.2.2.2.2.2.2.1 (k0_off12_at r).2.2.2.2.2.2.2.2.2.2.1 (k0_off12_at r).2.2.2.2.2.2.2.2.2.2.2.1 (k0_off12_at r).2.2.2.2.2.2.2.2.2.2.2.2.1 (k0_off12_at r).2.2.2.2.2.2.2.2.2.2.2.2.2.1 (k0_off12_at r).2.2.2.2.2.2.2.2.2.2.2.2.2.2.1 (k0_off12_at r).2.2.2.2.2.2.2.2.2.2.2.2.2.2.2

/-- The offsets of an access to sub-chunk `k` of the chunk in row `r`. -/
def lOff (c : Dev nD) (r : Fin 15) : Fin 4 → Fin 4 → Nat
  | 0 => k0_off13 c (k0_off13_at r).1 (k0_off13_at r).2.1 (k0_off13_at r).2.2.1 (k0_off13_at r).2.2.2.1 (k0_off13_at r).2.2.2.2.1 (k0_off13_at r).2.2.2.2.2.1 (k0_off13_at r).2.2.2.2.2.2.1 (k0_off13_at r).2.2.2.2.2.2.2.1 (k0_off13_at r).2.2.2.2.2.2.2.2.1 (k0_off13_at r).2.2.2.2.2.2.2.2.2.1 (k0_off13_at r).2.2.2.2.2.2.2.2.2.2.1 (k0_off13_at r).2.2.2.2.2.2.2.2.2.2.2.1 (k0_off13_at r).2.2.2.2.2.2.2.2.2.2.2.2.1 (k0_off13_at r).2.2.2.2.2.2.2.2.2.2.2.2.2.1 (k0_off13_at r).2.2.2.2.2.2.2.2.2.2.2.2.2.2.1 (k0_off13_at r).2.2.2.2.2.2.2.2.2.2.2.2.2.2.2
  | 1 => k0_off14 c (k0_off14_at r).1 (k0_off14_at r).2.1 (k0_off14_at r).2.2.1 (k0_off14_at r).2.2.2.1 (k0_off14_at r).2.2.2.2.1 (k0_off14_at r).2.2.2.2.2.1 (k0_off14_at r).2.2.2.2.2.2.1 (k0_off14_at r).2.2.2.2.2.2.2.1 (k0_off14_at r).2.2.2.2.2.2.2.2.1 (k0_off14_at r).2.2.2.2.2.2.2.2.2.1 (k0_off14_at r).2.2.2.2.2.2.2.2.2.2.1 (k0_off14_at r).2.2.2.2.2.2.2.2.2.2.2.1 (k0_off14_at r).2.2.2.2.2.2.2.2.2.2.2.2.1 (k0_off14_at r).2.2.2.2.2.2.2.2.2.2.2.2.2.1 (k0_off14_at r).2.2.2.2.2.2.2.2.2.2.2.2.2.2.1 (k0_off14_at r).2.2.2.2.2.2.2.2.2.2.2.2.2.2.2
  | 2 => k0_off15 c (k0_off15_at r).1 (k0_off15_at r).2.1 (k0_off15_at r).2.2.1 (k0_off15_at r).2.2.2.1 (k0_off15_at r).2.2.2.2.1 (k0_off15_at r).2.2.2.2.2.1 (k0_off15_at r).2.2.2.2.2.2.1 (k0_off15_at r).2.2.2.2.2.2.2.1 (k0_off15_at r).2.2.2.2.2.2.2.2.1 (k0_off15_at r).2.2.2.2.2.2.2.2.2.1 (k0_off15_at r).2.2.2.2.2.2.2.2.2.2.1 (k0_off15_at r).2.2.2.2.2.2.2.2.2.2.2.1 (k0_off15_at r).2.2.2.2.2.2.2.2.2.2.2.2.1 (k0_off15_at r).2.2.2.2.2.2.2.2.2.2.2.2.2.1 (k0_off15_at r).2.2.2.2.2.2.2.2.2.2.2.2.2.2.1 (k0_off15_at r).2.2.2.2.2.2.2.2.2.2.2.2.2.2.2
  | 3 => k0_off16 c (k0_off16_at r).1 (k0_off16_at r).2.1 (k0_off16_at r).2.2.1 (k0_off16_at r).2.2.2.1 (k0_off16_at r).2.2.2.2.1 (k0_off16_at r).2.2.2.2.2.1 (k0_off16_at r).2.2.2.2.2.2.1 (k0_off16_at r).2.2.2.2.2.2.2.1 (k0_off16_at r).2.2.2.2.2.2.2.2.1 (k0_off16_at r).2.2.2.2.2.2.2.2.2.1 (k0_off16_at r).2.2.2.2.2.2.2.2.2.2.1 (k0_off16_at r).2.2.2.2.2.2.2.2.2.2.2.1 (k0_off16_at r).2.2.2.2.2.2.2.2.2.2.2.2.1 (k0_off16_at r).2.2.2.2.2.2.2.2.2.2.2.2.2.1 (k0_off16_at r).2.2.2.2.2.2.2.2.2.2.2.2.2.2.1 (k0_off16_at r).2.2.2.2.2.2.2.2.2.2.2.2.2.2.2

/-- The same of the device's own chunk. -/
def vOffMe (c : Dev nD) : Fin 4 → Fin 4 → Nat
  | 0 => k0_off5 c
  | 1 => k0_off6 c
  | 2 => k0_off7 c
  | 3 => k0_off8 c
def lOffMe (c : Dev nD) : Fin 4 → Fin 4 → Nat
  | 0 => k0_off1 c
  | 1 => k0_off2 c
  | 2 => k0_off3 c
  | 3 => k0_off4 c

theorem vOff_inb (c : Dev nD) (r : Fin 16) : ∀ k a, vOff c r k a + S1x1x128x256.size a ≤ S16x4x128x256.size a
  | 0 => k0_off9_inb c r | 1 => k0_off10_inb c r | 2 => k0_off11_inb c r | 3 => k0_off12_inb c r
theorem lOff_inb (c : Dev nD) (r : Fin 15) : ∀ k a, lOff c r k a + S1x1x128x256.size a ≤ S16x4x128x256.size a
  | 0 => k0_off13_inb c r | 1 => k0_off14_inb c r | 2 => k0_off15_inb c r | 3 => k0_off16_inb c r
theorem vOffMe_inb (c : Dev nD) : ∀ k a, vOffMe c k a + S1x1x128x256.size a ≤ S16x4x128x256.size a
  | 0 => k0_off5_inb c | 1 => k0_off6_inb c | 2 => k0_off7_inb c | 3 => k0_off8_inb c
theorem lOffMe_inb (c : Dev nD) : ∀ k a, lOffMe c k a + S1x1x128x256.size a ≤ S16x4x128x256.size a
  | 0 => k0_off1_inb c | 1 => k0_off2_inb c | 2 => k0_off3_inb c | 3 => k0_off4_inb c

theorem vOff_ww (c : Dev nD) (r : Fin 16) : ∀ k, (Rect.unit (s := S16x4x128x256) (vOff c r k) S1x1x128x256.size (vOff_inb c r k)).WholeWords (EltTy.packing .bf16)
  | 0 => k0_off9_wordsbf16 c r | 1 => k0_off10_wordsbf16 c r | 2 => k0_off11_wordsbf16 c r | 3 => k0_off12_wordsbf16 c r
theorem vOffMe_ww (c : Dev nD) : ∀ k, (Rect.unit (s := S16x4x128x256) (vOffMe c k) S1x1x128x256.size (vOffMe_inb c k)).WholeWords (EltTy.packing .bf16)
  | 0 => k0_off5_wordsbf16 c | 1 => k0_off6_wordsbf16 c | 2 => k0_off7_wordsbf16 c | 3 => k0_off8_wordsbf16 c
theorem lOff_pk (c : Dev nD) (r : Fin 15) : ∀ k, (Rect.unit (s := S16x4x128x256) (lOff c r k) S1x1x128x256.size (lOff_inb c r k)).PackedRows (EltTy.packing .bf16)
  | 0 => k0_off13_packedbf16 c r | 1 => k0_off14_packedbf16 c r | 2 => k0_off15_packedbf16 c r | 3 => k0_off16_packedbf16 c r
theorem lOffMe_pk (c : Dev nD) : ∀ k, (Rect.unit (s := S16x4x128x256) (lOffMe c k) S1x1x128x256.size (lOffMe_inb c k)).PackedRows (EltTy.packing .bf16)
  | 0 => k0_off1_packedbf16 c | 1 => k0_off2_packedbf16 c | 2 => k0_off3_packedbf16 c | 3 => k0_off4_packedbf16 c

/-- The row of the chunk that arrives on hop `h` of the all-gather. -/
def agRow : (d : Bool) → Fin (HN d) → Fin 16
  | true, h => ⟨2 * h.val, by have : h.val < 8 := h.isLt; omega⟩
  | false, h => ⟨2 * h.val + 1, by have : h.val < 7 := h.isLt; omega⟩

/-- The row of the chunk whose partial sum a direction's reduce-scatter starts from. -/
def rsRow₀ : Bool → Fin 16
  | true => 14
  | false => 12

/-- The row of the chunk whose partial sum arrives on hop `s` of the reduce-scatter; row 15 is the device's own. -/
def rsRow : (d : Bool) → Fin (HN d) → Fin 16
  | true, s => ⟨(29 - 2 * s.val) % 16, Nat.mod_lt _ (by decide)⟩
  | false, s => ⟨if s.val = 6 then 15 else 10 - 2 * s.val, by split <;> omega⟩

/-- A row as the tables of loads and stores have it; row 15 is never asked for there. -/
def lrow (r : Fin 16) : Fin 15 := ⟨r.val % 15, Nat.mod_lt _ (by decide)⟩

/-! ## One step each -/

/-- A sub-chunk of a buffer as a transfer sees it. -/
def vw (M : Memref sig .tc .vmem S16x4x128x256 .bf16) (o : Fin 4 → Nat)
    (hi : ∀ a, o a + S1x1x128x256.size a ≤ S16x4x128x256.size a) : Memref sig .tc .vmem S128x256 .bf16 :=
  (M.slice (Rect.unit (s := S16x4x128x256) o S1x1x128x256.size hi) (fun _ => rfl)).squeeze S128x256 squeezes_S1x1x128x256_S128x256

theorem vw_we (M : Memref sig .tc .vmem S16x4x128x256 .bf16) (hM : M.IsWhole) (o : Fin 4 → Nat)
    (hi : ∀ a, o a + S1x1x128x256.size a ≤ S16x4x128x256.size a)
    (hw : (Rect.unit (s := S16x4x128x256) o S1x1x128x256.size hi).WholeWords (EltTy.packing .bf16)) :
    (vw M o hi).view.WordExact := (hM.wordExact_slice rfl _ hw).reshape _ _

/-- Start hop `h` of sub-chunk `k`: copy the sub-chunk at offsets `o` to the direction's neighbour. -/
def send (d : Bool) (h : Fin (HN d)) (k : Fin 4) (c : Dev nD) (M : Memref sig .tc .vmem S16x4x128x256 .bf16) (hM : M.IsWhole)
    (o : Fin 4 → Nat) (hi : ∀ a, o a + S1x1x128x256.size a ≤ S16x4x128x256.size a)
    (hw : (Rect.unit (s := S16x4x128x256) o S1x1x128x256.size hi).WholeWords (EltTy.packing .bf16)) : PR F :=
  Prog.lift (.enqueueDma (vw M o hi) (.remote (Dev.tc (nb d c)) (vw M o hi) (.dma (sndS d h k))) (.dma (rcvS d h k))
    (vw_we M hM o hi hw) (vw_we M hM o hi hw) ⟨⟨rfl, Or.inl rfl⟩, trivial⟩)

/-- Wait for a semaphore's transfer, of the size of the sub-chunk at offsets `o`. -/
def await (sm : DmaSem sig) (M : Memref sig .tc .vmem S16x4x128x256 .bf16) (hM : M.IsWhole)
    (o : Fin 4 → Nat) (hi : ∀ a, o a + S1x1x128x256.size a ≤ S16x4x128x256.size a)
    (hw : (Rect.unit (s := S16x4x128x256) o S1x1x128x256.size hi).WholeWords (EltTy.packing .bf16)) : PR F :=
  Prog.lift (.waitDma2 sm (vw M o hi) (vw M o hi) (vw_we M hM o hi hw) (vw_we M hM o hi hw))

/-- The access to a sub-chunk. -/
abbrev sub (o : Fin 4 → Nat) (hi : ∀ a, o a + S1x1x128x256.size a ≤ S16x4x128x256.size a) : Rect S16x4x128x256 :=
  Rect.unit (s := S16x4x128x256) o S1x1x128x256.size hi

/-- Two signals and a wait: the barrier with both neighbours. -/
def barrier (c : Dev nD) : PR F := do
  semSignalWord (nb false c) barS 1#32
  semSignalWord (nb true c) barS 1#32
  semWaitWord barS 2#32

/-- The bf16 copy of an input-side weight, stored at its layer. -/
def castWin (l : Fin 3) (A : Memref sig .tc .vmem S256x512 .f32) (hl : ∀ a, (![l.val, 0, 0] : Fin 3 → Nat) a + S1x256x512.size a ≤ S3x256x512.size a)
    (hp : (Rect.unit (s := S3x256x512) ![l.val, 0, 0] S1x256x512.size hl).PackedRows (EltTy.packing .bf16)) : PR F := do
  let v : Vec F S256x512 .f32 ← Prog.lift (.load A (Rect.unit (s := S256x512) ![0, 0] S256x512.size inb_S256x512_S256x512_0_0).toLoadRect (View.loadsAt_vmem h_S256x512))
  let _ : Vec F S1x256x512 .bf16 ← Prog.lift (.load winB (Rect.unit (s := S3x256x512) ![l.val, 0, 0] S1x256x512.size hl).toLoadRect (View.loadsAt_vmem h_S1x256x512))
  Prog.lift (.store winB (Rect.unit (s := S3x256x512) ![l.val, 0, 0] S1x256x512.size hl)
    (shapeCast S1x256x512 (truncf .bf16 (shapeCast S256x512 v shapeCasts_S256x512_S256x512 : FVec F S256x512 .f32) bitsLt_bf16_f32) shapeCasts_S256x512_S1x256x512 : FVec F S1x256x512 .bf16)
    Finset.univ (View.stores_vmem h_S1x256x512 ((Memref.isWhole_whole _).storeExact_slice rfl _ hp) (fun _ => rfl)) (.inl rfl))

/-- The bf16 copy of an output-side weight, stored at its layer. -/
def castWout (l : Fin 3) (A : Memref sig .tc .vmem S512x256 .f32) (hl : ∀ a, (![l.val, 0, 0] : Fin 3 → Nat) a + S1x512x256.size a ≤ S3x512x256.size a)
    (hp : (Rect.unit (s := S3x512x256) ![l.val, 0, 0] S1x512x256.size hl).PackedRows (EltTy.packing .bf16)) : PR F := do
  let v : Vec F S512x256 .f32 ← Prog.lift (.load A (Rect.unit (s := S512x256) ![0, 0] S512x256.size inb_S512x256_S512x256_0_0).toLoadRect (View.loadsAt_vmem h_S512x256))
  let _ : Vec F S1x512x256 .bf16 ← Prog.lift (.load woutB (Rect.unit (s := S3x512x256) ![l.val, 0, 0] S1x512x256.size hl).toLoadRect (View.loadsAt_vmem h_S1x512x256))
  Prog.lift (.store woutB (Rect.unit (s := S3x512x256) ![l.val, 0, 0] S1x512x256.size hl)
    (shapeCast S1x512x256 (truncf .bf16 (shapeCast S512x256 v shapeCasts_S512x256_S512x256 : FVec F S512x256 .f32) bitsLt_bf16_f32) shapeCasts_S512x256_S1x512x256 : FVec F S1x512x256 .bf16)
    Finset.univ (View.stores_vmem h_S1x512x256 ((Memref.isWhole_whole _).storeExact_slice rfl _ hp) (fun _ => rfl)) (.inl rfl))

/-- A bf16 sub-chunk stored. -/
def put (M : Memref sig .tc .vmem S16x4x128x256 .bf16) (hM : M.IsWhole) (o : Fin 4 → Nat)
    (hi : ∀ a, o a + S1x1x128x256.size a ≤ S16x4x128x256.size a)
    (hp : (sub o hi).PackedRows (EltTy.packing .bf16)) (v : FVec F S128x256 .bf16) : PR F := do
  let _ : Vec F S1x1x128x256 .bf16 ← Prog.lift (.load M (sub o hi).toLoadRect (View.loadsAt_vmem h_S1x1x128x256))
  Prog.lift (.store M (sub o hi) (shapeCast S1x1x128x256 v shapeCasts_S128x256_S1x1x128x256 : FVec F S1x1x128x256 .bf16)
    Finset.univ (View.stores_vmem h_S1x1x128x256 (hM.storeExact_slice rfl _ hp) (fun _ => rfl)) (.inl rfl))

theorem inbX : ∀ (k : Fin 4) (a : Fin 2), (![128 * k.val, 0] : Fin 2 → Nat) a + S128x256.size a ≤ S512x256.size a := by decide

/-- A sub-chunk of the device's rows of `x`, rounded to bf16, becomes that of its own chunk of the activations. -/
def castX (c : Dev nD) (X : Memref sig .tc .vmem S512x256 .f32) (k : Fin 4) : PR F := do
  let v : Vec F S128x256 .f32 ← Prog.lift (.load X (Rect.unit (s := S512x256) ![128 * k.val, 0] S128x256.size (inbX k)).toLoadRect (View.loadsAt_vmem h_S128x256))
  put act (Memref.isWhole_whole _) (lOffMe c k) (lOffMe_inb c k) (lOffMe_pk c k)
    (truncf .bf16 (shapeCast S128x256 v shapeCasts_S128x256_S128x256 : FVec F S128x256 .f32) bitsLt_bf16_f32)

/-- What a layer makes of a sub-chunk of the activations with its two weights: the second product of the rounded
    positive part of the first. -/
def mlp (v : Vec F S1x1x128x256 .bf16) (w : Vec F S1x256x512 .bf16) (u : Vec F S1x512x256 .bf16) : FVec F S128x256 .f32 :=
  matmul dot_S128x512_S512x256_S128x256_1_0_0_1_n_n none
    (truncf .bf16 (maximumf
        (matmul dot_S128x256_S256x512_S128x512_1_0_0_1_n_n none
          (shapeCast S128x256 v shapeCasts_S1x1x128x256_S128x256 : FVec F S128x256 .bf16)
          (shapeCast S256x512 w shapeCasts_S1x256x512_S256x512 : FVec F S256x512 .bf16)
          (constant S128x512 .f32 0x00000000#32 : FVec F S128x512 .f32))
        (broadcast S128x512 (Scalar.ofBits .f32 0x00000000#32 : F .f32)) : FVec F S128x512 .f32) bitsLt_bf16_f32 : FVec F S128x512 .bf16)
    (shapeCast S512x256 u shapeCasts_S1x512x256_S512x256 : FVec F S512x256 .bf16)
    (constant S128x256 .f32 0x00000000#32 : FVec F S128x256 .f32)

theorem inbW (l : Fin 3) : ∀ a, (![l.val, 0, 0] : Fin 3 → Nat) a + S1x256x512.size a ≤ S3x256x512.size a := by
  revert l; decide
theorem inbU (l : Fin 3) : ∀ a, (![l.val, 0, 0] : Fin 3 → Nat) a + S1x512x256.size a ≤ S3x512x256.size a := by
  revert l; decide

/-- One sub-chunk of layer `l`: its partial product. -/
def compute (l : Fin 3) (o : Fin 4 → Nat) (hi : ∀ a, o a + S1x1x128x256.size a ≤ S16x4x128x256.size a) : PR F := do
  let v : Vec F S1x1x128x256 .bf16 ← Prog.lift (.load act (sub o hi).toLoadRect (View.loadsAt_vmem h_S1x1x128x256))
  let w : Vec F S1x256x512 .bf16 ← Prog.lift (.load winB (Rect.unit (s := S3x256x512) ![l.val, 0, 0] S1x256x512.size (inbW l)).toLoadRect (View.loadsAt_vmem h_S1x256x512))
  let u : Vec F S1x512x256 .bf16 ← Prog.lift (.load woutB (Rect.unit (s := S3x512x256) ![l.val, 0, 0] S1x512x256.size (inbU l)).toLoadRect (View.loadsAt_vmem h_S1x512x256))
  let _ : Vec F S1x1x128x256 .f32 ← Prog.lift (.load par (sub o hi).toLoadRect (View.loadsAt_vmem h_S1x1x128x256))
  Prog.lift (.store par (sub o hi) (shapeCast S1x1x128x256 (mlp v w u) shapeCasts_S128x256_S1x1x128x256 : FVec F S1x1x128x256 .f32)
    Finset.univ (View.stores_vmem_bits_univ h_S1x1x128x256 rfl) (.inl rfl))

/-- A chunk's four sub-chunks of layer `l`, if there is a layer. -/
def computeAll : Option (Fin 3) → (o : Fin 4 → Fin 4 → Nat) → (∀ k a, o k a + S1x1x128x256.size a ≤ S16x4x128x256.size a) → PR F
  | none, _, _ => pure ⟨⟩
  | some l, o, hi => each subs fun k => compute l (o k) (hi k)

/-! ## The all-gather -/

/-- Hop `h` of a direction on sub-chunk `k`: wait for the arriving chunk and pass it on if a hop is left. -/
def agStep (c : Dev nD) (k : Fin 4) (d : Bool) (h : Fin (HN d)) : PR F := do
  await (rcvS d h k) act (Memref.isWhole_whole _) (vOff c (agRow d h) k) (vOff_inb c (agRow d h) k) (vOff_ww c (agRow d h) k)
  if hh : h.val + 1 < HN d then
    send d ⟨h.val + 1, hh⟩ k c act (Memref.isWhole_whole _) (vOff c (agRow d h) k) (vOff_inb c (agRow d h) k) (vOff_ww c (agRow d h) k)
  else pure ⟨⟩

/-- Send the own chunk both ways. -/
def agStart (c : Dev nD) (k : Fin 4) : PR F := do
  send true 0 k c act (Memref.isWhole_whole _) (vOffMe c k) (vOffMe_inb c k) (vOffMe_ww c k)
  send false 0 k c act (Memref.isWhole_whole _) (vOffMe c k) (vOffMe_inb c k) (vOffMe_ww c k)

/-- One hop of the all-gather: both directions' arrivals, then the products of what arrived. -/
def agHop (c : Dev nD) (l : Option (Fin 3)) (h : Fin 8) : PR F := do
  each subs fun k => do
    agStep c k true h
    if hh : h.val < 7 then agStep c k false ⟨h.val, hh⟩ else pure ⟨⟩
  computeAll l (lOff c (lrow (agRow true h))) (lOff_inb c (lrow (agRow true h)))
  if hh : h.val < 7 then computeAll l (lOff c (lrow (agRow false ⟨h.val, hh⟩))) (lOff_inb c (lrow (agRow false ⟨h.val, hh⟩))) else pure ⟨⟩

theorem inbD : ∀ (k : Fin 4) (a : Fin 4), (![0, k.val, 0, 0] : Fin 4 → Nat) a + S1x1x128x256.size a ≤ S16x4x128x256.size a := by decide
theorem wwD : ∀ k : Fin 4, (Rect.unit (s := S16x4x128x256) ![0, k.val, 0, 0] S1x1x128x256.size (inbD k)).WholeWords (EltTy.packing .bf16)
  | 0 => wordsbf16_S16x4x128x256_S1x1x128x256_0_0_0_0 | 1 => wordsbf16_S16x4x128x256_S1x1x128x256_0_1_0_0
  | 2 => wordsbf16_S16x4x128x256_S1x1x128x256_0_2_0_0 | 3 => wordsbf16_S16x4x128x256_S1x1x128x256_0_3_0_0

/-- Wait until a direction's transfers have left. -/
def drain (d : Bool) : PR F :=
  each (hops d) fun h => each subs fun k => await (sndS d h k) act (Memref.isWhole_whole _) ![0, k.val, 0, 0] (inbD k) (wwD k)

/-- The all-gather, computing layer `l` of each chunk as it is there. -/
def allGather (c : Dev nD) (l : Option (Fin 3)) : PR F := do
  each subs fun k => agStart c k
  computeAll l (lOffMe c) (lOffMe_inb c)
  each (hops true) fun h => agHop c l h
  drain true
  drain false

/-! ## The reduce-scatter -/

/-- The partial sum a direction starts from, rounded, and its first hop. -/
def rsStart (c : Dev nD) (k : Fin 4) (d : Bool) : PR F := do
  let v : Vec F S1x1x128x256 .f32 ← Prog.lift (.load par (sub (lOff c (lrow (rsRow₀ d)) k) (lOff_inb c _ k)).toLoadRect (View.loadsAt_vmem h_S1x1x128x256))
  put (stg d) (stg_whole d) (lOff c (lrow (rsRow₀ d)) k) (lOff_inb c _ k) (lOff_pk c _ k)
    (truncf .bf16 (shapeCast S128x256 v shapeCasts_S1x1x128x256_S128x256 : FVec F S128x256 .f32) bitsLt_bf16_f32)
  send d (match d with | true => 0 | false => 0) k c (stg d) (stg_whole d) (vOff c (rsRow₀ d) k) (vOff_inb c _ k) (vOff_ww c _ k)

/-- The sum a device passes on: what arrived plus its own partial product. -/
def addUp (v : Vec F S1x1x128x256 .bf16) (w : Vec F S1x1x128x256 .f32) : FVec F S128x256 .bf16 :=
  truncf .bf16 (addf (extf .f32 (shapeCast S128x256 v shapeCasts_S1x1x128x256_S128x256 : FVec F S128x256 .bf16) bitsLt_bf16_f32)
    (shapeCast S128x256 w shapeCasts_S1x1x128x256_S128x256 : FVec F S128x256 .f32) : FVec F S128x256 .f32) bitsLt_bf16_f32

/-- Hop `s` of a direction's reduce-scatter: wait for the partial sum, and if a hop is left add to it and pass it on. -/
def rsStep (c : Dev nD) (d : Bool) (s : Fin (HN d)) (k : Fin 4) : PR F := do
  await (rcvS d s k) (stg d) (stg_whole d) (vOff c (rsRow d s) k) (vOff_inb c _ k) (vOff_ww c _ k)
  if hh : s.val + 1 < HN d then do
    let v : Vec F S1x1x128x256 .bf16 ← Prog.lift (.load (stg d) (sub (lOff c (lrow (rsRow d s)) k) (lOff_inb c _ k)).toLoadRect (View.loadsAt_vmem h_S1x1x128x256))
    let w : Vec F S1x1x128x256 .f32 ← Prog.lift (.load par (sub (lOff c (lrow (rsRow d s)) k) (lOff_inb c _ k)).toLoadRect (View.loadsAt_vmem h_S1x1x128x256))
    put (stg d) (stg_whole d) (lOff c (lrow (rsRow d s)) k) (lOff_inb c _ k) (lOff_pk c _ k) (addUp v w)
    send d ⟨s.val + 1, hh⟩ k c (stg d) (stg_whole d) (vOff c (rsRow d s) k) (vOff_inb c _ k) (vOff_ww c _ k)
  else pure ⟨⟩

/-- The own chunk's sum: both directions' partial sums and the own partial product. -/
def total (v w : Vec F S1x1x128x256 .bf16) (u : Vec F S1x1x128x256 .f32) : FVec F S128x256 .bf16 :=
  truncf .bf16 (addf (extf .f32 (addf (shapeCast S128x256 v shapeCasts_S1x1x128x256_S128x256 : FVec F S128x256 .bf16)
      (shapeCast S128x256 w shapeCasts_S1x1x128x256_S128x256 : FVec F S128x256 .bf16) : FVec F S128x256 .bf16) bitsLt_bf16_f32)
    (shapeCast S128x256 u shapeCasts_S1x1x128x256_S128x256 : FVec F S128x256 .f32) : FVec F S128x256 .f32) bitsLt_bf16_f32

/-- The end of the reduce-scatter on sub-chunk `k`. -/
def rsEnd (c : Dev nD) (k : Fin 4) : PR F := do
  let v : Vec F S1x1x128x256 .bf16 ← Prog.lift (.load (stg true) (sub (lOffMe c k) (lOffMe_inb c k)).toLoadRect (View.loadsAt_vmem h_S1x1x128x256))
  let w : Vec F S1x1x128x256 .bf16 ← Prog.lift (.load (stg false) (sub (lOffMe c k) (lOffMe_inb c k)).toLoadRect (View.loadsAt_vmem h_S1x1x128x256))
  let u : Vec F S1x1x128x256 .f32 ← Prog.lift (.load par (sub (lOffMe c k) (lOffMe_inb c k)).toLoadRect (View.loadsAt_vmem h_S1x1x128x256))
  put act (Memref.isWhole_whole _) (lOffMe c k) (lOffMe_inb c k) (lOffMe_pk c k) (total v w u)

/-- One hop of the reduce-scatter, both directions. -/
def rsHop (c : Dev nD) (s : Fin 8) : PR F := do
  each subs fun k => rsStep c true s k
  if hh : s.val < 7 then each subs fun k => rsStep c false ⟨s.val, hh⟩ k else pure ⟨⟩

/-- The reduce-scatter. -/
def reduceScatter (c : Dev nD) : PR F := do
  each subs fun k => do
    rsStart c k true
    rsStart c k false
  each (hops true) fun s => rsHop c s
  each subs fun k => rsEnd c k
  drain true
  drain false

/-! ## The whole -/

/-- The activations of all chunks, widened, are the result. -/
def finish (O : Memref sig .tc .vmem S16x4x128x256 .f32) : PR F := do
  let v : Vec F S16x4x128x256 .bf16 ← Prog.lift (.load act (Rect.unit (s := S16x4x128x256) ![0, 0, 0, 0] S16x4x128x256.size inb_S16x4x128x256_S16x4x128x256_0_0_0_0).toLoadRect (View.loadsAt_vmem h_S16x4x128x256))
  let _ : Vec F S16x4x128x256 .f32 ← Prog.lift (.load O (Rect.unit (s := S16x4x128x256) ![0, 0, 0, 0] S16x4x128x256.size inb_S16x4x128x256_S16x4x128x256_0_0_0_0).toLoadRect (View.loadsAt_vmem h_S16x4x128x256))
  Prog.lift (.store O (Rect.unit (s := S16x4x128x256) ![0, 0, 0, 0] S16x4x128x256.size inb_S16x4x128x256_S16x4x128x256_0_0_0_0)
    (extf .f32 (v : FVec F S16x4x128x256 .bf16) bitsLt_bf16_f32 : FVec F S16x4x128x256 .f32) Finset.univ (View.stores_vmem_bits_univ h_S16x4x128x256 rfl) (.inl rfl))

/-- The layers, with the collectives between them: the reduce-scatter of layer `l` and the all-gather that computes the next. -/
def layer (c : Dev nD) (l : Fin 3) : PR F := do
  barrier c
  reduceScatter c
  barrier c
  allGather c (match l with | 0 => some 1 | 1 => some 2 | 2 => none)

/-- The kernel's body on device `c`. -/
def prog (c : Dev nD) (X : Memref sig .tc .vmem S512x256 .f32) (W0 : Memref sig .tc .vmem S256x512 .f32) (U0 : Memref sig .tc .vmem S512x256 .f32)
    (W1 : Memref sig .tc .vmem S256x512 .f32) (U1 : Memref sig .tc .vmem S512x256 .f32) (W2 : Memref sig .tc .vmem S256x512 .f32)
    (U2 : Memref sig .tc .vmem S512x256 .f32) (O : Memref sig .tc .vmem S16x4x128x256 .f32) : PR F := do
  castWin 0 W0 (inbW 0) packedbf16_S3x256x512_S1x256x512_0_0_0
  castWout 0 U0 (inbU 0) packedbf16_S3x512x256_S1x512x256_0_0_0
  castWin 1 W1 (inbW 1) packedbf16_S3x256x512_S1x256x512_1_0_0
  castWout 1 U1 (inbU 1) packedbf16_S3x512x256_S1x512x256_1_0_0
  castWin 2 W2 (inbW 2) packedbf16_S3x256x512_S1x256x512_2_0_0
  castWout 2 U2 (inbU 2) packedbf16_S3x512x256_S1x512x256_2_0_0
  barrier c
  each subs fun k => castX c X k
  allGather c (some 0)
  each [0, 1, 2] fun l => layer c l
  finish O

end Cert.Kernel

end
-- ==== Proof.Kernel.Ring.lean ====
module

public import proofs.«01_k».proof.Proof.Kernel.Prog

@[expose] public section

/-! # The ring

The sixteen devices stand on a ring. `rot n c` is the device `n` places to the right of `c`. The neighbours and the
offsets which the printed text computes with words are rotations of the device. -/

namespace Cert.Kernel

open Idealize.ShloMosaic Idealize.SL.Sem Facts₀ Facts

/-- The device at a place of the ring. -/
def order : Fin 16 → Dev nD := ![0, 4, 8, 12, 13, 9, 5, 1, 2, 6, 10, 14, 15, 11, 7, 3]

/-- The place of a device on the ring. -/
def rank : Dev nD → Fin 16 := ![0, 7, 8, 15, 1, 6, 9, 14, 2, 5, 10, 13, 3, 4, 11, 12]

/-- The device `n` places to the right of `c`. -/
def rot (n : Fin 16) (c : Dev nD) : Dev nD := order (rank c + n)

theorem rank_order : ∀ i, rank (order i) = i := by decide
theorem order_rank : ∀ c, order (rank c) = c := by decide

theorem rot_rot (m n : Fin 16) (c : Dev nD) : rot m (rot n c) = rot (n + m) c := by
  unfold rot; rw [rank_order]; congr 1; apply Fin.ext; simp only [Fin.val_add]; omega

@[simp] theorem rot_zero (c : Dev nD) : rot 0 c = c := by
  unfold rot; rw [show rank c + 0 = rank c from Fin.ext (by simp), order_rank]

theorem rot_inj (c : Dev nD) : Function.Injective fun n => rot n c := fun m n h => by
  have h : rank c + m = rank c + n := by simpa [rot, rank_order] using congrArg rank h
  have h := congrArg Fin.val h; simp only [Fin.val_add] at h; exact Fin.ext (by omega)

theorem rot_surj (c : Dev nD) : Function.Surjective fun n => rot n c :=
  Finite.injective_iff_surjective.mp (rot_inj c)

/-- A rotation's sign: to the right clockwise, to the left counter-clockwise. -/
def sg : Bool → Fin 16 → Fin 16
  | true, n => n
  | false, n => -n

/-- How far to the right the chunk of a row of the table is. -/
def rowShift (r : Fin 16) : Fin 16 :=
  if r = 14 then 8 else if r = 15 then 0 else if r.val % 2 = 0 then -⟨r.val / 2 + 1, by omega⟩ else ⟨r.val / 2 + 1, by omega⟩

variable [Facts]

theorem nb_eq (d : Bool) (c : Dev nD) : nb d c = rot (sg d 1) c := by
  have h1 : ∀ c, k0_dev1 c = (rot (sg false 1) c).val := by decide +kernel
  have h2 : ∀ c, k0_dev2 c = (rot (sg true 1) c).val := by decide +kernel
  cases d
  · exact Fin.ext (h1 c)
  · exact Fin.ext (h2 c)

theorem vOffMe_eq (c : Dev nD) : ∀ k : Fin 4, vOffMe c k = ![c.val, k.val, 0, 0] := by
  have h : ∀ c : Dev nD, k0_off5 c = ![c.val, 0, 0, 0] ∧ k0_off6 c = ![c.val, 1, 0, 0] ∧ k0_off7 c = ![c.val, 2, 0, 0]
      ∧ k0_off8 c = ![c.val, 3, 0, 0] := by decide +kernel
  intro k; fin_cases k
  exacts [(h c).1, (h c).2.1, (h c).2.2.1, (h c).2.2.2]

theorem lOffMe_eq (c : Dev nD) : ∀ k : Fin 4, lOffMe c k = ![c.val, k.val, 0, 0] := by
  have h : ∀ c : Dev nD, k0_off1 c = ![c.val, 0, 0, 0] ∧ k0_off2 c = ![c.val, 1, 0, 0] ∧ k0_off3 c = ![c.val, 2, 0, 0]
      ∧ k0_off4 c = ![c.val, 3, 0, 0] := by decide +kernel
  intro k; fin_cases k
  exacts [(h c).1, (h c).2.1, (h c).2.2.1, (h c).2.2.2]

theorem vOff_eq (c : Dev nD) (r : Fin 16) : ∀ k : Fin 4, vOff c r k = ![(rot (rowShift r) c).val, k.val, 0, 0] := by
  have h : ∀ (k : Fin 4) (c : Dev nD) (r : Fin 16), vOff c r k = ![(rot (rowShift r) c).val, k.val, 0, 0] := by decide +kernel
  exact fun k => h k c r

theorem lOff_eq (c : Dev nD) (r : Fin 15) : ∀ k : Fin 4, lOff c r k = ![(rot (rowShift r.castSucc) c).val, k.val, 0, 0] := by
  have h : ∀ (k : Fin 4) (c : Dev nD) (r : Fin 15), lOff c r k = ![(rot (rowShift r.castSucc) c).val, k.val, 0, 0] := by decide +kernel
  exact fun k => h k c r

/-- The shift of the chunk that arrives on hop `h` of the all-gather, and on hop `s` of the reduce-scatter. -/
def agr (d : Bool) (h : ℕ) : Fin 16 := -sg d (Fin.ofNat 16 (h + 1))
def rsr (d : Bool) (h : ℕ) : Fin 16 := sg d (Fin.ofNat 16 (HN d - 1 - h))

omit [Facts] in
theorem rowShift_ag : ∀ (d : Bool) (h : Fin (HN d)), rowShift (agRow d h) = agr d h.val ∧ rowShift (lrow (agRow d h)).castSucc = agr d h.val
  | true, h => by revert h; decide
  | false, h => by revert h; decide

omit [Facts] in
theorem rowShift_rs : ∀ (d : Bool) (h : Fin (HN d)), rowShift (rsRow d h) = rsr d h.val
  | true, h => by revert h; decide
  | false, h => by revert h; decide

omit [Facts] in
theorem rowShift_rs' : ∀ (d : Bool) (h : Fin (HN d)), h.val + 1 < HN d → rowShift (lrow (rsRow d h)).castSucc = rsr d h.val
  | true, h => by revert h; decide
  | false, h => by revert h; decide

omit [Facts] in
theorem rowShift_rs₀ : ∀ d : Bool, rowShift (rsRow₀ d) = sg d (Fin.ofNat 16 (HN d)) ∧ rowShift (lrow (rsRow₀ d)).castSucc = sg d (Fin.ofNat 16 (HN d)) := by
  decide

end Cert.Kernel

end
-- ==== Proof.Kernel.Triple.lean ====
module

public import proofs.«01_k».proof.Proof.Kernel.Prog
public import Idealize.ShloMosaic.Lib.Pipeline.Launch
public import Idealize.ShloMosaic.Lib.Pipeline.Kit
public import Idealize.ShloMosaic.Lib.Pipeline.BigSepL
public import Idealize.ShloMosaic.Lib.Pipeline.TalkSched
public import Idealize.ShloMosaic.Lib.Rounds
public import Idealize.ShloMosaic.Lib.Tactic

@[expose] public section

/-! # Triples

`Tr C c P a R`: with the standing facts `C` and the resources `P`, the program `a` on device `c` runs and leaves `R` of
its result. The rules by which programs are put together from their steps, and the one for a loop. -/

noncomputable section

namespace Cert.Kernel

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

/-- The algebra of the proof's own resources: the pipeline's rounds and the ring's, whose duties are named by `Bool`. -/
abbrev UB : Type := URounds (GSem nD τ sig) Bool
abbrev UU : Type := UR sig nD τ × UB
abbrev MM (F : FTy → Type) : Type := MT nD τ sig ℕ (Elt F) ℕ UU ℕ
abbrev PP (F : FTy → Type) : Type := sProp (MM F)
abbrev EP : Emb (UR sig nD τ) (MM F) := embL
abbrev ER : Emb UB (MM F) := embR
abbrev 𝒱₀ : Variants := Variants.none

/-- With `C` standing and `P` in hand, `a` runs on `c` and leaves `R`. -/
def Tr (C : PP F) (c : Dev nD) {α : Type} (P : PP F) (a : Prog (TpuEff nD τ sig (Elt F) Λ₀ .tc) α) (R : α → PP F) : Prop :=
  iprop(C ∗ P) ⊢ wp frame (wpE (defs₀ (F := F)) 𝒱₀ (c : Thread nD τ) none) Set.univ a R

variable {C : PP F} {c : Dev nD} {α β : Type} {P P' G : PP F}

theorem Tr.ret (x : α) (R : α → PP F) : Tr C c (R x) (pure x) R := by
  unfold Tr
  rw [Prog.pure_eq_ret]
  refine BIBase.Entails.trans ?_ (le_wp_ret _ _ _ x R)
  iintro ⟨-, H⟩; iexact H

theorem Tr.conseq {a : Prog (TpuEff nD τ sig (Elt F) Λ₀ .tc) α} {R R' : α → PP F} (h : Tr C c P a R)
    (hP : P' ⊢ P) (hR : ∀ x, R x ⊢ R' x) : Tr C c P' a R' :=
  ((sep_mono_right hP).trans h).trans (wp_mono _ _ _ hR)

theorem Tr.pre {a : Prog (TpuEff nD τ sig (Elt F) Λ₀ .tc) α} {R : α → PP F} (h : Tr C c P a R) (hP : P' ⊢ P) : Tr C c P' a R :=
  h.conseq hP fun _ => Entails.refl _

theorem Tr.post {a : Prog (TpuEff nD τ sig (Elt F) Λ₀ .tc) α} {R R' : α → PP F} (h : Tr C c P a R) (hR : ∀ x, R x ⊢ R' x) :
    Tr C c P a R' := h.conseq (Entails.refl _) hR

theorem Tr.frame {a : Prog (TpuEff nD τ sig (Elt F) Λ₀ .tc) α} {R : α → PP F} (h : Tr C c P a R) (G : PP F) :
    Tr C c iprop(P ∗ G) a fun x => iprop(R x ∗ G) :=
  (sep_assoc.2.trans (sep_mono_left h)).trans (wp_frame_r _ _ _)

theorem Tr.bind [BI.Persistent C] {a : Prog (TpuEff nD τ sig (Elt F) Λ₀ .tc) α} {f : α → Prog (TpuEff nD τ sig (Elt F) Λ₀ .tc) β}
    {R : α → PP F} {S : β → PP F} (h : Tr C c P a R) (hf : ∀ x, Tr C c (R x) (f x) S) : Tr C c P (a >>= f) S := by
  unfold Tr at h hf ⊢
  rw [wp_bind]
  have h' : iprop(C ∗ P) ⊢ iprop(wp Idealize.ShloMosaic.frame (wpE (defs₀ (F := F)) 𝒱₀ (c : Thread nD τ) none) Set.univ a R ∗ C) := by
    iintro ⟨#HC, HP⟩
    isplitl [HP]
    · iapply h; isplitr; · iexact HC
      iexact HP
    · iexact HC
  refine h'.trans ((wp_frame_r _ _ _).trans (wp_mono _ _ _ fun x => ?_))
  exact (sep_comm.1).trans (hf x)

/-- The same with the resources of the first part named apart from those it leaves alone. -/
theorem Tr.step [BI.Persistent C] {a : Prog (TpuEff nD τ sig (Elt F) Λ₀ .tc) α} {f : α → Prog (TpuEff nD τ sig (Elt F) Λ₀ .tc) β}
    {R : α → PP F} {S : β → PP F} (h : Tr C c P a R) (G : PP F) (hP : P' ⊢ iprop(P ∗ G))
    (hf : ∀ x, Tr C c iprop(R x ∗ G) (f x) S) : Tr C c P' (a >>= f) S :=
  ((h.frame G).pre hP).bind hf

theorem Tr.exI {ι : Sort _} {a : Prog (TpuEff nD τ sig (Elt F) Λ₀ .tc) α} {R : α → PP F} {Φ : ι → PP F}
    (h : ∀ x, Tr C c (Φ x) a R) : Tr C c iprop(∃ x, Φ x) a R := by
  unfold Tr at h ⊢
  iintro ⟨HC, %x, H⟩
  iapply (h x)
  isplitl [HC] <;> iassumption

theorem Tr.pure {φ : Prop} {a : Prog (TpuEff nD τ sig (Elt F) Λ₀ .tc) α} {R : α → PP F}
    (h : φ → Tr C c P a R) : Tr C c iprop(⌜φ⌝ ∗ P) a R := by
  unfold Tr at h ⊢
  iintro ⟨HC, %x, H⟩
  iapply (h x)
  isplitl [HC] <;> iassumption

/-- A loop, from a family of resources indexed by what is left of the list. -/
theorem Tr.each [BI.Persistent C] {ι : Type} {f : ι → PR F} (I : List ι → PP F) :
    ∀ l : List ι, (∀ i l', (i :: l') <:+ l → Tr C c (I (i :: l')) (f i) fun _ => I l') → Tr C c (I l) (Cert.Kernel.each l f) fun _ => I []
  | [], _ => Tr.ret PUnit.unit (fun _ => I [])
  | i :: l, h => (h i l (List.suffix_refl _)).bind fun _ =>
      Tr.each I l fun j l' hs => h j l' (hs.trans (List.suffix_cons i l))

/-- A loop whose iterations each use resources `Pre i` of their own, turning them to `Post i`, and pass `J` on. -/
theorem Tr.eachSep [BI.Persistent C] {ι : Type} {f : ι → PR F} (Pre Post : ι → PP F) (J : List ι → PP F) :
    ∀ l : List ι, (∀ i l', (i :: l') <:+ l → Tr C c iprop(Pre i ∗ J (i :: l')) (f i) fun _ => iprop(Post i ∗ J l')) →
      Tr C c iprop(bigSepL l Pre ∗ J l) (Cert.Kernel.each l f) fun _ => iprop(bigSepL l Post ∗ J [])
  | [], _ => Tr.ret PUnit.unit (fun _ => iprop(bigSepL [] Post ∗ J []))
  | i :: l, h => by
    refine ((h i l (List.suffix_refl _)).step (bigSepL l Pre) ?_ fun _ =>
      ((Tr.eachSep Pre Post J l fun j l' hs => h j l' (hs.trans (List.suffix_cons i l))).frame (Post i)).conseq ?_ fun _ => ?_)
    · rw [bigSepL_cons']; iintro ⟨⟨H1, H2⟩, H3⟩; isplitr [H2]
      · isplitl [H1] <;> iassumption
      · iassumption
    · iintro ⟨⟨H1, H2⟩, H3⟩; isplitr [H1]
      · isplitl [H3] <;> iassumption
      · iassumption
    · rw [bigSepL_cons']; iintro ⟨⟨H1, H2⟩, H3⟩; isplitr [H2]
      · isplitl [H3] <;> iassumption
      · iassumption

end Cert.Kernel

end
-- ==== Proof.Kernel.Slots.lean ====
module

public import proofs.«01_k».proof.Proof.Kernel.Ring
public import proofs.«01_k».proof.Proof.Kernel.Triple
public import Idealize.ShloMosaic.Lib.Ring
public import Idealize.ShloMosaic.Lib.Pipeline.Frame

@[expose] public section

/-! # The sub-chunks of a buffer

A buffer of all sixteen chunks is owned sub-chunk by sub-chunk. `slot M hM c q a k X` is a share `q` of sub-chunk `k` of
chunk `a`, holding what the whole array `X` has there. -/

noncomputable section

namespace Cert.Kernel

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

/-- The offsets of sub-chunk `k` of chunk `a`. -/
abbrev offs (a : Fin 16) (k : Fin 4) : Fin 4 → ℕ := ![a.val, k.val, 0, 0]

theorem offs_inb (a : Fin 16) (k : Fin 4) : ∀ x, offs a k x + S1x1x128x256.size x ≤ S16x4x128x256.size x := by
  revert a k; decide

/-- The rectangle of sub-chunk `k` of chunk `a`. -/
abbrev rc (a : Fin 16) (k : Fin 4) : Rect S16x4x128x256 := sub (offs a k) (offs_inb a k)

theorem mem_rc {a : Fin 16} {k : Fin 4} {i : S16x4x128x256.Idx} : i ∈ (rc a k).set ↔ (i 0).val = a.val ∧ (i 1).val = k.val := by
  rw [Rect.mem_set_unit]
  constructor
  · intro h
    have h0 := h 0; have h1 := h 1
    simp [offs] at h0 h1
    constructor <;> omega
  · rintro ⟨h0, h1⟩ x
    have h2 : (i 2).val < 128 := (i 2).isLt
    have h3 : (i 3).val < 256 := (i 3).isLt
    fin_cases x <;> simp [offs] <;> omega

/-- What a whole array has in a sub-chunk. -/
def sl {e : EltTy} (X : S16x4x128x256.Idx → Elt F e) (a : Fin 16) (k : Fin 4) : S1x1x128x256.Idx → Elt F e :=
  fun x => X ((rc a k).emb x)

/-- The array with given sub-chunks. -/
def glue {e : EltTy} (v : Fin 16 → Fin 4 → S1x1x128x256.Idx → Elt F e) : S16x4x128x256.Idx → Elt F e :=
  fun i => v (i 0) (i 1) (fun x => match x with | 0 => (0 : Fin 1) | 1 => (0 : Fin 1) | 2 => (i 2 : Fin 128) | 3 => (i 3 : Fin 256))

theorem rc_emb (a : Fin 16) (k : Fin 4) (x : S1x1x128x256.Idx) :
    (((rc a k).emb x) 0).val = a.val ∧ (((rc a k).emb x) 1).val = k.val ∧ (((rc a k).emb x) 2).val = (x 2).val ∧ (((rc a k).emb x) 3).val = (x 3).val := by
  have h0 : (x 0).val < 1 := (x 0).isLt
  have h1 : (x 1).val < 1 := (x 1).isLt
  refine ⟨?_, ?_, ?_, ?_⟩ <;> simp [Rect.emb, Rect.unit, offs] <;> omega

@[simp] theorem sl_glue {e : EltTy} (v : Fin 16 → Fin 4 → S1x1x128x256.Idx → Elt F e) (a : Fin 16) (k : Fin 4) : sl (glue v) a k = v a k := by
  funext x
  obtain ⟨h0, h1, h2, h3⟩ := rc_emb a k x
  unfold sl glue
  have e0 : ((rc a k).emb x) 0 = a := Fin.ext h0
  have e1 : ((rc a k).emb x) 1 = k := Fin.ext h1
  rw [e0, e1]
  congr 1
  funext y
  fin_cases y
  · exact Subsingleton.elim (α := Fin 1) _ _
  · exact Subsingleton.elim (α := Fin 1) _ _
  · exact Fin.ext h2
  · exact Fin.ext h3

section

variable {e : EltTy} (M : Memref sig .tc .vmem S16x4x128x256 e) (hM : M.IsWhole) (c : Dev nD)

/-- A share of a sub-chunk with what `X` has there. -/
def slot (q : PosShare TreeShare) (a : Fin 16) (k : Fin 4) (X : S16x4x128x256.Idx → Elt F e) : PP F :=
  M.view.loc (c : Thread nD τ) ↦[(M.access (rc a k)).set]{q} hM.unread X

/-- A sub-chunk with anything in it. -/
def slotE (a : Fin 16) (k : Fin 4) : PP F := iprop(∃ X, slot M hM c fullShare a k X)

instance (q : PosShare TreeShare) (a : Fin 16) (k : Fin 4) (X : S16x4x128x256.Idx → Elt F e) :
    BI.Storable (upEmb : UEmb _ (MM F)) (slot M hM c q a k X) := by unfold slot; infer_instance
instance (a : Fin 16) (k : Fin 4) : BI.Storable (upEmb : UEmb _ (MM F)) (slotE (F := F) M hM c a k) := by unfold slotE; infer_instance

theorem slot_slotE (a : Fin 16) (k : Fin 4) (X : S16x4x128x256.Idx → Elt F e) : slot M hM c fullShare a k X ⊢ slotE M hM c a k := by
  unfold slotE; iintro H; iexists X; iexact H

/-- A share is its two halves. -/
theorem slot_halves (q : PosShare TreeShare) (a : Fin 16) (k : Fin 4) (X : S16x4x128x256.Idx → Elt F e) :
    slot M hM c q a k X ⊣⊢ iprop(slot M hM c q.left a k X ∗ slot M hM c q.right a k X) := by
  unfold slot; exact pointsTo_share (PosShare.mem_left_op_right q)

/-- Contents that a view reads alike agree on its elements. -/
theorem agree_of_read {s : Shape} {sp : Space} {e : EltTy} (v : View sig .tc sp s e) {f g : v.ty.Contents (Elt F)}
    (h : v.read (Elt F) f = v.read (Elt F) g) : ∀ i ∈ v.set, f i = g i := by
  intro i hi
  obtain ⟨x, -, rfl⟩ := Finset.mem_map.mp hi
  have := congrFun h x
  rw [View.read_apply, View.read_apply] at this
  exact (cast_inj _).mp this

theorem read_sub (a : Fin 16) (k : Fin 4) (X : S16x4x128x256.Idx → Elt F e) :
    (M.access (rc a k)).read (Elt F) (hM.unread X) = sl X a k := by
  show M.view.readAt (Elt F) (rc a k) (hM.unread X) = _
  funext x
  rw [View.readAt_apply, hM.read_unread]; rfl

/-- Contents that read, in a sub-chunk, as `X` does. -/
theorem slot_of_read {q : PosShare TreeShare} {a : Fin 16} {k : Fin 4} {X : S16x4x128x256.Idx → Elt F e} {f : M.view.ty.Contents (Elt F)}
    (h : (M.access (rc a k)).read (Elt F) f = sl X a k) :
    (M.view.loc (c : Thread nD τ) ↦[(M.access (rc a k)).set]{q} f : PP F) = slot M hM c q a k X := by
  unfold slot
  exact pointsTo_congr (agree_of_read _ (h.trans (read_sub M hM a k X).symm))

/-- Arrays with the same sub-chunk. -/
theorem slot_congr {q : PosShare TreeShare} {a : Fin 16} {k : Fin 4} {X Y : S16x4x128x256.Idx → Elt F e} (h : sl X a k = sl Y a k) :
    slot M hM c q a k X = slot M hM c q a k Y := by
  rw [← slot_of_read M hM c (q := q) (X := Y) (f := hM.unread X) ((read_sub M hM a k X).trans h)]; rfl

variable {C : PP F} {M hM c}

/-- A load of a sub-chunk. -/
theorem Tr.load_slot {q : PosShare TreeShare} {a : Fin 16} {k : Fin 4} {X : S16x4x128x256.Idx → Elt F e} {o : Fin 4 → ℕ}
    {hi : ∀ x, o x + S1x1x128x256.size x ≤ S16x4x128x256.size x} (ho : o = offs a k) {hl : M.view.LoadsAt (sub o hi).toLoadRect} :
    Tr C c (slot M hM c q a k X) (Prog.lift (.load M (sub o hi).toLoadRect hl)) fun v => iprop(⌜v = sl X a k⌝ ∗ slot M hM c q a k X) := by
  subst ho
  unfold Tr slot
  iintro ⟨-, H⟩
  unfold Prog.lift
  iapply (wp_load_rect 𝒱₀ (c : Thread nD τ) none Set.univ (m := M) (r := rc a k) Finset.Subset.rfl) $$ H
  iintro H
  rw [read_sub, wp_ret]; imodintro
  isplitr; · ipureintro; rfl
  iexact H

/-- A load of a sub-chunk of which nothing is known, for nothing. -/
theorem Tr.load_slotE {a : Fin 16} {k : Fin 4} {o : Fin 4 → ℕ}
    {hi : ∀ x, o x + S1x1x128x256.size x ≤ S16x4x128x256.size x} (ho : o = offs a k) {hl : M.view.LoadsAt (sub o hi).toLoadRect} :
    Tr C c (slotE M hM c a k) (Prog.lift (.load M (sub o hi).toLoadRect hl)) fun _ => slotE M hM c a k :=
  Tr.exI fun X => (Tr.load_slot ho).post fun v => by
    iintro ⟨-, H⟩; iapply (slot_slotE M hM c a k X); iexact H

/-- A store of a sub-chunk. -/
theorem Tr.store_slot {a : Fin 16} {k : Fin 4} {X : S16x4x128x256.Idx → Elt F e} {o : Fin 4 → ℕ}
    {hi : ∀ x, o x + S1x1x128x256.size x ≤ S16x4x128x256.size x} (ho : o = offs a k) {w : S1x1x128x256.Idx → Elt F e} (hw : w = sl X a k)
    {hx : (M.access (sub o hi)).Stores Finset.univ} {hm : Finset.univ = (Finset.univ : Finset (sub o hi).shape.Idx) ∨ ∀ a, (sub o hi).stride a = 1} :
    Tr C c (slotE M hM c a k) (Prog.lift (.store M (sub o hi) w Finset.univ hx hm)) fun _ => slot M hM c fullShare a k X := by
  subst ho
  refine Tr.exI fun Y => ?_
  unfold Tr slot
  iintro ⟨-, H⟩
  unfold Prog.lift
  iapply (wp_store 𝒱₀ (c : Thread nD τ) none Set.univ (m := M) (r := rc a k) (Mk := Finset.univ) (S := (M.access (rc a k)).set) (Finset.Subset.rfl)) $$ H
  iintro H
  rw [wp_ret]; imodintro
  ihave H := (Entails.of_eq (slot_of_read M hM c (X := X) ((View.read_write_univ _ _).trans hw))) $$ H
  unfold slot
  iexact H

end

/-! ## A sub-chunk as a transfer sees it -/

theorem vw_set (M : Memref sig .tc .vmem S16x4x128x256 .bf16) {a : Fin 16} {k : Fin 4} {o : Fin 4 → ℕ}
    {hi : ∀ x, o x + S1x1x128x256.size x ≤ S16x4x128x256.size x} (ho : o = offs a k) :
    (vw M o hi).view.set = (M.access (rc a k)).set := by
  subst ho
  exact View.set_reshape _ _

/-- What a transfer of a sub-chunk takes. -/
theorem vw_src (M : Memref sig .tc .vmem S16x4x128x256 .bf16) (hM : M.IsWhole) (c : Dev nD) {a : Fin 16} {k : Fin 4} {o : Fin 4 → ℕ}
    {hi : ∀ x, o x + S1x1x128x256.size x ≤ S16x4x128x256.size x} (ho : o = offs a k) {q : PosShare TreeShare}
    (X : S16x4x128x256.Idx → Elt F .bf16) :
    ((vw M o hi).view.loc (c : Thread nD τ) ↦[(vw M o hi).view.set]{q} hM.unread X : PP F) = slot M hM c q a k X := by
  rw [vw_set M ho]; rfl

/-- What it leaves at the other end. -/
theorem vw_dst (M : Memref sig .tc .vmem S16x4x128x256 .bf16) (hM : M.IsWhole) (c : Dev nD) {a : Fin 16} {k : Fin 4} {o : Fin 4 → ℕ}
    {hi : ∀ x, o x + S1x1x128x256.size x ≤ S16x4x128x256.size x} (ho : o = offs a k) {q : PosShare TreeShare}
    (X : S16x4x128x256.Idx → Elt F .bf16) (fd : M.view.ty.Contents (Elt F)) :
    ((vw M o hi).view.loc (c : Thread nD τ) ↦[(vw M o hi).view.set]{q}
        ((vw M o hi).view.write (Elt F) fd ((vw M o hi).view.read (Elt F) (hM.unread X)) Finset.univ) : PP F) = slot M hM c q a k X := by
  rw [← vw_src M hM c ho]
  exact pointsTo_congr (agree_of_read (vw M o hi).view (g := hM.unread X)
    (View.read_write_univ (v := (vw M o hi).view) fd ((vw M o hi).view.read (Elt F) (hM.unread X))))

/-! ## A whole buffer -/

variable {e : EltTy} (M : Memref sig .tc .vmem S16x4x128x256 e) (hM : M.IsWhole) (c : Dev nD)

/-- The chunks at the rotations `rs`, one sub-chunk after the other. -/
abbrev chunks (rs : List (Fin 16)) (Φ : Fin 16 → Fin 4 → PP F) : PP F :=
  bigSepL rs fun r => bigSepL subs fun k => Φ (rot r c) k

/-- The elements of a sub-chunk. -/
abbrev sset (b : Fin 16 × Fin 4) : Finset (Idx (M.view.loc (c : Thread nD τ))) := (M.access (rc b.1 b.2)).set

theorem rc_disjoint (b b' : Fin 16 × Fin 4) (h : b ≠ b') : Disjoint (sset M c b) (sset M c b') := by
  show Disjoint (M.access (rc b.1 b.2)).set (M.access (rc b'.1 b'.2)).set
  rw [View.set_slice, View.set_slice, Finset.disjoint_map, Finset.disjoint_left]
  intro i hi hi'
  rw [mem_rc] at hi hi'
  exact h (Prod.ext (Fin.ext (hi.1.symm.trans hi'.1)) (Fin.ext (hi.2.symm.trans hi'.2)))

include hM in
theorem rc_cover : Finset.univ.biUnion (sset M c) = Finset.univ := by
  refine Finset.eq_univ_iff_forall.mpr fun (j : M.view.ty.Idx) => ?_
  have hj : j ∈ M.view.set := by rw [hM.set_eq_univ]; exact Finset.mem_univ _
  obtain ⟨i, -, rfl⟩ := Finset.mem_map.mp hj
  refine Finset.mem_biUnion.mpr ⟨((i 0 : Fin 16), (i 1 : Fin 4)), Finset.mem_univ _, ?_⟩
  show _ ∈ (M.access (rc _ _)).set
  rw [View.set_slice]
  exact Finset.mem_map_of_mem _ (mem_rc.mpr ⟨rfl, rfl⟩)

/-- All sub-chunks, listed from a device. -/
theorem chunks_univ (rs : List (Fin 16)) (hrs : rs.Perm (List.finRange 16)) (Φ : Fin 16 → Fin 4 → PP F) :
    bigSep Finset.univ (fun b : Fin 16 × Fin 4 => Φ b.1 b.2) = chunks c rs Φ := by
  have hu : (Finset.univ : Finset (Fin 16)) = (rs.map fun r => rot r c).toFinset := by
    refine (Finset.eq_univ_iff_forall.mpr fun a => ?_).symm
    obtain ⟨r, rfl⟩ := rot_surj c a
    exact List.mem_toFinset.mpr (List.mem_map.mpr ⟨r, hrs.mem_iff.mpr (List.mem_finRange r), rfl⟩)
  have hn : (rs.map fun r => rot r c).Nodup := (hrs.nodup_iff.mpr (List.nodup_finRange 16)).map (rot_inj c)
  rw [BI.bigSep_univ_prod, bigSep_univ_eq_bigSepL _ hu hn, bigSepL_map]
  unfold chunks
  congr 1; funext r
  exact bigSep_univ_eq_bigSepL subs (by decide) (by decide) _

/-- A whole buffer is its sub-chunks, listed from any device in any order. -/
theorem whole_chunks (rs : List (Fin 16)) (hrs : rs.Perm (List.finRange 16)) (q : PosShare TreeShare) (X : S16x4x128x256.Idx → Elt F e) :
    (M.view.loc (c : Thread nD τ) ↦{q} hM.unread X : PP F) = chunks c rs fun a k => slot M hM c q a k X := by
  rw [← chunks_univ c rs hrs]
  exact Ring.pointsTo_blocks (sset M c) (fun b b' h => rc_disjoint M c b b' h) (rc_cover M hM c) _

/-- A whole buffer with anything in it gives its sub-chunks with anything in them, -/
theorem whole_chunksE (rs : List (Fin 16)) (hrs : rs.Perm (List.finRange 16)) (f : M.view.ty.Contents (Elt F)) :
    (M.view.loc (c : Thread nD τ) ↦{fullShare} f : PP F) ⊢ chunks c rs fun a k => slotE M hM c a k := by
  rw [← hM.unread_read f, whole_chunks M hM c rs hrs]
  exact bigSepL_mono fun r _ => bigSepL_mono fun k _ => slot_slotE M hM c _ _ _

/-- and back. -/
theorem chunksE_whole (rs : List (Fin 16)) (hrs : rs.Perm (List.finRange 16)) (f₀ : M.view.ty.Contents (Elt F)) :
    (chunks c rs fun a k => slotE M hM c a k : PP F) ⊢ iprop(∃ f, M.view.loc (c : Thread nD τ) ↦{fullShare} f) := by
  rw [← chunks_univ c rs hrs (fun a k => slotE M hM c a k)]
  refine BIBase.Entails.trans (BI.bigSep_mono fun b _ => (show (_ : PP F) ⊢ _ from ?_)) (Ring.pointsTo_blocks_join_exists (sset M c)
    (fun b b' h => rc_disjoint M c b b' h) (rc_cover M hM c) f₀)
  unfold slotE slot
  iintro ⟨%X, H⟩; iexists (hM.unread X); iexact H

end Cert.Kernel

end
-- ==== Proof.Kernel.Values.lean ====
module

public import proofs.«01_k».proof.Proof.Kernel.Slots

@[expose] public section

/-! # What the buffers hold

The contents of the buffers at each layer, as functions of the devices' inputs. All devices' activations are one array,
the same on every device; a device's partial products are an array of its own; what a direction's reduce-scatter carries
after so many additions is one array, each chunk of which is at that moment on one device. -/

noncomputable section

namespace Cert.Kernel

open Idealize.ShloMosaic Idealize.SL.Sem Facts₀ Facts

variable {F : FTy → Type} [FloatOps F] [Facts]

/-- The devices' inputs: rows of `x`, and their parts of the three layers' weights. -/
structure Inp (F : FTy → Type) [FloatOps F] where
  x : Dev nD → Vec F S512x256 .f32
  W : Fin 3 → Dev nD → Vec F S256x512 .f32
  U : Fin 3 → Dev nD → Vec F S512x256 .f32

variable (I : Inp F)

/-- A device's weights of a layer, as stored. -/
def wv (l : Fin 3) (c : Dev nD) : FVec F S1x256x512 .bf16 :=
  shapeCast S1x256x512 (truncf .bf16 (shapeCast S256x512 (I.W l c) shapeCasts_S256x512_S256x512 : FVec F S256x512 .f32) bitsLt_bf16_f32) shapeCasts_S256x512_S1x256x512
def uv (l : Fin 3) (c : Dev nD) : FVec F S1x512x256 .bf16 :=
  shapeCast S1x512x256 (truncf .bf16 (shapeCast S512x256 (I.U l c) shapeCasts_S512x256_S512x256 : FVec F S512x256 .f32) bitsLt_bf16_f32) shapeCasts_S512x256_S1x512x256

/-- A whole array of sixteen chunks. -/
abbrev Arr (F : FTy → Type) (e : EltTy) : Type := S16x4x128x256.Idx → Elt F e

/-- A sub-chunk as it is stored. -/
abbrev box {ft : FTy} (v : FVec F S128x256 ft) : FVec F S1x1x128x256 ft := shapeCast S1x1x128x256 v shapeCasts_S128x256_S1x1x128x256

/-- A sub-chunk of a device's rows of `x`. -/
def rowsOf (v : Vec F S512x256 .f32) (k : Fin 4) : Vec F S128x256 .f32 :=
  fun i => v ((Rect.unit (s := S512x256) ![128 * k.val, 0] S128x256.size (inbX k)).emb i)

/-- The partial products of a device from the activations. -/
def parOf (l : Fin 3) (A : Arr F .bf16) (c : Dev nD) : Arr F .f32 :=
  glue fun a k => box (mlp (sl A a k) (wv I l c) (uv I l c))

/-- What a direction's reduce-scatter carries. -/
def accOf (P : Dev nD → Arr F .f32) (d : Bool) : ℕ → Arr F .bf16
  | 0 => glue fun a k => box (truncf .bf16 (shapeCast S128x256 (sl (P (rot (-sg d (Fin.ofNat 16 (HN d))) a)) a k) shapeCasts_S1x1x128x256_S128x256 : FVec F S128x256 .f32) bitsLt_bf16_f32)
  | s + 1 => glue fun a k => box (addUp (sl (accOf P d s) a k) (sl (P (rot (-sg d (Fin.ofNat 16 (HN d - 1 - s))) a)) a k))

/-- The next activations. -/
def nextOf (P : Dev nD → Arr F .f32) : Arr F .bf16 :=
  glue fun a k => box (total (sl (accOf P true 7) a k) (sl (accOf P false 6) a k) (sl (P a) a k))

/-- The layers' weights by number. -/
abbrev lay (l : ℕ) : Fin 3 := Fin.ofNat 3 l

/-- The activations before layer `l`. -/
def Act : ℕ → Arr F .bf16
  | 0 => glue fun a k => box (truncf .bf16 (shapeCast S128x256 (rowsOf (I.x a) k) shapeCasts_S128x256_S128x256 : FVec F S128x256 .f32) bitsLt_bf16_f32)
  | l + 1 => nextOf (parOf I (lay l) (Act l))

/-- The partial products of layer `l`. -/
def Par (l : ℕ) (c : Dev nD) : Arr F .f32 := parOf I (lay l) (Act I l) c

/-- What the reduce-scatter of layer `l` carries. -/
def Acc (l : ℕ) (d : Bool) (s : ℕ) : Arr F .bf16 := accOf (Par I l) d s

/-- The result, the same on every device. -/
def Out : Arr F .f32 := extf .f32 (Act I 3 : FVec F S16x4x128x256 .bf16) bitsLt_bf16_f32

end Cert.Kernel

end
-- ==== Proof.Ideal.Block.lean ====
module

public import proofs.«01_k».proof.Proof.Kernel.Values
public import Idealize.ShloMosaic.Lib.Pointwise

@[expose] public section

set_option maxRecDepth 16384

/-! # One block in exact arithmetic

What a device's arithmetic on one sub-chunk is at an index, over the ideal numbers. -/

noncomputable section

namespace Cert.Kernel

open Idealize.ShloMosaic Idealize.SL.Sem Facts₀ Facts

variable [Facts]

/-- A stored sub-chunk at an index. -/
theorem box_apply {ft : FTy} (v : FVec Ideal S128x256 ft) (r : Fin 128) (j : Fin 256) :
    box v (ix4 0 0 r j) = v (ix2 r j) := by
  pointwise [box]

/-- A layer's two products of a sub-chunk at an index. -/
theorem mlp_apply (v : Vec Ideal S1x1x128x256 .bf16) (w : Vec Ideal S1x256x512 .bf16) (u : Vec Ideal S1x512x256 .bf16) (r : Fin 128) (j : Fin 256) :
    mlp v w u (ix2 r j) = ∑ h : Fin 512, max (∑ d : Fin 256, v (ix4 0 0 r d) * w (ix3 0 d h)) 0 * u (ix3 0 h j) := by
  pointwise [mlp]

/-- A device's stored weights at an index. -/
theorem wv_apply (I : Inp Ideal) (l : Fin 3) (c : Dev nD) (d : Fin 256) (h : Fin 512) :
    wv I l c (ix3 0 d h) = I.W l c (ix2 d h) := by
  pointwise [wv]

theorem uv_apply (I : Inp Ideal) (l : Fin 3) (c : Dev nD) (h : Fin 512) (j : Fin 256) :
    uv I l c (ix3 0 h j) = I.U l c (ix2 h j) := by
  pointwise [uv]

/-- One more partial product, at an index. -/
theorem addUp_apply (v : Vec Ideal S1x1x128x256 .bf16) (w : Vec Ideal S1x1x128x256 .f32) (r : Fin 128) (j : Fin 256) :
    addUp v w (ix2 r j) = v (ix4 0 0 r j) + w (ix4 0 0 r j) := by
  pointwise [addUp]

/-- The two directions' sums and the device's own, at an index. -/
theorem total_apply (v w : Vec Ideal S1x1x128x256 .bf16) (u : Vec Ideal S1x1x128x256 .f32) (r : Fin 128) (j : Fin 256) :
    total v w u (ix2 r j) = v (ix4 0 0 r j) + w (ix4 0 0 r j) + u (ix4 0 0 r j) := by
  pointwise [total]

/-- A sub-chunk of a device's rows, as stored, at an index. -/
theorem rowsOf_apply (v : Vec Ideal S512x256 .f32) (k : Fin 4) (r : Fin 128) (j : Fin 256) :
    rowsOf v k (ix2 r j) = v (ix2 (⟨128 * k.val + r.val, by omega⟩ : Fin 512) j) := by
  unfold rowsOf
  congr 1
  funext a
  match a with
  | 0 => exact Fin.ext (by show 128 * k.val + 1 * r.val = 128 * k.val + r.val; omega)
  | 1 => exact Fin.ext (by show 0 + 1 * j.val = j.val; omega)

/-- A sub-chunk of an array at an index. -/
theorem sl_apply {e : EltTy} (X : Arr Ideal e) (a : Fin 16) (k : Fin 4) (r : Fin 128) (j : Fin 256) :
    sl X a k (ix4 0 0 r j) = X (ix4 a k r j) := by
  unfold sl
  obtain ⟨h0, h1, h2, h3⟩ := rc_emb a k (ix4 0 0 r j)
  congr 1
  funext b
  match b with
  | 0 => exact Fin.ext h0
  | 1 => exact Fin.ext h1
  | 2 => exact Fin.ext h2
  | 3 => exact Fin.ext h3

/-- The array of given sub-chunks at an index. -/
theorem glue_apply {e : EltTy} (v : Fin 16 → Fin 4 → S1x1x128x256.Idx → Elt Ideal e) (a : Fin 16) (k : Fin 4) (r : Fin 128) (j : Fin 256) :
    glue v (ix4 a k r j) = v a k (ix4 0 0 r j) := by
  unfold glue
  congr 1
  funext b
  match b with
  | 0 => rfl
  | 1 => rfl
  | 2 => rfl
  | 3 => rfl

end Cert.Kernel

end
-- ==== Proof.Ideal.Layer.lean ====
module

public import proofs.«01_k».proof.Proof.Ideal.Block

@[expose] public section

/-! # A layer in exact arithmetic

What the arrays of a layer hold over the ideal numbers: a direction's reduce-scatter carries a sum of the devices' partial
products, the two directions and the device itself together sum over all devices. -/

noncomputable section

namespace Cert.Kernel

open Idealize.ShloMosaic Idealize.SL.Sem Facts₀ Facts

variable [Facts]

/-- A device's partial products at an index. -/
theorem parOf_apply (I : Inp Ideal) (l : Fin 3) (A : Arr Ideal .bf16) (c : Dev nD) (a : Fin 16) (k : Fin 4) (r : Fin 128) (j : Fin 256) :
    parOf I l A c (ix4 a k r j)
      = ∑ h : Fin 512, max (∑ d : Fin 256, A (ix4 a k r d) * I.W l c (ix2 d h)) 0 * I.U l c (ix2 h j) := by
  unfold parOf
  rw [glue_apply, box_apply, mlp_apply]
  simp only [sl_apply, wv_apply, uv_apply]

variable (P : Dev nD → Arr Ideal .f32)

/-- What a direction carries after `s` additions: the sum over the devices that it has passed. -/
theorem accOf_apply (d : Bool) (s : ℕ) (a : Fin 16) (k : Fin 4) (r : Fin 128) (j : Fin 256) :
    accOf P d s (ix4 a k r j) = ∑ t ∈ Finset.range (s + 1), (P (rot (-sg d (Fin.ofNat 16 (HN d - t))) a) (ix4 a k r j) : EReal) := by
  induction s with
  | zero =>
    rw [Finset.sum_range_one]
    unfold accOf
    rw [glue_apply, box_apply]
    exact (by pointwise : truncf (F := Ideal) .bf16 (shapeCast S128x256 (sl (P (rot (-sg d (Fin.ofNat 16 (HN d))) a)) a k) shapeCasts_S1x1x128x256_S128x256 : FVec Ideal S128x256 .f32) bitsLt_bf16_f32 (ix2 r j) = sl (P (rot (-sg d (Fin.ofNat 16 (HN d))) a)) a k (ix4 0 0 r j)).trans (sl_apply ..)
  | succ s ih =>
    rw [Finset.sum_range_succ, ← ih]
    show glue (e := .bf16) (fun a k => box (addUp (sl (accOf P d s) a k) (sl (P (rot (-sg d (Fin.ofNat 16 (HN d - 1 - s))) a)) a k))) (ix4 a k r j) = _
    rw [glue_apply, box_apply, addUp_apply, sl_apply, sl_apply, Nat.sub_sub, Nat.add_comm 1 s]

/-- The shifts of the two directions and of the device itself are all sixteen. -/
theorem shifts (f : Fin 16 → EReal) :
    (∑ t ∈ Finset.range 8, f (-sg true (Fin.ofNat 16 (HN true - t)))) + (∑ t ∈ Finset.range 7, f (-sg false (Fin.ofNat 16 (HN false - t)))) + f 0
      = ∑ n : Fin 16, f n := by
  have e1 : (∑ t ∈ Finset.range 8, f (-sg true (Fin.ofNat 16 (HN true - t)))) = f 8 + f 9 + f 10 + f 11 + f 12 + f 13 + f 14 + f 15 := by
    simp only [Finset.sum_range_succ, Finset.sum_range_zero, zero_add]; rfl
  have e2 : (∑ t ∈ Finset.range 7, f (-sg false (Fin.ofNat 16 (HN false - t)))) = f 7 + f 6 + f 5 + f 4 + f 3 + f 2 + f 1 := by
    simp only [Finset.sum_range_succ, Finset.sum_range_zero, zero_add]; rfl
  rw [e1, e2]
  simp only [Fin.sum_univ_succ, Fin.sum_univ_zero, add_zero]
  show _ = f 0 + (f 1 + (f 2 + (f 3 + (f 4 + (f 5 + (f 6 + (f 7 + (f 8 + (f 9 + (f 10 + (f 11 + (f 12 + (f 13 + (f 14 + f 15))))))))))))))
  ac_rfl

/-- A sum over the devices at all distances is the sum over the devices. -/
theorem sum_rot (g : Dev nD → EReal) (a : Dev nD) : ∑ n : Fin 16, g (rot n a) = ∑ c : Dev nD, g c := by
  refine Function.Bijective.sum_comp (e := fun n : Fin 16 => rot n a) ?_ g
  refine (Finite.injective_iff_bijective (α := Fin 16)).mp ?_
  intro m n h
  have h' := congrArg rank h
  unfold rot at h'
  rw [rank_order, rank_order] at h'
  exact add_left_cancel h'

/-- The next activations at an index: the sum of the devices' partial products. -/
theorem nextOf_apply (a : Fin 16) (k : Fin 4) (r : Fin 128) (j : Fin 256) :
    nextOf P (ix4 a k r j) = ∑ c : Dev nD, (P c (ix4 a k r j) : EReal) := by
  unfold nextOf
  rw [glue_apply, box_apply, total_apply, sl_apply, sl_apply, sl_apply, accOf_apply, accOf_apply,
    ← sum_rot (fun c => P c (ix4 a k r j)) a, ← shifts (fun n => P (rot n a) (ix4 a k r j))]
  congr 1
  show P a _ = P (rot 0 a) _
  rw [show rot 0 a = a from by unfold rot; rw [add_zero, order_rank]]

end Cert.Kernel

end
-- ==== Proof.RefRun.lean ====
module

public import proofs.«01_k».proof.Proof.Gen.ReferenceIdeal
public import Idealize.ShloMosaic.Lib.StableHlo.RunHlo
public import Idealize.ShloMosaic.Lib.KernelVsHost

@[expose] public section

/-! # The reference's run

The reference is a straight line of host operations on one device: its result is their composition, and its arguments
are kept. -/

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-- One layer: the second product of the positive part of the first. -/
def refLayer (x : FVec F S8192x256 .f32) (w : FVec F S256x8192 .f32) (u : FVec F S8192x256 .f32) : FVec F S8192x256 .f32 :=
  Host.dotGeneral dot_S8192x8192_S8192x256_S8192x256_1_0_0_1_n_n none
    (maximumf (Host.dotGeneral dot_S8192x256_S256x8192_S8192x8192_1_0_0_1_n_n none x w)
      (broadcastInDim S8192x8192 ![] Facts₀.bcast_S_S8192x8192 (constant S_ .f32 0x00000000#32 : FVec F S_ .f32))) u

/-- The result as the kernel's shape. -/
def result (x : FVec F S8192x256 .f32) : FVec F S16x4x128x256 .f32 := shapeCast S16x4x128x256 x Facts₀.shapeCasts_S8192x256_S16x4x128x256

variable (m : (ℓ : Loc nD τ sig) → Buf (Elt F) ℓ) (ρ : Dev nD → PrngReg)

/-- The reference's result and that its arguments are kept. -/
theorem run_main : θ_run defs (onTc (τ := τ) (main (F := F))) ⟨m, fun _ => 0, ρ⟩ fun r =>
    r.2.mem (((0 : Dev nD).tc : Thread nD τ).loc main_v12)
      = result (refLayer (refLayer (refLayer (m (((0 : Dev nD).tc : Thread nD τ).loc main_arg0))
          (m (((0 : Dev nD).tc : Thread nD τ).loc main_arg1)) (m (((0 : Dev nD).tc : Thread nD τ).loc main_arg4)))
          (m (((0 : Dev nD).tc : Thread nD τ).loc main_arg2)) (m (((0 : Dev nD).tc : Thread nD τ).loc main_arg5)))
          (m (((0 : Dev nD).tc : Thread nD τ).loc main_arg3)) (m (((0 : Dev nD).tc : Thread nD τ).loc main_arg6)))
    ∧ r.2.mem (((0 : Dev nD).tc : Thread nD τ).loc main_arg0) = m (((0 : Dev nD).tc : Thread nD τ).loc main_arg0)
    ∧ r.2.mem (((0 : Dev nD).tc : Thread nD τ).loc main_arg1) = m (((0 : Dev nD).tc : Thread nD τ).loc main_arg1)
    ∧ r.2.mem (((0 : Dev nD).tc : Thread nD τ).loc main_arg2) = m (((0 : Dev nD).tc : Thread nD τ).loc main_arg2)
    ∧ r.2.mem (((0 : Dev nD).tc : Thread nD τ).loc main_arg3) = m (((0 : Dev nD).tc : Thread nD τ).loc main_arg3)
    ∧ r.2.mem (((0 : Dev nD).tc : Thread nD τ).loc main_arg4) = m (((0 : Dev nD).tc : Thread nD τ).loc main_arg4)
    ∧ r.2.mem (((0 : Dev nD).tc : Thread nD τ).loc main_arg5) = m (((0 : Dev nD).tc : Thread nD τ).loc main_arg5)
    ∧ r.2.mem (((0 : Dev nD).tc : Thread nD τ).loc main_arg6) = m (((0 : Dev nD).tc : Thread nD τ).loc main_arg6) := by
  refine θ_run_mono (run_hlo defs (main (F := F)) (by hlo_seq) (by decide) (by decide) (by simp) ?_ m ρ) ?_
  · intro _ h
    (repeat (cases h with | head => rfl | tail _ h => ?_))
    exact nomatch h
  · intro r h
    refine ⟨(h 0 main_v12).trans ?_, (h 0 main_arg0).trans ?_, (h 0 main_arg1).trans ?_, (h 0 main_arg2).trans ?_, (h 0 main_arg3).trans ?_, (h 0 main_arg4).trans ?_, (h 0 main_arg5).trans ?_, (h 0 main_arg6).trans ?_⟩
    all_goals after_results
    all_goals rfl

/-- The arguments are kept and every semaphore counter is zero. -/
theorem frame : θ_run defs (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0 :=
  θ_run_mono (run_main m ρ) fun r h => ⟨fun c => by obtain rfl : c = 0 := Subsingleton.elim _ _; exact h.2, sem_eq_zero_of_no_sems (by decide) r.2⟩

end Cert.ReferenceIdeal.Run

end
-- ==== Proof.Ideal.Reference.lean ====
module

public import proofs.«01_k».proof.Proof.RefRun
public import Idealize.ShloMosaic.Lib.Pointwise

@[expose] public section

set_option maxRecDepth 16384

/-! # The reference in exact arithmetic

What a layer of the reference and its final reshape are at an index, over the ideal numbers. -/

noncomputable section

namespace Cert.ReferenceIdeal.Run

open Cert.ReferenceIdeal Cert.ReferenceIdeal.Gen
open Idealize.ShloMosaic

/-- A layer at an index. -/
theorem refLayer_apply (x : FVec Ideal S8192x256 .f32) (w : FVec Ideal S256x8192 .f32) (u : FVec Ideal S8192x256 .f32) (R : Fin 8192) (j : Fin 256) :
    refLayer x w u (ix2 R j) = ∑ H : Fin 8192, max (∑ d : Fin 256, x (ix2 R d) * w (ix2 d H)) 0 * u (ix2 H j) := by
  pointwise [refLayer]

/-- The row of the whole array that a sub-chunk's row is. -/
abbrev row (a : Fin 16) (k : Fin 4) (r : Fin 128) : Fin 8192 := ⟨512 * a.val + 128 * k.val + r.val, by omega⟩

/-- The result at an index. -/
theorem result_apply (x : FVec Ideal S8192x256 .f32) (a : Fin 16) (k : Fin 4) (r : Fin 128) (j : Fin 256) :
    result x (ix4 a k r j) = x (ix2 (row a k r) j) := by
  pointwise [result]
  congr 2
  apply Fin.ext
  show a.val * 512 + k.val * 128 + r.val = 512 * a.val + 128 * k.val + r.val
  omega

end Cert.ReferenceIdeal.Run

end
-- ==== Proof.Ideal.Equation.lean ====
module

public import proofs.«01_k».proof.Proof.Ideal.Layer
public import proofs.«01_k».proof.Proof.Ideal.Reference

@[expose] public section

/-! # The equation

Where the devices hold their blocks of the reference's arrays, the kernel's activations of each layer are the
reference's, sub-chunk by sub-chunk, and so are the results. -/

noncomputable section

namespace Cert.Kernel

open Idealize.ShloMosaic Idealize.SL.Sem
open Cert.ReferenceIdeal.Run (refLayer result row refLayer_apply result_apply)

/-- Where an index of a device's part is on an axis of the whole. -/
abbrev at16 (c : Fin 16) (h : Fin 512) : Fin 8192 := ⟨512 * c.val + h.val, by omega⟩

/-- A sum over an axis is the sum over the devices of the sums over their parts. -/
theorem sum_at16 (f : Fin 8192 → EReal) : ∑ c : Fin 16, ∑ h : Fin 512, f (at16 c h) = ∑ H : Fin 8192, f H := by
  rw [← Fintype.sum_prod_type' (fun c h => f (at16 c h))]
  refine Fintype.sum_equiv (finProdFinEquiv (m := 16) (n := 512)) _ _ fun p => congrArg f (Fin.ext ?_)
  show 512 * p.1.val + p.2.val = p.2.val + 512 * p.1.val
  omega

/-- The devices hold their blocks of the whole arrays. -/
structure Held (I : Inp Ideal) (x : FVec Ideal Cert.ReferenceIdeal.S8192x256 .f32) (W : Fin 3 → FVec Ideal Cert.ReferenceIdeal.S256x8192 .f32)
    (U : Fin 3 → FVec Ideal Cert.ReferenceIdeal.S8192x256 .f32) : Prop where
  x : ∀ c r j, I.x c (ix2 r j) = x (ix2 (at16 c r) j)
  W : ∀ l c d h, I.W l c (ix2 d h) = W l (ix2 d (at16 c h))
  U : ∀ l c h j, I.U l c (ix2 h j) = U l (ix2 (at16 c h) j)

variable [Facts] {I : Inp Ideal} {x : FVec Ideal Cert.ReferenceIdeal.S8192x256 .f32} {W : Fin 3 → FVec Ideal Cert.ReferenceIdeal.S256x8192 .f32}
    {U : Fin 3 → FVec Ideal Cert.ReferenceIdeal.S8192x256 .f32}

/-- The reference's activations before layer `l`. -/
def refAct (x : FVec Ideal Cert.ReferenceIdeal.S8192x256 .f32) (W : Fin 3 → FVec Ideal Cert.ReferenceIdeal.S256x8192 .f32)
    (U : Fin 3 → FVec Ideal Cert.ReferenceIdeal.S8192x256 .f32) : ℕ → FVec Ideal Cert.ReferenceIdeal.S8192x256 .f32
  | 0 => x
  | l + 1 => refLayer (refAct x W U l) (W (lay l)) (U (lay l))

/-- The kernel's first activations at an index. -/
theorem Act_zero (a : Fin 16) (k : Fin 4) (r : Fin 128) (j : Fin 256) :
    Act I 0 (ix4 a k r j) = I.x a (ix2 (⟨128 * k.val + r.val, by omega⟩ : Fin 512) j) := by
  show glue (e := .bf16) (fun a k => box (truncf .bf16 (shapeCast S128x256 (rowsOf (I.x a) k) Facts₀.shapeCasts_S128x256_S128x256 : FVec Ideal S128x256 .f32) Facts₀.bitsLt_bf16_f32)) (ix4 a k r j) = _
  rw [glue_apply, box_apply, ← rowsOf_apply (I.x a)]
  pointwise

/-- The kernel's activations before each layer are the reference's. -/
theorem Act_apply (H : Held I x W U) (l : ℕ) (a : Fin 16) (k : Fin 4) (r : Fin 128) (j : Fin 256) :
    Act I l (ix4 a k r j) = refAct x W U l (ix2 (row a k r) j) := by
  induction l generalizing a k r j with
  | zero =>
    rw [Act_zero, H.x]
    exact congrArg (fun R => x (ix2 R j)) (Fin.ext (by show 512 * a.val + (128 * k.val + r.val) = 512 * a.val + 128 * k.val + r.val; omega))
  | succ l ih =>
    show nextOf (parOf I (lay l) (Act I l)) (ix4 a k r j) = refLayer (refAct x W U l) (W (lay l)) (U (lay l)) (ix2 (row a k r) j)
    rw [nextOf_apply, refLayer_apply, ← sum_at16]
    refine Finset.sum_congr rfl fun c _ => ?_
    rw [parOf_apply]
    refine Finset.sum_congr rfl fun h _ => ?_
    rw [H.U]
    congr 2
    exact Finset.sum_congr rfl fun d _ => by rw [H.W, ih]

/-- The kernel's result is the reference's. -/
theorem Out_eq (H : Held I x W U) : Out I = result (refAct x W U 3) := by
  funext i
  obtain ⟨a, k, r, j, rfl⟩ : ∃ (a : Fin 16) (k : Fin 4) (r : Fin 128) (j : Fin 256), i = ix4 a k r j := ⟨i 0, i 1, i 2, i 3, eq_ix4 i⟩
  rw [result_apply, ← Act_apply H]
  rfl

end Cert.Kernel

end
-- ==== Proof.Kernel.Proto.lean ====
module

public import proofs.«01_k».proof.Proof.Kernel.Values

@[expose] public section

/-! # The protocol of the rings

The kernel runs in seven phases: an all-gather in every even one, a reduce-scatter in every odd one, a barrier with both
neighbours before each. Every device has one barrier cell, and for each direction, hop and sub-chunk a cell its transfer
signals when it has left and one that is signalled when the transfer to it has arrived. Each cell is used once in each
phase, so phases are the rounds of every cell. This module says what each cell's round hands over, what every device
owes, and in which order it may wait. -/

noncomputable section

namespace Cert.Kernel

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F] [Facts]

/-! ## Cells -/

/-- A transfer of a phase: direction, hop, sub-chunk. -/
abbrev XI : Type := Σ d : Bool, Fin (HN d) × Fin 4
/-- The cells of a device: its barrier's, and for each transfer the receiver's (`true`) and the sender's. -/
abbrev CS : Type := Option (Bool × XI)

/-- A cell's semaphore. -/
def csem : CS → SemLoc sig
  | none => .reg barS
  | some (true, ⟨d, h, k⟩) => .dma (rcvS d h k)
  | some (false, ⟨d, h, k⟩) => .dma (sndS d h k)

theorem csem_injective : Function.Injective csem := by
  exact @of_decide_eq_true _ (Fintype.decidableInjectiveFintype csem) (by chain_rfl)

/-- A device's cell. -/
def kcell (y : Dev nD × CS) : GSem nD τ sig := ((y.1 : Thread nD τ), csem y.2)

theorem kcell_injective : Function.Injective kcell := by
  rintro ⟨c, x⟩ ⟨c', x'⟩ h
  have h1 : c = c' := congrArg (fun g : GSem nD τ sig => g.1.1) h
  have h2 : x = x' := csem_injective (congrArg (fun g : GSem nD τ sig => g.2) h)
  rw [h1, h2]

abbrev barC (c : Dev nD) : GSem nD τ sig := kcell (c, none)
abbrev rcvC (c : Dev nD) (x : XI) : GSem nD τ sig := kcell (c, some (true, x))
abbrev sndC (c : Dev nD) (x : XI) : GSem nD τ sig := kcell (c, some (false, x))

open Classical in
/-- Which of the rings' cells a cell is, if it is one. -/
def find (g : GSem nD τ sig) : Option (Dev nD × CS) := if h : ∃ y, kcell y = g then some h.choose else none

theorem find_kcell (y : Dev nD × CS) : find (kcell y) = some y := by
  have h : ∃ y', kcell y' = kcell y := ⟨y, rfl⟩
  unfold find
  rw [dif_pos h]
  exact congrArg some (kcell_injective h.choose_spec)

theorem find_none {g : GSem nD τ sig} (h : ∀ y, kcell y ≠ g) : find g = none := dif_neg fun ⟨y, hy⟩ => h y hy

/-! ## Phases -/

/-- The buffer a direction moves in a phase. -/
def buf (p : ℕ) (d : Bool) : Memref sig .tc .vmem S16x4x128x256 .bf16 := if p % 2 = 0 then act else stg d
theorem buf_whole (p : ℕ) (d : Bool) : (buf p d).IsWhole := by
  unfold buf; split
  · exact Memref.isWhole_whole _
  · exact stg_whole d

/-- The shift of the chunk that arrives on a hop, and of the chunk that leaves. -/
def rr (p : ℕ) (d : Bool) (h : ℕ) : Fin 16 := if p % 2 = 0 then agr d h else rsr d h
def sr (p : ℕ) (d : Bool) (h : ℕ) : Fin 16 := rr p d h + sg d 1

variable (I : Inp F)

/-- What is moved on a hop. -/
def cont (p : ℕ) (d : Bool) (h : ℕ) : Arr F .bf16 := if p % 2 = 0 then Act I (p / 2) else Acc I (p / 2) d h

/-- The share of a chunk that a transfer takes: the all-gather's chunks are read while they leave, and the own one leaves
    both ways. -/
def shr (p : ℕ) (d : Bool) (h : ℕ) : PosShare TreeShare :=
  if p % 2 = 0 then (if h = 0 then (if d then fullShare.left.left else fullShare.left.right) else fullShare.left) else fullShare

/-- A sub-chunk of the buffer a direction moves in a phase. -/
abbrev bsl (p : ℕ) (d : Bool) (c : Dev nD) (q : PosShare TreeShare) (r : Fin 16) (k : Fin 4) (X : Arr F .bf16) : PP F :=
  slot (buf p d) (buf_whole p d) c q (rot r c) k X
abbrev bslE (p : ℕ) (d : Bool) (c : Dev nD) (r : Fin 16) (k : Fin 4) : PP F := slotE (buf p d) (buf_whole p d) c (rot r c) k

/-- The credit of a transfer. -/
abbrev N : ℕ := (vw act (offs 0 0) (offs_inb 0 0)).view.dmaCredit

theorem N_pos : 0 < N := of_decide_eq_true (by chain_rfl)

theorem amount_eq (p : ℕ) (d : Bool) (o : Fin 4 → ℕ) (hi : ∀ a, o a + S1x1x128x256.size a ≤ S16x4x128x256.size a) :
    (vw (buf p d) o hi).view.dmaCredit = N := by
  unfold buf
  split
  · rfl
  · cases d <;> rfl

/-! ## What the cells hand over -/

/-- A transfer's two ends: the chunk where it arrived, with the sender's mark for the next barrier; the share that left. -/
def rcvPay (c : Dev nD) (p : ℕ) (x : XI) : PP F :=
  iprop(bsl p x.1 c fullShare (rr p x.1 x.2.1.val) x.2.2 (cont I p x.1 x.2.1.val) ∗ reached ER (barC (nb (!x.1) c)) (p + 1))
def sndPay (c : Dev nD) (p : ℕ) (x : XI) : PP F :=
  bsl p x.1 c (shr p x.1 x.2.1.val) (sr p x.1 x.2.1.val) x.2.2 (cont I p x.1 x.2.1.val)

/-- All transfers of a direction. -/
abbrev hk (d : Bool) (Φ : Fin (HN d) → Fin 4 → PP F) : PP F := bigSepL (hops d) fun h => bigSepL subs fun k => Φ h k

/-- What the neighbour in direction `d` says with its barrier signal: its chunks to be written and that it waits for them. -/
def barPay (c : Dev nD) (p : ℕ) (d : Bool) : PP F :=
  hk d fun h k => iprop(bslE p d (nb d c) (rr p d h.val) k ∗ reached ER (rcvC (nb d c) ⟨d, h, k⟩) p)

instance storable_list {ι : Type} : ∀ (l : List ι) (Φ : ι → PP F) [∀ i, BI.Storable (upEmb : UEmb _ (MM F)) (Φ i)],
    BI.Storable (upEmb : UEmb _ (MM F)) (bigSepL l Φ)
  | [], Φ, _ => by rw [bigSepL_nil]; exact Storable.emp _
  | i :: l, Φ, _ => by rw [bigSepL_cons']; have := storable_list l Φ; infer_instance

instance (c : Dev nD) (p : ℕ) (x : XI) : BI.Storable (upEmb : UEmb _ (MM F)) (rcvPay I c p x) := by unfold rcvPay; infer_instance
instance (c : Dev nD) (p : ℕ) (x : XI) : BI.Storable (upEmb : UEmb _ (MM F)) (sndPay I c p x) := by unfold sndPay; infer_instance
instance (c : Dev nD) (p : ℕ) (d : Bool) : BI.Storable (upEmb : UEmb _ (MM F)) (barPay (F := F) c p d) := by unfold barPay; infer_instance

/-- The credit of a cell's duty. -/
def amt : CS → ℕ
  | none => 1
  | some _ => N

/-- The schedule: seven rounds, two signals a round on a barrier cell, one transfer a round on any other. -/
def Rd : Rounds.Schedule (GSem nD τ sig) Bool (MM F) where
  duties g r := match find g with
    | some (_, none) => if r < 7 then Finset.univ else ∅
    | some (_, some _) => if r < 7 then {false} else ∅
    | none => ∅
  unitless _ := False
  amount g _ _ := match find g with
    | some (_, cs) => amt cs
    | none => 1
  payload g r d := match find g with
    | some (c, none) => barPay c r d
    | some (c, some (true, x)) => rcvPay I c r x
    | some (c, some (false, x)) => sndPay I c r x
    | none => iprop(emp)
  amount_pos g _ _ _ := by
    split
    · rename_i cs _; cases cs
      · exact Nat.one_pos
      · exact N_pos
    · exact Nat.one_pos

instance Rd_payload_storable (g : GSem nD τ sig) (r : ℕ) (d : Bool) :
    BI.Storable (upEmb : UEmb _ (MM F)) ((Rd I).payload g r d) := by
  dsimp only [Rd]
  split <;> infer_instance

theorem duties_bar (c : Dev nD) {r : ℕ} (hr : r < 7) : (Rd I).duties (barC c) r = Finset.univ := by
  dsimp only [Rd]; rw [find_kcell]; exact if_pos hr
theorem duties_x (c : Dev nD) (b : Bool × XI) {r : ℕ} (hr : r < 7) : (Rd I).duties (kcell (c, some b)) r = {false} := by
  dsimp only [Rd]; rw [find_kcell]; exact if_pos hr
theorem duties_later (y : Dev nD × CS) : ∀ r, 7 ≤ r → (Rd I).duties (kcell y) r = ∅ := fun r hr => by
  obtain ⟨c, _ | b⟩ := y <;> · dsimp only [Rd]; rw [find_kcell]; exact if_neg (by omega)
theorem amount_k (y : Dev nD × CS) (r : ℕ) (d : Bool) : (Rd I).amount (kcell y) r d = amt y.2 := by
  dsimp only [Rd]; rw [find_kcell]
theorem payload_bar (c : Dev nD) (r : ℕ) (d : Bool) : (Rd I).payload (barC c) r d = barPay c r d := by
  dsimp only [Rd]; rw [find_kcell]
theorem payload_rcv (c : Dev nD) (x : XI) (r : ℕ) (d : Bool) : (Rd I).payload (rcvC c x) r d = rcvPay I c r x := by
  dsimp only [Rd]; rw [find_kcell]
theorem payload_snd (c : Dev nD) (x : XI) (r : ℕ) (d : Bool) : (Rd I).payload (sndC c x) r d = sndPay I c r x := by
  dsimp only [Rd]; rw [find_kcell]
theorem expect_bar (c : Dev nD) {r : ℕ} (hr : r < 7) : (Rd I).expect (barC c) r = 2 := by
  unfold Schedule.expect Schedule.amountOf
  rw [duties_bar I c hr, Finset.sum_congr rfl fun d _ => amount_k I (c, none) r d]; rfl
theorem expect_x (c : Dev nD) (b : Bool × XI) {r : ℕ} (hr : r < 7) : (Rd I).expect (kcell (c, some b)) r = N := by
  unfold Schedule.expect Schedule.amountOf
  rw [duties_x I c b hr, Finset.sum_singleton, amount_k]; rfl

theorem rest_bar (c : Dev nD) {r : ℕ} (hr : r < 7) :
    bigSep ((Rd I).duties (barC c) r \ ∅) (fun d => (Rd I).payload (barC c) r d) = iprop(barPay c r false ∗ barPay c r true) := by
  rw [Finset.sdiff_empty, duties_bar I c hr, bigSep_univ_eq_bigSepL [false, true] (by decide) (by decide), bigSepL_cons_cons, bigSepL_singleton,
    payload_bar, payload_bar]
  rfl
theorem rest_x (c : Dev nD) (b : Bool × XI) {r : ℕ} (hr : r < 7) :
    bigSep ((Rd I).duties (kcell (c, some b)) r \ ∅) (fun d => (Rd I).payload (kcell (c, some b)) r d) = (Rd I).payload (kcell (c, some b)) r false := by
  rw [Finset.sdiff_empty, duties_x I c b hr, bigSep_singleton]

/-! ## What a device owes, and the levels of the waits -/

/-- A debt: which neighbour's cell, in which phase. -/
abbrev Debt : Type := Bool × CS × ℕ

def tally (c : Dev nD) (o : Debt) : CellTallies nD τ sig ℕ := tallyAt (kcell (nb o.1 c, o.2.1)) o.2.2 (amt o.2.1)

/-- What a device owes by a list of debts. -/
def owe (c : Dev nD) (L : List Debt) : CellTallies nD τ sig ℕ := L.foldr (fun o T => T + tally c o) 0

/-- A cell's level in a phase: senders' cells never matter; a phase's barrier comes before its hops, these in order. -/
def lvC : CS → ℕ → ℕ
  | none, p => 10 * p + 1
  | some (true, x), p => 10 * p + 2 + x.2.1.val
  | some (false, _), _ => 0

def lv (g : GSem nD τ sig) (p : ℕ) : ℕ := match find g with
  | some (_, cs) => lvC cs p
  | none => 0

def LL (g : GSem nD τ sig) : Finset ℕ := if g.1.2 = .tc then Finset.range 7 else ∅

theorem LL_tc (c : Dev nD) (sm : SemLoc sig) : LL ((c : Thread nD τ), sm) = Finset.range 7 := if_pos rfl
theorem LL_of_ne (g : GSem nD τ sig) (h : g.1.2 ≠ .tc) : LL g = ∅ := if_neg h
theorem lv_k (y : Dev nD × CS) (p : ℕ) : lv (kcell y) p = lvC y.2 p := by unfold lv; rw [find_kcell]

/-- Every debt of a list is in a phase, and its level is above `n`. -/
def Above (n : ℕ) (L : List Debt) : Prop := ∀ o ∈ L, o.2.2 < 7 ∧ n < lvC o.2.1 o.2.2

theorem Above.nil (n : ℕ) : Above n [] := fun _ h => absurd h (List.not_mem_nil)
theorem Above.tail {n : ℕ} {o : Debt} {L : List Debt} (h : Above n (o :: L)) : Above n L := fun x hx => h x (List.mem_cons_of_mem _ hx)
theorem Above.append {n : ℕ} {L L' : List Debt} (h : Above n L) (h' : Above n L') : Above n (L ++ L') := fun x hx =>
  (List.mem_append.mp hx).elim (h x) (h' x)
theorem Above.right {n : ℕ} {L L' : List Debt} (h : Above n (L ++ L')) : Above n L' := fun x hx => h x (List.mem_append_right _ hx)
theorem Above.mono {m n : ℕ} {L : List Debt} (h : Above n L) (hm : m ≤ n) : Above m L := fun x hx => ⟨(h x hx).1, by have := (h x hx).2; omega⟩
theorem Above.flatMap {n : ℕ} {ι : Type} {l : List ι} {f : ι → List Debt} (h : ∀ i ∈ l, Above n (f i)) : Above n (l.flatMap f) := fun x hx => by
  obtain ⟨i, hi, hx⟩ := List.mem_flatMap.mp hx
  exact h i hi x hx

theorem owe_pos (c : Dev nD) : ∀ (L : List Debt) (g : GSem nD τ sig) (i : ℕ), 0 < owe c L g i → ∃ o ∈ L, g = kcell (nb o.1 c, o.2.1) ∧ i = o.2.2
  | [], g, i, h => absurd h (Nat.lt_irrefl 0)
  | o :: L, g, i, h => by
    have h' : 0 < owe c L g i + tally c o g i := h
    by_cases hL : 0 < owe c L g i
    · obtain ⟨o', ho', e⟩ := owe_pos c L g i hL
      exact ⟨o', List.mem_cons_of_mem _ ho', e⟩
    · have h2 : 0 < tally c o g i := by omega
      unfold tally at h2
      rw [tallyAt_apply] at h2
      refine ⟨o, List.mem_cons_self, ?_⟩
      by_contra hn
      rw [if_neg hn] at h2
      exact absurd h2 (Nat.lt_irrefl 0)

/-- A wait in a phase is allowed when every debt's level is above the cell's. -/
theorem may_wait (c : Dev nD) (sm : SemLoc sig) {p n : ℕ} (hp : p < 7) (hn : lv ((c : Thread nD τ), sm) p = n) {L : List Debt} (hL : Above n L) :
    (levAts LL lv : PP F) ⊢ MayWait (c : Thread nD τ) sm p (owe c L) :=
  mayWait_of_levAts (by rw [LL_tc]; exact Finset.mem_range.mpr hp) fun g i hg => by
    obtain ⟨o, ho, rfl, rfl⟩ := owe_pos c L g i hg
    refine ⟨by unfold kcell; rw [LL_tc]; exact Finset.mem_range.mpr (hL o ho).1, ?_⟩
    rw [lv_k, hn]; exact (hL o ho).2

/-- What a device owes, whatever it has waited for. -/
def owesW (c : Dev nD) (L : List Debt) : PP F := iprop(∃ W, owes (c : Thread nD τ) (owe c L) W)

/-! ## The debts in program order -/

def sendO (p : ℕ) (d : Bool) (h : ℕ) (k : Fin 4) : List Debt := if hh : h < HN d then [(d, some (true, ⟨d, ⟨h, hh⟩, k⟩), p)] else []
def barO (p : ℕ) : List Debt := [(false, none, p), (true, none, p)]
def startO (p : ℕ) : List Debt := subs.flatMap fun k => sendO p true 0 k ++ sendO p false 0 k
def agHopO (p h : ℕ) : List Debt := subs.flatMap fun k => sendO p true (h + 1) k ++ sendO p false (h + 1) k
def rsHopO (p h : ℕ) : List Debt := (subs.flatMap fun k => sendO p true (h + 1) k) ++ (subs.flatMap fun k => sendO p false (h + 1) k)
def agO (p : ℕ) : List Debt := startO p ++ (hops true).flatMap fun h => agHopO p h.val
def rsO (p : ℕ) : List Debt := startO p ++ (hops true).flatMap fun h => rsHopO p h.val
def layerO (l : ℕ) : List Debt := barO (2 * l + 1) ++ (rsO (2 * l + 1) ++ (barO (2 * l + 2) ++ agO (2 * l + 2)))
def allO : List Debt := barO 0 ++ (agO 0 ++ (layerO 0 ++ (layerO 1 ++ layerO 2)))

theorem above_sendO {p n : ℕ} (hp : p < 7) (d : Bool) (h : ℕ) (k : Fin 4) (hn : n < 10 * p + 2 + h) : Above n (sendO p d h k) := by
  unfold sendO
  split
  · intro o ho
    rw [List.mem_singleton.mp ho]
    exact ⟨hp, hn⟩
  · exact Above.nil n
theorem above_startO {p n : ℕ} (hp : p < 7) (hn : n < 10 * p + 2) : Above n (startO p) :=
  Above.flatMap fun k _ => (above_sendO hp true 0 k hn).append (above_sendO hp false 0 k hn)
theorem above_agHopO {p n : ℕ} (hp : p < 7) (h : ℕ) (hn : n < 10 * p + 3 + h) : Above n (agHopO p h) :=
  Above.flatMap fun k _ => (above_sendO hp true (h + 1) k (by omega)).append (above_sendO hp false (h + 1) k (by omega))
theorem above_rsHopO {p n : ℕ} (hp : p < 7) (h : ℕ) (hn : n < 10 * p + 3 + h) : Above n (rsHopO p h) :=
  (Above.flatMap fun k _ => above_sendO hp true (h + 1) k (by omega)).append (Above.flatMap fun k _ => above_sendO hp false (h + 1) k (by omega))
theorem above_barO {p n : ℕ} (hp : p < 7) (hn : n < 10 * p + 1) : Above n (barO p) := by
  intro o ho
  rcases List.mem_cons.mp ho with rfl | ho
  · exact ⟨hp, hn⟩
  · rw [List.mem_singleton.mp ho]; exact ⟨hp, hn⟩
theorem above_agO {p n : ℕ} (hp : p < 7) (hn : n < 10 * p + 2) : Above n (agO p) :=
  (above_startO hp hn).append (Above.flatMap fun h _ => above_agHopO hp h.val (by omega))
theorem above_rsO {p n : ℕ} (hp : p < 7) (hn : n < 10 * p + 2) : Above n (rsO p) :=
  (above_startO hp hn).append (Above.flatMap fun h _ => above_rsHopO hp h.val (by omega))
theorem above_layerO {l n : ℕ} (hl : l < 3) (hn : n < 20 * l + 11) : Above n (layerO l) :=
  (above_barO (by omega) (by omega)).append ((above_rsO (by omega) (by omega)).append
    ((above_barO (by omega) (by omega)).append (above_agO (by omega) (by omega))))
theorem above_allO : Above 0 allO :=
  (above_barO (by omega) (by omega)).append ((above_agO (by omega) (by omega)).append
    ((above_layerO (by omega) (by omega)).append ((above_layerO (by omega) (by omega)).append (above_layerO (by omega) (by omega)))))

/-! ## The standing facts -/

/-- The cells' invariants under the names they were allocated at, and the levels. -/
def Ctx (K : Dev nD × CS → ℕ) : PP F :=
  iprop((bigSep Finset.univ fun y => cellInv ER (Rd I) (K y) (kcell y)) ∗ levAts LL lv)

instance (K : Dev nD × CS → ℕ) : BI.Persistent (Ctx I K) := by unfold Ctx; infer_instance

theorem Ctx.cell (K : Dev nD × CS → ℕ) (y : Dev nD × CS) : Ctx I K ⊢ cellInv ER (Rd I) (K y) (kcell y) := by
  unfold Ctx
  refine BIBase.Entails.trans (sep_mono_left (Entails.of_eq (BI.bigSep_erase (Finset.mem_univ y)))) ?_
  show iprop((cellInv ER (Rd I) (K y) (kcell y) ∗ bigSep (Finset.univ.erase y) fun y => cellInv ER (Rd I) (K y) (kcell y)) ∗ levAts LL lv) ⊢ _
  iintro ⟨⟨#H, -⟩, -⟩; iexact H
theorem Ctx.lev (K : Dev nD × CS → ℕ) : Ctx I K ⊢ levAts LL lv := by
  unfold Ctx; iintro ⟨-, #H⟩; iexact H
theorem Ctx.may (K : Dev nD × CS → ℕ) (c : Dev nD) (sm : SemLoc sig) {p n : ℕ} (hp : p < 7) (hn : lv ((c : Thread nD τ), sm) p = n)
    {L : List Debt} (hL : Above n L) : Ctx I K ⊢ MayWait (c : Thread nD τ) sm p (owe c L) :=
  by
  have h2 : (levAts LL lv : PP F) ⊢ MayWait (c : Thread nD τ) sm p (owe c L) := may_wait c sm hp hn hL
  unfold Ctx
  iintro ⟨-, #H⟩
  iapply h2
  iexact H

end Cert.Kernel

end
-- ==== Proof.Kernel.Steps.lean ====
module

public import proofs.«01_k».proof.Proof.Kernel.Proto

@[expose] public section

/-! # The steps of a phase

One triple each for sending a sub-chunk, waiting for one to arrive, waiting for one to have left, and the barrier. -/

noncomputable section

namespace Cert.Kernel

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F] [Facts]

theorem nb_nb (d : Bool) (c : Dev nD) : nb (!d) (nb d c) = c := by
  rw [nb_eq, nb_eq, rot_rot, show sg d 1 + sg (!d) 1 = 0 by revert d; decide, rot_zero]

/-- The chunk that arrives at the neighbour is the one that left. -/
theorem rot_rr (p : ℕ) (d : Bool) (h : ℕ) (c : Dev nD) : rot (rr p d h) (nb d c) = rot (sr p d h) c := by
  rw [nb_eq, rot_rot]
  unfold sr
  generalize rr p d h = a
  have : ∀ a b : Fin 16, a + b = b + a := by decide +kernel
  rw [this]

variable (I : Inp F)

/-- What a send takes beside its sub-chunk: where it is to land, and the cells' tokens and marks. -/
def SendR (p : ℕ) (c : Dev nD) (x : XI) : PP F :=
  iprop(bslE p x.1 (nb x.1 c) (rr p x.1 x.2.1.val) x.2.2 ∗ reached ER (rcvC (nb x.1 c) x) p ∗ dutyTok ER (rcvC (nb x.1 c) x) p false
    ∗ dutyTok ER (sndC c x) p false ∗ reached ER (sndC c x) p ∗ reached ER (barC c) (p + 1))

/-- The credit a send leaves. -/
abbrev sndCred (p : ℕ) (c : Dev nD) (x : XI) : PP F := cred (tallyAt (sndC c x) p N)
/-- The sub-chunk a send takes. -/
abbrev sndSlot (p : ℕ) (c : Dev nD) (x : XI) : PP F :=
  bsl p x.1 c (shr p x.1 x.2.1.val) (sr p x.1 x.2.1.val) x.2.2 (cont I p x.1 x.2.1.val)
/-- The sub-chunk a wait brings. -/
abbrev rcvSlot (p : ℕ) (c : Dev nD) (x : XI) : PP F :=
  bsl p x.1 c fullShare (rr p x.1 x.2.1.val) x.2.2 (cont I p x.1 x.2.1.val)
/-- What waiting for an arrival takes, and what it leaves beside the sub-chunk. -/
def AwR (p : ℕ) (c : Dev nD) (x : XI) : PP F := iprop(atPos ER (rcvC c x) p ∅ 0 ∗ cred (tallyAt (rcvC c x) p N))
def AwD (p : ℕ) (c : Dev nD) (x : XI) : PP F :=
  iprop(atPos ER (rcvC c x) (p + 1) ∅ 0 ∗ reached ER (rcvC c x) (p + 1) ∗ reached ER (barC (nb (!x.1) c)) (p + 1))
/-- The position at a sender's cell, and after the wait. -/
abbrev SnR (p : ℕ) (c : Dev nD) (x : XI) : PP F := atPos ER (sndC c x) p ∅ 0
def SnD (p : ℕ) (c : Dev nD) (x : XI) : PP F := iprop(atPos ER (sndC c x) (p + 1) ∅ 0 ∗ reached ER (sndC c x) (p + 1))

variable {I} {K : Dev nD × CS → ℕ} {c : Dev nD}

/-- Sending a sub-chunk. -/
theorem Tr.send {p : ℕ} (hp : p < 7) (d : Bool) (h : Fin (HN d)) (k : Fin 4) (M : Memref sig .tc .vmem S16x4x128x256 .bf16) (hM : M.IsWhole)
    (hb : M = buf p d) {o : Fin 4 → ℕ} {hi : ∀ a, o a + S1x1x128x256.size a ≤ S16x4x128x256.size a}
    {hw : (Rect.unit (s := S16x4x128x256) o S1x1x128x256.size hi).WholeWords (EltTy.packing .bf16)} (ho : o = offs (rot (sr p d h.val) c) k)
    (L : List Debt) :
    Tr (Ctx I K) c iprop(SendR p c ⟨d, h, k⟩ ∗ sndSlot I p c ⟨d, h, k⟩ ∗ owesW c (sendO p d h.val k ++ L)) (send d h k c M hM o hi hw)
      fun _ => iprop(sndCred p c ⟨d, h, k⟩ ∗ owesW c L) := by
  subst hb
  have hO : sendO p d h.val k ++ L = (d, some (true, ⟨d, h, k⟩), p) :: L := by unfold sendO; rw [dif_pos h.isLt]; rfl
  have ho' : o = offs (rot (rr p d h.val) (nb d c)) k := by rw [rot_rr]; exact ho
  have hc1 := Ctx.cell I K (c, some (false, ⟨d, h, k⟩))
  have hc2 := Ctx.cell I K (nb d c, some (true, ⟨d, h, k⟩))
  have hy1 := payload_snd I c ⟨d, h, k⟩ p false
  have hy2 := payload_rcv I (nb d c) ⟨d, h, k⟩ p false
  unfold sndPay at hy1
  unfold rcvPay at hy2
  dsimp only at hy1 hy2
  rw [nb_nb] at hy2
  rw [hO]
  unfold Tr Cert.Kernel.send Prog.lift SendR owesW
  dsimp only [sndSlot, bslE]
  unfold slotE
  iintro ⟨#HC, ⟨⟨%Y, Hd⟩, #Hr2, Ht2, Ht1, #Hr1, #HrB⟩, Hs, %W, HO⟩
  ihave #HI1 := hc1 $$ HC
  ihave #HI2 := hc2 $$ HC
  ihave Hs' := (Entails.of_eq (vw_src (buf p d) (buf_whole p d) c (hi := hi) ho (q := shr p d h.val) (cont I p d h.val)).symm) $$ Hs
  ihave Hd' := (Entails.of_eq (vw_src (buf p d) (buf_whole p d) (nb d c) (hi := hi) ho' (q := fullShare) Y).symm) $$ Hd
  iapply (Rounds.wp_send_pointsTo_with 𝒱₀ ER (Rd I) (c : Thread nD τ) none (κ₁ := K (c, some (false, ⟨d, h, k⟩)))
    (κ₂ := K (nb d c, some (true, ⟨d, h, k⟩))) (r₁ := p) (r₂ := p) (d₁ := false) (d₂ := false)
    (fd := (buf_whole p d).unread Y) (F := reached ER (barC c) (p + 1))
    (show false ∈ (Rd I).duties (sndC c ⟨d, h, k⟩) p by rw [duties_x I c (false, ⟨d, h, k⟩) hp]; exact Finset.mem_singleton_self _)
    (show false ∈ (Rd I).duties (rcvC (nb d c) ⟨d, h, k⟩) p by rw [duties_x I (nb d c) (true, ⟨d, h, k⟩) hp]; exact Finset.mem_singleton_self _)
    p p N (amount_eq p d o hi) (amount_k I (c, some (false, ⟨d, h, k⟩)) p false) (amount_k I (nb d c, some (true, ⟨d, h, k⟩)) p false)
    (owe c L) rfl (W := W)
    ((Entails.of_eq (vw_src (buf p d) (buf_whole p d) c (hi := hi) ho (q := shr p d h.val) (cont I p d h.val))).trans (Entails.of_eq hy1.symm))
    ((sep_mono_left (Entails.of_eq (vw_dst (buf p d) (buf_whole p d) (nb d c) (hi := hi) ho' (q := fullShare) (cont I p d h.val) _))).trans (Entails.of_eq hy2.symm))) $$ [Hs' Hd' HO Ht1 Ht2]
  · isplitr; · iexact HI1
    isplitr; · iexact HI2
    isplitl [Hs']; · iexact Hs'
    isplitl [Hd']
    · isplitl; · iexact Hd'
      iexact HrB
    isplitl [HO]; · iexact HO
    isplitl [Ht1]; · iexact Ht1
    isplitr; · iexact Hr1
    isplitl [Ht2]; · iexact Ht2
    iexact Hr2
  iintro ⟨Hc, HO⟩
  rw [wp_ret]; imodintro
  isplitl [Hc]; · iexact Hc
  iexists W; iexact HO

theorem act_amount (o : Fin 4 → ℕ) (hi : ∀ a, o a + S1x1x128x256.size a ≤ S16x4x128x256.size a) : (vw act o hi).view.dmaCredit = N := rfl

/-- Waiting for a transfer's cell. -/
theorem Tr.await_cell {p n : ℕ} (hp : p < 7) (b : Bool × XI) (sm : DmaSem sig) (hsm : csem (some b) = .dma sm)
    (M : Memref sig .tc .vmem S16x4x128x256 .bf16) (hM : M.IsWhole)
    {o : Fin 4 → ℕ} {hi : ∀ a, o a + S1x1x128x256.size a ≤ S16x4x128x256.size a}
    {hw : (Rect.unit (s := S16x4x128x256) o S1x1x128x256.size hi).WholeWords (EltTy.packing .bf16)}
    (hN : (vw M o hi).view.dmaCredit = N) {L : List Debt} (hn : lvC (some b) p = n) (hL : Above n L) :
    Tr (Ctx I K) c iprop((atPos ER (kcell (c, some b)) p ∅ 0 ∗ cred (tallyAt (kcell (c, some b)) p N)) ∗ owesW c L) (await sm M hM o hi hw)
      fun _ => iprop((atPos ER (kcell (c, some b)) (p + 1) ∅ 0 ∗ reached ER (kcell (c, some b)) (p + 1) ∗ (Rd I).payload (kcell (c, some b)) p false) ∗ owesW c L) := by
  have hc1 := Ctx.cell I K (c, some b)
  have hkc : kcell (c, some b) = ((c : Thread nD τ), SemLoc.dma sm) := by unfold kcell; rw [hsm]
  have hm := Ctx.may I K c (.dma sm) (n := n) hp (by rw [← hkc, lv_k]; exact hn) hL
  have hex := expect_x I c b hp
  have hre := rest_x I c b hp
  rw [hkc] at hc1 hex hre ⊢
  unfold Tr await Prog.lift owesW
  iintro ⟨#HC, ⟨Hat, Hc⟩, %W, HO⟩
  ihave #HI := hc1 $$ HC
  iapply (Rounds.wp_wait_rest_token 𝒱₀ ER (Rd I) (c : Thread nD τ) none (κ := K (c, some b))
      (wpE_waitDma2_eq 𝒱₀ (c : Thread nD τ) none Set.univ) (Set.mem_univ _) p (O := owe c L) (W := W) (R := p) (m := 0) (T := ∅)
      (by rw [Nat.zero_add, hex]; first | done | exact hN)) $$ [Hat Hc HO]
  · isplitr; · iexact HI
    isplitl [Hc]; · rw [hN]; iexact Hc
    isplitl [HO]; · iexact HO
    isplitr; · iapply hm; iexact HC
    iexact Hat
  rw [hre]
  iintro ⟨HO, Hat, #Hr, Hp⟩
  rw [wp_ret]; imodintro
  isplitr [HO]
  · isplitl [Hat]; · iexact Hat
    isplitr; · iexact Hr
    iexact Hp
  · iexists _; iexact HO

/-- Waiting for an arrival. -/
theorem Tr.await_rcv {p : ℕ} (hp : p < 7) (d : Bool) (h : Fin (HN d)) (k : Fin 4) (M : Memref sig .tc .vmem S16x4x128x256 .bf16) (hM : M.IsWhole)
    (hb : M = buf p d) {o : Fin 4 → ℕ} {hi : ∀ a, o a + S1x1x128x256.size a ≤ S16x4x128x256.size a}
    {hw : (Rect.unit (s := S16x4x128x256) o S1x1x128x256.size hi).WholeWords (EltTy.packing .bf16)} {L : List Debt} (hL : Above (10 * p + 2 + h.val) L) :
    Tr (Ctx I K) c iprop(AwR p c ⟨d, h, k⟩ ∗ owesW c L) (await (rcvS d h k) M hM o hi hw)
      fun _ => iprop((AwD p c ⟨d, h, k⟩ ∗ rcvSlot I p c ⟨d, h, k⟩) ∗ owesW c L) := by
  subst hb
  refine (Tr.await_cell hp (true, ⟨d, h, k⟩) (rcvS d h k) rfl (buf p d) hM (amount_eq p d o hi) rfl hL).conseq (Entails.refl _) fun _ => ?_
  rw [payload_rcv]
  unfold AwD rcvPay
  iintro ⟨⟨H1, H2, H3, H4⟩, H5⟩
  isplitr [H5]
  · isplitr [H3]
    · isplitl [H1]; · iexact H1
      isplitl [H2]; · iexact H2
      iexact H4
    · iexact H3
  · iexact H5

/-- Waiting for a transfer to have left. -/
theorem Tr.await_snd {p : ℕ} (hp : p < 7) (d : Bool) (h : Fin (HN d)) (k : Fin 4) {o : Fin 4 → ℕ} {hi : ∀ a, o a + S1x1x128x256.size a ≤ S16x4x128x256.size a}
    {hw : (Rect.unit (s := S16x4x128x256) o S1x1x128x256.size hi).WholeWords (EltTy.packing .bf16)} {L : List Debt} (hL : Above 0 L) :
    Tr (Ctx I K) c iprop((SnR p c ⟨d, h, k⟩ ∗ sndCred p c ⟨d, h, k⟩) ∗ owesW c L) (await (sndS d h k) act (Memref.isWhole_whole _) o hi hw)
      fun _ => iprop((SnD p c ⟨d, h, k⟩ ∗ sndSlot I p c ⟨d, h, k⟩) ∗ owesW c L) := by
  refine (Tr.await_cell hp (false, ⟨d, h, k⟩) (sndS d h k) rfl act (Memref.isWhole_whole _) (o := o) (hi := hi) (hw := hw) (act_amount o hi) rfl hL).conseq (Entails.refl _) fun _ => ?_
  rw [payload_snd]
  unfold SnD sndPay
  iintro ⟨⟨H1, H2, H3⟩, H5⟩
  isplitr [H5]
  · isplitr [H3]
    · isplitl [H1]; · iexact H1
      iexact H2
    · iexact H3
  · iexact H5

/-! ## The barrier -/

/-- What a device gives its neighbours at a barrier: its chunks to be written, and where it waits. -/
def Give (p : ℕ) (c : Dev nD) (d : Bool) : PP F :=
  hk d fun h k => iprop(bslE p d c (rr p d h.val) k ∗ reached ER (rcvC c ⟨d, h, k⟩) p)
/-- What the barrier takes beside that. -/
def BarR (p : ℕ) (c : Dev nD) : PP F :=
  iprop(atPos ER (barC c) p ∅ 0 ∗ cred (tallyAt (barC c) p 2) ∗ (reached ER (barC (nb false c)) p ∗ dutyTok ER (barC (nb false c)) p true)
    ∗ reached ER (barC (nb true c)) p ∗ dutyTok ER (barC (nb true c)) p false)
/-- The position after it. -/
def BarD (p : ℕ) (c : Dev nD) : PP F := iprop(atPos ER (barC c) (p + 1) ∅ 0 ∗ reached ER (barC c) (p + 1))

theorem pay_of_give (p : ℕ) (c : Dev nD) (d : Bool) : Give (F := F) p c (!d) = barPay (nb d c) p (!d) := by
  unfold Give barPay; rw [nb_nb]

/-- The signal to a neighbour. -/
theorem Tr.signal {p : ℕ} (hp : p < 7) (d : Bool) (L : List Debt) :
    Tr (Ctx I K) c iprop((reached ER (barC (nb d c)) p ∗ dutyTok ER (barC (nb d c)) p (!d)) ∗ Give p c (!d) ∗ owesW c ((d, none, p) :: L))
      (semSignalWord (nb d c) barS 1#32) fun _ => owesW c L := by
  rw [pay_of_give]
  generalize hn : nb d c = n
  have hO : owe c ((d, none, p) :: L) = owe c L + tallyAt ((n : Thread nD τ), SemLoc.reg barS) p 1 := by subst hn; rfl
  have hc1 := Ctx.cell I K (n, none)
  have hpb : (Rd I).payload ((n : Thread nD τ), SemLoc.reg barS) p (!d) = barPay n p (!d) := payload_bar I n p (!d)
  unfold Tr owesW
  simp only [semSignalWord]
  rw [show (1#32 : BitVec 32).toInt = ((1 : ℕ) : ℤ) by decide]
  iintro ⟨#HC, ⟨#Hr, Ht⟩, HG, %W, HO⟩
  ihave #HI := hc1 $$ HC
  iapply (Rounds.wp_signal 𝒱₀ ER (Rd I) (c : Thread nD τ) none (dst := (n : Thread nD τ)) (κ := K (n, none))
      (d := !d) (show (!d) ∈ (Rd I).duties (barC n) p by rw [duties_bar I _ hp]; exact Finset.mem_univ _)
      (amount_k I (n, none) p (!d)) p (owe c L) hO) $$ [HO Ht HG]
  · isplitr; · iexact HI
    isplitl [HO]; · iexact HO
    isplitl [Ht]; · iexact Ht
    isplitl [HG]; · rw [hpb]; iexact HG
    iexact Hr
  iintro HO
  rw [wp_ret]; imodintro
  iexists W; iexact HO

/-- The barrier's wait. -/
theorem Tr.wait_bar {p : ℕ} (hp : p < 7) {L : List Debt} (hL : Above (10 * p + 1) L) :
    Tr (Ctx I K) c iprop((atPos ER (barC c) p ∅ 0 ∗ cred (tallyAt (barC c) p 2)) ∗ owesW c L) (semWaitWord barS 2#32)
      fun _ => iprop(BarD p c ∗ barPay c p true ∗ barPay c p false ∗ owesW c L) := by
  have hc0 := Ctx.cell I K (c, none)
  have hm := Ctx.may I K c (.reg barS) (n := 10 * p + 1) hp (lv_k (c, none) p) hL
  have hre : bigSep ((Rd I).duties ((c : Thread nD τ), SemLoc.reg barS) p \ ∅) (fun d => (Rd I).payload ((c : Thread nD τ), SemLoc.reg barS) p d)
      = iprop(barPay c p false ∗ barPay c p true) := rest_bar I c hp
  unfold Tr owesW BarD
  simp only [semWaitWord]
  iintro ⟨#HC, ⟨Hat, Hcr⟩, %W, HO⟩
  ihave #HI0 := hc0 $$ HC
  iapply (Rounds.wp_wait_rest_token 𝒱₀ ER (Rd I) (c : Thread nD τ) none (κ := K (c, none))
      (wpE_semWait_eq 𝒱₀ (c : Thread nD τ) none Set.univ) (Set.mem_univ _) p (O := owe c L) (W := W) (R := p) (m := 0) (T := ∅)
      (show 0 + _ = (Rd I).expect (barC c) p by rw [expect_bar I c hp]; decide)) $$ [Hcr HO Hat]
  · isplitr; · iexact HI0
    isplitl [Hcr]; · iexact Hcr
    isplitl [HO]; · iexact HO
    isplitr; · iapply hm; iexact HC
    iexact Hat
  rw [hre]
  iintro ⟨HO, Hat, #Hr, Hpf, Hpt⟩
  rw [wp_ret]; imodintro
  isplitl [Hat]
  · isplitl [Hat]; · iexact Hat
    iexact Hr
  isplitl [Hpt]; · iexact Hpt
  isplitl [Hpf]; · iexact Hpf
  iexists _; iexact HO

/-- A barrier with both neighbours. -/
theorem Tr.barrier {p : ℕ} (hp : p < 7) {L : List Debt} (hL : Above (10 * p + 1) L) :
    Tr (Ctx I K) c iprop(BarR p c ∗ Give p c true ∗ Give p c false ∗ owesW c (barO p ++ L)) (barrier c)
      fun _ => iprop(BarD p c ∗ barPay c p true ∗ barPay c p false ∗ owesW c L) := by
  unfold Cert.Kernel.barrier
  refine (Tr.signal hp false ((true, none, p) :: L)).step
    iprop((atPos ER (barC c) p ∅ 0 ∗ cred (tallyAt (barC c) p 2)) ∗ (reached ER (barC (nb true c)) p ∗ dutyTok ER (barC (nb true c)) p false) ∗ Give p c false)
    ?_ fun _ => (Tr.signal hp true L).step iprop(atPos ER (barC c) p ∅ 0 ∗ cred (tallyAt (barC c) p 2)) ?_ fun _ => (Tr.wait_bar hp hL).pre ?_
  · unfold BarR
    iintro ⟨⟨H1, H2, H3, H4⟩, H5, H6, H7⟩
    isplitl [H3 H5 H7]
    · isplitl [H3]; · iexact H3
      isplitl [H5]; · iexact H5
      iexact H7
    isplitl [H1 H2]
    · isplitl [H1]; · iexact H1
      iexact H2
    isplitl [H4]; · iexact H4
    iexact H6
  · iintro ⟨H1, H2, H3, H4⟩
    isplitr [H2]
    · isplitl [H3]; · iexact H3
      isplitl [H4]; · iexact H4
      iexact H1
    · iexact H2
  · iintro ⟨H1, H2⟩
    isplitl [H2]; · iexact H2
    iexact H1

end Cert.Kernel

end
-- ==== Proof.Kernel.Local.lean ====
module

public import proofs.«01_k».proof.Proof.Kernel.Steps

@[expose] public section

/-! # The steps on a device's own memory

The weights' conversion, a sub-chunk stored, a sub-chunk's partial product, and the device's rows of `x` converted. -/

noncomputable section

namespace Cert.Kernel

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Facts₀ Facts

variable {F : FTy → Type} [FloatOps F] [Facts]

/-! ## Pieces of a buffer -/

section Piece

variable {s : Shape} {e : EltTy} (M : Memref sig .tc .vmem s e) (c : Dev nD) (r : Rect s)

/-- A rectangle of a buffer, reading `v`. -/
def piece (v : r.shape.Idx → Elt F e) : PP F :=
  iprop(∃ f : Buf (Elt F) (M.view.loc (c : Thread nD τ)), ⌜(M.access r).read (Elt F) f = v⌝ ∗ M.view.loc (c : Thread nD τ) ↦[(M.access r).set]{fullShare} f)
def pieceE : PP F := iprop(∃ v, piece M c r v)

variable {C : PP F} {M c r}

theorem Tr.load_piece {v : r.shape.Idx → Elt F e} {hl : M.view.LoadsAt r.toLoadRect} :
    Tr C c (piece M c r v) (Prog.lift (.load M r.toLoadRect hl)) fun w => iprop(⌜w = v⌝ ∗ piece M c r v) := by
  unfold Tr piece
  iintro ⟨-, %f, %hf, H⟩
  unfold Prog.lift
  iapply (wp_load_rect 𝒱₀ (c : Thread nD τ) none Set.univ (m := M) (r := r) Finset.Subset.rfl) $$ H
  iintro H
  rw [wp_ret]; imodintro
  isplitr; · ipureintro; exact hf
  iexists f
  isplitr; · ipureintro; exact hf
  iexact H

theorem Tr.load_pieceE {hl : M.view.LoadsAt r.toLoadRect} :
    Tr C c (pieceE M c r) (Prog.lift (.load M r.toLoadRect hl)) fun _ => pieceE M c r :=
  Tr.exI fun v => Tr.load_piece.post fun w => by
    unfold pieceE; iintro ⟨-, H⟩; iexists v; iexact H

theorem Tr.store_piece {w : r.shape.Idx → Elt F e} {hx : (M.access r).Stores Finset.univ}
    {hm : Finset.univ = (Finset.univ : Finset r.shape.Idx) ∨ ∀ a, r.stride a = 1} :
    Tr C c (pieceE M c r) (Prog.lift (.store M r w Finset.univ hx hm)) fun _ => piece M c r w := by
  refine Tr.exI fun v => ?_
  unfold Tr piece
  iintro ⟨-, %f, -, H⟩
  unfold Prog.lift
  iapply (wp_store 𝒱₀ (c : Thread nD τ) none Set.univ (m := M) (r := r) (Mk := Finset.univ) (S := (M.access r).set) (Finset.Subset.rfl)) $$ H
  iintro H
  rw [wp_ret]; imodintro
  iexists ((M.access r).write (Elt F) f w Finset.univ)
  isplitr; · ipureintro; exact View.read_write_univ _ _
  iexact H

end Piece

/-! ## Staged inputs -/

section Input

variable {s : Shape} {e : EltTy} (M : Memref sig .tc .vmem s e) (hM : M.IsWhole) (c : Dev nD)

/-- A whole buffer holding an array. -/
def holds (X : s.Idx → Elt F e) : PP F := M.view.loc (c : Thread nD τ) ↦{fullShare} hM.unread X

variable {C : PP F} {M hM c}

theorem Tr.load_holds {X : s.Idx → Elt F e} {r : Rect s} {hl : M.view.LoadsAt r.toLoadRect} :
    Tr C c (holds M hM c X) (Prog.lift (.load M r.toLoadRect hl)) fun w => iprop(⌜w = fun i => X (r.emb i)⌝ ∗ holds M hM c X) := by
  unfold Tr holds
  iintro ⟨-, H⟩
  unfold Prog.lift
  iapply (wp_load_rect 𝒱₀ (c : Thread nD τ) none Set.univ (m := M) (r := r) (Finset.subset_univ _)) $$ H
  iintro H
  rw [wp_ret]; imodintro
  isplitr
  · ipureintro
    show M.view.readAt (Elt F) r (hM.unread X) = _
    funext x
    rw [View.readAt_apply, hM.read_unread]; rfl
  iexact H

end Input

theorem whole_emb {s : Shape} {o : Fin s.rank → ℕ} (ho : o = fun _ => 0) (hi : ∀ a, o a + s.size a ≤ s.size a) (i : s.Idx) :
    (Rect.unit (s := s) o s.size hi).emb i = i := by
  subst ho
  funext a
  apply Fin.ext
  simp [Rect.emb, Rect.unit]

theorem o2 : (![0, 0] : Fin 2 → ℕ) = fun _ => 0 := by funext a; fin_cases a <;> rfl
theorem o4 : (![0, 0, 0, 0] : Fin 4 → ℕ) = fun _ => 0 := by funext a; fin_cases a <;> rfl

/-! ## The weights -/

abbrev rW (l : Fin 3) : Rect S3x256x512 := Rect.unit (s := S3x256x512) ![l.val, 0, 0] S1x256x512.size (inbW l)
abbrev rU (l : Fin 3) : Rect S3x512x256 := Rect.unit (s := S3x512x256) ![l.val, 0, 0] S1x512x256.size (inbU l)

variable (I : Inp F)

/-- All three layers' weights, converted. -/
def WB (c : Dev nD) : PP F :=
  iprop((bigSepL [0, 1, 2] fun l => piece winB c (rW l) (wv I l c)) ∗ bigSepL [0, 1, 2] fun l => piece woutB c (rU l) (uv I l c))

variable {I} {C : PP F} [BI.Persistent C] {c : Dev nD}

theorem Tr.castWin (l : Fin 3) (A : Memref sig .tc .vmem S256x512 .f32) (hA : A.IsWhole)
    {hl : ∀ a, (![l.val, 0, 0] : Fin 3 → Nat) a + S1x256x512.size a ≤ S3x256x512.size a}
    {hp : (Rect.unit (s := S3x256x512) ![l.val, 0, 0] S1x256x512.size hl).PackedRows (EltTy.packing .bf16)} :
    Tr C c iprop(holds A hA c (I.W l c) ∗ pieceE winB c (rW l)) (castWin l A hl hp)
      fun _ => iprop(holds A hA c (I.W l c) ∗ piece winB c (rW l) (wv I l c)) := by
  unfold Cert.Kernel.castWin
  refine Tr.load_holds.step (pieceE winB c (rW l)) (Entails.refl _) fun v => ?_
  refine Tr.pre (P := iprop(⌜v = fun i => I.W l c ((Rect.unit (s := S256x512) ![0, 0] S256x512.size inb_S256x512_S256x512_0_0).emb i)⌝
    ∗ (holds A hA c (I.W l c) ∗ pieceE winB c (rW l)))) (Tr.pure fun hv => ?_) sep_assoc.1
  have hv' : v = I.W l c := by
    rw [hv]; funext i; exact congrArg (I.W l c) (whole_emb o2 _ i)
  subst hv'
  refine Tr.load_pieceE.step (holds A hA c (I.W l c)) sep_comm.1 fun _ => ?_
  exact (Tr.store_piece.frame (holds A hA c (I.W l c))).post fun _ => sep_comm.1

theorem Tr.castWout (l : Fin 3) (A : Memref sig .tc .vmem S512x256 .f32) (hA : A.IsWhole)
    {hl : ∀ a, (![l.val, 0, 0] : Fin 3 → Nat) a + S1x512x256.size a ≤ S3x512x256.size a}
    {hp : (Rect.unit (s := S3x512x256) ![l.val, 0, 0] S1x512x256.size hl).PackedRows (EltTy.packing .bf16)} :
    Tr C c iprop(holds A hA c (I.U l c) ∗ pieceE woutB c (rU l)) (castWout l A hl hp)
      fun _ => iprop(holds A hA c (I.U l c) ∗ piece woutB c (rU l) (uv I l c)) := by
  unfold Cert.Kernel.castWout
  refine Tr.load_holds.step (pieceE woutB c (rU l)) (Entails.refl _) fun v => ?_
  refine Tr.pre (P := iprop(⌜v = fun i => I.U l c ((Rect.unit (s := S512x256) ![0, 0] S512x256.size inb_S512x256_S512x256_0_0).emb i)⌝
    ∗ (holds A hA c (I.U l c) ∗ pieceE woutB c (rU l)))) (Tr.pure fun hv => ?_) sep_assoc.1
  have hv' : v = I.U l c := by
    rw [hv]; funext i; exact congrArg (I.U l c) (whole_emb o2 _ i)
  subst hv'
  refine Tr.load_pieceE.step (holds A hA c (I.U l c)) sep_comm.1 fun _ => ?_
  exact (Tr.store_piece.frame (holds A hA c (I.U l c))).post fun _ => sep_comm.1

/-! ## Sub-chunks -/

/-- A sub-chunk stored. -/
theorem Tr.put (M : Memref sig .tc .vmem S16x4x128x256 .bf16) (hM : M.IsWhole) {a : Fin 16} {k : Fin 4} {X : Arr F .bf16} {o : Fin 4 → ℕ}
    (ho : o = offs a k) {hi : ∀ x, o x + S1x1x128x256.size x ≤ S16x4x128x256.size x} {hp : (sub o hi).PackedRows (EltTy.packing .bf16)}
    {v : FVec F S128x256 .bf16} (hv : box v = sl X a k) :
    Tr C c (slotE M hM c a k) (put M hM o hi hp v) fun _ => slot M hM c fullShare a k X := by
  unfold Cert.Kernel.put
  exact (Tr.load_slotE ho).bind fun _ => Tr.store_slot ho hv

/-- Own rows of `x`. -/
theorem Tr.castX (X : Memref sig .tc .vmem S512x256 .f32) (hX : X.IsWhole) (k : Fin 4) :
    Tr C c iprop(slotE act (Memref.isWhole_whole _) c c k ∗ holds X hX c (I.x c)) (castX c X k)
      fun _ => iprop(slot act (Memref.isWhole_whole _) c fullShare c k (Act I 0) ∗ holds X hX c (I.x c)) := by
  unfold Cert.Kernel.castX
  refine Tr.load_holds.step (slotE act (Memref.isWhole_whole _) c c k) sep_comm.1 fun v => ?_
  refine Tr.pre (P := iprop(⌜v = rowsOf (I.x c) k⌝ ∗ (holds X hX c (I.x c) ∗ slotE act (Memref.isWhole_whole _) c c k)))
    (Tr.pure fun hv => ?_) sep_assoc.1
  subst hv
  refine ((Tr.put act (Memref.isWhole_whole _) (lOffMe_eq c k) (X := Act I 0) ?_).frame (holds X hX c (I.x c))).pre sep_comm.1
  unfold Act; rw [sl_glue]

/-- A sub-chunk's partial product. -/
theorem Tr.compute (l : Fin 3) {a : Fin 16} {k : Fin 4} {X : Arr F .bf16} {Y : Arr F .f32} {q : PosShare TreeShare} {o : Fin 4 → ℕ}
    (ho : o = offs a k) {hi : ∀ x, o x + S1x1x128x256.size x ≤ S16x4x128x256.size x}
    (hv : box (mlp (sl X a k) (wv I l c) (uv I l c)) = sl Y a k) :
    Tr C c iprop((slot act (Memref.isWhole_whole _) c q a k X ∗ slotE par (Memref.isWhole_whole _) c a k)
        ∗ piece winB c (rW l) (wv I l c) ∗ piece woutB c (rU l) (uv I l c)) (compute l o hi)
      fun _ => iprop((slot act (Memref.isWhole_whole _) c q a k X ∗ slot par (Memref.isWhole_whole _) c fullShare a k Y)
        ∗ piece winB c (rW l) (wv I l c) ∗ piece woutB c (rU l) (uv I l c)) := by
  unfold Cert.Kernel.compute
  refine (Tr.load_slot ho).step iprop(slotE par (Memref.isWhole_whole _) c a k ∗ piece winB c (rW l) (wv I l c) ∗ piece woutB c (rU l) (uv I l c))
    sep_assoc.1 fun v => Tr.pre (Tr.pure fun hv' => ?_) sep_assoc.1
  subst hv'
  refine Tr.load_piece.step iprop(slot act (Memref.isWhole_whole _) c q a k X ∗ slotE par (Memref.isWhole_whole _) c a k ∗ piece woutB c (rU l) (uv I l c))
    (by iintro ⟨H1, H2, H3, H4⟩
        isplitl [H3]; · iexact H3
        isplitl [H1]; · iexact H1
        isplitl [H2] <;> iassumption) fun w => Tr.pre (Tr.pure fun hv' => ?_) sep_assoc.1
  subst hv'
  refine Tr.load_piece.step iprop(slot act (Memref.isWhole_whole _) c q a k X ∗ slotE par (Memref.isWhole_whole _) c a k ∗ piece winB c (rW l) (wv I l c))
    (by iintro ⟨H1, H2, H3, H4⟩
        isplitl [H4]; · iexact H4
        isplitl [H2]; · iexact H2
        isplitl [H3] <;> iassumption) fun u => Tr.pre (Tr.pure fun hv' => ?_) sep_assoc.1
  subst hv'
  refine (Tr.load_slotE ho).step iprop(slot act (Memref.isWhole_whole _) c q a k X ∗ piece winB c (rW l) (wv I l c) ∗ piece woutB c (rU l) (uv I l c))
    (by iintro ⟨H1, H2, H3, H4⟩
        isplitl [H3]; · iexact H3
        isplitl [H2]; · iexact H2
        isplitl [H4] <;> iassumption) fun _ => ?_
  refine ((Tr.store_slot (X := Y) ho hv).frame _).post fun _ => ?_
  iintro ⟨H1, H2, H3, H4⟩
  isplitl [H1 H2]
  · isplitl [H2] <;> iassumption
  isplitl [H3] <;> iassumption

end Cert.Kernel

end
-- ==== Proof.Kernel.Multi.lean ====
module

public import proofs.«01_k».proof.Proof.Kernel.Local

@[expose] public section

/-! # All transfers of a phase

Resources of every direction, hop and sub-chunk at once, in the two orders a phase uses them: hop by hop, and the first
hop apart from the rest. -/

noncomputable section

namespace Cert.Kernel

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Facts]

theorem sep_emp_q (P : PP F) : iprop(P ∗ emp) = P := BI.equiv_iff.mp BI.sep_emp
theorem sep_assoc_q (P Q R : PP F) : iprop((P ∗ Q) ∗ R) = iprop(P ∗ Q ∗ R) := BI.equiv_iff.mp ⟨BI.sep_assoc, BI.sep_assoc'⟩

instance sep_assoc_inst : Std.Associative (α := PP F) fun P Q => iprop(P ∗ Q) := ⟨fun P Q R => sep_assoc_q P Q R⟩
instance sep_comm_inst : Std.Commutative (α := PP F) fun P Q => iprop(P ∗ Q) := ⟨fun P Q => BI.equiv_iff.mp ⟨BI.sep_comm, BI.sep_comm⟩⟩

theorem bigSepL_sep {ι : Type} (l : List ι) (Φ Ψ : ι → PP F) :
    bigSepL l (fun i => iprop(Φ i ∗ Ψ i)) = iprop(bigSepL l Φ ∗ bigSepL l Ψ) := by
  induction l with
  | nil => exact (sep_emp_q _).symm
  | cons i l ih => rw [bigSepL_cons', bigSepL_cons', bigSepL_cons', ih]; ac_rfl

theorem bigSepL_emp {ι : Type} (l : List ι) : bigSepL l (fun _ => (BIBase.emp : PP F)) = BIBase.emp := by
  induction l with
  | nil => rfl
  | cons i l ih => rw [bigSepL_cons', ih]; exact sep_emp_q _

/-- A family's member on hop `n` of direction `d`, if there is such a hop. -/
def at' (Φ : XI → PP F) (d : Bool) (n : ℕ) (k : Fin 4) : PP F := if h : n < HN d then Φ ⟨d, ⟨n, h⟩, k⟩ else iprop(emp)
/-- Both directions' on hop `n`. -/
def hop (Φ : XI → PP F) (n : ℕ) : PP F := bigSepL subs fun k => iprop(at' Φ true n k ∗ at' Φ false n k)
/-- All transfers'. -/
def xs (Φ : XI → PP F) : PP F := iprop(hk true (fun h k => Φ ⟨true, h, k⟩) ∗ hk false (fun h k => Φ ⟨false, h, k⟩))

theorem at_sep (Φ Ψ : XI → PP F) (d : Bool) (n : ℕ) (k : Fin 4) : at' (fun x => iprop(Φ x ∗ Ψ x)) d n k = iprop(at' Φ d n k ∗ at' Ψ d n k) := by
  unfold at'; split
  · rfl
  · exact (sep_emp_q _).symm
theorem at_mono {Φ Ψ : XI → PP F} (h : ∀ x, Φ x ⊢ Ψ x) (d : Bool) (n : ℕ) (k : Fin 4) : at' Φ d n k ⊢ at' Ψ d n k := by
  unfold at'; split
  · exact h _
  · exact Entails.refl _
theorem hop_sep (Φ Ψ : XI → PP F) (n : ℕ) : hop (fun x => iprop(Φ x ∗ Ψ x)) n = iprop(hop Φ n ∗ hop Ψ n) := by
  unfold hop
  rw [← bigSepL_sep]
  congr 1; funext k
  rw [at_sep, at_sep]; ac_rfl
theorem hop_mono {Φ Ψ : XI → PP F} (h : ∀ x, Φ x ⊢ Ψ x) (n : ℕ) : hop Φ n ⊢ hop Ψ n :=
  bigSepL_mono fun k _ => BIClass.sep_mono (at_mono h _ _ _) (at_mono h _ _ _)
theorem xs_sep (Φ Ψ : XI → PP F) : xs (fun x => iprop(Φ x ∗ Ψ x)) = iprop(xs Φ ∗ xs Ψ) := by
  unfold xs hk
  simp only [bigSepL_sep]
  ac_rfl
theorem xs_mono {Φ Ψ : XI → PP F} (h : ∀ x, Φ x ⊢ Ψ x) : xs Φ ⊢ xs Ψ :=
  BIClass.sep_mono (bigSepL_mono fun _ _ => bigSepL_mono fun _ _ => h _) (bigSepL_mono fun _ _ => bigSepL_mono fun _ _ => h _)

/-- The two directions apart. -/
theorem hop_dirs (Φ : XI → PP F) (n : ℕ) : hop Φ n = iprop(bigSepL subs (at' Φ true n) ∗ bigSepL subs (at' Φ false n)) := by
  unfold hop; rw [bigSepL_sep]

/-- Hop by hop. -/
theorem xs_hops (Φ : XI → PP F) : xs Φ = bigSepL (hops true) fun h => hop Φ h.val := by
  have h1 : ∀ h : Fin 8, bigSepL subs (at' Φ true h.val) = bigSepL subs fun k => Φ ⟨true, h, k⟩ := fun h => by
    congr 1; funext k; unfold at'; rw [dif_pos h.isLt]
  have h2 : ∀ (n : ℕ) (hn : n < 7), bigSepL subs (at' Φ false n) = bigSepL subs fun k => Φ ⟨false, ⟨n, hn⟩, k⟩ := fun n hn => by
    congr 1; funext k; unfold at'; rw [dif_pos hn]
  have h3 : bigSepL subs (at' Φ false 7) = (BIBase.emp : PP F) := by
    have : at' Φ false 7 = fun _ => (BIBase.emp : PP F) := by funext k; unfold at'; rw [dif_neg (by decide)]
    rw [this]; exact bigSepL_emp _
  simp only [hop_dirs, bigSepL_sep, h1]
  unfold xs hk
  congr 1
  have hA : hops true = [0, 1, 2, 3, 4, 5, 6] ++ [7] := rfl
  rw [hA, bigSepL_append, bigSepL_singleton]
  show _ = iprop(_ ∗ bigSepL subs (at' Φ false 7))
  rw [h3, sep_emp_q]
  have hB : ([0, 1, 2, 3, 4, 5, 6] : List (Fin 8)) = (hops false).map (Fin.castLE (by decide)) := rfl
  rw [hB, bigSepL_map]
  congr 1; funext h
  exact (h2 h.val h.isLt).symm

/-- The first hop, and the others each with the hop before it. -/
theorem xs_shift (Φ : XI → PP F) : xs Φ = iprop(hop Φ 0 ∗ bigSepL (hops true) fun h => hop Φ (h.val + 1)) := by
  rw [xs_hops]
  have h8 : hop Φ 8 = (BIBase.emp : PP F) := by
    unfold hop
    have : (fun k => iprop(at' Φ true 8 k ∗ at' Φ false 8 k)) = fun _ => (BIBase.emp : PP F) := by
      funext k; unfold at'; rw [dif_neg (by decide), dif_neg (by decide)]; exact sep_emp_q _
    rw [this]; exact bigSepL_emp _
  have hA : hops true = [0, 1, 2, 3, 4, 5, 6] ++ [7] := rfl
  have hB : hops true = 0 :: ([0, 1, 2, 3, 4, 5, 6] : List (Fin 8)).map (fun i => i + 1) := rfl
  conv_lhs => rw [hB, bigSepL_cons', bigSepL_map]
  rw [hA, bigSepL_append, bigSepL_singleton]
  show _ = iprop(hop Φ 0 ∗ _ ∗ hop Φ 8)
  rw [h8, sep_emp_q]
  rfl

/-- The first hop of all sub-chunks. -/
theorem hop_zero (Φ : XI → PP F) : hop Φ 0 = bigSepL subs fun k => iprop(Φ ⟨true, (0 : Fin 8), k⟩ ∗ Φ ⟨false, (0 : Fin 7), k⟩) := rfl

end Cert.Kernel

end
-- ==== Proof.Kernel.Gather.lean ====
module

public import proofs.«01_k».proof.Proof.Kernel.Multi

@[expose] public section

/-! # The all-gather

The phase `2 * l`: every device's chunk of the activations `Act l` goes round both ways, and each device computes its
partial products of the layer from every chunk. -/

noncomputable section

namespace Cert.Kernel

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F] [Facts]

theorem slot_eq {e : EltTy} {M M' : Memref sig .tc .vmem S16x4x128x256 e} (h : M = M') (hM : M.IsWhole) (hM' : M'.IsWhole) (c : Dev nD)
    (q : PosShare TreeShare) (a : Fin 16) (k : Fin 4) (X : S16x4x128x256.Idx → Elt F e) :
    slot M hM c q a k X = slot M' hM' c q a k X := by subst h; rfl
theorem slotE_eq {e : EltTy} {M M' : Memref sig .tc .vmem S16x4x128x256 e} (h : M = M') (hM : M.IsWhole) (hM' : M'.IsWhole) (c : Dev nD)
    (a : Fin 16) (k : Fin 4) : slotE (F := F) M hM c a k = slotE M' hM' c a k := by subst h; rfl

/-- A device's activations and partial products, a sub-chunk of the chunk at a shift from its own. -/
abbrev aS (c : Dev nD) (q : PosShare TreeShare) (r : Fin 16) (k : Fin 4) (X : Arr F .bf16) : PP F := slot act (Memref.isWhole_whole _) c q (rot r c) k X
abbrev aE (c : Dev nD) (r : Fin 16) (k : Fin 4) : PP F := slotE act (Memref.isWhole_whole _) c (rot r c) k
abbrev pS (c : Dev nD) (r : Fin 16) (k : Fin 4) (X : Arr F .f32) : PP F := slot par (Memref.isWhole_whole _) c fullShare (rot r c) k X
abbrev pE (c : Dev nD) (r : Fin 16) (k : Fin 4) : PP F := slotE par (Memref.isWhole_whole _) c (rot r c) k

theorem bigSepL_nil_q {ι : Type} (Φ : ι → PP F) : bigSepL [] Φ = iprop(emp) := rfl

/-! ## The even phases -/

theorem buf_even (l : ℕ) (d : Bool) : buf (2 * l) d = act := if_pos (by omega)
theorem rr_even (l : ℕ) (d : Bool) (h : ℕ) : rr (2 * l) d h = agr d h := if_pos (by omega)
theorem sr_even_zero (l : ℕ) (d : Bool) : sr (2 * l) d 0 = 0 := by
  unfold sr; rw [rr_even]; revert d; decide
theorem agr_succ (d : Bool) (h : ℕ) (hh : h + 1 < HN d) : agr d (h + 1) + sg d 1 = agr d h := by
  have h8 : HN d ≤ 8 := by cases d <;> decide
  have h0 : h < 7 := by omega
  have : ∀ (d : Bool) (h : Fin 7), agr d (h.val + 1) + sg d 1 = agr d h.val := by decide
  exact this d ⟨h, h0⟩
theorem sr_even_succ (l : ℕ) (d : Bool) (h : ℕ) (hh : h + 1 < HN d) : sr (2 * l) d (h + 1) = agr d h := by
  unfold sr; rw [rr_even, agr_succ d h hh]

variable (I : Inp F)

theorem cont_even (l : ℕ) (d : Bool) (h : ℕ) : cont I (2 * l) d h = Act I l := by
  unfold cont; rw [if_pos (by omega), show 2 * l / 2 = l by omega]
theorem bsl_even (l : ℕ) (d : Bool) (c : Dev nD) (q : PosShare TreeShare) (r : Fin 16) (k : Fin 4) (h : ℕ) :
    bsl (2 * l) d c q r k (cont I (2 * l) d h) = aS c q r k (Act I l) := by
  rw [cont_even]; exact slot_eq (buf_even l d) _ _ c q _ k _

/-- The share that stays when a chunk is passed on. -/
def keep (d : Bool) (h : ℕ) : PosShare TreeShare := if h + 1 < HN d then fullShare.right else fullShare

theorem rcvSlot_even (l : ℕ) (c : Dev nD) (d : Bool) (h : Fin (HN d)) (k : Fin 4) :
    rcvSlot I (2 * l) c ⟨d, h, k⟩ = aS c fullShare (agr d h.val) k (Act I l) := by
  show bsl (2 * l) d c fullShare (rr (2 * l) d h.val) k (cont I (2 * l) d h.val) = _
  rw [bsl_even, rr_even]
theorem sndSlot_even_zero (l : ℕ) (c : Dev nD) (d : Bool) (h : Fin (HN d)) (h0 : h.val = 0) (k : Fin 4) :
    sndSlot I (2 * l) c ⟨d, h, k⟩ = aS c (if d then fullShare.left.left else fullShare.left.right) 0 k (Act I l) := by
  show bsl (2 * l) d c (shr (2 * l) d h.val) (sr (2 * l) d h.val) k (cont I (2 * l) d h.val) = _
  rw [bsl_even, h0, sr_even_zero]
  unfold shr
  rw [if_pos (by omega), if_pos rfl]
theorem sndSlot_even_succ (l : ℕ) (c : Dev nD) (d : Bool) (h : ℕ) (hh : h + 1 < HN d) (k : Fin 4) :
    sndSlot I (2 * l) c ⟨d, ⟨h + 1, hh⟩, k⟩ = aS c fullShare.left (agr d h) k (Act I l) := by
  show bsl (2 * l) d c (shr (2 * l) d (h + 1)) (sr (2 * l) d (h + 1)) k (cont I (2 * l) d (h + 1)) = _
  rw [bsl_even, sr_even_succ l d h hh]
  unfold shr
  rw [if_pos (by omega), if_neg (by omega)]

/-! ## The products -/

/-- A sub-chunk of the partial products before and after, if there is a layer to compute. -/
def pin (lo : Option (Fin 3)) (c : Dev nD) (r : Fin 16) (k : Fin 4) : PP F := match lo with
  | none => iprop(emp)
  | some _ => pE c r k
def pout (l : ℕ) (lo : Option (Fin 3)) (c : Dev nD) (r : Fin 16) (k : Fin 4) : PP F := match lo with
  | none => iprop(emp)
  | some _ => pS c r k (Par I l c)

variable {I} {K : Dev nD × CS → ℕ} {c : Dev nD}

theorem WB_split (c : Dev nD) : ∀ l : Fin 3, ∃ G, WB I c = iprop((piece winB c (rW l) (wv I l c) ∗ piece woutB c (rU l) (uv I l c)) ∗ G)
  | 0 => ⟨iprop((piece winB c (rW 1) (wv I 1 c) ∗ piece winB c (rW 2) (wv I 2 c)) ∗ piece woutB c (rU 1) (uv I 1 c) ∗ piece woutB c (rU 2) (uv I 2 c)), by
      unfold WB; simp only [bigSepL_cons', bigSepL_nil_q, sep_emp_q]; ac_rfl⟩
  | 1 => ⟨iprop((piece winB c (rW 0) (wv I 0 c) ∗ piece winB c (rW 2) (wv I 2 c)) ∗ piece woutB c (rU 0) (uv I 0 c) ∗ piece woutB c (rU 2) (uv I 2 c)), by
      unfold WB; simp only [bigSepL_cons', bigSepL_nil_q, sep_emp_q]; ac_rfl⟩
  | 2 => ⟨iprop((piece winB c (rW 0) (wv I 0 c) ∗ piece winB c (rW 1) (wv I 1 c)) ∗ piece woutB c (rU 0) (uv I 0 c) ∗ piece woutB c (rU 1) (uv I 1 c)), by
      unfold WB; simp only [bigSepL_cons', bigSepL_nil_q, sep_emp_q]; ac_rfl⟩

/-- A chunk's products. -/
theorem Tr.computeAll (l : ℕ) (lo : Option (Fin 3)) (hlo : ∀ l', lo = some l' → lay l = l') (q : PosShare TreeShare) (r : Fin 16)
    (o : Fin 4 → Fin 4 → ℕ) (hi : ∀ k a, o k a + S1x1x128x256.size a ≤ S16x4x128x256.size a) (ho : ∀ k, o k = offs (rot r c) k) :
    Tr (Ctx I K) c iprop(((bigSepL subs fun k => aS c q r k (Act I l)) ∗ bigSepL subs fun k => pin lo c r k) ∗ WB I c) (Cert.Kernel.computeAll lo o hi)
      fun _ => iprop(((bigSepL subs fun k => aS c q r k (Act I l)) ∗ bigSepL subs fun k => pout I l lo c r k) ∗ WB I c) := by
  rw [← bigSepL_sep, ← bigSepL_sep]
  cases lo with
  | none => exact Tr.ret PUnit.unit (fun _ => _)
  | some l' =>
    obtain rfl := hlo l' rfl
    obtain ⟨G, hG⟩ := WB_split (I := I) c (lay l)
    refine Tr.eachSep (C := Ctx I K) (f := fun k => Cert.Kernel.compute (lay l) (o k) (hi k)) (fun k => iprop(aS c q r k (Act I l) ∗ pin (some (lay l)) c r k)) (fun k => iprop(aS c q r k (Act I l) ∗ pout I l (some (lay l)) c r k))
      (fun _ => WB I c) subs fun k _ _ => ?_
    rw [hG]
    refine ((Tr.compute (I := I) (C := Ctx I K) (lay l) (X := Act I l) (Y := Par I l c) (q := q) (ho k) ?_).frame G).conseq (Entails.of_eq ?_) fun _ => Entails.of_eq ?_
    · unfold Par parOf; rw [sl_glue]
    · unfold pin; exact (sep_assoc_q _ _ _).symm
    · unfold pout; exact sep_assoc_q _ _ _

/-! ## The steps of a hop -/

/-- The share of an arrived chunk that stays. -/
def KP (l : ℕ) (I : Inp F) (c : Dev nD) (x : XI) : PP F := aS c (keep x.1 x.2.1.val) (agr x.1 x.2.1.val) x.2.2 (Act I l)
def PIN (lo : Option (Fin 3)) (c : Dev nD) (x : XI) : PP F := pin lo c (agr x.1 x.2.1.val) x.2.2
def POUT (l : ℕ) (I : Inp F) (lo : Option (Fin 3)) (c : Dev nD) (x : XI) : PP F := pout I l lo c (agr x.1 x.2.1.val) x.2.2

theorem Tr.agStep {l : ℕ} (hl : l < 4) (d : Bool) (n : ℕ) (k : Fin 4) {L : List Debt} (hL : Above (10 * (2 * l) + 2 + n) (sendO (2 * l) d (n + 1) k ++ L)) :
    Tr (Ctx I K) c iprop((at' (AwR (2 * l) c) d n k ∗ at' (SendR (2 * l) c) d (n + 1) k) ∗ owesW c (sendO (2 * l) d (n + 1) k ++ L))
      (if hh : n < HN d then agStep c k d ⟨n, hh⟩ else Pure.pure ⟨⟩)
      fun _ => iprop((at' (AwD (2 * l) c) d n k ∗ at' (sndCred (2 * l) c) d (n + 1) k ∗ at' (KP l I c) d n k) ∗ owesW c L) := by
  by_cases hn : n < HN d
  · rw [dif_pos hn]
    have e1 : at' (F := F) (AwR (2 * l) c) d n k = AwR (2 * l) c ⟨d, ⟨n, hn⟩, k⟩ := dif_pos hn
    have e2 : at' (F := F) (AwD (2 * l) c) d n k = AwD (2 * l) c ⟨d, ⟨n, hn⟩, k⟩ := dif_pos hn
    have e3 : at' (KP l I c) d n k = KP l I c ⟨d, ⟨n, hn⟩, k⟩ := dif_pos hn
    rw [e1, e2, e3]
    have ho : vOff c (agRow d ⟨n, hn⟩) k = offs (rot (agr d n) c) k := by rw [vOff_eq, (rowShift_ag d ⟨n, hn⟩).1]
    unfold Cert.Kernel.agStep
    refine (Tr.await_rcv (I := I) (by omega) d ⟨n, hn⟩ k act (Memref.isWhole_whole _) (buf_even l d).symm hL).step (at' (SendR (2 * l) c) d (n + 1) k)
      (Entails.of_eq (by ac_rfl)) fun _ => ?_
    rw [rcvSlot_even]
    by_cases hh : n + 1 < HN d
    · have e4 : at' (F := F) (SendR (2 * l) c) d (n + 1) k = SendR (2 * l) c ⟨d, ⟨n + 1, hh⟩, k⟩ := dif_pos hh
      have e5 : at' (F := F) (sndCred (2 * l) c) d (n + 1) k = sndCred (2 * l) c ⟨d, ⟨n + 1, hh⟩, k⟩ := dif_pos hh
      rw [e4, e5, dif_pos hh]
      unfold KP keep
      rw [if_pos hh]
      refine ((Tr.send (I := I) (by omega) d ⟨n + 1, hh⟩ k act (Memref.isWhole_whole _) (buf_even l d).symm ((ho.trans (by rw [sr_even_succ l d n hh]))) L).frame
        iprop(AwD (2 * l) c ⟨d, ⟨n, hn⟩, k⟩ ∗ aS c fullShare.right (agr d n) k (Act I l))).conseq ?_ fun _ => Entails.of_eq (by ac_rfl)
      rw [sndSlot_even_succ]
      iintro ⟨⟨⟨H1, H2⟩, H3⟩, H4⟩
      ihave H2 := (slot_halves act (Memref.isWhole_whole _) c fullShare (rot (agr d n) c) k (Act I l)).1 $$ H2
      icases H2 with ⟨H2, H5⟩
      isplitl [H2 H3 H4]
      · isplitl [H4]; · iexact H4
        isplitl [H2]; · iexact H2
        iexact H3
      isplitl [H1]; · iexact H1
      iexact H5
    · have e4 : at' (F := F) (SendR (2 * l) c) d (n + 1) k = iprop(emp) := dif_neg hh
      have e5 : at' (F := F) (sndCred (2 * l) c) d (n + 1) k = iprop(emp) := dif_neg hh
      have e6 : sendO (2 * l) d (n + 1) k = [] := dif_neg hh
      rw [e4, e5, e6, dif_neg hh]
      unfold KP keep
      rw [if_neg hh]
      refine (Tr.ret PUnit.unit (fun _ => _)).pre ?_
      iintro ⟨⟨⟨H1, H2⟩, H3⟩, -⟩
      isplitr [H3]
      · isplitl [H1]; · iexact H1
        isplitr; · iempintro
        iexact H2
      · iexact H3
  · have e1 : at' (F := F) (AwR (2 * l) c) d n k = iprop(emp) := dif_neg hn
    have e2 : at' (F := F) (AwD (2 * l) c) d n k = iprop(emp) := dif_neg hn
    have e3 : at' (KP l I c) d n k = iprop(emp) := dif_neg hn
    have e4 : at' (F := F) (SendR (2 * l) c) d (n + 1) k = iprop(emp) := dif_neg (by omega)
    have e5 : at' (F := F) (sndCred (2 * l) c) d (n + 1) k = iprop(emp) := dif_neg (by omega)
    have e6 : sendO (2 * l) d (n + 1) k = [] := dif_neg (by omega)
    rw [e1, e2, e3, e4, e5, e6, dif_neg hn]
    refine (Tr.ret PUnit.unit (fun _ => _)).pre ?_
    iintro ⟨-, H⟩
    isplitr; · isplitr; · iempintro
               isplitr <;> iempintro
    iexact H

theorem Tr.agCompute (l : ℕ) (lo : Option (Fin 3)) (hlo : ∀ l', lo = some l' → lay l = l') (d : Bool) (n : ℕ) :
    Tr (Ctx I K) c iprop((bigSepL subs (at' (KP l I c) d n) ∗ bigSepL subs (at' (PIN lo c) d n)) ∗ WB I c)
      (if hh : n < HN d then Cert.Kernel.computeAll lo (lOff c (lrow (agRow d ⟨n, hh⟩))) (lOff_inb c (lrow (agRow d ⟨n, hh⟩))) else Pure.pure ⟨⟩)
      fun _ => iprop((bigSepL subs (at' (KP l I c) d n) ∗ bigSepL subs (at' (POUT l I lo c) d n)) ∗ WB I c) := by
  by_cases hn : n < HN d
  · have e1 : at' (KP l I c) d n = fun k => aS c (keep d n) (agr d n) k (Act I l) := funext fun k => dif_pos hn
    have e2 : at' (PIN (F := F) lo c) d n = fun k => pin lo c (agr d n) k := funext fun k => dif_pos hn
    have e3 : at' (POUT l I lo c) d n = fun k => pout I l lo c (agr d n) k := funext fun k => dif_pos hn
    rw [dif_pos hn, e1, e2, e3]
    exact Tr.computeAll l lo hlo (keep d n) (agr d n) _ _ fun k => by rw [lOff_eq, (rowShift_ag d ⟨n, hn⟩).2]
  · have e2 : at' (PIN (F := F) lo c) d n = fun k => iprop(emp) := funext fun k => dif_neg hn
    have e3 : at' (POUT l I lo c) d n = fun k => iprop(emp) := funext fun k => dif_neg hn
    rw [dif_neg hn, e2, e3]
    exact Tr.ret PUnit.unit (fun _ => _)

/-- A hop. -/
theorem Tr.agHop {l : ℕ} (hl : l < 4) (lo : Option (Fin 3)) (hlo : ∀ l', lo = some l' → lay l = l') (h : Fin 8) {L : List Debt}
    (hL : Above (10 * (2 * l) + 2 + h.val) L) :
    Tr (Ctx I K) c iprop((hop (AwR (2 * l) c) h.val ∗ hop (SendR (2 * l) c) (h.val + 1) ∗ hop (PIN lo c) h.val)
        ∗ WB I c ∗ owesW c (agHopO (2 * l) h.val ++ L)) (agHop c lo h)
      fun _ => iprop((hop (AwD (2 * l) c) h.val ∗ hop (sndCred (2 * l) c) (h.val + 1) ∗ hop (KP l I c) h.val ∗ hop (POUT l I lo c) h.val)
        ∗ WB I c ∗ owesW c L) := by
  unfold Cert.Kernel.agHop
  refine Tr.step (Tr.eachSep
      (fun k => iprop((at' (AwR (2 * l) c) true h.val k ∗ at' (SendR (2 * l) c) true (h.val + 1) k)
        ∗ at' (AwR (2 * l) c) false h.val k ∗ at' (SendR (2 * l) c) false (h.val + 1) k))
      (fun k => iprop((at' (AwD (2 * l) c) true h.val k ∗ at' (sndCred (2 * l) c) true (h.val + 1) k ∗ at' (KP l I c) true h.val k)
        ∗ at' (AwD (2 * l) c) false h.val k ∗ at' (sndCred (2 * l) c) false (h.val + 1) k ∗ at' (KP l I c) false h.val k))
      (fun ks => owesW c ((ks.flatMap fun k => sendO (2 * l) true (h.val + 1) k ++ sendO (2 * l) false (h.val + 1) k) ++ L)) subs ?_)
    iprop(hop (PIN lo c) h.val ∗ WB I c) ?_ fun _ => ?_
  · intro k ks _
    have hA : Above (10 * (2 * l) + 2 + h.val) ((ks.flatMap fun k => sendO (2 * l) true (h.val + 1) k ++ sendO (2 * l) false (h.val + 1) k) ++ L) :=
      (Above.flatMap fun k _ => (above_sendO (by omega) true _ k (by omega)).append (above_sendO (by omega) false _ k (by omega))).append hL
    have hA2 := (above_sendO (n := 10 * (2 * l) + 2 + h.val) (p := 2 * l) (by omega) false (h.val + 1) k (by omega)).append hA
    have hA1 := (above_sendO (n := 10 * (2 * l) + 2 + h.val) (p := 2 * l) (by omega) true (h.val + 1) k (by omega)).append hA2
    have t1 := Tr.agStep (I := I) (K := K) (c := c) hl true h.val k hA1
    rw [dif_pos (show h.val < HN true from h.isLt)] at t1
    have t2 := Tr.agStep (I := I) (K := K) (c := c) hl false h.val k hA2
    rw [List.flatMap_cons, List.append_assoc, List.append_assoc]
    refine t1.step iprop(at' (AwR (2 * l) c) false h.val k ∗ at' (SendR (2 * l) c) false (h.val + 1) k) (Entails.of_eq (by ac_rfl)) fun _ => ?_
    refine (t2.frame iprop(at' (AwD (2 * l) c) true h.val k ∗ at' (sndCred (2 * l) c) true (h.val + 1) k ∗ at' (KP l I c) true h.val k)).conseq
      (Entails.of_eq (by ac_rfl)) fun _ => Entails.of_eq (by ac_rfl)
  · unfold hop; simp only [bigSepL_sep]
    exact Entails.of_eq (by unfold agHopO; ac_rfl)
  · have t1 := Tr.agCompute (I := I) (K := K) (c := c) l lo hlo true h.val
    rw [dif_pos (show h.val < HN true from h.isLt)] at t1
    have t2 := Tr.agCompute (I := I) (K := K) (c := c) l lo hlo false h.val
    refine t1.step iprop((bigSepL subs (at' (KP l I c) false h.val) ∗ bigSepL subs (at' (PIN lo c) false h.val))
      ∗ (hop (AwD (2 * l) c) h.val ∗ hop (sndCred (2 * l) c) (h.val + 1)) ∗ owesW c L) ?_ fun _ => ?_
    · unfold hop; simp only [bigSepL_sep]
      exact Entails.of_eq (by rw [List.flatMap_nil, List.nil_append]; ac_rfl)
    · refine (t2.frame iprop((bigSepL subs (at' (KP l I c) true h.val) ∗ bigSepL subs (at' (POUT l I lo c) true h.val))
        ∗ (hop (AwD (2 * l) c) h.val ∗ hop (sndCred (2 * l) c) (h.val + 1)) ∗ owesW c L)).conseq (Entails.of_eq (by ac_rfl)) fun _ => ?_
      unfold hop; simp only [bigSepL_sep]
      exact Entails.of_eq (by ac_rfl)

end Cert.Kernel

end
-- ==== Proof.Kernel.AllGather.lean ====
module

public import proofs.«01_k».proof.Proof.Kernel.Gather

@[expose] public section

/-! # The whole all-gather

Its start, its hops, and the wait until all transfers have left. -/

noncomputable section

namespace Cert.Kernel

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F] [Facts]
variable {I : Inp F} {K : Dev nD × CS → ℕ} {c : Dev nD}

/-- Waiting until one direction's transfers have left. -/
theorem Tr.drain {p : ℕ} (hp : p < 7) (d : Bool) {L : List Debt} (hL : Above 0 L) :
    Tr (Ctx I K) c iprop(hk d (fun h k => iprop(SnR p c ⟨d, h, k⟩ ∗ sndCred p c ⟨d, h, k⟩)) ∗ owesW c L) (Cert.Kernel.drain d)
      fun _ => iprop(hk d (fun h k => iprop(SnD p c ⟨d, h, k⟩ ∗ sndSlot I p c ⟨d, h, k⟩)) ∗ owesW c L) :=
  Tr.eachSep (C := Ctx I K) (fun h => bigSepL subs fun k => iprop(SnR p c ⟨d, h, k⟩ ∗ sndCred p c ⟨d, h, k⟩))
    (fun h => bigSepL subs fun k => iprop(SnD p c ⟨d, h, k⟩ ∗ sndSlot I p c ⟨d, h, k⟩)) (fun _ => owesW c L) (hops d) fun h _ _ =>
    Tr.eachSep (C := Ctx I K) (fun k => iprop(SnR p c ⟨d, h, k⟩ ∗ sndCred p c ⟨d, h, k⟩))
      (fun k => iprop(SnD p c ⟨d, h, k⟩ ∗ sndSlot I p c ⟨d, h, k⟩)) (fun _ => owesW c L) subs fun k _ _ => Tr.await_snd hp d h k hL

/-- Waiting until both directions' have. -/
theorem Tr.drains {p : ℕ} (hp : p < 7) {L : List Debt} (hL : Above 0 L) :
    Tr (Ctx I K) c iprop((xs (SnR p c) ∗ xs (sndCred p c)) ∗ owesW c L) (Cert.Kernel.drain true >>= fun _ => Cert.Kernel.drain false)
      fun _ => iprop((xs (SnD p c) ∗ xs (sndSlot I p c)) ∗ owesW c L) := by
  rw [← xs_sep, ← xs_sep]
  unfold xs
  refine (Tr.drain hp true hL).step (hk false (fun h k => iprop(SnR p c ⟨false, h, k⟩ ∗ sndCred p c ⟨false, h, k⟩))) (Entails.of_eq (by ac_rfl)) fun _ =>
    ((Tr.drain hp false hL).frame (hk true (fun h k => iprop(SnD p c ⟨true, h, k⟩ ∗ sndSlot I p c ⟨true, h, k⟩)))).conseq
      (Entails.of_eq (by ac_rfl)) fun _ => Entails.of_eq (by ac_rfl)

/-- In a loop over the hops, later hops are larger. -/
theorem hops_lt {i : Fin 8} {l : List (Fin 8)} (h : (i :: l) <:+ hops true) : ∀ j ∈ l, i < j :=
  (List.pairwise_cons.mp ((show (hops true).Pairwise (· < ·) from (by decide : (List.finRange 8).Pairwise (· < ·))).sublist h.sublist)).1

theorem slot_quarters (l : ℕ) (r : Fin 16) (k : Fin 4) :
    aS c fullShare r k (Act I l) ⊣⊢ iprop((aS c fullShare.left.left r k (Act I l) ∗ aS c fullShare.left.right r k (Act I l)) ∗ aS c fullShare.right r k (Act I l)) :=
  ⟨(slot_halves act (Memref.isWhole_whole _) c fullShare (rot r c) k (Act I l)).1.trans
      (BIClass.sep_mono (slot_halves act (Memref.isWhole_whole _) c fullShare.left (rot r c) k (Act I l)).1 (Entails.refl _)),
    (BIClass.sep_mono (slot_halves act (Memref.isWhole_whole _) c fullShare.left (rot r c) k (Act I l)).2 (Entails.refl _)).trans
      (slot_halves act (Memref.isWhole_whole _) c fullShare (rot r c) k (Act I l)).2⟩

/-- The start: the own chunk leaves both ways. -/
theorem Tr.agStart {l : ℕ} (hl : l < 4) (L : List Debt) :
    Tr (Ctx I K) c iprop((hop (SendR (2 * l) c) 0 ∗ bigSepL subs fun k => aS c fullShare 0 k (Act I l)) ∗ owesW c (startO (2 * l) ++ L))
      (Cert.Kernel.each subs fun k => Cert.Kernel.agStart c k)
      fun _ => iprop((hop (sndCred (2 * l) c) 0 ∗ bigSepL subs fun k => aS c fullShare.right 0 k (Act I l)) ∗ owesW c L) := by
  rw [hop_zero, hop_zero, ← bigSepL_sep, ← bigSepL_sep]
  refine Tr.eachSep (C := Ctx I K)
    (fun k => iprop((SendR (2 * l) c ⟨true, (0 : Fin 8), k⟩ ∗ SendR (2 * l) c ⟨false, (0 : Fin 7), k⟩) ∗ aS c fullShare 0 k (Act I l)))
    (fun k => iprop((sndCred (2 * l) c ⟨true, (0 : Fin 8), k⟩ ∗ sndCred (2 * l) c ⟨false, (0 : Fin 7), k⟩) ∗ aS c fullShare.right 0 k (Act I l)))
    (fun ks => owesW c ((ks.flatMap fun k => sendO (2 * l) true 0 k ++ sendO (2 * l) false 0 k) ++ L)) subs fun k ks _ => ?_
  have ho : vOffMe c k = offs (rot 0 c) k := by rw [vOffMe_eq, rot_zero]
  rw [List.flatMap_cons, List.append_assoc, List.append_assoc]
  generalize (ks.flatMap fun k => sendO (2 * l) true 0 k ++ sendO (2 * l) false 0 k) ++ L = M
  have t : ∀ (d : Bool) (h : Fin (HN d)) (h0 : h.val = 0) (M : List Debt),
      Tr (Ctx I K) c iprop(SendR (2 * l) c ⟨d, h, k⟩ ∗ aS c (if d then fullShare.left.left else fullShare.left.right) 0 k (Act I l) ∗ owesW c (sendO (2 * l) d 0 k ++ M))
        (Cert.Kernel.send d h k c act (Memref.isWhole_whole _) (vOffMe c k) (vOffMe_inb c k) (vOffMe_ww c k))
        fun _ => iprop(sndCred (2 * l) c ⟨d, h, k⟩ ∗ owesW c M) := fun d h h0 M => by
    have t' := Tr.send (I := I) (K := K) (c := c) (p := 2 * l) (by omega) d h k act (Memref.isWhole_whole _) (buf_even l d).symm
      (hi := vOffMe_inb c k) (hw := vOffMe_ww c k) (ho.trans (by rw [h0, sr_even_zero])) M
    rw [sndSlot_even_zero I l c d h h0 k, h0] at t'
    exact t'
  unfold Cert.Kernel.agStart
  refine (t true (0 : Fin 8) rfl (sendO (2 * l) false 0 k ++ M)).step iprop(SendR (2 * l) c ⟨false, (0 : Fin 7), k⟩ ∗ aS c fullShare.left.right 0 k (Act I l) ∗ aS c fullShare.right 0 k (Act I l))
    ?_ fun _ => ((t false (0 : Fin 7) rfl M).frame iprop(sndCred (2 * l) c ⟨true, (0 : Fin 8), k⟩ ∗ aS c fullShare.right 0 k (Act I l))).conseq
      (Entails.of_eq ?_) fun _ => Entails.of_eq (by ac_rfl)
  · refine (BIClass.sep_mono (BIClass.sep_mono (Entails.refl _) (slot_quarters l 0 k).1) (Entails.refl _)).trans (Entails.of_eq ?_)
    rw [if_pos rfl]
    ac_rfl
  · rw [if_neg (by decide)]
    ac_rfl

/-- A whole arrived chunk. -/
def GOT (l : ℕ) (I : Inp F) (c : Dev nD) (x : XI) : PP F := aS c fullShare (agr x.1 x.2.1.val) x.2.2 (Act I l)

/-- What stayed and what was passed on are the whole chunk. -/
theorem join_at (l : ℕ) (d : Bool) (n : ℕ) (k : Fin 4) : iprop(at' (KP l I c) d n k ∗ at' (sndSlot I (2 * l) c) d (n + 1) k) ⊢ at' (GOT l I c) d n k := by
  by_cases hn : n < HN d
  · have e3 : at' (KP l I c) d n k = aS c (keep d n) (agr d n) k (Act I l) := dif_pos hn
    have e4 : at' (GOT l I c) d n k = aS c fullShare (agr d n) k (Act I l) := dif_pos hn
    rw [e3, e4]
    by_cases hh : n + 1 < HN d
    · have e5 : at' (sndSlot I (2 * l) c) d (n + 1) k = sndSlot I (2 * l) c ⟨d, ⟨n + 1, hh⟩, k⟩ := dif_pos hh
      rw [e5, sndSlot_even_succ]
      unfold keep; rw [if_pos hh]
      exact (BI.sep_comm).trans (slot_halves act (Memref.isWhole_whole _) c fullShare (rot (agr d n) c) k (Act I l)).2
    · have e5 : at' (sndSlot I (2 * l) c) d (n + 1) k = iprop(emp) := dif_neg hh
      rw [e5, sep_emp_q]
      unfold keep; rw [if_neg hh]
  · have e3 : at' (KP l I c) d n k = iprop(emp) := dif_neg hn
    have e4 : at' (GOT l I c) d n k = iprop(emp) := dif_neg hn
    have e5 : at' (sndSlot I (2 * l) c) d (n + 1) k = iprop(emp) := dif_neg (by omega)
    rw [e3, e4, e5, sep_emp_q]

theorem join_hop (l : ℕ) (n : ℕ) : iprop(hop (KP l I c) n ∗ hop (sndSlot I (2 * l) c) (n + 1)) ⊢ hop (GOT l I c) n := by
  unfold hop
  rw [← bigSepL_sep]
  exact bigSepL_mono fun k _ => (Entails.of_eq (by ac_rfl)).trans (BIClass.sep_mono (join_at l true n k) (join_at l false n k))

/-- At the end every chunk is there. -/
theorem join_all (l : ℕ) : iprop((bigSepL subs fun k => aS c fullShare.right 0 k (Act I l)) ∗ xs (KP l I c) ∗ xs (sndSlot I (2 * l) c))
    ⊢ iprop((bigSepL subs fun k => aS c fullShare 0 k (Act I l)) ∗ xs (GOT l I c)) := by
  rw [xs_shift (sndSlot I (2 * l) c), xs_hops (KP l I c), xs_hops (GOT l I c)]
  have h1 : iprop((bigSepL (hops true) fun h => hop (KP l I c) h.val) ∗ bigSepL (hops true) fun h => hop (sndSlot I (2 * l) c) (h.val + 1))
      ⊢ bigSepL (hops true) fun h => hop (GOT l I c) h.val := by
    rw [← bigSepL_sep]; exact bigSepL_mono fun h _ => join_hop l h.val
  have h2 : iprop((bigSepL subs fun k => aS c fullShare.right 0 k (Act I l)) ∗ hop (sndSlot I (2 * l) c) 0)
      ⊢ bigSepL subs fun k => aS c fullShare 0 k (Act I l) := by
    rw [hop_zero, ← bigSepL_sep]
    refine bigSepL_mono fun k _ => ?_
    have e1 : sndSlot I (2 * l) c ⟨true, (0 : Fin 8), k⟩ = aS c fullShare.left.left 0 k (Act I l) := by
      have := sndSlot_even_zero I l c true 0 rfl k; exact this
    have e2 : sndSlot I (2 * l) c ⟨false, (0 : Fin 7), k⟩ = aS c fullShare.left.right 0 k (Act I l) := by
      have := sndSlot_even_zero I l c false 0 rfl k; exact this
    rw [e1, e2]
    exact (BI.sep_comm).trans (slot_quarters l 0 k).2
  exact (Entails.of_eq (by ac_rfl)).trans (BIClass.sep_mono h2 h1)

/-- The all-gather. -/
theorem Tr.allGather {l : ℕ} (hl : l < 4) (lo : Option (Fin 3)) (hlo : ∀ l', lo = some l' → lay l = l') {L : List Debt}
    (hL : Above (10 * (2 * l) + 9) L) :
    Tr (Ctx I K) c iprop((xs (SendR (2 * l) c) ∗ xs (AwR (2 * l) c) ∗ xs (SnR (2 * l) c)) ∗ (bigSepL subs fun k => aS c fullShare 0 k (Act I l))
        ∗ ((bigSepL subs fun k => pin lo c 0 k) ∗ xs (PIN lo c)) ∗ WB I c ∗ owesW c (agO (2 * l) ++ L)) (Cert.Kernel.allGather c lo)
      fun _ => iprop((xs (AwD (2 * l) c) ∗ xs (SnD (2 * l) c)) ∗ ((bigSepL subs fun k => aS c fullShare 0 k (Act I l)) ∗ xs (GOT l I c))
        ∗ ((bigSepL subs fun k => pout I l lo c 0 k) ∗ xs (POUT l I lo c)) ∗ WB I c ∗ owesW c L) := by
  unfold Cert.Kernel.allGather
  have t1 := Tr.agStart (I := I) (K := K) (c := c) hl (((hops true).flatMap fun h => agHopO (2 * l) h.val) ++ L)
  have t2 := Tr.computeAll (I := I) (K := K) (c := c) l lo hlo fullShare.right 0 (lOffMe c) (lOffMe_inb c) fun k => by rw [lOffMe_eq, rot_zero]
  have t3 := Tr.eachSep (ι := Fin (HN true)) (C := Ctx I K) (c := c) (f := fun h => Cert.Kernel.agHop c lo h)
    (fun h => iprop(hop (AwR (2 * l) c) h.val ∗ hop (SendR (2 * l) c) (h.val + 1) ∗ hop (PIN lo c) h.val))
    (fun h => iprop(hop (AwD (2 * l) c) h.val ∗ hop (sndCred (2 * l) c) (h.val + 1) ∗ hop (KP l I c) h.val ∗ hop (POUT l I lo c) h.val))
    (fun hs => iprop(WB I c ∗ owesW c ((hs.flatMap fun h => agHopO (2 * l) h.val) ++ L))) (hops true) fun h hs hsuf => by
      rw [List.flatMap_cons, List.append_assoc]
      refine Tr.agHop hl lo hlo h (Above.append (Above.flatMap fun j hj => ?_) (hL.mono (by have : h.val < 8 := h.isLt; omega)))
      have := hops_lt hsuf j hj
      exact above_agHopO (by omega) j.val (by have : h.val < j.val := this; omega)
  have t4 := Tr.drains (I := I) (K := K) (c := c) (p := 2 * l) (by omega) (hL.mono (Nat.zero_le _))
  refine t1.step iprop((bigSepL (hops true) fun h => hop (SendR (2 * l) c) (h.val + 1)) ∗ xs (AwR (2 * l) c) ∗ xs (SnR (2 * l) c)
      ∗ ((bigSepL subs fun k => pin lo c 0 k) ∗ xs (PIN lo c)) ∗ WB I c) ?_ fun _ =>
    t2.step iprop(hop (sndCred (2 * l) c) 0 ∗ (bigSepL (hops true) fun h => hop (SendR (2 * l) c) (h.val + 1)) ∗ xs (AwR (2 * l) c) ∗ xs (SnR (2 * l) c)
      ∗ xs (PIN lo c) ∗ owesW c (((hops true).flatMap fun h => agHopO (2 * l) h.val) ++ L)) ?_ fun _ =>
    t3.step iprop(hop (sndCred (2 * l) c) 0 ∗ xs (SnR (2 * l) c) ∗ (bigSepL subs fun k => aS c fullShare.right 0 k (Act I l)) ∗ (bigSepL subs fun k => pout I l lo c 0 k)) ?_ fun _ =>
    (t4.frame iprop(xs (AwD (2 * l) c) ∗ ((bigSepL subs fun k => aS c fullShare.right 0 k (Act I l)) ∗ xs (KP l I c))
      ∗ ((bigSepL subs fun k => pout I l lo c 0 k) ∗ xs (POUT l I lo c)) ∗ WB I c)).conseq ?_ fun _ => ?_
  · rw [xs_shift (SendR (2 * l) c)]
    unfold agO
    rw [List.append_assoc]
    exact Entails.of_eq (by ac_rfl)
  · exact Entails.of_eq (by ac_rfl)
  · rw [xs_hops (AwR (2 * l) c), xs_hops (PIN lo c)]
    simp only [bigSepL_sep]
    exact Entails.of_eq (by ac_rfl)
  · rw [xs_hops (AwD (2 * l) c), xs_hops (KP l I c), xs_hops (POUT l I lo c), xs_shift (sndCred (2 * l) c)]
    simp only [bigSepL_sep]
    exact Entails.of_eq (by rw [List.flatMap_nil, List.nil_append]; ac_rfl)
  · refine (Entails.of_eq ?_).trans ((BIClass.sep_mono (join_all (I := I) (c := c) l) (Entails.refl
      iprop((xs (AwD (2 * l) c) ∗ xs (SnD (2 * l) c)) ∗ ((bigSepL subs fun k => pout I l lo c 0 k) ∗ xs (POUT l I lo c)) ∗ WB I c ∗ owesW c L))).trans (Entails.of_eq ?_))
    · ac_rfl
    · ac_rfl

end Cert.Kernel

end
-- ==== Proof.Kernel.Scatter.lean ====
module

public import proofs.«01_k».proof.Proof.Kernel.AllGather

@[expose] public section

/-! # The steps of a reduce-scatter

The phase `2 * l + 1`: the partial sums of each chunk go round both ways to the chunk's device, every device on the way
adding its own partial product. -/

noncomputable section

namespace Cert.Kernel

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Facts₀ Facts

variable {F : FTy → Type} [FloatOps F] [Facts]

/-- A sub-chunk of a direction's staging buffer. -/
abbrev sS (d : Bool) (c : Dev nD) (r : Fin 16) (k : Fin 4) (X : Arr F .bf16) : PP F := slot (stg d) (stg_whole d) c fullShare (rot r c) k X
abbrev sE (d : Bool) (c : Dev nD) (r : Fin 16) (k : Fin 4) : PP F := slotE (stg d) (stg_whole d) c (rot r c) k

/-! ## The odd phases -/

theorem buf_odd (l : ℕ) (d : Bool) : buf (2 * l + 1) d = stg d := if_neg (by omega)
theorem rr_odd (l : ℕ) (d : Bool) (h : ℕ) : rr (2 * l + 1) d h = rsr d h := if_neg (by omega)
theorem sr_odd_zero (l : ℕ) (d : Bool) : sr (2 * l + 1) d 0 = sg d (Fin.ofNat 16 (HN d)) := by
  unfold sr; rw [rr_odd]; revert d; decide
theorem rsr_succ (d : Bool) (h : ℕ) (hh : h + 1 < HN d) : rsr d (h + 1) + sg d 1 = rsr d h := by
  have h8 : HN d ≤ 8 := by cases d <;> decide
  have h0 : h < 7 := by omega
  have : ∀ (d : Bool) (h : Fin 7), h.val + 1 < HN d → rsr d (h.val + 1) + sg d 1 = rsr d h.val := by decide
  exact this d ⟨h, h0⟩ hh
theorem rsr_last (d : Bool) (h : ℕ) (hh : h + 1 = HN d) : rsr d h = 0 := by
  unfold rsr; rw [show HN d - 1 - h = 0 by omega]; cases d <;> rfl
theorem sr_odd_succ (l : ℕ) (d : Bool) (h : ℕ) (hh : h + 1 < HN d) : sr (2 * l + 1) d (h + 1) = rsr d h := by
  unfold sr; rw [rr_odd, rsr_succ d h hh]

variable (I : Inp F)

theorem cont_odd (l : ℕ) (d : Bool) (h : ℕ) : cont I (2 * l + 1) d h = Acc I l d h := by
  unfold cont; rw [if_neg (by omega), show (2 * l + 1) / 2 = l by omega]
theorem bsl_odd (l : ℕ) (d : Bool) (c : Dev nD) (r : Fin 16) (k : Fin 4) (X : Arr F .bf16) :
    bsl (2 * l + 1) d c fullShare r k X = sS d c r k X := slot_eq (buf_odd l d) _ _ c _ _ k _
theorem bslE_odd (l : ℕ) (d : Bool) (c : Dev nD) (r : Fin 16) (k : Fin 4) :
    bslE (F := F) (2 * l + 1) d c r k = sE d c r k := slotE_eq (buf_odd l d) _ _ c _ k
theorem rcvSlot_odd (l : ℕ) (c : Dev nD) (d : Bool) (h : Fin (HN d)) (k : Fin 4) :
    rcvSlot I (2 * l + 1) c ⟨d, h, k⟩ = sS d c (rsr d h.val) k (Acc I l d h.val) := by
  show bsl (2 * l + 1) d c fullShare (rr (2 * l + 1) d h.val) k (cont I (2 * l + 1) d h.val) = _
  rw [bsl_odd, rr_odd, cont_odd]
theorem sndSlot_odd (l : ℕ) (c : Dev nD) (d : Bool) (h : Fin (HN d)) (k : Fin 4) :
    sndSlot I (2 * l + 1) c ⟨d, h, k⟩ = sS d c (sr (2 * l + 1) d h.val) k (Acc I l d h.val) := by
  show bsl (2 * l + 1) d c (shr (2 * l + 1) d h.val) (sr (2 * l + 1) d h.val) k (cont I (2 * l + 1) d h.val) = _
  rw [show shr (2 * l + 1) d h.val = fullShare from if_neg (by omega), bsl_odd, cont_odd]

variable {I} {K : Dev nD × CS → ℕ} {c : Dev nD}

/-- A load of a sub-chunk with known contents, and what follows. -/
theorem Tr.load_then {C : PP F} [BI.Persistent C] (S : PP F) {e : EltTy} {M : Memref sig .tc .vmem S16x4x128x256 e} {hM : M.IsWhole} {q : PosShare TreeShare} {a : Fin 16} {k : Fin 4}
    {X : Arr F e} (hS : S = slot M hM c q a k X) {o : Fin 4 → ℕ} {hi : ∀ x, o x + S1x1x128x256.size x ≤ S16x4x128x256.size x} (ho : o = offs a k)
    {hl : M.view.LoadsAt (sub o hi).toLoadRect} {β : Type} {f : Vec F S1x1x128x256 e → Prog (TpuEff nD τ sig (Elt F) Λ₀ .tc) β} {G : PP F} {R : β → PP F}
    (h : Tr C c iprop(S ∗ G) (f (sl X a k)) R) :
    Tr C c iprop(S ∗ G) (Prog.lift (.load M (sub o hi).toLoadRect hl) >>= f) R := by
  subst hS
  exact (Tr.load_slot ho).step G (Entails.refl _) fun v => Tr.pre (Tr.pure fun hv => by subst hv; exact h) sep_assoc.1

/-- `Tr.put` with the sub-chunk before and after under other names. -/
theorem Tr.put' {C : PP F} [BI.Persistent C] (S T : PP F) {M : Memref sig .tc .vmem S16x4x128x256 .bf16} {hM : M.IsWhole} {a : Fin 16} {k : Fin 4}
    {X : Arr F .bf16} (hS : S = slotE M hM c a k) (hT : T = slot M hM c fullShare a k X) {o : Fin 4 → ℕ} (ho : o = offs a k)
    {hi : ∀ x, o x + S1x1x128x256.size x ≤ S16x4x128x256.size x} {hp : (sub o hi).PackedRows (EltTy.packing .bf16)}
    {v : FVec F S128x256 .bf16} (hv : box v = sl X a k) : Tr C c S (Cert.Kernel.put M hM o hi hp v) fun _ => T := by
  subst hS hT; exact Tr.put M hM ho hv

/-- A device's partial product of the chunk that a transfer carries. -/
def RP (l : ℕ) (I : Inp F) (c : Dev nD) (x : XI) : PP F := pS c (sr (2 * l + 1) x.1 x.2.1.val) x.2.2 (Par I l c)

/-- A direction's first hop. -/
def hop₀ (d : Bool) : Fin (HN d) := ⟨0, by cases d <;> decide⟩

theorem rsStart_eq (c : Dev nD) (k : Fin 4) (d : Bool) : rsStart (F := F) c k d = (do
    let v : Vec F S1x1x128x256 .f32 ← Prog.lift (.load par (sub (lOff c (lrow (rsRow₀ d)) k) (lOff_inb c _ k)).toLoadRect (View.loadsAt_vmem h_S1x1x128x256))
    put (stg d) (stg_whole d) (lOff c (lrow (rsRow₀ d)) k) (lOff_inb c _ k) (lOff_pk c _ k)
      (truncf .bf16 (shapeCast S128x256 v shapeCasts_S1x1x128x256_S128x256 : FVec F S128x256 .f32) bitsLt_bf16_f32)
    send d (hop₀ d) k c (stg d) (stg_whole d) (vOff c (rsRow₀ d) k) (vOff_inb c _ k) (vOff_ww c _ k)) := by
  cases d <;> rfl

theorem rot_back (r : Fin 16) (c : Dev nD) : rot (-r) (rot r c) = c := by
  rw [rot_rot]
  have : ∀ r : Fin 16, r + -r = 0 := by decide
  rw [this, rot_zero]

/-- The first sum of a direction and its departure. -/
theorem Tr.rsStart {l : ℕ} (hl : l < 3) (d : Bool) (k : Fin 4) (L : List Debt) :
    Tr (Ctx I K) c iprop(SendR (2 * l + 1) c ⟨d, hop₀ d, k⟩ ∗ RP l I c ⟨d, hop₀ d, k⟩ ∗ sE d c (sg d (Fin.ofNat 16 (HN d))) k
        ∗ owesW c (sendO (2 * l + 1) d 0 k ++ L)) (Cert.Kernel.rsStart c k d)
      fun _ => iprop(sndCred (2 * l + 1) c ⟨d, hop₀ d, k⟩ ∗ RP l I c ⟨d, hop₀ d, k⟩ ∗ owesW c L) := by
  have ho : lOff c (lrow (rsRow₀ d)) k = offs (rot (sg d (Fin.ofNat 16 (HN d))) c) k := by rw [lOff_eq, (rowShift_rs₀ d).2]
  have hv : vOff c (rsRow₀ d) k = offs (rot (sr (2 * l + 1) d (hop₀ d).val) c) k := by
    rw [vOff_eq, (rowShift_rs₀ d).1, show (hop₀ d).val = 0 from rfl, sr_odd_zero]
  have hR : RP l I c ⟨d, hop₀ d, k⟩ = pS c (sg d (Fin.ofNat 16 (HN d))) k (Par I l c) := by
    unfold RP; show pS c (sr (2 * l + 1) d 0) k _ = _; rw [sr_odd_zero]
  have t := Tr.send (I := I) (K := K) (c := c) (p := 2 * l + 1) (by omega) d (hop₀ d) k (stg d) (stg_whole d) (buf_odd l d).symm
    (hi := vOff_inb c (rsRow₀ d) k) (hw := vOff_ww c (rsRow₀ d) k) hv L
  rw [sndSlot_odd, show (hop₀ d).val = 0 from rfl, sr_odd_zero] at t
  rw [rsStart_eq, hR]
  refine (Tr.load_then (C := Ctx I K) (pS c (sg d (Fin.ofNat 16 (HN d))) k (Par I l c)) rfl ho (G := iprop(SendR (2 * l + 1) c ⟨d, hop₀ d, k⟩ ∗ sE d c (sg d (Fin.ofNat 16 (HN d))) k
        ∗ owesW c (sendO (2 * l + 1) d 0 k ++ L))) ?_).pre (Entails.of_eq (by ac_rfl))
  refine (Tr.put' (C := Ctx I K) (sE d c (sg d (Fin.ofNat 16 (HN d))) k) (sS d c (sg d (Fin.ofNat 16 (HN d))) k (Acc I l d 0)) rfl rfl ho ?_).step iprop(SendR (2 * l + 1) c ⟨d, hop₀ d, k⟩ ∗ pS c (sg d (Fin.ofNat 16 (HN d))) k (Par I l c)
        ∗ owesW c (sendO (2 * l + 1) d 0 k ++ L)) (Entails.of_eq (by ac_rfl)) fun _ =>
    (t.frame (pS c (sg d (Fin.ofNat 16 (HN d))) k (Par I l c))).conseq (Entails.of_eq (by ac_rfl)) fun _ => Entails.of_eq (by ac_rfl)
  unfold Acc accOf; rw [sl_glue, rot_back]

/-- The sum that has reached its device. -/
def LAST (l : ℕ) (I : Inp F) (c : Dev nD) (x : XI) : PP F :=
  if x.2.1.val + 1 = HN x.1 then sS x.1 c 0 x.2.2 (Acc I l x.1 x.2.1.val) else iprop(emp)

/-- A hop of a direction on a sub-chunk. -/
theorem Tr.rsStep {l : ℕ} (hl : l < 3) (d : Bool) (n : ℕ) (hn : n < HN d) (k : Fin 4) {L : List Debt}
    (hL : Above (10 * (2 * l + 1) + 2 + n) (sendO (2 * l + 1) d (n + 1) k ++ L)) :
    Tr (Ctx I K) c iprop((at' (AwR (2 * l + 1) c) d n k ∗ at' (SendR (2 * l + 1) c) d (n + 1) k ∗ at' (RP l I c) d (n + 1) k)
        ∗ owesW c (sendO (2 * l + 1) d (n + 1) k ++ L)) (Cert.Kernel.rsStep c d ⟨n, hn⟩ k)
      fun _ => iprop((at' (AwD (2 * l + 1) c) d n k ∗ at' (sndCred (2 * l + 1) c) d (n + 1) k ∗ at' (RP l I c) d (n + 1) k ∗ at' (LAST l I c) d n k)
        ∗ owesW c L) := by
  have e1 : at' (F := F) (AwR (2 * l + 1) c) d n k = AwR (2 * l + 1) c ⟨d, ⟨n, hn⟩, k⟩ := dif_pos hn
  have e2 : at' (F := F) (AwD (2 * l + 1) c) d n k = AwD (2 * l + 1) c ⟨d, ⟨n, hn⟩, k⟩ := dif_pos hn
  have e3 : at' (LAST l I c) d n k = LAST l I c ⟨d, ⟨n, hn⟩, k⟩ := dif_pos hn
  rw [e1, e2, e3]
  have hv : vOff c (rsRow d ⟨n, hn⟩) k = offs (rot (rsr d n) c) k := by rw [vOff_eq, rowShift_rs d ⟨n, hn⟩]
  unfold Cert.Kernel.rsStep
  refine (Tr.await_rcv (I := I) (by omega) d ⟨n, hn⟩ k (stg d) (stg_whole d) (buf_odd l d).symm hL).step
    iprop(at' (SendR (2 * l + 1) c) d (n + 1) k ∗ at' (RP l I c) d (n + 1) k) (Entails.of_eq (by ac_rfl)) fun _ => ?_
  rw [rcvSlot_odd]
  dsimp only
  by_cases hh : n + 1 < HN d
  · have e4 : at' (F := F) (SendR (2 * l + 1) c) d (n + 1) k = SendR (2 * l + 1) c ⟨d, ⟨n + 1, hh⟩, k⟩ := dif_pos hh
    have e5 : at' (F := F) (sndCred (2 * l + 1) c) d (n + 1) k = sndCred (2 * l + 1) c ⟨d, ⟨n + 1, hh⟩, k⟩ := dif_pos hh
    have e6 : at' (RP l I c) d (n + 1) k = pS c (rsr d n) k (Par I l c) := by
      refine (dif_pos hh).trans ?_
      unfold RP; show pS c (sr (2 * l + 1) d (n + 1)) k _ = _; rw [sr_odd_succ l d n hh]
    have e7 : LAST l I c ⟨d, ⟨n, hn⟩, k⟩ = iprop(emp) := if_neg (by show ¬ (n + 1 = HN d); omega)
    have ho : lOff c (lrow (rsRow d ⟨n, hn⟩)) k = offs (rot (rsr d n) c) k := by rw [lOff_eq, rowShift_rs' d ⟨n, hn⟩ hh]
    have t := Tr.send (I := I) (K := K) (c := c) (p := 2 * l + 1) (by omega) d ⟨n + 1, hh⟩ k (stg d) (stg_whole d) (buf_odd l d).symm
      (hi := vOff_inb c (rsRow d ⟨n, hn⟩) k) (hw := vOff_ww c (rsRow d ⟨n, hn⟩) k) (hv.trans (by rw [sr_odd_succ l d n hh])) L
    rw [sndSlot_odd, show ((⟨n + 1, hh⟩ : Fin (HN d)).val) = n + 1 from rfl, sr_odd_succ l d n hh] at t
    rw [e4, e5, e6, e7, dif_pos hh, sep_emp_q]
    refine (Tr.load_then (C := Ctx I K) (sS d c (rsr d n) k (Acc I l d n)) rfl ho (G := iprop(AwD (2 * l + 1) c ⟨d, ⟨n, hn⟩, k⟩ ∗ SendR (2 * l + 1) c ⟨d, ⟨n + 1, hh⟩, k⟩ ∗ pS c (rsr d n) k (Par I l c)
        ∗ owesW c (sendO (2 * l + 1) d (n + 1) k ++ L))) ?_).pre (Entails.of_eq (by ac_rfl))
    refine (Tr.load_then (C := Ctx I K) (pS c (rsr d n) k (Par I l c)) rfl ho (G := iprop(AwD (2 * l + 1) c ⟨d, ⟨n, hn⟩, k⟩ ∗ SendR (2 * l + 1) c ⟨d, ⟨n + 1, hh⟩, k⟩
        ∗ sS d c (rsr d n) k (Acc I l d n) ∗ owesW c (sendO (2 * l + 1) d (n + 1) k ++ L))) ?_).pre (Entails.of_eq (by ac_rfl))
    refine (Tr.put' (C := Ctx I K) (sE d c (rsr d n) k) (sS d c (rsr d n) k (Acc I l d (n + 1))) rfl rfl ho ?_).step iprop(SendR (2 * l + 1) c ⟨d, ⟨n + 1, hh⟩, k⟩ ∗ pS c (rsr d n) k (Par I l c)
        ∗ AwD (2 * l + 1) c ⟨d, ⟨n, hn⟩, k⟩ ∗ owesW c (sendO (2 * l + 1) d (n + 1) k ++ L))
      ((Entails.of_eq (by ac_rfl)).trans ((BIClass.sep_mono (slot_slotE (stg d) (stg_whole d) c (rot (rsr d n) c) k (Acc I l d n)) (Entails.refl
        iprop(SendR (2 * l + 1) c ⟨d, ⟨n + 1, hh⟩, k⟩ ∗ pS c (rsr d n) k (Par I l c)
          ∗ AwD (2 * l + 1) c ⟨d, ⟨n, hn⟩, k⟩ ∗ owesW c (sendO (2 * l + 1) d (n + 1) k ++ L))))))
      fun _ => (t.frame iprop(pS c (rsr d n) k (Par I l c) ∗ AwD (2 * l + 1) c ⟨d, ⟨n, hn⟩, k⟩)).conseq (Entails.of_eq (by ac_rfl)) fun _ => Entails.of_eq (by ac_rfl)
    unfold Acc; conv_rhs => unfold accOf
    rw [sl_glue]
    unfold rsr; rw [rot_back]
  · have e4 : at' (F := F) (SendR (2 * l + 1) c) d (n + 1) k = iprop(emp) := dif_neg hh
    have e5 : at' (F := F) (sndCred (2 * l + 1) c) d (n + 1) k = iprop(emp) := dif_neg hh
    have e6 : at' (RP l I c) d (n + 1) k = iprop(emp) := dif_neg hh
    have e7 : LAST l I c ⟨d, ⟨n, hn⟩, k⟩ = sS d c 0 k (Acc I l d n) := if_pos (by show n + 1 = HN d; omega)
    have e8 : sendO (2 * l + 1) d (n + 1) k = [] := dif_neg hh
    rw [e4, e5, e6, e7, e8, dif_neg hh, rsr_last d n (by omega)]
    refine (Tr.ret PUnit.unit (fun _ => _)).pre ?_
    iintro ⟨⟨⟨H1, H2⟩, H3⟩, -, -⟩
    isplitr [H3]
    · isplitl [H1]; · iexact H1
      isplitr; · iempintro
      isplitr; · iempintro
      iexact H2
    · iexact H3

/-- One sub-chunk's sums are together: the next activations. -/
theorem Tr.rsEnd (l : ℕ) (k : Fin 4) :
    Tr (Ctx I K) c iprop((sS true c 0 k (Acc I l true 7) ∗ sS false c 0 k (Acc I l false 6) ∗ pS c 0 k (Par I l c)) ∗ aE c 0 k) (Cert.Kernel.rsEnd c k)
      fun _ => iprop((sS true c 0 k (Acc I l true 7) ∗ sS false c 0 k (Acc I l false 6) ∗ pS c 0 k (Par I l c)) ∗ aS c fullShare 0 k (Act I (l + 1))) := by
  have ho : lOffMe c k = offs (rot 0 c) k := by rw [lOffMe_eq, rot_zero]
  unfold Cert.Kernel.rsEnd
  refine (Tr.load_then (C := Ctx I K) (sS true c 0 k (Acc I l true 7)) rfl ho (G := iprop(sS false c 0 k (Acc I l false 6) ∗ pS c 0 k (Par I l c) ∗ aE c 0 k)) ?_).pre (Entails.of_eq (by ac_rfl))
  refine (Tr.load_then (C := Ctx I K) (sS false c 0 k (Acc I l false 6)) rfl ho (G := iprop(sS true c 0 k (Acc I l true 7) ∗ pS c 0 k (Par I l c) ∗ aE c 0 k)) ?_).pre (Entails.of_eq (by ac_rfl))
  refine (Tr.load_then (C := Ctx I K) (pS c 0 k (Par I l c)) rfl ho (G := iprop(sS true c 0 k (Acc I l true 7) ∗ sS false c 0 k (Acc I l false 6) ∗ aE c 0 k)) ?_).pre (Entails.of_eq (by ac_rfl))
  refine ((Tr.put' (C := Ctx I K) (aE c 0 k) (aS c fullShare 0 k (Act I (l + 1))) rfl rfl ho ?_).frame
    iprop(sS true c 0 k (Acc I l true 7) ∗ sS false c 0 k (Acc I l false 6) ∗ pS c 0 k (Par I l c))).conseq (Entails.of_eq (by ac_rfl)) fun _ => Entails.of_eq (by ac_rfl)
  show _ = sl (nextOf (Par I l)) (rot 0 c) k
  unfold nextOf
  rw [sl_glue, rot_zero]
  rfl

end Cert.Kernel

end
-- ==== Proof.Kernel.ReduceScatter.lean ====
module

public import proofs.«01_k».proof.Proof.Kernel.Scatter

@[expose] public section

/-! # The whole reduce-scatter

Its start, its hops, the sums of the own chunk, and the wait until all transfers have left. -/

noncomputable section

namespace Cert.Kernel

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F] [Facts]
variable {I : Inp F} {K : Dev nD × CS → ℕ} {c : Dev nD}

/-- One direction of a hop. -/
theorem Tr.rsDir {l : ℕ} (hl : l < 3) (d : Bool) (n : ℕ) {L : List Debt} (hL : Above (10 * (2 * l + 1) + 2 + n) L) :
    Tr (Ctx I K) c iprop((bigSepL subs (at' (AwR (2 * l + 1) c) d n) ∗ bigSepL subs (at' (SendR (2 * l + 1) c) d (n + 1)) ∗ bigSepL subs (at' (RP l I c) d (n + 1)))
        ∗ owesW c ((subs.flatMap fun k => sendO (2 * l + 1) d (n + 1) k) ++ L))
      (if hh : n < HN d then Cert.Kernel.each subs (fun k => Cert.Kernel.rsStep c d ⟨n, hh⟩ k) else Pure.pure ⟨⟩)
      fun _ => iprop((bigSepL subs (at' (AwD (2 * l + 1) c) d n) ∗ bigSepL subs (at' (sndCred (2 * l + 1) c) d (n + 1))
        ∗ bigSepL subs (at' (RP l I c) d (n + 1)) ∗ bigSepL subs (at' (LAST l I c) d n)) ∗ owesW c L) := by
  by_cases hn : n < HN d
  · rw [dif_pos hn]
    have t := Tr.eachSep (C := Ctx I K) (c := c) (f := fun k => Cert.Kernel.rsStep c d ⟨n, hn⟩ k)
      (fun k => iprop(at' (AwR (2 * l + 1) c) d n k ∗ at' (SendR (2 * l + 1) c) d (n + 1) k ∗ at' (RP l I c) d (n + 1) k))
      (fun k => iprop(at' (AwD (2 * l + 1) c) d n k ∗ at' (sndCred (2 * l + 1) c) d (n + 1) k ∗ at' (RP l I c) d (n + 1) k ∗ at' (LAST l I c) d n k))
      (fun ks => owesW c ((ks.flatMap fun k => sendO (2 * l + 1) d (n + 1) k) ++ L)) subs fun k ks _ => by
        rw [List.flatMap_cons, List.append_assoc]
        exact Tr.rsStep hl d n hn k ((above_sendO (by omega) d (n + 1) k (by omega)).append
          ((Above.flatMap fun j _ => above_sendO (by omega) d (n + 1) j (by omega)).append hL))
    simp only [bigSepL_sep] at t
    exact t
  · have e1 : at' (F := F) (AwR (2 * l + 1) c) d n = fun _ => iprop(emp) := funext fun k => dif_neg hn
    have e2 : at' (F := F) (AwD (2 * l + 1) c) d n = fun _ => iprop(emp) := funext fun k => dif_neg hn
    have e3 : at' (LAST l I c) d n = fun _ => iprop(emp) := funext fun k => dif_neg hn
    have e4 : at' (F := F) (SendR (2 * l + 1) c) d (n + 1) = fun _ => iprop(emp) := funext fun k => dif_neg (by omega)
    have e5 : at' (F := F) (sndCred (2 * l + 1) c) d (n + 1) = fun _ => iprop(emp) := funext fun k => dif_neg (by omega)
    have e6 : at' (RP l I c) d (n + 1) = fun _ => iprop(emp) := funext fun k => dif_neg (by omega)
    have e7 : (fun k => sendO (2 * l + 1) d (n + 1) k) = fun _ => [] := funext fun k => dif_neg (by omega)
    rw [e1, e2, e3, e4, e5, e6, e7, dif_neg hn]
    simp only [bigSepL_emp, sep_emp_q]
    exact Tr.ret PUnit.unit (fun _ => _)

/-- A hop. -/
theorem Tr.rsHop {l : ℕ} (hl : l < 3) (h : Fin (HN true)) {L : List Debt} (hL : Above (10 * (2 * l + 1) + 2 + h.val) L) :
    Tr (Ctx I K) c iprop((hop (AwR (2 * l + 1) c) h.val ∗ hop (SendR (2 * l + 1) c) (h.val + 1) ∗ hop (RP l I c) (h.val + 1))
        ∗ owesW c (rsHopO (2 * l + 1) h.val ++ L)) (Cert.Kernel.rsHop c h)
      fun _ => iprop((hop (AwD (2 * l + 1) c) h.val ∗ hop (sndCred (2 * l + 1) c) (h.val + 1) ∗ hop (RP l I c) (h.val + 1) ∗ hop (LAST l I c) h.val)
        ∗ owesW c L) := by
  have t1 := Tr.rsDir (I := I) (K := K) (c := c) hl true h.val (L := (subs.flatMap fun k => sendO (2 * l + 1) false (h.val + 1) k) ++ L)
    ((Above.flatMap fun j _ => above_sendO (by omega) false (h.val + 1) j (by omega)).append hL)
  rw [dif_pos h.isLt] at t1
  have t2 := Tr.rsDir (I := I) (K := K) (c := c) hl false h.val hL
  unfold Cert.Kernel.rsHop rsHopO
  simp only [hop_dirs]
  rw [List.append_assoc]
  refine t1.step iprop(bigSepL subs (at' (AwR (2 * l + 1) c) false h.val) ∗ bigSepL subs (at' (SendR (2 * l + 1) c) false (h.val + 1))
      ∗ bigSepL subs (at' (RP l I c) false (h.val + 1))) (Entails.of_eq (by ac_rfl)) fun _ =>
    (t2.frame iprop(bigSepL subs (at' (AwD (2 * l + 1) c) true h.val) ∗ bigSepL subs (at' (sndCred (2 * l + 1) c) true (h.val + 1))
        ∗ bigSepL subs (at' (RP l I c) true (h.val + 1)) ∗ bigSepL subs (at' (LAST l I c) true h.val))).conseq
      (Entails.of_eq (by ac_rfl)) fun _ => Entails.of_eq (by ac_rfl)

/-- The start. -/
theorem Tr.rsStarts {l : ℕ} (hl : l < 3) (L : List Debt) :
    Tr (Ctx I K) c iprop((hop (SendR (2 * l + 1) c) 0 ∗ hop (RP l I c) 0
        ∗ bigSepL subs fun k => iprop(sE true c (sg true (Fin.ofNat 16 (HN true))) k ∗ sE false c (sg false (Fin.ofNat 16 (HN false))) k))
        ∗ owesW c (startO (2 * l + 1) ++ L))
      (Cert.Kernel.each subs fun k => do Cert.Kernel.rsStart c k true; Cert.Kernel.rsStart c k false)
      fun _ => iprop((hop (sndCred (2 * l + 1) c) 0 ∗ hop (RP l I c) 0) ∗ owesW c L) := by
  rw [hop_zero, hop_zero, hop_zero, ← bigSepL_sep, ← bigSepL_sep, ← bigSepL_sep]
  refine Tr.eachSep (C := Ctx I K) (f := fun k => do Cert.Kernel.rsStart c k true; Cert.Kernel.rsStart c k false)
    (fun k => iprop((SendR (2 * l + 1) c ⟨true, (0 : Fin 8), k⟩ ∗ SendR (2 * l + 1) c ⟨false, (0 : Fin 7), k⟩)
      ∗ (RP l I c ⟨true, (0 : Fin 8), k⟩ ∗ RP l I c ⟨false, (0 : Fin 7), k⟩)
      ∗ (sE true c (sg true (Fin.ofNat 16 (HN true))) k ∗ sE false c (sg false (Fin.ofNat 16 (HN false))) k)))
    (fun k => iprop((sndCred (2 * l + 1) c ⟨true, (0 : Fin 8), k⟩ ∗ sndCred (2 * l + 1) c ⟨false, (0 : Fin 7), k⟩)
      ∗ (RP l I c ⟨true, (0 : Fin 8), k⟩ ∗ RP l I c ⟨false, (0 : Fin 7), k⟩)))
    (fun ks => owesW c ((ks.flatMap fun k => sendO (2 * l + 1) true 0 k ++ sendO (2 * l + 1) false 0 k) ++ L)) subs fun k ks _ => ?_
  rw [List.flatMap_cons, List.append_assoc, List.append_assoc]
  generalize (ks.flatMap fun k => sendO (2 * l + 1) true 0 k ++ sendO (2 * l + 1) false 0 k) ++ L = M
  have t1 := Tr.rsStart (I := I) (K := K) (c := c) hl true k (sendO (2 * l + 1) false 0 k ++ M)
  have t2 := Tr.rsStart (I := I) (K := K) (c := c) hl false k M
  rw [show hop₀ true = (0 : Fin 8) from rfl] at t1
  rw [show hop₀ false = (0 : Fin 7) from rfl] at t2
  exact t1.step iprop(SendR (2 * l + 1) c ⟨false, (0 : Fin 7), k⟩ ∗ RP l I c ⟨false, (0 : Fin 7), k⟩ ∗ sE false c (sg false (Fin.ofNat 16 (HN false))) k)
    (Entails.of_eq (by ac_rfl)) fun _ =>
    (t2.frame iprop(sndCred (2 * l + 1) c ⟨true, (0 : Fin 8), k⟩ ∗ RP l I c ⟨true, (0 : Fin 8), k⟩)).conseq
      (Entails.of_eq (by ac_rfl)) fun _ => Entails.of_eq (by ac_rfl)

theorem bigSepL_empty {ι : Type} : ∀ (l : List ι) (Φ : ι → PP F), (∀ i ∈ l, Φ i = iprop(emp)) → bigSepL l Φ = iprop(emp)
  | [], _, _ => rfl
  | i :: l, Φ, h => by
    rw [bigSepL_cons', h i List.mem_cons_self, bigSepL_empty l Φ fun j hj => h j (List.mem_cons_of_mem _ hj)]
    exact sep_emp_q _

/-- A family that is there on a direction's last hop only. -/
theorem hk_last (d : Bool) (n : Fin (HN d)) (pre : List (Fin (HN d))) (hl : hops d = pre ++ [n]) (hn : n.val + 1 = HN d) (hp : ∀ h ∈ pre, h.val + 1 ≠ HN d)
    (Ψ : Fin (HN d) → Fin 4 → PP F) : hk d (fun h k => if h.val + 1 = HN d then Ψ h k else iprop(emp)) = bigSepL subs fun k => Ψ n k := by
  unfold hk
  rw [hl, bigSepL_append, bigSepL_singleton, bigSepL_empty pre _ fun h hh => by
    simp only [if_neg (hp h hh)]; exact bigSepL_emp _]
  simp only [if_pos hn]
  exact (BI.equiv_iff.mp ⟨BI.sep_comm, BI.sep_comm⟩).trans (sep_emp_q _)

/-- A family that is there on each direction's last hop only. -/
theorem xs_last (Ψ : (d : Bool) → Fin (HN d) → Fin 4 → PP F) :
    xs (fun x => if x.2.1.val + 1 = HN x.1 then Ψ x.1 x.2.1 x.2.2 else iprop(emp))
      = iprop((bigSepL subs fun k => Ψ true (7 : Fin 8) k) ∗ bigSepL subs fun k => Ψ false (6 : Fin 7) k) := by
  unfold xs
  exact congrArg₂ (fun P Q : PP F => iprop(P ∗ Q))
    (hk_last true (7 : Fin 8) ([0, 1, 2, 3, 4, 5, 6] : List (Fin 8)) rfl rfl (by decide) (Ψ true))
    (hk_last false (6 : Fin 7) ([0, 1, 2, 3, 4, 5] : List (Fin 7)) rfl rfl (by decide) (Ψ false))

/-- The staging buffers' sub-chunks that were sent. -/
def GS (l : ℕ) (c : Dev nD) (x : XI) : PP F := sE x.1 c (sr (2 * l + 1) x.1 x.2.1.val) x.2.2

/-- The reduce-scatter. -/
theorem Tr.reduceScatter {l : ℕ} (hl : l < 3) {L : List Debt} (hL : Above (10 * (2 * l + 1) + 9) L) :
    Tr (Ctx I K) c iprop((xs (SendR (2 * l + 1) c) ∗ xs (AwR (2 * l + 1) c) ∗ xs (SnR (2 * l + 1) c)) ∗ xs (RP l I c)
        ∗ (bigSepL subs fun k => iprop(sE true c (sg true (Fin.ofNat 16 (HN true))) k ∗ sE false c (sg false (Fin.ofNat 16 (HN false))) k))
        ∗ (bigSepL subs fun k => pS c 0 k (Par I l c)) ∗ (bigSepL subs fun k => aE c 0 k) ∗ owesW c (rsO (2 * l + 1) ++ L))
      (Cert.Kernel.reduceScatter c)
      fun _ => iprop((xs (AwD (2 * l + 1) c) ∗ xs (SnD (2 * l + 1) c)) ∗ xs (RP l I c)
        ∗ (xs (GS l c) ∗ bigSepL subs fun k => iprop(sE true c 0 k ∗ sE false c 0 k))
        ∗ (bigSepL subs fun k => pS c 0 k (Par I l c)) ∗ (bigSepL subs fun k => aS c fullShare 0 k (Act I (l + 1))) ∗ owesW c L) := by
  unfold Cert.Kernel.reduceScatter
  have t1 := Tr.rsStarts (I := I) (K := K) (c := c) hl (((hops true).flatMap fun h => rsHopO (2 * l + 1) h.val) ++ L)
  have t2 := Tr.eachSep (ι := Fin (HN true)) (C := Ctx I K) (c := c) (f := fun h => Cert.Kernel.rsHop c h)
    (fun h => iprop(hop (AwR (2 * l + 1) c) h.val ∗ hop (SendR (2 * l + 1) c) (h.val + 1) ∗ hop (RP l I c) (h.val + 1)))
    (fun h => iprop(hop (AwD (2 * l + 1) c) h.val ∗ hop (sndCred (2 * l + 1) c) (h.val + 1) ∗ hop (RP l I c) (h.val + 1) ∗ hop (LAST l I c) h.val))
    (fun hs => owesW c ((hs.flatMap fun h => rsHopO (2 * l + 1) h.val) ++ L)) (hops true) fun h hs hsuf => by
      rw [List.flatMap_cons, List.append_assoc]
      refine Tr.rsHop hl h (Above.append (Above.flatMap fun j hj => ?_) (hL.mono (by have : h.val < 8 := h.isLt; omega)))
      have := hops_lt hsuf j hj
      exact above_rsHopO (by omega) j.val (by have : h.val < j.val := this; omega)
  have t3 := Tr.eachSep (C := Ctx I K) (c := c) (f := fun k => Cert.Kernel.rsEnd c k)
    (fun k => iprop((sS true c 0 k (Acc I l true 7) ∗ sS false c 0 k (Acc I l false 6) ∗ pS c 0 k (Par I l c)) ∗ aE c 0 k))
    (fun k => iprop((sS true c 0 k (Acc I l true 7) ∗ sS false c 0 k (Acc I l false 6) ∗ pS c 0 k (Par I l c)) ∗ aS c fullShare 0 k (Act I (l + 1))))
    (fun _ => iprop(emp)) subs fun k _ _ => (Tr.rsEnd l k).frame _
  have t4 := Tr.drains (I := I) (K := K) (c := c) (p := 2 * l + 1) (by omega) (hL.mono (Nat.zero_le _))
  simp only [bigSepL_sep, sep_emp_q] at t2 t3
  rw [List.flatMap_nil, List.nil_append] at t2
  refine t1.step iprop((bigSepL (hops true) fun h => hop (SendR (2 * l + 1) c) (h.val + 1)) ∗ (bigSepL (hops true) fun h => hop (RP l I c) (h.val + 1))
      ∗ xs (AwR (2 * l + 1) c) ∗ xs (SnR (2 * l + 1) c) ∗ (bigSepL subs fun k => pS c 0 k (Par I l c)) ∗ (bigSepL subs fun k => aE c 0 k)) ?_ fun _ =>
    t2.step iprop(hop (sndCred (2 * l + 1) c) 0 ∗ hop (RP l I c) 0 ∗ xs (SnR (2 * l + 1) c) ∗ (bigSepL subs fun k => pS c 0 k (Par I l c))
      ∗ (bigSepL subs fun k => aE c 0 k)) ?_ fun _ =>
    t3.step iprop(xs (SnR (2 * l + 1) c) ∗ xs (sndCred (2 * l + 1) c) ∗ xs (RP l I c) ∗ xs (AwD (2 * l + 1) c) ∗ owesW c L) ?_ fun _ =>
    (t4.frame iprop(xs (AwD (2 * l + 1) c) ∗ xs (RP l I c) ∗ ((bigSepL subs fun k => sS true c 0 k (Acc I l true 7)) ∗ (bigSepL subs fun k => sS false c 0 k (Acc I l false 6)))
      ∗ (bigSepL subs fun k => pS c 0 k (Par I l c)) ∗ (bigSepL subs fun k => aS c fullShare 0 k (Act I (l + 1))))).conseq ?_ fun _ => ?_
  · rw [xs_shift (SendR (2 * l + 1) c), xs_shift (RP l I c)]
    unfold rsO
    rw [List.append_assoc]
    exact Entails.of_eq (by ac_rfl)
  · rw [xs_hops (AwR (2 * l + 1) c)]
    exact Entails.of_eq (by ac_rfl)
  · have hlast : (bigSepL (hops true) fun h => hop (LAST l I c) h.val)
        = iprop((bigSepL subs fun k => sS true c 0 k (Acc I l true 7)) ∗ bigSepL subs fun k => sS false c 0 k (Acc I l false 6)) :=
      (xs_hops (LAST l I c)).symm.trans (xs_last fun d h k => sS d c 0 k (Acc I l d h.val))
    rw [xs_shift (sndCred (2 * l + 1) c), xs_shift (RP l I c), xs_hops (AwD (2 * l + 1) c), hlast]
    exact Entails.of_eq (by ac_rfl)
  · exact Entails.of_eq (by ac_rfl)
  · have h1 : xs (sndSlot I (2 * l + 1) c) ⊢ xs (GS l c) := xs_mono fun ⟨d, h, k⟩ => by
      rw [sndSlot_odd]; exact slot_slotE _ _ _ _ _ _
    have h2 : iprop((bigSepL subs fun k => sS true c 0 k (Acc I l true 7)) ∗ (bigSepL subs fun k => sS false c 0 k (Acc I l false 6)))
        ⊢ bigSepL subs fun k => iprop(sE true c 0 k ∗ sE false c 0 k) := by
      rw [← bigSepL_sep]
      exact bigSepL_mono fun k _ => BIClass.sep_mono (slot_slotE _ _ _ _ _ _) (slot_slotE _ _ _ _ _ _)
    refine (Entails.of_eq ?_).trans ((BIClass.sep_mono (BIClass.sep_mono h1 h2) (Entails.refl
      iprop((xs (AwD (2 * l + 1) c) ∗ xs (SnD (2 * l + 1) c)) ∗ xs (RP l I c)
        ∗ (bigSepL subs fun k => pS c 0 k (Par I l c)) ∗ (bigSepL subs fun k => aS c fullShare 0 k (Act I (l + 1))) ∗ owesW c L))).trans (Entails.of_eq ?_))
    · ac_rfl
    · ac_rfl

end Cert.Kernel

end
-- ==== Proof.Kernel.Phase.lean ====
module

public import proofs.«01_k».proof.Proof.Kernel.ReduceScatter

@[expose] public section

/-! # The phases

What a device holds between two phases, the barrier that begins a phase, and the end of one. -/

noncomputable section

namespace Cert.Kernel

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F] [Facts]
variable {I : Inp F} {K : Dev nD × CS → ℕ} {c : Dev nD}

/-! ## Families of one fact -/

theorem list_intro {ι : Type} (P : PP F) [BI.Persistent P] : ∀ (l : List ι) (Φ : ι → PP F), (∀ i, P ⊢ Φ i) → P ⊢ bigSepL l Φ
  | [], Φ, _ => by iintro -; iempintro
  | i :: l, Φ, h => by
    have h1 := h i
    have h2 := list_intro P l Φ h
    rw [bigSepL_cons']
    iintro #H
    isplitr
    · iapply h1; iexact H
    · iapply h2; iexact H

theorem xs_intro (P : PP F) [BI.Persistent P] (Φ : XI → PP F) (h : ∀ x, P ⊢ Φ x) : P ⊢ xs Φ := by
  have h1 : P ⊢ hk true fun h k => Φ ⟨true, h, k⟩ := list_intro P _ _ fun i => list_intro P _ _ fun k => h _
  have h2 : P ⊢ hk false fun h k => Φ ⟨false, h, k⟩ := list_intro P _ _ fun i => list_intro P _ _ fun k => h _
  unfold xs
  iintro #H
  isplitr
  · iapply h1; iexact H
  · iapply h2; iexact H

theorem list_order {ι : Type} {l l' : List ι} (h : l.Perm l') (Φ : ι → PP F) : bigSepL l Φ = bigSepL l' Φ := by
  induction h with
  | nil => rfl
  | cons i _ ih => rw [bigSepL_cons', bigSepL_cons', ih]
  | swap i j l => rw [bigSepL_cons', bigSepL_cons', bigSepL_cons', bigSepL_cons']; ac_rfl
  | trans _ _ h1 h2 => exact h1.trans h2

/-- One member of each direction. -/
theorem xs_get (Φ : XI → PP F) : xs Φ ⊢ iprop(Φ ⟨true, (0 : Fin 8), 0⟩ ∗ Φ ⟨false, (0 : Fin 7), 0⟩) := by
  rw [xs_shift, hop_zero, show subs = 0 :: [1, 2, 3] from rfl, bigSepL_cons']
  iintro ⟨⟨H, -⟩, -⟩
  iexact H

/-- A family over the rotations, listed. -/
theorem xs_rots (ρ : Bool → ℕ → Fin 16) (Φ : Bool → Fin 16 → Fin 4 → PP F) :
    xs (fun x => Φ x.1 (ρ x.1 x.2.1.val) x.2.2)
      = iprop((bigSepL ((hops true).map fun h => ρ true h.val) fun r => bigSepL subs fun k => Φ true r k)
        ∗ bigSepL ((hops false).map fun h => ρ false h.val) fun r => bigSepL subs fun k => Φ false r k) := by
  unfold xs hk
  rw [bigSepL_map, bigSepL_map]

/-! ## Between phases -/

/-- The positions and marks before phase `p`. -/
def PS (p : ℕ) (c : Dev nD) : PP F :=
  iprop(xs (fun x => iprop((atPos ER (rcvC c x) p ∅ 0 ∗ reached ER (rcvC c x) p) ∗ SnD' p c x))
    ∗ atPos ER (barC c) p ∅ 0 ∗ reached ER (barC (nb false c)) p ∗ reached ER (barC (nb true c)) p)
where SnD' (p : ℕ) (c : Dev nD) (x : XI) : PP F := iprop(atPos ER (sndC c x) p ∅ 0 ∗ reached ER (sndC c x) p)

/-- What phase `p` will use up. -/
def Fut (p : ℕ) (c : Dev nD) : PP F :=
  iprop(xs (fun x => iprop(cred (tallyAt (rcvC c x) p N) ∗ dutyTok ER (rcvC (nb x.1 c) x) p false ∗ dutyTok ER (sndC c x) p false))
    ∗ cred (tallyAt (barC c) p 2) ∗ dutyTok ER (barC (nb false c)) p true ∗ dutyTok ER (barC (nb true c)) p false)

/-- The sub-chunks that are written in phase `p`. -/
def GB (p : ℕ) (c : Dev nD) : PP F := xs fun x => bslE p x.1 c (rr p x.1 x.2.1.val) x.2.2

theorem give_eq (p : ℕ) (c : Dev nD) : iprop(Give (F := F) p c true ∗ Give p c false)
    = iprop(GB p c ∗ xs fun x => reached ER (rcvC c x) p) := by
  rw [show iprop(Give (F := F) p c true ∗ Give p c false) = xs (fun x => iprop(bslE p x.1 c (rr p x.1 x.2.1.val) x.2.2 ∗ reached ER (rcvC c x) p)) from rfl, xs_sep]
  rfl

/-- The barrier that begins a phase. -/
theorem Tr.enter {p : ℕ} (hp : p < 7) {L : List Debt} (hL : Above (10 * p + 1) L) :
    Tr (Ctx I K) c iprop(PS p c ∗ Fut p c ∗ GB p c ∗ owesW c (barO p ++ L)) (Cert.Kernel.barrier c)
      fun _ => iprop((xs (SendR p c) ∗ xs (AwR p c) ∗ xs (SnR p c)) ∗ atPos ER (barC c) (p + 1) ∅ 0 ∗ owesW c L) := by
  have hpay : iprop(barPay (F := F) c p true ∗ barPay c p false)
      = xs (fun x => iprop(bslE p x.1 (nb x.1 c) (rr p x.1 x.2.1.val) x.2.2 ∗ reached ER (rcvC (nb x.1 c) x) p)) := rfl
  have t := Tr.barrier (I := I) (K := K) (c := c) hp hL
  have hg := give_eq (F := F) p c
  have hr : (reached ER (barC c) (p + 1) : PP F) ⊢ xs (fun _ => reached ER (barC c) (p + 1)) := xs_intro _ _ fun _ => Entails.refl _
  refine (t.frame iprop(xs (fun x => atPos ER (rcvC c x) p ∅ 0) ∗ xs (SnR p c) ∗ xs (fun x => reached ER (sndC c x) p)
    ∗ xs (fun x => cred (tallyAt (rcvC c x) p N)) ∗ xs (fun x => dutyTok ER (rcvC (nb x.1 c) x) p false) ∗ xs (fun x => dutyTok ER (sndC c x) p false))).conseq ?_ fun _ => ?_
  · rw [show iprop(BarR (F := F) p c ∗ Give p c true ∗ Give p c false ∗ owesW c (barO p ++ L))
      = iprop(BarR p c ∗ (Give p c true ∗ Give p c false) ∗ owesW c (barO p ++ L)) by ac_rfl, hg]
    rw [show SnR (F := F) p c = fun x => atPos ER (sndC c x) p ∅ 0 from rfl]
    unfold PS PS.SnD' Fut BarR
    simp only [xs_sep]
    exact Entails.of_eq (by ac_rfl)
  · rw [show iprop(BarD (F := F) p c ∗ barPay c p true ∗ barPay c p false ∗ owesW c L)
      = iprop(BarD p c ∗ (barPay c p true ∗ barPay c p false) ∗ owesW c L) by ac_rfl, hpay]
    have e1 : SendR (F := F) p c = fun x => iprop((bslE p x.1 (nb x.1 c) (rr p x.1 x.2.1.val) x.2.2 ∗ reached ER (rcvC (nb x.1 c) x) p)
        ∗ dutyTok ER (rcvC (nb x.1 c) x) p false ∗ dutyTok ER (sndC c x) p false ∗ reached ER (sndC c x) p ∗ reached ER (barC c) (p + 1)) := by
      funext x; unfold SendR; ac_rfl
    have e2 : AwR (F := F) p c = fun x => iprop(atPos ER (rcvC c x) p ∅ 0 ∗ cred (tallyAt (rcvC c x) p N)) := rfl
    rw [e1, e2]
    simp only [xs_sep]
    unfold BarD
    refine (BIClass.sep_mono (BIClass.sep_mono (BIClass.sep_mono (Entails.refl _) hr) (Entails.refl _)) (Entails.refl _)).trans (Entails.of_eq (by ac_rfl))

/-- The end of a phase. -/
theorem leave (p : ℕ) : iprop((xs (AwD (F := F) p c) ∗ xs (SnD p c)) ∗ atPos ER (barC c) (p + 1) ∅ 0) ⊢ PS (p + 1) c := by
  have e1 : AwD (F := F) p c = fun x => iprop((atPos ER (rcvC c x) (p + 1) ∅ 0 ∗ reached ER (rcvC c x) (p + 1)) ∗ reached ER (barC (nb (!x.1) c)) (p + 1)) := by
    funext x; unfold AwD; ac_rfl
  have hg := xs_get (F := F) fun x => reached ER (barC (nb (!x.1) c)) (p + 1)
  unfold PS
  rw [e1]
  simp only [xs_sep]
  refine (BIClass.sep_mono (BIClass.sep_mono (BIClass.sep_mono (Entails.refl _) hg) (Entails.refl _)) (Entails.refl _)).trans (Entails.of_eq ?_)
  show iprop(((_ ∗ (reached ER (barC (nb false c)) (p + 1) ∗ reached ER (barC (nb true c)) (p + 1))) ∗ xs (PS.SnD' (p + 1) c)) ∗ _) = iprop((_ ∗ xs (PS.SnD' (p + 1) c)) ∗ _)
  ac_rfl

/-! ## The chunks in the two orders of a phase -/

/-- The chunks a gather brings and those a reduce-scatter adds up are the same. -/
theorem ag_rs (l : ℕ) (Φ : Fin 16 → Fin 4 → PP F) :
    xs (fun x => Φ (agr x.1 x.2.1.val) x.2.2) = xs (fun x => Φ (sr (2 * l + 1) x.1 x.2.1.val) x.2.2) := by
  have h : ∀ d n, sr (2 * l + 1) d n = rsr d n + sg d 1 := fun d n => by unfold sr; rw [rr_odd]
  simp only [h]
  rw [xs_rots (fun d n => agr d n) (fun _ => Φ), xs_rots (fun d n => rsr d n + sg d 1) (fun _ => Φ), ← bigSepL_append, ← bigSepL_append]
  exact list_order (by decide) _

/-- A direction's staged chunks: those sent and the own one are the first one and those arrived. -/
theorem stg_turn (l : ℕ) (c : Dev nD) :
    iprop(xs (GS (F := F) l c) ∗ bigSepL subs fun k => iprop(sE true c 0 k ∗ sE false c 0 k))
      = iprop((bigSepL subs fun k => iprop(sE true c (sg true (Fin.ofNat 16 (HN true))) k ∗ sE false c (sg false (Fin.ofNat 16 (HN false))) k)) ∗ GB (2 * l + 1) c) := by
  have h : ∀ d n, sr (2 * l + 1) d n = rsr d n + sg d 1 := fun d n => by unfold sr; rw [rr_odd]
  have hG : GB (F := F) (2 * l + 1) c = xs fun x => sE x.1 c (rsr x.1 x.2.1.val) x.2.2 := by
    unfold GB; congr 1; funext x; rw [bslE_odd, rr_odd]
  have hS : GS (F := F) l c = fun x => sE x.1 c (rsr x.1 x.2.1.val + sg x.1 1) x.2.2 := by
    funext x; unfold GS; rw [h]
  rw [hG, hS, xs_rots (fun d n => rsr d n + sg d 1) (fun d r k => sE d c r k), xs_rots (fun d n => rsr d n) (fun d r k => sE d c r k), bigSepL_sep, bigSepL_sep]
  have hp : ∀ d, iprop((bigSepL ((hops d).map fun h => rsr d h.val + sg d 1) fun r => bigSepL subs fun k => sE (F := F) d c r k) ∗ bigSepL subs fun k => sE d c 0 k)
      = iprop((bigSepL subs fun k => sE d c (sg d (Fin.ofNat 16 (HN d))) k) ∗ bigSepL ((hops d).map fun h => rsr d h.val) fun r => bigSepL subs fun k => sE d c r k) := fun d => by
    have := list_order (F := F) (l := 0 :: (hops d).map fun h => rsr d h.val + sg d 1) (l' := sg d (Fin.ofNat 16 (HN d)) :: (hops d).map fun h => rsr d h.val)
      (by revert d; decide) (fun r => bigSepL subs fun k => sE d c r k)
    rw [bigSepL_cons', bigSepL_cons'] at this
    rw [← this]; ac_rfl
  refine (show _ = iprop((_ ∗ _) ∗ (_ ∗ _)) by ac_rfl : _ = iprop((((bigSepL ((hops true).map fun h => rsr true h.val + sg true 1) fun r => bigSepL subs fun k => sE (F := F) true c r k) ∗ bigSepL subs fun k => sE true c 0 k))
    ∗ ((bigSepL ((hops false).map fun h => rsr false h.val + sg false 1) fun r => bigSepL subs fun k => sE (F := F) false c r k) ∗ bigSepL subs fun k => sE false c 0 k))).trans ?_
  rw [hp true, hp false]
  ac_rfl

theorem GB_even (l : ℕ) (c : Dev nD) : GB (F := F) (2 * l) c = xs fun x => aE c (agr x.1 x.2.1.val) x.2.2 := by
  unfold GB; congr 1; funext x
  rw [rr_even]; exact slotE_eq (buf_even l x.1) _ _ c _ _

end Cert.Kernel

end
-- ==== Proof.Kernel.Layer.lean ====
module

public import proofs.«01_k».proof.Proof.Kernel.Phase

@[expose] public section

/-! # A layer

From all chunks of one layer's activations and their partial products to the next layer's: a reduce-scatter and an
all-gather, each with its barrier. -/

noncomputable section

namespace Cert.Kernel

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F] [Facts]
variable {I : Inp F} {K : Dev nD × CS → ℕ} {c : Dev nD}

/-- All partial products' sub-chunks to be written, and what of them an all-gather without products leaves alone. -/
def parE (c : Dev nD) : PP F := iprop((bigSepL subs fun k => pE c 0 k) ∗ xs fun x => pE c (agr x.1 x.2.1.val) x.2.2)
def parRest (lo : Option (Fin 3)) (c : Dev nD) : PP F := match lo with
  | none => parE c
  | some _ => iprop(emp)

theorem xs_emp : xs (fun _ => (BIBase.emp : PP F)) = BIBase.emp := by
  unfold xs hk; simp only [bigSepL_emp, sep_emp_q]

theorem parE_eq (lo : Option (Fin 3)) (c : Dev nD) :
    parE (F := F) c = iprop(((bigSepL subs fun k => pin lo c 0 k) ∗ xs (PIN lo c)) ∗ parRest lo c) := by
  cases lo with
  | none =>
    rw [show PIN (F := F) none c = fun _ => iprop(emp) from rfl, show (fun k => pin (F := F) none c 0 k) = fun _ => iprop(emp) from rfl, bigSepL_emp, xs_emp]
    rw [sep_emp_q]
    exact ((BI.equiv_iff.mp ⟨BI.sep_comm, BI.sep_comm⟩).trans (sep_emp_q _)).symm
  | some l => exact (sep_emp_q _).symm

/-- The staging buffers' sub-chunks in use. -/
def SB (c : Dev nD) : PP F :=
  iprop((bigSepL subs fun k => iprop(sE true c (sg true (Fin.ofNat 16 (HN true))) k ∗ sE false c (sg false (Fin.ofNat 16 (HN false))) k))
    ∗ xs fun x => sE x.1 c (rsr x.1 x.2.1.val) x.2.2)

theorem GB_odd (l : ℕ) (c : Dev nD) : GB (F := F) (2 * l + 1) c = xs fun x => sE x.1 c (rsr x.1 x.2.1.val) x.2.2 := by
  unfold GB; congr 1; funext x; rw [bslE_odd, rr_odd]

/-- What a device holds after the all-gather of layer `l`'s activations. -/
def St (l : ℕ) (lo : Option (Fin 3)) (I : Inp F) (c : Dev nD) : PP F :=
  iprop(PS (2 * l + 1) c ∗ ((bigSepL subs fun k => aS c fullShare 0 k (Act I l)) ∗ xs (GOT l I c))
    ∗ (((bigSepL subs fun k => pout I l lo c 0 k) ∗ xs (POUT l I lo c)) ∗ parRest lo c) ∗ SB c ∗ WB I c)

theorem act_slots (c : Dev nD) (l : ℕ) :
    (bigSepL subs fun k => aS c fullShare 0 k (Act I l)) ⊢ bigSepL subs fun k => aE c 0 k :=
  bigSepL_mono fun k _ => slot_slotE _ _ _ _ _ _

theorem gathered_slots (c : Dev nD) (l : ℕ) : xs (GOT l I c) ⊢ xs fun x => aE c (agr x.1 x.2.1.val) x.2.2 :=
  xs_mono fun x => slot_slotE _ _ _ _ _ _

theorem par_slots (c : Dev nD) (l : ℕ) :
    iprop((bigSepL subs fun k => pS c 0 k (Par I l c)) ∗ xs (RP l I c)) ⊢ parE c := by
  rw [show xs (RP l I c) = xs (POUT l I (some (lay l)) c) from (ag_rs l fun r k => pS c r k (Par I l c)).symm]
  exact BIClass.sep_mono (bigSepL_mono fun k _ => slot_slotE _ _ _ _ _ _) (xs_mono fun x => slot_slotE _ _ _ _ _ _)

/-- A barrier and an all-gather. -/
theorem Tr.gather {l : ℕ} (hl : l < 4) (lo : Option (Fin 3)) (hlo : ∀ l', lo = some l' → lay l = l') {L : List Debt}
    (hL : Above (20 * l + 9) L) :
    Tr (Ctx I K) c iprop(atPos ER (barC c) (2 * l + 1) ∅ 0 ∗ (xs (SendR (2 * l) c) ∗ xs (AwR (2 * l) c) ∗ xs (SnR (2 * l) c))
        ∗ (bigSepL subs fun k => aS c fullShare 0 k (Act I l)) ∗ parE c ∗ SB c ∗ WB I c ∗ owesW c (agO (2 * l) ++ L))
      (Cert.Kernel.allGather c lo) fun _ => iprop(St l lo I c ∗ owesW c L) := by
  have t := Tr.allGather (I := I) (K := K) (c := c) hl lo hlo (L := L) (hL.mono (by omega))
  refine (t.frame iprop(atPos ER (barC c) (2 * l + 1) ∅ 0 ∗ parRest lo c ∗ SB c)).conseq ?_ fun _ => ?_
  · rw [parE_eq lo c]; exact Entails.of_eq (by ac_rfl)
  · unfold St
    exact (Entails.of_eq (by ac_rfl)).trans ((BIClass.sep_mono (leave (c := c) (2 * l)) (Entails.refl
      iprop(((bigSepL subs fun k => aS c fullShare 0 k (Act I l)) ∗ xs (GOT l I c))
        ∗ (((bigSepL subs fun k => pout I l lo c 0 k) ∗ xs (POUT l I lo c)) ∗ parRest lo c) ∗ SB c ∗ WB I c ∗ owesW c L))).trans (Entails.of_eq (by ac_rfl)))

/-- A layer's collectives. -/
theorem Tr.layer {l : ℕ} (hl : l < 3) (lo : Option (Fin 3)) (hlo : ∀ l', lo = some l' → lay (l + 1) = l') {L : List Debt}
    (hL : Above (20 * l + 29) L) :
    Tr (Ctx I K) c iprop(St l (some (lay l)) I c ∗ Fut (2 * l + 1) c ∗ Fut (2 * l + 2) c ∗ owesW c (layerO l ++ L))
      (do Cert.Kernel.barrier c; Cert.Kernel.reduceScatter c; Cert.Kernel.barrier c; Cert.Kernel.allGather c lo)
      fun _ => iprop(St (l + 1) lo I c ∗ owesW c L) := by
  have hp2 : 2 * l + 2 = 2 * (l + 1) := by omega
  unfold layerO
  rw [hp2, List.append_assoc, List.append_assoc, List.append_assoc]
  have a4 : Above (20 * l + 21) (agO (2 * (l + 1)) ++ L) := (above_agO (by omega) (by omega)).append (hL.mono (by omega))
  have a3 : Above (20 * l + 19) (barO (2 * (l + 1)) ++ (agO (2 * (l + 1)) ++ L)) := (above_barO (by omega) (by omega)).append (a4.mono (by omega))
  have a2 : Above (20 * l + 11) (rsO (2 * l + 1) ++ (barO (2 * (l + 1)) ++ (agO (2 * (l + 1)) ++ L))) := (above_rsO (by omega) (by omega)).append (a3.mono (by omega))
  have t1 := Tr.enter (I := I) (K := K) (c := c) (p := 2 * l + 1) (by omega) (a2.mono (by omega))
  have t2 := Tr.reduceScatter (I := I) (K := K) (c := c) hl (a3.mono (by omega))
  have t3 := Tr.enter (I := I) (K := K) (c := c) (p := 2 * (l + 1)) (by omega) (a4.mono (by omega))
  have t4 := Tr.gather (I := I) (K := K) (c := c) (l := l + 1) (by omega) lo hlo (L := L) (hL.mono (by omega))
  rw [GB_odd] at t1
  rw [GB_even] at t3
  refine t1.step iprop(((bigSepL subs fun k => aS c fullShare 0 k (Act I l)) ∗ xs (GOT l I c))
      ∗ ((bigSepL subs fun k => pS c 0 k (Par I l c)) ∗ xs (RP l I c))
      ∗ (bigSepL subs fun k => iprop(sE true c (sg true (Fin.ofNat 16 (HN true))) k ∗ sE false c (sg false (Fin.ofNat 16 (HN false))) k))
      ∗ WB I c ∗ Fut (2 * (l + 1)) c) ?_ fun _ =>
    t2.step iprop(atPos ER (barC c) (2 * l + 1 + 1) ∅ 0 ∗ xs (GOT l I c) ∗ WB I c ∗ Fut (2 * (l + 1)) c) ?_ fun _ =>
    t3.step iprop((bigSepL subs fun k => aS c fullShare 0 k (Act I (l + 1))) ∗ parE c ∗ SB c ∗ WB I c) ?_ fun _ => t4.pre (Entails.of_eq (by ac_rfl))
  · have e : xs (POUT l I (some (lay l)) c) = xs (RP l I c) := ag_rs l fun r k => pS c r k (Par I l c)
    unfold St SB
    rw [e, show parRest (F := F) (some (lay l)) c = iprop(emp) from rfl, sep_emp_q, show (fun k => pout I l (some (lay l)) c 0 k) = fun k => pS c 0 k (Par I l c) from rfl]
    exact Entails.of_eq (by ac_rfl)
  · refine (Entails.of_eq ?_).trans ((BIClass.sep_mono (act_slots (I := I) c l) (Entails.refl
      iprop((xs (SendR (2 * l + 1) c) ∗ xs (AwR (2 * l + 1) c) ∗ xs (SnR (2 * l + 1) c)) ∗ xs (RP l I c)
        ∗ (bigSepL subs fun k => iprop(sE true c (sg true (Fin.ofNat 16 (HN true))) k ∗ sE false c (sg false (Fin.ofNat 16 (HN false))) k))
        ∗ (bigSepL subs fun k => pS c 0 k (Par I l c)) ∗ owesW c (rsO (2 * l + 1) ++ (barO (2 * (l + 1)) ++ (agO (2 * (l + 1)) ++ L)))
        ∗ atPos ER (barC c) (2 * l + 1 + 1) ∅ 0 ∗ xs (GOT l I c) ∗ WB I c ∗ Fut (2 * (l + 1)) c))).trans (Entails.of_eq ?_)) <;> ac_rfl
  · have h3 : iprop(xs (GS (F := F) l c) ∗ bigSepL subs fun k => iprop(sE true c 0 k ∗ sE false c 0 k)) = SB c := by
      rw [stg_turn, GB_odd]; rfl
    rw [h3]
    refine (Entails.of_eq ?_).trans ((BIClass.sep_mono (BIClass.sep_mono (leave (c := c) (2 * l + 1)) (BIClass.sep_mono (gathered_slots (I := I) c l) (par_slots (I := I) c l))) (Entails.refl
      iprop((bigSepL subs fun k => aS c fullShare 0 k (Act I (l + 1))) ∗ SB c ∗ WB I c ∗ Fut (2 * (l + 1)) c
        ∗ owesW c (barO (2 * (l + 1)) ++ (agO (2 * (l + 1)) ++ L))))).trans (Entails.of_eq ?_))
    · ac_rfl
    · show iprop((PS (2 * (l + 1)) c ∗ _) ∗ _) = _
      ac_rfl

end Cert.Kernel

end
-- ==== Proof.Kernel.Buffers.lean ====
module

public import proofs.«01_k».proof.Proof.Kernel.Layer

@[expose] public section

/-! # The scratch buffers, whole and in parts

At the start each scratch buffer is cut into the sub-chunks (or the layers' weights) that the body works with; at the end
they make whole buffers again. -/

noncomputable section

namespace Cert.Kernel

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F] [Facts]

/-! ## The chunks in the order of use -/

/-- The rotations of an all-gather. -/
def agL : List (Fin 16) := [0] ++ ((hops true).map (fun h => agr true h.val) ++ (hops false).map fun h => agr false h.val)
/-- The rotations a direction's reduce-scatter uses of its buffer, and the others. -/
def stL (d : Bool) : List (Fin 16) := [sg d (Fin.ofNat 16 (HN d))] ++ (hops d).map fun h => rsr d h.val
def stR : Bool → List (Fin 16)
  | true => [9, 10, 11, 12, 13, 14, 15]
  | false => [1, 2, 3, 4, 5, 6, 7, 8]

omit [Facts] in
theorem agL_perm : agL.Perm (List.finRange 16) := by decide
omit [Facts] in
theorem stL_perm : ∀ d, (stL d ++ stR d).Perm (List.finRange 16) := by decide

theorem chunks_append (c : Dev nD) (l l' : List (Fin 16)) (Φ : Fin 16 → Fin 4 → PP F) :
    chunks c (l ++ l') Φ = iprop(chunks c l Φ ∗ chunks c l' Φ) := bigSepL_append l l' _

theorem chunks_one (c : Dev nD) (r : Fin 16) (Φ : Fin 16 → Fin 4 → PP F) :
    chunks c [r] Φ = bigSepL subs fun k => Φ (rot r c) k := by
  unfold chunks; rw [bigSepL_cons', bigSepL_nil_q, sep_emp_q]

/-- The chunks of an all-gather. -/
theorem chunks_ag (c : Dev nD) (Φ : Fin 16 → Fin 4 → PP F) :
    chunks c agL Φ = iprop((bigSepL subs fun k => Φ (rot 0 c) k) ∗ xs fun x => Φ (rot (agr x.1 x.2.1.val) c) x.2.2) := by
  unfold agL
  rw [chunks_append, chunks_append, chunks_one, xs_rots agr fun _ r k => Φ (rot r c) k]

theorem four (a b d e : PP F) : iprop((a ∗ b) ∗ d ∗ e) = iprop((a ∗ d) ∗ b ∗ e) := by ac_rfl

/-- The chunks of the reduce-scatters' buffers that are used. -/
theorem chunks_st (c : Dev nD) : SB (F := F) c
    = iprop((chunks c (stL true) fun a k => slotE (stg true) (stg_whole true) c a k) ∗ chunks c (stL false) fun a k => slotE (stg false) (stg_whole false) c a k) := by
  unfold SB stL
  rw [chunks_append, chunks_append, chunks_one, chunks_one, bigSepL_sep, xs_rots rsr fun d r k => sE d c r k]
  exact four _ _ _ _

/-! ## Whole buffers -/

variable (c : Dev nD)

theorem act_split (f : act.view.ty.Contents (Elt F)) : (act.view.loc (c : Thread nD τ) ↦{fullShare} f : PP F)
    ⊢ iprop((bigSepL subs fun k => aE c 0 k) ∗ xs fun x => aE c (agr x.1 x.2.1.val) x.2.2) :=
  (whole_chunksE act (Memref.isWhole_whole _) c agL agL_perm f).trans (Entails.of_eq (chunks_ag c _))

theorem act_join (I : Inp F) (l : ℕ) : iprop((bigSepL subs fun k => aS c fullShare 0 k (Act I l)) ∗ xs (GOT l I c))
    = holds act (Memref.isWhole_whole _) c (Act I l) :=
  (chunks_ag c fun a k => slot act (Memref.isWhole_whole _) c fullShare a k (Act I l)).symm.trans
    (whole_chunks act (Memref.isWhole_whole _) c agL agL_perm fullShare (Act I l)).symm

theorem par_split (f : par.view.ty.Contents (Elt F)) : (par.view.loc (c : Thread nD τ) ↦{fullShare} f : PP F) ⊢ parE c :=
  (whole_chunksE par (Memref.isWhole_whole _) c agL agL_perm f).trans (Entails.of_eq (chunks_ag c _))

theorem par_join (f : par.view.ty.Contents (Elt F)) : parE (F := F) c ⊢ iprop(∃ f, par.view.loc (c : Thread nD τ) ↦{fullShare} f) :=
  (Entails.of_eq (chunks_ag c _).symm).trans (chunksE_whole par (Memref.isWhole_whole _) c agL agL_perm f)

/-- The chunks of the reduce-scatters' buffers that are not used. -/
def SR : PP F := iprop((chunks c (stR true) fun a k => slotE (stg true) (stg_whole true) c a k)
  ∗ chunks c (stR false) fun a k => slotE (stg false) (stg_whole false) c a k)

theorem st_split (f : (stg true).view.ty.Contents (Elt F)) (g : (stg false).view.ty.Contents (Elt F)) :
    (iprop(((stg true).view.loc (c : Thread nD τ) ↦{fullShare} f) ∗ ((stg false).view.loc (c : Thread nD τ) ↦{fullShare} g)) : PP F)
      ⊢ iprop(SB c ∗ SR c) := by
  refine (BIClass.sep_mono (whole_chunksE (stg true) (stg_whole true) c _ (stL_perm true) f)
    (whole_chunksE (stg false) (stg_whole false) c _ (stL_perm false) g)).trans (Entails.of_eq ?_)
  rw [chunks_append, chunks_append, chunks_st, SR]
  ac_rfl

theorem st_join (f : (stg true).view.ty.Contents (Elt F)) (g : (stg false).view.ty.Contents (Elt F)) : iprop(SB c ∗ SR c)
    ⊢ (iprop((∃ f, (stg true).view.loc (c : Thread nD τ) ↦{fullShare} f) ∗ ∃ g, (stg false).view.loc (c : Thread nD τ) ↦{fullShare} g) : PP F) := by
  refine (Entails.of_eq ?_).trans (BIClass.sep_mono (chunksE_whole (stg true) (stg_whole true) c _ (stL_perm true) f)
    (chunksE_whole (stg false) (stg_whole false) c _ (stL_perm false) g))
  rw [chunks_append, chunks_append, chunks_st, SR]
  ac_rfl

/-! ## The weights' buffers -/

section Pieces

variable {s : Shape} {e : EltTy} (M : Memref sig .tc .vmem s e) (hM : M.IsWhole) (r : Fin 3 → Rect s)
  (hd : ∀ l l', l ≠ l' → Disjoint (r l).set (r l').set) (hc : ∀ i, ∃ l, i ∈ (r l).set)

/-- The elements of a layer's part. -/
abbrev pset (l : Fin 3) : Finset (Idx (M.view.loc (c : Thread nD τ))) := (M.access (r l)).set

include hd in
theorem piece_disjoint (l l' : Fin 3) (h : l ≠ l') : Disjoint (pset c M r l) (pset c M r l') := by
  show Disjoint (M.access (r l)).set (M.access (r l')).set
  rw [View.set_slice, View.set_slice, Finset.disjoint_map]; exact hd l l' h

include hM hc in
theorem piece_cover : Finset.univ.biUnion (fun l : Fin 3 => pset c M r l) = Finset.univ := by
  refine Finset.eq_univ_iff_forall.mpr fun (j : M.view.ty.Idx) => ?_
  have hj : j ∈ M.view.set := by rw [hM.set_eq_univ]; exact Finset.mem_univ _
  obtain ⟨i, -, rfl⟩ := Finset.mem_map.mp hj
  obtain ⟨l, hl⟩ := hc i
  refine Finset.mem_biUnion.mpr ⟨l, Finset.mem_univ _, ?_⟩
  show _ ∈ (M.access (r l)).set
  rw [View.set_slice]
  exact Finset.mem_map_of_mem _ hl

theorem layers_list (Φ : Fin 3 → PP F) : bigSep Finset.univ Φ = bigSepL [0, 1, 2] Φ := bigSep_univ_eq_bigSepL [0, 1, 2] (by decide) (by decide) Φ

include hM hd hc in
/-- A whole buffer, layer by layer, -/
theorem pieces_split (f : M.view.ty.Contents (Elt F)) : (M.view.loc (c : Thread nD τ) ↦{fullShare} f : PP F) ⊢ bigSepL [0, 1, 2] fun l => pieceE M c (r l) := by
  rw [← layers_list, Ring.pointsTo_blocks (fun l : Fin 3 => pset c M r l)
    (piece_disjoint c M r hd) (piece_cover c M hM r hc) f]
  refine BI.bigSep_mono fun l _ => (show (_ : PP F) ⊢ _ from ?_)
  unfold pieceE piece
  iintro H
  iexists ((M.access (r l)).read (Elt F) f)
  iexists f
  isplitr
  · ipureintro; rfl
  · iexact H

include hM hd hc in
/-- and back. -/
theorem pieces_join (v : ∀ l : Fin 3, (r l).shape.Idx → Elt F e) (f : M.view.ty.Contents (Elt F)) :
    (bigSepL [0, 1, 2] fun l => piece M c (r l) (v l)) ⊢ (iprop(∃ f, M.view.loc (c : Thread nD τ) ↦{fullShare} f) : PP F) := by
  rw [← layers_list]
  refine BIBase.Entails.trans (BI.bigSep_mono fun l _ => (show (_ : PP F) ⊢ _ from ?_))
    (Ring.pointsTo_blocks_join_exists (fun l : Fin 3 => pset c M r l)
      (piece_disjoint c M r hd) (piece_cover c M hM r hc) f)
  unfold piece
  iintro ⟨%f, -, H⟩
  iexists f; iexact H

end Pieces

theorem mem_rW {l : Fin 3} {i : S3x256x512.Idx} : i ∈ (rW l).set ↔ (i 0).val = l.val := by
  rw [Rect.mem_set_unit]
  constructor
  · intro h
    have h0 := h 0
    simp at h0
    omega
  · intro h x
    have h1 : (i 1).val < 256 := (i 1).isLt
    have h2 : (i 2).val < 512 := (i 2).isLt
    fin_cases x <;> simp <;> omega

theorem mem_rU {l : Fin 3} {i : S3x512x256.Idx} : i ∈ (rU l).set ↔ (i 0).val = l.val := by
  rw [Rect.mem_set_unit]
  constructor
  · intro h
    have h0 := h 0
    simp at h0
    omega
  · intro h x
    have h1 : (i 1).val < 512 := (i 1).isLt
    have h2 : (i 2).val < 256 := (i 2).isLt
    fin_cases x <;> simp <;> omega

theorem rW_disjoint (l l' : Fin 3) (h : l ≠ l') : Disjoint (rW l).set (rW l').set := by
  rw [Finset.disjoint_left]
  intro i hi hi'
  exact h (Fin.ext ((mem_rW.mp hi).symm.trans (mem_rW.mp hi')))
theorem rU_disjoint (l l' : Fin 3) (h : l ≠ l') : Disjoint (rU l).set (rU l').set := by
  rw [Finset.disjoint_left]
  intro i hi hi'
  exact h (Fin.ext ((mem_rU.mp hi).symm.trans (mem_rU.mp hi')))

theorem win_split (f : winB.view.ty.Contents (Elt F)) : (winB.view.loc (c : Thread nD τ) ↦{fullShare} f : PP F) ⊢ bigSepL [0, 1, 2] fun l => pieceE winB c (rW l) :=
  pieces_split c winB (Memref.isWhole_whole _) rW rW_disjoint (fun i => ⟨(i 0 : Fin 3), mem_rW.mpr rfl⟩) f
theorem wout_split (f : woutB.view.ty.Contents (Elt F)) : (woutB.view.loc (c : Thread nD τ) ↦{fullShare} f : PP F) ⊢ bigSepL [0, 1, 2] fun l => pieceE woutB c (rU l) :=
  pieces_split c woutB (Memref.isWhole_whole _) rU rU_disjoint (fun i => ⟨(i 0 : Fin 3), mem_rU.mpr rfl⟩) f

theorem WB_join (I : Inp F) (f : winB.view.ty.Contents (Elt F)) (g : woutB.view.ty.Contents (Elt F)) :
    WB I c ⊢ (iprop((∃ f, winB.view.loc (c : Thread nD τ) ↦{fullShare} f) ∗ ∃ g, woutB.view.loc (c : Thread nD τ) ↦{fullShare} g) : PP F) :=
  BIClass.sep_mono (pieces_join c winB (Memref.isWhole_whole _) rW rW_disjoint (fun i => ⟨(i 0 : Fin 3), mem_rW.mpr rfl⟩) (fun l => wv I l c) f)
    (pieces_join c woutB (Memref.isWhole_whole _) rU rU_disjoint (fun i => ⟨(i 0 : Fin 3), mem_rU.mpr rfl⟩) (fun l => uv I l c) g)

end Cert.Kernel

end
-- ==== Proof.Kernel.Whole.lean ====
module

public import proofs.«01_k».proof.Proof.Kernel.Buffers

@[expose] public section

/-! # The body

What the whole body does on a device: from its seven inputs staged, the scratch buffers with anything in them, and the
credit and duties of all seven phases, to the result staged. -/

noncomputable section

namespace Cert.Kernel

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Facts₀ Facts

variable {F : FTy → Type} [FloatOps F] [Facts]
variable {I : Inp F} {K : Dev nD × CS → ℕ} {c : Dev nD}

section

variable {X : Memref sig .tc .vmem S512x256 .f32} (hX : X.IsWhole)
  {W0 : Memref sig .tc .vmem S256x512 .f32} (hW0 : W0.IsWhole) {U0 : Memref sig .tc .vmem S512x256 .f32} (hU0 : U0.IsWhole)
  {W1 : Memref sig .tc .vmem S256x512 .f32} (hW1 : W1.IsWhole) {U1 : Memref sig .tc .vmem S512x256 .f32} (hU1 : U1.IsWhole)
  {W2 : Memref sig .tc .vmem S256x512 .f32} (hW2 : W2.IsWhole) {U2 : Memref sig .tc .vmem S512x256 .f32} (hU2 : U2.IsWhole)

/-- The staged weights. -/
def weights (I : Inp F) (c : Dev nD) : PP F :=
  iprop(holds W0 hW0 c (I.W 0 c) ∗ holds U0 hU0 c (I.U 0 c) ∗ holds W1 hW1 c (I.W 1 c) ∗ holds U1 hU1 c (I.U 1 c)
    ∗ holds W2 hW2 c (I.W 2 c) ∗ holds U2 hU2 c (I.U 2 c))

/-- The weights converted, before the rest of the program. -/
theorem Tr.castAll {C : PP F} [BI.Persistent C] {p : PR F} {R : PP F} {S : PUnit → PP F}
    (t : Tr C c iprop(weights hW0 hU0 hW1 hU1 hW2 hU2 I c ∗ WB I c ∗ R) p S) :
    Tr C c iprop(weights hW0 hU0 hW1 hU1 hW2 hU2 I c ∗ ((bigSepL [0, 1, 2] fun l => pieceE winB c (rW l)) ∗ bigSepL [0, 1, 2] fun l => pieceE woutB c (rU l)) ∗ R)
      (do
        Cert.Kernel.castWin 0 W0 (inbW 0) packedbf16_S3x256x512_S1x256x512_0_0_0
        Cert.Kernel.castWout 0 U0 (inbU 0) packedbf16_S3x512x256_S1x512x256_0_0_0
        Cert.Kernel.castWin 1 W1 (inbW 1) packedbf16_S3x256x512_S1x256x512_1_0_0
        Cert.Kernel.castWout 1 U1 (inbU 1) packedbf16_S3x512x256_S1x512x256_1_0_0
        Cert.Kernel.castWin 2 W2 (inbW 2) packedbf16_S3x256x512_S1x256x512_2_0_0
        Cert.Kernel.castWout 2 U2 (inbU 2) packedbf16_S3x512x256_S1x512x256_2_0_0
        p) S := by
  unfold weights WB at *
  simp only [bigSepL_cons', bigSepL_nil_q, sep_emp_q] at t ⊢
  have w0 := Tr.castWin (C := C) (I := I) (c := c) 0 W0 hW0 (hl := inbW 0) (hp := packedbf16_S3x256x512_S1x256x512_0_0_0)
  have u0 := Tr.castWout (C := C) (I := I) (c := c) 0 U0 hU0 (hl := inbU 0) (hp := packedbf16_S3x512x256_S1x512x256_0_0_0)
  have w1 := Tr.castWin (C := C) (I := I) (c := c) 1 W1 hW1 (hl := inbW 1) (hp := packedbf16_S3x256x512_S1x256x512_1_0_0)
  have u1 := Tr.castWout (C := C) (I := I) (c := c) 1 U1 hU1 (hl := inbU 1) (hp := packedbf16_S3x512x256_S1x512x256_1_0_0)
  have w2 := Tr.castWin (C := C) (I := I) (c := c) 2 W2 hW2 (hl := inbW 2) (hp := packedbf16_S3x256x512_S1x256x512_2_0_0)
  have u2 := Tr.castWout (C := C) (I := I) (c := c) 2 U2 hU2 (hl := inbU 2) (hp := packedbf16_S3x512x256_S1x512x256_2_0_0)
  generalize holds W0 hW0 c (I.W 0 c) = A0 at *
  generalize holds W1 hW1 c (I.W 1 c) = A1 at *
  generalize holds W2 hW2 c (I.W 2 c) = A2 at *
  generalize holds U0 hU0 c (I.U 0 c) = B0 at *
  generalize holds U1 hU1 c (I.U 1 c) = B1 at *
  generalize holds U2 hU2 c (I.U 2 c) = B2 at *
  generalize pieceE winB c (rW 0) = a0, pieceE winB c (rW 1) = a1, pieceE winB c (rW 2) = a2,
    pieceE woutB c (rU 0) = b0, pieceE woutB c (rU 1) = b1, pieceE woutB c (rU 2) = b2 at *
  generalize piece winB c (rW 0) (wv I 0 c) = p0, piece winB c (rW 1) (wv I 1 c) = p1, piece winB c (rW 2) (wv I 2 c) = p2,
    piece woutB c (rU 0) (uv I 0 c) = q0, piece woutB c (rU 1) (uv I 1 c) = q1, piece woutB c (rU 2) (uv I 2 c) = q2 at *
  refine w0.step iprop(B0 ∗ A1 ∗ B1 ∗ A2 ∗ B2 ∗ a1 ∗ a2 ∗ b0 ∗ b1 ∗ b2 ∗ R) (Entails.of_eq (by ac_rfl)) fun _ => ?_
  refine u0.step iprop(A0 ∗ A1 ∗ B1 ∗ A2 ∗ B2 ∗ p0 ∗ a1 ∗ a2 ∗ b1 ∗ b2 ∗ R) (Entails.of_eq (by ac_rfl)) fun _ => ?_
  refine w1.step iprop(A0 ∗ B0 ∗ B1 ∗ A2 ∗ B2 ∗ p0 ∗ a2 ∗ q0 ∗ b1 ∗ b2 ∗ R) (Entails.of_eq (by ac_rfl)) fun _ => ?_
  refine u1.step iprop(A0 ∗ B0 ∗ A1 ∗ A2 ∗ B2 ∗ p0 ∗ p1 ∗ a2 ∗ q0 ∗ b2 ∗ R) (Entails.of_eq (by ac_rfl)) fun _ => ?_
  refine w2.step iprop(A0 ∗ B0 ∗ A1 ∗ B1 ∗ B2 ∗ p0 ∗ p1 ∗ q0 ∗ q1 ∗ b2 ∗ R) (Entails.of_eq (by ac_rfl)) fun _ => ?_
  refine u2.step iprop(A0 ∗ B0 ∗ A1 ∗ B1 ∗ A2 ∗ p0 ∗ p1 ∗ p2 ∗ q0 ∗ q1 ∗ R) (Entails.of_eq (by ac_rfl)) fun _ => ?_
  exact t.pre (Entails.of_eq (by ac_rfl))

end

/-- The result's staging buffer. -/
abbrev outM : Memref sig .tc .vmem S16x4x128x256 .f32 := Memref.whole cc0_stg7_0

/-- The last activations stored as the result. -/
theorem Tr.finish {C : PP F} [BI.Persistent C] (g : outM.view.ty.Contents (Elt F)) :
    Tr C c iprop(holds act (Memref.isWhole_whole _) c (Act I 3) ∗ (outM.view.loc (c : Thread nD τ) ↦{fullShare} g)) (Cert.Kernel.finish outM)
      fun _ => iprop(holds act (Memref.isWhole_whole _) c (Act I 3) ∗ (outM.view.loc (c : Thread nD τ) ↦{fullShare} (Out I : outM.view.ty.Contents (Elt F)))) := by
  unfold Cert.Kernel.finish
  refine (Tr.load_holds (M := act) (hM := Memref.isWhole_whole _) (X := Act I 3)).step (outM.view.loc (c : Thread nD τ) ↦{fullShare} g) (Entails.refl _) fun v => ?_
  refine Tr.pre (P := iprop(⌜v = fun i => Act I 3 ((Rect.unit (s := S16x4x128x256) ![0, 0, 0, 0] S16x4x128x256.size inb_S16x4x128x256_S16x4x128x256_0_0_0_0).emb i)⌝
    ∗ (holds act (Memref.isWhole_whole _) c (Act I 3) ∗ (outM.view.loc (c : Thread nD τ) ↦{fullShare} g)))) (Tr.pure fun hv => ?_) sep_assoc.1
  have hv' : v = Act I 3 := by
    rw [hv]; funext i; exact congrArg (Act I 3) (whole_emb o4 _ i)
  clear hv
  · subst hv'
    refine Tr.step (R := fun _ => (outM.view.loc (c : Thread nD τ) ↦{fullShare} g)) ?_ (holds act (Memref.isWhole_whole _) c (Act I 3)) BI.sep_comm fun w => ?_
    · unfold Tr
      iintro ⟨-, H⟩
      unfold Prog.lift
      iapply (wp_load_rect 𝒱₀ (c : Thread nD τ) none Set.univ (m := outM) (r := Rect.unit (s := S16x4x128x256) ![0, 0, 0, 0] S16x4x128x256.size inb_S16x4x128x256_S16x4x128x256_0_0_0_0) (Finset.subset_univ _)) $$ H
      iintro H
      rw [wp_ret]; imodintro
      iexact H
    · refine Tr.conseq (P := iprop((outM.view.loc (c : Thread nD τ) ↦{fullShare} g) ∗ holds act (Memref.isWhole_whole _) c (Act I 3)))
        (Tr.frame (P := (outM.view.loc (c : Thread nD τ) ↦{fullShare} g)) (R := fun _ => (outM.view.loc (c : Thread nD τ) ↦{fullShare} (Out I : outM.view.ty.Contents (Elt F)))) ?_ (holds act (Memref.isWhole_whole _) c (Act I 3)))
        (Entails.refl _) fun _ => BI.sep_comm
      unfold Tr
      iintro ⟨-, H⟩
      unfold Prog.lift
      iapply (wp_store 𝒱₀ (c : Thread nD τ) none Set.univ (m := outM) (r := Rect.unit (s := S16x4x128x256) ![0, 0, 0, 0] S16x4x128x256.size inb_S16x4x128x256_S16x4x128x256_0_0_0_0)
        (Mk := Finset.univ) (S := Finset.univ) (Finset.subset_univ _)) $$ H
      iintro H
      rw [wp_ret]; imodintro
      have e : ((outM.access (Rect.unit (s := S16x4x128x256) ![0, 0, 0, 0] S16x4x128x256.size inb_S16x4x128x256_S16x4x128x256_0_0_0_0)).write (Elt F) g
          (extf .f32 (Act I 3 : FVec F S16x4x128x256 .bf16) bitsLt_bf16_f32 : FVec F S16x4x128x256 .f32) Finset.univ : outM.view.ty.Contents (Elt F)) = Out I :=
        Memref.write_access_unit_zero_univ (Elt F) cc0_stg7_0 o4 inb_S16x4x128x256_S16x4x128x256_0_0_0_0 g (Out I)
      rw [e]
      iexact H

section

variable {X : Memref sig .tc .vmem S512x256 .f32} (hX : X.IsWhole)
  {W0 : Memref sig .tc .vmem S256x512 .f32} (hW0 : W0.IsWhole) {U0 : Memref sig .tc .vmem S512x256 .f32} (hU0 : U0.IsWhole)
  {W1 : Memref sig .tc .vmem S256x512 .f32} (hW1 : W1.IsWhole) {U1 : Memref sig .tc .vmem S512x256 .f32} (hU1 : U1.IsWhole)
  {W2 : Memref sig .tc .vmem S256x512 .f32} (hW2 : W2.IsWhole) {U2 : Memref sig .tc .vmem S512x256 .f32} (hU2 : U2.IsWhole)

/-- The credit and duties of all phases. -/
def FutAll (c : Dev nD) : PP F := iprop(Fut 0 c ∗ Fut 1 c ∗ Fut 2 c ∗ Fut 3 c ∗ Fut 4 c ∗ Fut 5 c ∗ Fut 6 c)

/-- The scratch buffers with anything in them. -/
def scratch (c : Dev nD) : PP F :=
  iprop((∃ f, act.view.loc (c : Thread nD τ) ↦{fullShare} f) ∗ (∃ f, par.view.loc (c : Thread nD τ) ↦{fullShare} f)
    ∗ (∃ f, (stg true).view.loc (c : Thread nD τ) ↦{fullShare} f) ∗ (∃ f, (stg false).view.loc (c : Thread nD τ) ↦{fullShare} f)
    ∗ (∃ f, winB.view.loc (c : Thread nD τ) ↦{fullShare} f) ∗ (∃ f, woutB.view.loc (c : Thread nD τ) ↦{fullShare} f))

/-- The own chunk from `x`. -/
theorem Tr.castXs {C : PP F} [BI.Persistent C] :
    Tr C c iprop((bigSepL subs fun k => aE c 0 k) ∗ holds X hX c (I.x c)) (Cert.Kernel.each subs fun k => Cert.Kernel.castX c X k)
      fun _ => iprop((bigSepL subs fun k => aS c fullShare 0 k (Act I 0)) ∗ holds X hX c (I.x c)) := by
  refine Tr.eachSep (C := C) (f := fun k => Cert.Kernel.castX c X k) (fun k => aE c 0 k) (fun k => aS c fullShare 0 k (Act I 0)) (fun _ => holds X hX c (I.x c)) subs fun k _ _ => ?_
  unfold aS aE
  rw [rot_zero]
  exact Tr.castX X hX k

/-- The three layers. -/
theorem Tr.layers : Tr (Ctx I K) c iprop((St 0 (some 0) I c ∗ owesW c (layerO 0 ++ (layerO 1 ++ (layerO 2 ++ []))))
      ∗ (Fut 1 c ∗ Fut 2 c) ∗ (Fut 3 c ∗ Fut 4 c) ∗ (Fut 5 c ∗ Fut 6 c))
    (Cert.Kernel.each [0, 1, 2] fun l => Cert.Kernel.layer c l) fun _ => iprop(St 3 none I c ∗ owesW c []) := by
  have b2 : Above 49 (layerO 2 ++ []) := (above_layerO (by omega) (by omega)).append (Above.nil _)
  have b1 : Above 29 (layerO 1 ++ (layerO 2 ++ [])) := (above_layerO (by omega) (by omega)).append (b2.mono (by omega))
  have t0 := Tr.layer (I := I) (K := K) (c := c) (l := 0) (by omega) (some 1) (fun l' h => Option.some.inj h) b1
  have t1 := Tr.layer (I := I) (K := K) (c := c) (l := 1) (by omega) (some 2) (fun l' h => Option.some.inj h) b2
  have t2 := Tr.layer (I := I) (K := K) (c := c) (l := 2) (by omega) none (fun l' h => nomatch h) (Above.nil _)
  refine t0.step iprop((Fut 3 c ∗ Fut 4 c) ∗ (Fut 5 c ∗ Fut 6 c)) ?_ fun _ =>
    t1.step iprop(Fut 5 c ∗ Fut 6 c) ?_ fun _ =>
    t2.step iprop(emp) ?_ fun _ => (Tr.ret PUnit.unit fun _ => iprop(St 3 none I c ∗ owesW c [])).pre ?_
  · show iprop((St 0 (some 0) I c ∗ owesW c (layerO 0 ++ (layerO 1 ++ (layerO 2 ++ [])))) ∗ (Fut 1 c ∗ Fut 2 c) ∗ (Fut 3 c ∗ Fut 4 c) ∗ (Fut 5 c ∗ Fut 6 c))
      ⊢ iprop((St 0 (some 0) I c ∗ Fut 1 c ∗ Fut 2 c ∗ owesW c (layerO 0 ++ (layerO 1 ++ (layerO 2 ++ [])))) ∗ (Fut 3 c ∗ Fut 4 c) ∗ (Fut 5 c ∗ Fut 6 c))
    exact Entails.of_eq (by ac_rfl)
  · show iprop((St 1 (some 1) I c ∗ owesW c (layerO 1 ++ (layerO 2 ++ []))) ∗ (Fut 3 c ∗ Fut 4 c) ∗ (Fut 5 c ∗ Fut 6 c))
      ⊢ iprop((St 1 (some 1) I c ∗ Fut 3 c ∗ Fut 4 c ∗ owesW c (layerO 1 ++ (layerO 2 ++ []))) ∗ (Fut 5 c ∗ Fut 6 c))
    exact Entails.of_eq (by ac_rfl)
  · show iprop((St 2 (some 2) I c ∗ owesW c (layerO 2 ++ [])) ∗ (Fut 5 c ∗ Fut 6 c))
      ⊢ iprop((St 2 (some 2) I c ∗ Fut 5 c ∗ Fut 6 c ∗ owesW c (layerO 2 ++ [])) ∗ emp)
    rw [sep_emp_q]
    exact Entails.of_eq (by ac_rfl)
  · exact Entails.of_eq (sep_emp_q _)

/-- The body. -/
theorem Tr.prog (g : outM.view.ty.Contents (Elt F)) :
    Tr (Ctx I K) c iprop((PS 0 c ∗ FutAll c ∗ owesW c allO) ∗ scratch c ∗ holds X hX c (I.x c) ∗ weights hW0 hU0 hW1 hU1 hW2 hU2 I c
        ∗ (outM.view.loc (c : Thread nD τ) ↦{fullShare} g))
      (Cert.Kernel.prog c X W0 U0 W1 U1 W2 U2 outM)
      fun _ => iprop((PS 7 c ∗ owesW c []) ∗ scratch c ∗ holds X hX c (I.x c) ∗ weights hW0 hU0 hW1 hU1 hW2 hU2 I c
        ∗ (outM.view.loc (c : Thread nD τ) ↦{fullShare} (Out I : outM.view.ty.Contents (Elt F)))) := by
  refine Tr.pre (P := iprop(∃ (fa : act.view.ty.Contents (Elt F)) (fp : par.view.ty.Contents (Elt F)) (ft : (stg true).view.ty.Contents (Elt F))
      (ff : (stg false).view.ty.Contents (Elt F)) (fw : winB.view.ty.Contents (Elt F)) (fu : woutB.view.ty.Contents (Elt F)),
      ((act.view.loc (c : Thread nD τ) ↦{fullShare} fa) ∗ (par.view.loc (c : Thread nD τ) ↦{fullShare} fp)
        ∗ (((stg true).view.loc (c : Thread nD τ) ↦{fullShare} ft) ∗ ((stg false).view.loc (c : Thread nD τ) ↦{fullShare} ff))
        ∗ (winB.view.loc (c : Thread nD τ) ↦{fullShare} fw) ∗ (woutB.view.loc (c : Thread nD τ) ↦{fullShare} fu))
      ∗ (PS 0 c ∗ FutAll c ∗ owesW c allO) ∗ holds X hX c (I.x c) ∗ weights hW0 hU0 hW1 hU1 hW2 hU2 I c
        ∗ (outM.view.loc (c : Thread nD τ) ↦{fullShare} g))) (Tr.exI fun fa => Tr.exI fun fp => Tr.exI fun ft => Tr.exI fun ff => Tr.exI fun fw => Tr.exI fun fu => ?_) ?_
  swap
  · unfold scratch
    iintro ⟨H0, ⟨⟨%fa, Ha⟩, ⟨%fp, Hp⟩, ⟨%ft, Ht⟩, ⟨%ff, Hf⟩, ⟨%fw, Hw⟩, %fu, Hu⟩, HR⟩
    iexists fa; iexists fp; iexists ft; iexists ff; iexists fw; iexists fu
    isplitr [H0 HR]
    · isplitl [Ha]; · iexact Ha
      isplitl [Hp]; · iexact Hp
      isplitl [Ht Hf]
      · isplitl [Ht]; · iexact Ht
        iexact Hf
      isplitl [Hw]; · iexact Hw
      iexact Hu
    · isplitl [H0]; · iexact H0
      iexact HR
  have hO : allO = barO 0 ++ (agO 0 ++ (layerO 0 ++ (layerO 1 ++ (layerO 2 ++ [])))) := by unfold allO; rw [List.append_nil]
  have b2 : Above 49 (layerO 2 ++ []) := (above_layerO (by omega) (by omega)).append (Above.nil _)
  have b1 : Above 29 (layerO 1 ++ (layerO 2 ++ [])) := (above_layerO (by omega) (by omega)).append (b2.mono (by omega))
  have b0 : Above 9 (layerO 0 ++ (layerO 1 ++ (layerO 2 ++ []))) := (above_layerO (by omega) (by omega)).append (b1.mono (by omega))
  have bA : Above 1 (agO 0 ++ (layerO 0 ++ (layerO 1 ++ (layerO 2 ++ [])))) := (above_agO (by omega) (by omega)).append (b0.mono (by omega))
  have t1 := Tr.enter (I := I) (K := K) (c := c) (p := 0) (by omega) bA
  rw [show GB (F := F) 0 c = _ from GB_even 0 c] at t1
  have t2 : Tr (Ctx I K) c _ _ _ := Tr.castXs (X := X) hX (I := I) (c := c) (C := Ctx I K)
  have t3 := Tr.gather (I := I) (K := K) (c := c) (l := 0) (by omega) (some 0) (fun l' h => Option.some.inj h) b0
  have t4 := Tr.layers (I := I) (K := K) (c := c)
  have t5 := Tr.finish (I := I) (C := Ctx I K) (c := c) g
  rw [hO]
  have hs : iprop((act.view.loc (c : Thread nD τ) ↦{fullShare} fa) ∗ (par.view.loc (c : Thread nD τ) ↦{fullShare} fp)
        ∗ (((stg true).view.loc (c : Thread nD τ) ↦{fullShare} ft) ∗ ((stg false).view.loc (c : Thread nD τ) ↦{fullShare} ff))
        ∗ (winB.view.loc (c : Thread nD τ) ↦{fullShare} fw) ∗ (woutB.view.loc (c : Thread nD τ) ↦{fullShare} fu))
      ⊢ iprop(((bigSepL subs fun k => aE c 0 k) ∗ xs fun x => aE c (agr x.1 x.2.1.val) x.2.2) ∗ parE c ∗ (SB c ∗ SR c)
        ∗ (bigSepL [0, 1, 2] fun l => pieceE winB c (rW l)) ∗ bigSepL [0, 1, 2] fun l => pieceE woutB c (rU l)) :=
    BIClass.sep_mono (act_split c fa) (BIClass.sep_mono (par_split c fp) (BIClass.sep_mono (st_split c ft ff) (BIClass.sep_mono (win_split c fw) (wout_split c fu))))
  unfold Cert.Kernel.prog
  refine Tr.pre (Tr.castAll (I := I) (c := c) hW0 hU0 hW1 hU1 hW2 hU2
    (R := iprop(((bigSepL subs fun k => aE c 0 k) ∗ xs fun x => aE c (agr x.1 x.2.1.val) x.2.2) ∗ parE c ∗ (SB c ∗ SR c)
      ∗ (PS 0 c ∗ FutAll c ∗ owesW c (barO 0 ++ (agO 0 ++ (layerO 0 ++ (layerO 1 ++ (layerO 2 ++ [])))))) ∗ holds X hX c (I.x c)
      ∗ (outM.view.loc (c : Thread nD τ) ↦{fullShare} g))) ?_)
    ((BIClass.sep_mono hs (Entails.refl _)).trans (Entails.of_eq (by ac_rfl)))
  generalize hwt : weights hW0 hU0 hW1 hU1 hW2 hU2 I c = WT
  refine t1.step iprop((bigSepL subs fun k => aE c 0 k) ∗ parE c ∗ (SB c ∗ SR c) ∗ ((Fut 1 c ∗ Fut 2 c) ∗ (Fut 3 c ∗ Fut 4 c) ∗ (Fut 5 c ∗ Fut 6 c))
      ∗ holds X hX c (I.x c) ∗ WT ∗ WB I c ∗ (outM.view.loc (c : Thread nD τ) ↦{fullShare} g)) ?_ fun _ =>
    t2.step iprop(((xs (SendR 0 c) ∗ xs (AwR 0 c) ∗ xs (SnR 0 c)) ∗ atPos ER (barC c) 1 ∅ 0 ∗ owesW c (agO 0 ++ (layerO 0 ++ (layerO 1 ++ (layerO 2 ++ [])))))
      ∗ parE c ∗ (SB c ∗ SR c) ∗ ((Fut 1 c ∗ Fut 2 c) ∗ (Fut 3 c ∗ Fut 4 c) ∗ (Fut 5 c ∗ Fut 6 c))
      ∗ WT ∗ WB I c ∗ (outM.view.loc (c : Thread nD τ) ↦{fullShare} g)) ?_ fun _ =>
    t3.step iprop(SR c ∗ ((Fut 1 c ∗ Fut 2 c) ∗ (Fut 3 c ∗ Fut 4 c) ∗ (Fut 5 c ∗ Fut 6 c)) ∗ holds X hX c (I.x c) ∗ WT
      ∗ (outM.view.loc (c : Thread nD τ) ↦{fullShare} g)) ?_ fun _ =>
    t4.step iprop(SR c ∗ holds X hX c (I.x c) ∗ WT ∗ (outM.view.loc (c : Thread nD τ) ↦{fullShare} g)) ?_ fun _ =>
    (t5.frame iprop((PS 7 c ∗ owesW c []) ∗ parE c ∗ (SB c ∗ SR c) ∗ WB I c ∗ holds X hX c (I.x c) ∗ WT)).conseq ?_ fun _ => ?_
  · unfold FutAll; exact Entails.of_eq (by ac_rfl)
  · exact Entails.of_eq (by ac_rfl)
  · show _ ⊢ iprop((atPos ER (barC c) 1 ∅ 0 ∗ (xs (SendR 0 c) ∗ xs (AwR 0 c) ∗ xs (SnR 0 c))
        ∗ (bigSepL subs fun k => aS c fullShare 0 k (Act I 0)) ∗ parE c ∗ SB c ∗ WB I c ∗ owesW c (agO 0 ++ (layerO 0 ++ (layerO 1 ++ (layerO 2 ++ []))))) ∗ _)
    exact Entails.of_eq (by ac_rfl)
  · exact Entails.of_eq (by ac_rfl)
  · have e : St 3 none I c = iprop(PS 7 c ∗ holds act (Memref.isWhole_whole _) c (Act I 3) ∗ parE c ∗ SB c ∗ WB I c) := by
      unfold St
      rw [act_join, parE_eq none c]
      rfl
    rw [e]
    exact Entails.of_eq (by ac_rfl)
  · have hj : iprop(holds act (Memref.isWhole_whole _) c (Act I 3) ∗ parE c ∗ (SB c ∗ SR c) ∗ WB I c) ⊢ scratch c := by
      have h0 : holds act (Memref.isWhole_whole _) c (Act I 3) ⊢ (iprop(∃ f, act.view.loc (c : Thread nD τ) ↦{fullShare} f) : PP F) := by
        unfold holds
        iintro H; iexists ((Memref.isWhole_whole cc0_scratch0).unread (Act I 3)); iexact H
      refine (BIClass.sep_mono h0 (BIClass.sep_mono (par_join c fp) (BIClass.sep_mono (st_join c ft ff) (WB_join c I fw fu)))).trans (Entails.of_eq ?_)
      unfold scratch; ac_rfl
    refine (Entails.of_eq ?_).trans ((BIClass.sep_mono hj (Entails.refl iprop((PS 7 c ∗ owesW c []) ∗ holds X hX c (I.x c) ∗ WT
        ∗ (outM.view.loc (c : Thread nD τ) ↦{fullShare} (Out I : outM.view.ty.Contents (Elt F)))))).trans (Entails.of_eq ?_)) <;> ac_rfl

end

end Cert.Kernel

end
-- ==== Proof.Kernel.Start.lean ====
module

public import proofs.«01_k».proof.Proof.Kernel.Whole
public import Idealize.ShloMosaic.Lib.Pipeline.Launch
public import Idealize.ShloMosaic.Lib.Pipeline.Kit

@[expose] public section

/-! # What a device starts from and ends with

The credit that the devices' debts give at launch, the duty tokens dealt to the devices that pay with them, and the cells
closed after the last phase. -/

noncomputable section

namespace Cert.Kernel

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F] [Facts]

/-! ## Families over all cells -/

/-- All transfers, listed. -/
def xl : List XI := ((hops true).flatMap fun h => subs.map fun k => (⟨true, h, k⟩ : XI)) ++ (hops false).flatMap fun h => subs.map fun k => (⟨false, h, k⟩ : XI)

omit [Facts] in
theorem xl_univ : Finset.univ = xl.toFinset := by decide +kernel
omit [Facts] in
theorem xl_nodup : xl.Nodup := by decide +kernel

theorem bigSepL_flatMap_q {ι κ : Type} (f : ι → List κ) (Φ : κ → PP F) : ∀ l : List ι, bigSepL (l.flatMap f) Φ = bigSepL l fun i => bigSepL (f i) Φ
  | [] => rfl
  | i :: l => by rw [List.flatMap_cons, bigSepL_append, bigSepL_cons', bigSepL_flatMap_q f Φ l]

theorem xs_univ (Φ : XI → PP F) : bigSep Finset.univ Φ = xs Φ := by
  rw [bigSep_univ_eq_bigSepL xl xl_univ xl_nodup]
  unfold xl xs hk
  rw [bigSepL_append, bigSepL_flatMap_q, bigSepL_flatMap_q]
  simp only [bigSepL_map]

theorem option_univ {ι : Type} [Fintype ι] [DecidableEq ι] (Φ : Option ι → PP F) :
    bigSep Finset.univ Φ = iprop(Φ none ∗ bigSep Finset.univ fun i => Φ (some i)) := by
  have h : (Finset.univ.erase (none : Option ι)) = Finset.univ.map Function.Embedding.some := by
    ext x
    cases x <;> simp
  rw [BI.bigSep_erase (Finset.mem_univ none), h, bigSep_map]
  rfl

theorem bool_univ (Φ : Bool → PP F) : bigSep Finset.univ Φ = iprop(Φ true ∗ Φ false) := by
  rw [bigSep_univ_eq_bigSepL [true, false] (by decide) (by decide), bigSepL_cons_cons, bigSepL_singleton]
  rfl

/-- The cells of a device. -/
theorem cells_univ (Φ : CS → PP F) : bigSep Finset.univ Φ = iprop(Φ none ∗ xs (fun x => Φ (some (true, x))) ∗ xs fun x => Φ (some (false, x))) := by
  rw [option_univ, BI.bigSep_univ_prod, bool_univ, xs_univ, xs_univ]

theorem seven_univ (Φ : Fin 7 → PP F) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## The credit -/

/-- The credit that a debt gives its device at the other end. -/
def CR (c : Dev nD) (o : Debt) : PP F := cred (tallyAt (kcell (c, o.2.1)) o.2.2 (amt o.2.1))

theorem launch_debts (c : Dev nD) : ∀ L : List Debt, (launchCred (fun d => owe d L) c : PP F) ⊢ bigSepL L (CR c)
  | [] => Entails.of_eq (launchCred_zero c)
  | o :: L => by
    have h := launch_debts c L
    have e : (launchCred (fun d => owe d (o :: L)) c : PP F) = iprop(launchCred (fun d => owe d L) c ∗ launchCred (fun d => tally d o) c) :=
      launchCred_add (fun d => owe d L) (fun d => tally d o) c
    have t : (launchCred (fun d => tally d o) c : PP F) ⊢ CR c o :=
      launchCred_tallyAt (csem o.2.1) (nb o.1) (nb (!o.1)) (fun d => nb_nb' o.1 d) (fun d => nb_nb o.1 d) o.2.2 (amt o.2.1) c
    rw [e, bigSepL_cons']
    exact (BIClass.sep_mono h t).trans BI.sep_comm
where
  nb_nb' (d : Bool) (c : Dev nD) : nb d (nb (!d) c) = c := by
    have := nb_nb (!d) c; rwa [Bool.not_not] at this

/-- A phase's credit. -/
def creds (p : ℕ) (c : Dev nD) : PP F := iprop(xs (fun x => cred (tallyAt (rcvC c x) p N)) ∗ cred (tallyAt (barC c) p 2))

theorem bar_creds (p : ℕ) (c : Dev nD) : bigSepL (barO p) (CR (F := F) c) ⊢ cred (tallyAt (barC c) p 2) := by
  unfold barO
  rw [bigSepL_cons_cons, bigSepL_singleton]
  have h := (cred_add (Val := Elt F) (Name := ℕ) (U := UU) (Lvl := ℕ) (tallyAt (barC c) p 1) (tallyAt (barC c) p 1)).2
  rw [tallyAt_add] at h
  exact h

theorem send_creds (p : ℕ) (d : Bool) (n : ℕ) (k : Fin 4) (c : Dev nD) :
    bigSepL (sendO p d n k) (CR (F := F) c) = at' (fun x => cred (tallyAt (rcvC c x) p N)) d n k := by
  unfold sendO at'
  split
  · rw [bigSepL_singleton]
    try rfl
  · exact bigSepL_nil_q _

theorem start_creds (p : ℕ) (c : Dev nD) : bigSepL (startO p) (CR (F := F) c) = hop (fun x => cred (tallyAt (rcvC c x) p N)) 0 := by
  unfold startO hop
  rw [bigSepL_flatMap_q]
  congr 1

theorem ag_creds (p : ℕ) (c : Dev nD) : bigSepL (agO p) (CR (F := F) c) = xs (fun x => cred (tallyAt (rcvC c x) p N)) := by
  unfold agO
  rw [bigSepL_append, start_creds, bigSepL_flatMap_q, xs_shift]
  congr 1; congr 1; funext h
  unfold agHopO hop
  rw [bigSepL_flatMap_q]
  congr 1; funext k
  rw [bigSepL_append, send_creds, send_creds]

theorem rs_creds (p : ℕ) (c : Dev nD) : bigSepL (rsO p) (CR (F := F) c) = xs (fun x => cred (tallyAt (rcvC c x) p N)) := by
  unfold rsO
  rw [bigSepL_append, start_creds, bigSepL_flatMap_q, xs_shift]
  congr 1; congr 1; funext h
  unfold rsHopO
  rw [bigSepL_append, bigSepL_flatMap_q, bigSepL_flatMap_q, hop_dirs]
  simp only [send_creds]

theorem layer_creds (l : ℕ) (c : Dev nD) : bigSepL (layerO l) (CR (F := F) c) ⊢ iprop(creds (2 * l + 1) c ∗ creds (2 * l + 2) c) := by
  unfold layerO creds
  rw [bigSepL_append, bigSepL_append, bigSepL_append, rs_creds, ag_creds]
  exact (BIClass.sep_mono (bar_creds _ _) (BIClass.sep_mono (Entails.refl _) (BIClass.sep_mono (bar_creds _ _) (Entails.refl _)))).trans (Entails.of_eq (by ac_rfl))

/-- The launch gives a device the credit of all phases. -/
theorem all_creds (c : Dev nD) : (launchCred (fun d => owe d allO) c : PP F)
    ⊢ iprop(creds 0 c ∗ creds 1 c ∗ creds 2 c ∗ creds 3 c ∗ creds 4 c ∗ creds 5 c ∗ creds 6 c) := by
  refine (launch_debts c allO).trans ?_
  unfold allO
  rw [bigSepL_append, bigSepL_append, bigSepL_append, bigSepL_append, ag_creds]
  refine (BIClass.sep_mono (bar_creds 0 c) (BIClass.sep_mono (Entails.refl _)
    (BIClass.sep_mono (layer_creds 0 c) (BIClass.sep_mono (layer_creds 1 c) (layer_creds 2 c))))).trans ?_
  show iprop(cred (tallyAt (barC c) 0 2) ∗ xs (fun x => cred (tallyAt (rcvC c x) 0 N)) ∗ (creds 1 c ∗ creds 2 c) ∗ (creds 3 c ∗ creds 4 c) ∗ (creds 5 c ∗ creds 6 c)) ⊢ _
  rw [show creds (F := F) 0 c = iprop(xs (fun x => cred (tallyAt (rcvC c x) 0 N)) ∗ cred (tallyAt (barC c) 0 2)) from rfl]
  exact Entails.of_eq (by ac_rfl)

/-! ## The duty tokens -/

/-- A device's own cells' duties: in each phase its barrier's two, and every other cell's. -/
abbrev TK : Type := Fin 7 × (Bool × Option XI)

def tcell : Bool × Option XI → CS
  | (_, none) => none
  | (b, some x) => some (b, x)
def tduty : Bool × Option XI → Bool
  | (b, none) => b
  | (_, some _) => false

abbrev tokOf (y : Dev nD × TK) : GSem nD τ sig × ℕ × Bool := (kcell (y.1, tcell y.2.2), y.2.1.val, tduty y.2.2)

theorem tokOf_injective : Function.Injective tokOf := by
  rintro ⟨c, p, b, x⟩ ⟨c', p', b', x'⟩ h
  have h1 : (c, tcell (b, x)) = (c', tcell (b', x')) := kcell_injective (congrArg (fun z : GSem nD τ sig × ℕ × Bool => z.1) h)
  have h2 : p = p' := Fin.ext (congrArg (fun z : GSem nD τ sig × ℕ × Bool => z.2.1) h)
  have h3 : tduty (b, x) = tduty (b', x') := congrArg (fun z : GSem nD τ sig × ℕ × Bool => z.2.2) h
  have hc : c = c' := congrArg Prod.fst h1
  have hx : tcell (b, x) = tcell (b', x') := congrArg Prod.snd h1
  subst hc h2
  cases x with
  | none => cases x' with
    | none => have : b = b' := h3
              rw [this]
    | some _ => exact absurd hx (fun e => nomatch e)
  | some x => cases x' with
    | none => exact absurd hx (fun e => nomatch e)
    | some x' =>
      have e := Option.some.inj hx
      have e1 : b = b' := congrArg Prod.fst e
      have e2 : x = x' := congrArg Prod.snd e
      rw [e1, e2]

/-- The device whose cell's duty a device pays. -/
def payee : Bool × Option XI → Dev nD → Dev nD
  | (b, none), c => nb (!b) c
  | (true, some x), c => nb x.1 c
  | (false, some _), c => c
def payer : Bool × Option XI → Dev nD → Dev nD
  | (b, none), c => nb b c
  | (true, some x), c => nb (!x.1) c
  | (false, some _), c => c

theorem payee_payer : ∀ (t : Bool × Option XI) (c : Dev nD), payee t (payer t c) = c
  | (b, none), c => nb_nb b c
  | (true, some x), c => launch_debts.nb_nb' x.1 c
  | (false, some _), _ => rfl
theorem payer_payee : ∀ (t : Bool × Option XI) (c : Dev nD), payer t (payee t c) = c
  | (b, none), c => launch_debts.nb_nb' b c
  | (true, some x), c => nb_nb x.1 c
  | (false, some _), _ => rfl

def paying : Dev nD × TK ≃ Dev nD × TK where
  toFun y := (payee y.2.2 y.1, y.2)
  invFun y := (payer y.2.2 y.1, y.2)
  left_inv y := Prod.ext (payer_payee y.2.2 y.1) rfl
  right_inv y := Prod.ext (payee_payer y.2.2 y.1) rfl

/-- The duties of a phase that a device pays. -/
def pays (p : ℕ) (c : Dev nD) : PP F :=
  iprop(xs (fun x => iprop(dutyTok ER (rcvC (nb x.1 c) x) p false ∗ dutyTok ER (sndC c x) p false))
    ∗ dutyTok ER (barC (nb false c)) p true ∗ dutyTok ER (barC (nb true c)) p false)

/-- The duty tokens, each with the device that pays it. -/
theorem deal : (bigSep Finset.univ fun c : Dev nD => bigSep Finset.univ fun t : TK => (dutyTok ER (kcell (c, tcell t.2)) t.1.val (tduty t.2) : PP F))
    = bigSep Finset.univ fun c : Dev nD => bigSep Finset.univ fun p : Fin 7 => pays p.val c := by
  rw [← BI.bigSep_univ_prod (fun y : Dev nD × TK => (dutyTok ER (kcell (y.1, tcell y.2.2)) y.2.1.val (tduty y.2.2) : PP F)), BI.bigSep_univ_equiv paying, BI.bigSep_univ_prod]
  refine BI.bigSep_congr fun c _ => ?_
  rw [BI.bigSep_univ_prod]
  refine BI.bigSep_congr fun p _ => ?_
  rw [BI.bigSep_univ_prod, bool_univ, option_univ, option_univ, xs_univ, xs_univ]
  unfold pays
  rw [xs_sep]
  show iprop((dutyTok ER (barC (nb false c)) p.val true ∗ xs (fun x => dutyTok ER (rcvC (nb x.1 c) x) p.val false))
    ∗ dutyTok ER (barC (nb true c)) p.val false ∗ xs (fun x => dutyTok ER (sndC c x) p.val false)) = _
  ac_rfl

/-- With its credit, what a phase uses up. -/
theorem fut_intro (p : ℕ) (c : Dev nD) : iprop(creds p c ∗ pays p c) = Fut (F := F) p c := by
  unfold creds pays Fut
  simp only [xs_sep]
  ac_rfl

/-! ## The first positions, and the last -/

/-- A device's positions and marks at the start. -/
theorem ps_intro (c : Dev nD) :
    iprop((bigSep Finset.univ fun y : Dev nD × CS => reached ER (kcell y) 0) ∗ bigSep Finset.univ fun cs : CS => atPos ER (kcell (c, cs)) 0 ∅ 0) ⊢ PS (F := F) 0 c := by
  have hr : ∀ y : Dev nD × CS, (bigSep Finset.univ fun y : Dev nD × CS => (reached ER (kcell y) 0 : PP F)) ⊢ reached ER (kcell y) 0 := fun y => BI.bigSep_elim (Finset.mem_univ y)
  have h1 : (bigSep Finset.univ fun y : Dev nD × CS => (reached ER (kcell y) 0 : PP F)) ⊢ xs fun x => reached ER (rcvC c x) 0 := xs_intro _ _ fun x => hr _
  have h2 : (bigSep Finset.univ fun y : Dev nD × CS => (reached ER (kcell y) 0 : PP F)) ⊢ xs fun x => reached ER (sndC c x) 0 := xs_intro _ _ fun x => hr _
  have h3 : (bigSep Finset.univ fun y : Dev nD × CS => (reached ER (kcell y) 0 : PP F)) ⊢ reached ER (barC (nb false c)) 0 := hr (nb false c, none)
  have h4 : (bigSep Finset.univ fun y : Dev nD × CS => (reached ER (kcell y) 0 : PP F)) ⊢ reached ER (barC (nb true c)) 0 := hr (nb true c, none)
  rw [cells_univ]
  unfold PS PS.SnD'
  simp only [xs_sep]
  have dup : (bigSep Finset.univ fun y : Dev nD × CS => (reached ER (kcell y) 0 : PP F)) ⊢ iprop((bigSep Finset.univ fun y : Dev nD × CS => (reached ER (kcell y) 0 : PP F)) ∗ bigSep Finset.univ fun y : Dev nD × CS => (reached ER (kcell y) 0 : PP F)) := by
    iintro #H
    isplit <;> iexact H
  have h := dup.trans (BIClass.sep_mono h1 (dup.trans (BIClass.sep_mono h2 (dup.trans (BIClass.sep_mono h3 h4)))))
  refine (BIClass.sep_mono h (Entails.refl _)).trans ?_
  show iprop(_ ∗ (atPos ER (barC c) 0 ∅ 0 ∗ xs (fun x => atPos ER (rcvC c x) 0 ∅ 0) ∗ xs (fun x => atPos ER (sndC c x) 0 ∅ 0))) ⊢ _
  exact Entails.of_eq (by ac_rfl)

/-- After the last phase every cell is closed, its counter at zero. -/
theorem close (I : Inp F) (K : Dev nD × CS → ℕ) (c : Dev nD) :
    iprop(Ctx I K ∗ PS 7 c) ⊢ (|={Set.univ}=> bigSep Finset.univ fun cs : CS => semVal (kcell (c, cs)) 0 : PP F) := by
  have h : PS (F := F) 7 c ⊢ bigSep Finset.univ fun cs : CS => atPos ER (kcell (c, cs)) 7 ∅ 0 := by
    rw [cells_univ]
    unfold PS PS.SnD'
    simp only [xs_sep]
    iintro ⟨⟨⟨H1, -⟩, H2, -⟩, H3, -⟩
    isplitl [H3]; · iexact H3
    isplitl [H1]; · iexact H1
    iexact H2
  refine (BIClass.sep_mono (BI.bigSep_of_persistent (Finset.univ : Finset CS) (Ctx I K)) h).trans ?_
  rw [← bigSep_sep']
  refine BIBase.Entails.trans (BI.bigSep_mono fun cs _ => (show (_ : PP F) ⊢ _ from ?_)) (bigSep_fupd _ _)
  exact (BIClass.sep_mono (Ctx.cell I K (c, cs)) (Entails.refl _)).trans (Rounds.cell_close ER (Rd I) (Set.mem_univ _) (fun h => h) (duties_later I (c, cs)))

end Cert.Kernel

end
-- ==== Proof.Kernel.Body.lean ====
module

public import proofs.«01_k».proof.Proof.Kernel.Prog
public import Idealize.ShloMosaic.Lib.Pipeline.Regions

@[expose] public section

noncomputable section

namespace Cert.Kernel

open Idealize.ShloMosaic Idealize.SL.Sem Facts₀ Facts

variable {F : FTy → Type} [FloatOps F] [Facts]

/-- The printed body is the program of loops on the device it runs on. -/
theorem body_eq (A0 : Memref sig .tc .vmem S512x256 .f32) (h0 : A0.IsWhole) (A1 : Memref sig .tc .vmem S256x512 .f32) (h1 : A1.IsWhole)
    (A2 : Memref sig .tc .vmem S512x256 .f32) (h2 : A2.IsWhole) (A3 : Memref sig .tc .vmem S256x512 .f32) (h3 : A3.IsWhole)
    (A4 : Memref sig .tc .vmem S512x256 .f32) (h4 : A4.IsWhole) (A5 : Memref sig .tc .vmem S256x512 .f32) (h5 : A5.IsWhole)
    (A6 : Memref sig .tc .vmem S512x256 .f32) (h6 : A6.IsWhole) (A7 : Memref sig .tc .vmem S16x4x128x256 .f32) (h7 : A7.IsWhole) :
    cc0_body (F := F) A0 h0 A1 h1 A2 h2 A3 h3 A4 h4 A5 h5 A6 h6 A7 h7 (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _) cc0_scratch6 cc0_scratch7 cc0_scratch8 cc0_scratch9
      = Prog.op .deviceId fun c => prog c A0 A1 A2 A3 A4 A5 A6 A7 := by
  chain_rfl

end Cert.Kernel

end
-- ==== Proof.Kernel.Point.lean ====
module

public import proofs.«01_k».proof.Proof.Kernel.Start
public import proofs.«01_k».proof.Proof.Kernel.Body
public import proofs.«01_k».proof.Proof.Gen.Kernel
public import proofs.«01_k».proof.Proof.Gen.Kernel.Launch
public import proofs.«01_k».proof.Proof.Gen.Kernel.Points
public import Idealize.ShloMosaic.Lib.Pipeline.Launch
public import Idealize.ShloMosaic.Lib.Pipeline.Kit

@[expose] public section

/-! # The one point of the call

The seven arguments staged whole, the body run once on them, the result written back. -/

noncomputable section

namespace Cert.Kernel

open Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The memory at launch: any contents, every counter at zero. -/
def s₀ : MemSt nD τ sig (Elt F) := ⟨m, fun _ => 0, ρ⟩

/-- What the devices compute from: each argument's window of the launch memory. -/
def inp : Inp F where
  x c := (win0_0.blk (0 : Fin 1)).view.read (Elt F) (m ((c : Thread nD τ).loc main_arg0))
  W l c := match l with
    | 0 => (win0_1.blk (0 : Fin 1)).view.read (Elt F) (m ((c : Thread nD τ).loc main_arg1))
    | 1 => (win0_3.blk (0 : Fin 1)).view.read (Elt F) (m ((c : Thread nD τ).loc main_arg2))
    | 2 => (win0_5.blk (0 : Fin 1)).view.read (Elt F) (m ((c : Thread nD τ).loc main_arg3))
  U l c := match l with
    | 0 => (win0_2.blk (0 : Fin 1)).view.read (Elt F) (m ((c : Thread nD τ).loc main_arg4))
    | 1 => (win0_4.blk (0 : Fin 1)).view.read (Elt F) (m ((c : Thread nD τ).loc main_arg5))
    | 2 => (win0_6.blk (0 : Fin 1)).view.read (Elt F) (m ((c : Thread nD τ).loc main_arg6))

/-- Before the point: the standing facts, what the seven phases need, and the scratch buffers. -/
def Φ₀ (c : Dev nD) : PP F := iprop((∃ K, Ctx (inp m) K ∗ PS 0 c ∗ FutAll c) ∗ scratch c)
/-- After it: the scratch buffers, and every cell closed. -/
def Φ₁ (c : Dev nD) : PP F := iprop(scratch c ∗ bigSep Finset.univ fun cs : CS => semVal (kcell (c, cs)) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (inp m).x c
    | ⟨1, _⟩ => (inp m).W 0 c
    | ⟨2, _⟩ => (inp m).U 0 c
    | ⟨3, _⟩ => (inp m).W 1 c
    | ⟨4, _⟩ => (inp m).U 1 c
    | ⟨5, _⟩ => (inp m).W 2 c
    | ⟨6, _⟩ => (inp m).U 2 c
    | ⟨7, _⟩ => Out (inp m)
    | ⟨_ + 8, h⟩ => absurd h (Nat.not_lt.2 (Nat.le_add_left _ _))
  Φ t := match t with
    | ⟨0, _⟩ => Φ₀ m c
    | ⟨_ + 1, _⟩ => Φ₁ c
  q _ := fullShare
  owed t := match t with
    | ⟨0, _⟩ => owe c allO
    | ⟨_ + 1, _⟩ => 0

theorem bigSep_W (Φ : Fin cfg0.W → PP F) : bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ

theorem owns_whole_eq (c : Dev nD) (b : Ref sig .tc) (X : b.ty.Contents (Elt F)) :
    (owns (Ix := ℕ) (Name := ℕ) (U := UU) (Lvl := ℕ) (c : Thread nD τ) (Memref.whole b) fullShare X : PP F)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stage (c : Dev nD) (b : Ref sig .tc) (X : b.ty.Contents (Elt F)) : PP F :=
  iprop(∃ f : Buf (Elt F) (((c : Dev nD) : Thread nD τ).loc b), ⌜f = X⌝ ∗ (((c : Thread nD τ).loc b) ↦{fullShare} f))

/-- What the body finds. -/
def bodyPre (c : Dev nD) : PP F :=
  iprop(Φ₀ m c ∗ (dats m ρ 0 c).owesAt 0 t0_0.castSucc
    ∗ (∃ d, stage c cc0_stg0_0 ((dats m ρ 0 c).before (0 : Fin 8) t0_0 d))
    ∗ (∃ d, stage c cc0_stg1_0 ((dats m ρ 0 c).before (1 : Fin 8) t0_0 d))
    ∗ (∃ d, stage c cc0_stg2_0 ((dats m ρ 0 c).before (2 : Fin 8) t0_0 d))
    ∗ (∃ d, stage c cc0_stg3_0 ((dats m ρ 0 c).before (3 : Fin 8) t0_0 d))
    ∗ (∃ d, stage c cc0_stg4_0 ((dats m ρ 0 c).before (4 : Fin 8) t0_0 d))
    ∗ (∃ d, stage c cc0_stg5_0 ((dats m ρ 0 c).before (5 : Fin 8) t0_0 d))
    ∗ (∃ d, stage c cc0_stg6_0 ((dats m ρ 0 c).before (6 : Fin 8) t0_0 d))
    ∗ (∃ d, stage c cc0_stg7_0 ((dats m ρ 0 c).before (7 : Fin 8) t0_0 d)))

/-- What it leaves. -/
def bodyPost (c : Dev nD) : PP F :=
  iprop(Φ₁ c ∗ (dats m ρ 0 c).owesAt 0 t0_0.succ
    ∗ stage c cc0_stg0_0 ((inp m).x c) ∗ stage c cc0_stg1_0 ((inp m).W 0 c) ∗ stage c cc0_stg2_0 ((inp m).U 0 c)
    ∗ stage c cc0_stg3_0 ((inp m).W 1 c) ∗ stage c cc0_stg4_0 ((inp m).U 1 c) ∗ stage c cc0_stg5_0 ((inp m).W 2 c) ∗ stage c cc0_stg6_0 ((inp m).U 2 c)
    ∗ stage c cc0_stg7_0 (Out (inp m)))

theorem fetched {D : Type} (c : Dev nD) (b : Ref sig .tc) (X : b.ty.Contents (Elt F)) (f : D → b.ty.Contents (Elt F)) (h : ∀ d, f d = X) :
    iprop(∃ d, stage c b (f d)) ⊢ (((c : Thread nD τ).loc b) ↦{fullShare} X : PP F) := by
  iintro ⟨%d, %g, %hg, H⟩
  have e : g = X := hg.trans (h d)
  subst e
  iexact H

theorem whole_stage (c : Dev nD) (b : Ref sig .tc) (X : b.ty.Contents (Elt F)) :
    (((c : Thread nD τ).loc b) ↦{fullShare} X) ⊢ (stage c b X : PP F) := by
  iintro H
  iexists X
  isplitr; · (ipureintro; rfl)
  iexact H

section

variable (c : Dev nD)

theorem before_0 (d) : (dats m ρ 0 c).before (0 : Fin 8) t0_0 d = (inp m).x c := by unfold Dat.before; rw [if_pos (fetch0_0 t0_0)]; rfl
theorem before_1 (d) : (dats m ρ 0 c).before (1 : Fin 8) t0_0 d = (inp m).W 0 c := by unfold Dat.before; rw [if_pos (fetch0_1 t0_0)]; rfl
theorem before_2 (d) : (dats m ρ 0 c).before (2 : Fin 8) t0_0 d = (inp m).U 0 c := by unfold Dat.before; rw [if_pos (fetch0_2 t0_0)]; rfl
theorem before_3 (d) : (dats m ρ 0 c).before (3 : Fin 8) t0_0 d = (inp m).W 1 c := by unfold Dat.before; rw [if_pos (fetch0_3 t0_0)]; rfl
theorem before_4 (d) : (dats m ρ 0 c).before (4 : Fin 8) t0_0 d = (inp m).U 1 c := by unfold Dat.before; rw [if_pos (fetch0_4 t0_0)]; rfl
theorem before_5 (d) : (dats m ρ 0 c).before (5 : Fin 8) t0_0 d = (inp m).W 2 c := by unfold Dat.before; rw [if_pos (fetch0_5 t0_0)]; rfl
theorem before_6 (d) : (dats m ρ 0 c).before (6 : Fin 8) t0_0 d = (inp m).U 2 c := by unfold Dat.before; rw [if_pos (fetch0_6 t0_0)]; rfl

end

abbrev buf0 (c : Dev nD) (b : Ref sig .tc) (X : b.ty.Contents (Elt F)) : PP F := iprop(((c : Thread nD τ).loc b) ↦{fullShare} X)

theorem assoc (a b e : PP F) : iprop((a ∗ b) ∗ e) = iprop(a ∗ b ∗ e) := by ac_rfl
theorem eight (a b₁ b₂ b₃ b₄ b₅ b₆ o : PP F) : iprop(a ∗ (b₁ ∗ b₂ ∗ b₃ ∗ b₄ ∗ b₅ ∗ b₆) ∗ o) = iprop(a ∗ b₁ ∗ b₂ ∗ b₃ ∗ b₄ ∗ b₅ ∗ b₆ ∗ o) := by ac_rfl

theorem unread_whole (b : Ref sig .tc) (X : b.ty.Contents (Elt F)) : (Memref.isWhole_whole b).unread X = X :=
  ((Memref.isWhole_whole b).eq_unread (View.read_whole b X)).symm

/-- The staged arguments. -/
def held (c : Dev nD) : PP F :=
  iprop(holds (Memref.whole cc0_stg0_0) (Memref.isWhole_whole _) c ((inp m).x c)
    ∗ weights (W0 := Memref.whole cc0_stg1_0) (Memref.isWhole_whole _) (U0 := Memref.whole cc0_stg2_0) (Memref.isWhole_whole _)
      (W1 := Memref.whole cc0_stg3_0) (Memref.isWhole_whole _) (U1 := Memref.whole cc0_stg4_0) (Memref.isWhole_whole _)
      (W2 := Memref.whole cc0_stg5_0) (Memref.isWhole_whole _) (U2 := Memref.whole cc0_stg6_0) (Memref.isWhole_whole _) (inp m) c)

theorem held_in (c : Dev nD) (A S o : PP F) : iprop(A ∗ S ∗ held m c ∗ o) = iprop(A ∗ S ∗ holds (Memref.whole cc0_stg0_0) (Memref.isWhole_whole _) c ((inp m).x c)
    ∗ weights (W0 := Memref.whole cc0_stg1_0) (Memref.isWhole_whole _) (U0 := Memref.whole cc0_stg2_0) (Memref.isWhole_whole _)
      (W1 := Memref.whole cc0_stg3_0) (Memref.isWhole_whole _) (U1 := Memref.whole cc0_stg4_0) (Memref.isWhole_whole _)
      (W2 := Memref.whole cc0_stg5_0) (Memref.isWhole_whole _) (U2 := Memref.whole cc0_stg6_0) (Memref.isWhole_whole _) (inp m) c ∗ o) := by
  unfold held
  rw [assoc]

theorem held_out (c : Dev nD) (g : (cc0_stg7_0 : Ref sig .tc).ty.Contents (Elt F)) : iprop(held m c ∗ buf0 c cc0_stg7_0 g)
    = iprop(buf0 c cc0_stg0_0 ((inp m).x c) ∗ buf0 c cc0_stg1_0 ((inp m).W 0 c) ∗ buf0 c cc0_stg2_0 ((inp m).U 0 c)
    ∗ buf0 c cc0_stg3_0 ((inp m).W 1 c) ∗ buf0 c cc0_stg4_0 ((inp m).U 1 c) ∗ buf0 c cc0_stg5_0 ((inp m).W 2 c) ∗ buf0 c cc0_stg6_0 ((inp m).U 2 c)
    ∗ buf0 c cc0_stg7_0 g) := by
  rw [← eight]
  have e0 : holds (F := F) (Memref.whole cc0_stg0_0) (Memref.isWhole_whole _) c ((inp m).x c) = buf0 c cc0_stg0_0 ((inp m).x c) :=
    congrArg (buf0 c cc0_stg0_0) (unread_whole cc0_stg0_0 _)
  have e1 : holds (F := F) (Memref.whole cc0_stg1_0) (Memref.isWhole_whole _) c ((inp m).W 0 c) = buf0 c cc0_stg1_0 ((inp m).W 0 c) :=
    congrArg (buf0 c cc0_stg1_0) (unread_whole cc0_stg1_0 _)
  have e2 : holds (F := F) (Memref.whole cc0_stg2_0) (Memref.isWhole_whole _) c ((inp m).U 0 c) = buf0 c cc0_stg2_0 ((inp m).U 0 c) :=
    congrArg (buf0 c cc0_stg2_0) (unread_whole cc0_stg2_0 _)
  have e3 : holds (F := F) (Memref.whole cc0_stg3_0) (Memref.isWhole_whole _) c ((inp m).W 1 c) = buf0 c cc0_stg3_0 ((inp m).W 1 c) :=
    congrArg (buf0 c cc0_stg3_0) (unread_whole cc0_stg3_0 _)
  have e4 : holds (F := F) (Memref.whole cc0_stg4_0) (Memref.isWhole_whole _) c ((inp m).U 1 c) = buf0 c cc0_stg4_0 ((inp m).U 1 c) :=
    congrArg (buf0 c cc0_stg4_0) (unread_whole cc0_stg4_0 _)
  have e5 : holds (F := F) (Memref.whole cc0_stg5_0) (Memref.isWhole_whole _) c ((inp m).W 2 c) = buf0 c cc0_stg5_0 ((inp m).W 2 c) :=
    congrArg (buf0 c cc0_stg5_0) (unread_whole cc0_stg5_0 _)
  have e6 : holds (F := F) (Memref.whole cc0_stg6_0) (Memref.isWhole_whole _) c ((inp m).U 2 c) = buf0 c cc0_stg6_0 ((inp m).U 2 c) :=
    congrArg (buf0 c cc0_stg6_0) (unread_whole cc0_stg6_0 _)
  unfold held weights
  rw [e0, e1, e2, e3, e4, e5, e6]
  exact assoc _ _ _

theorem pre (c : Dev nD) : bodyPre m ρ c ⊢ iprop(∃ (g : (cc0_stg7_0 : Ref sig .tc).ty.Contents (Elt F)) (K : Dev nD × CS → ℕ), Ctx (inp m) K
    ∗ ((PS 0 c ∗ FutAll c ∗ owesW c allO) ∗ scratch c ∗ held m c ∗ buf0 c cc0_stg7_0 g)) := by
  have h7 : iprop(∃ d, stage c cc0_stg7_0 ((dats m ρ 0 c).before (7 : Fin 8) t0_0 d)) ⊢ iprop(∃ g, buf0 c cc0_stg7_0 g) := by
    iintro ⟨%d, %g, -, H⟩
    iexists g
    iexact H
  have ho : (dats m ρ 0 c).owesAt 0 t0_0.castSucc ⊢ owesW c allO := by
    unfold Dat.owesAt Pipeline.owesWithin owesW
    iintro ⟨%W, -, H⟩
    iexists W
    iexact H
  unfold bodyPre
  refine (BIClass.sep_mono (Entails.refl _) (BIClass.sep_mono ho (BIClass.sep_mono (fetched c cc0_stg0_0 _ _ (before_0 m ρ c))
    (BIClass.sep_mono (fetched c cc0_stg1_0 _ _ (before_1 m ρ c)) (BIClass.sep_mono (fetched c cc0_stg2_0 _ _ (before_2 m ρ c))
    (BIClass.sep_mono (fetched c cc0_stg3_0 _ _ (before_3 m ρ c)) (BIClass.sep_mono (fetched c cc0_stg4_0 _ _ (before_4 m ρ c))
    (BIClass.sep_mono (fetched c cc0_stg5_0 _ _ (before_5 m ρ c)) (BIClass.sep_mono (fetched c cc0_stg6_0 _ _ (before_6 m ρ c)) h7))))))))).trans ?_
  refine (show iprop(Φ₀ m c ∗ owesW c allO ∗ buf0 c cc0_stg0_0 ((inp m).x c) ∗ buf0 c cc0_stg1_0 ((inp m).W 0 c) ∗ buf0 c cc0_stg2_0 ((inp m).U 0 c)
    ∗ buf0 c cc0_stg3_0 ((inp m).W 1 c) ∗ buf0 c cc0_stg4_0 ((inp m).U 1 c) ∗ buf0 c cc0_stg5_0 ((inp m).W 2 c) ∗ buf0 c cc0_stg6_0 ((inp m).U 2 c)
    ∗ ∃ g, buf0 c cc0_stg7_0 g) ⊢ iprop(∃ g, Φ₀ m c ∗ owesW c allO ∗ held m c ∗ buf0 c cc0_stg7_0 g) from ?_).trans ?_
  · iintro ⟨HP, HO, H0, H1, H2, H3, H4, H5, H6, %g, H7⟩
    iexists g
    isplitl [HP]; · iexact HP
    isplitl [HO]; · iexact HO
    iapply (Entails.of_eq (held_out m c g).symm)
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · unfold Φ₀
    iintro ⟨%g, ⟨⟨%K, HC, HP, HF⟩, Hs⟩, HO, Hh, H7⟩
    iexists g
    iexists K
    isplitl [HC]; · iexact HC
    isplitl [HP HF HO]
    · isplitl [HP]; · iexact HP
      isplitl [HF] <;> iassumption
    isplitl [Hs]; · iexact Hs
    isplitl [Hh] <;> iassumption

theorem post (K : Dev nD × CS → ℕ) (c : Dev nD) :
    iprop(((PS 7 c ∗ owesW c []) ∗ scratch c ∗ held m c ∗ buf0 c cc0_stg7_0 (Out (inp m))) ∗ Ctx (inp m) K) ⊢ iprop(|={Set.univ}=> bodyPost m ρ c) := by
  have ho : owesW (F := F) c [] ⊢ (dats m ρ 0 c).owesAt 0 t0_0.succ := by
    unfold owesW Dat.owesAt Pipeline.owesWithin
    iintro ⟨%W, H⟩
    iexists W
    isplitr; · ipureintro; exact fun _ _ => Or.inl trivial
    iexact H
  rw [held_out]
  unfold bodyPost Φ₁
  iintro ⟨⟨⟨HP, HO⟩, Hs, H⟩, HC⟩
  imod (close (inp m) K c) $$ [HC HP] with Hz
  · isplitl [HC] <;> iassumption
  imodintro
  isplitl [Hs Hz]
  · isplitl [Hs] <;> iassumption
  isplitl [HO]; · iapply ho; iexact HO
  iapply (BIClass.sep_mono (whole_stage c cc0_stg0_0 ((inp m).x c)) (BIClass.sep_mono (whole_stage c cc0_stg1_0 ((inp m).W 0 c))
    (BIClass.sep_mono (whole_stage c cc0_stg2_0 ((inp m).U 0 c)) (BIClass.sep_mono (whole_stage c cc0_stg3_0 ((inp m).W 1 c))
    (BIClass.sep_mono (whole_stage c cc0_stg4_0 ((inp m).U 1 c)) (BIClass.sep_mono (whole_stage c cc0_stg5_0 ((inp m).W 2 c))
    (BIClass.sep_mono (whole_stage c cc0_stg6_0 ((inp m).U 2 c)) (whole_stage c cc0_stg7_0 (Out (inp m))))))))))
  iexact H

theorem dup (C : PP F) [BI.Persistent C] (P : PP F) : iprop(C ∗ P) ⊢ iprop(C ∗ P ∗ C) := by
  iintro ⟨#H, HP⟩
  isplitr; · iexact H
  isplitl; · iexact HP
  iexact H

theorem wp_device (k : Dev nD → PR F) (c : Dev nD) (P Q : PP F) (h : P ⊢ wp frame (wpE (defs₀ (F := F)) 𝒱₀ (c : Thread nD τ) none) Set.univ (k c) fun _ => Q) :
    P ⊢ wp frame (wpE (defs₀ (F := F)) 𝒱₀ (c : Thread nD τ) none) Set.univ (Prog.op .deviceId k) fun _ => Q := by
  rw [wp_deviceId]
  exact h

theorem wp_same (p q : PR F) (c : Dev nD) (P Q : PP F) (e : q = p) (h : P ⊢ wp frame (wpE (defs₀ (F := F)) 𝒱₀ (c : Thread nD τ) none) Set.univ p fun _ => Q) :
    P ⊢ wp frame (wpE (defs₀ (F := F)) 𝒱₀ (c : Thread nD τ) none) Set.univ q fun _ => Q := e ▸ h

theorem wp_close (p : PR F) (c : Dev nD) (C H P Q : PP F) [BI.Persistent C] (hP : P ⊢ iprop(C ∗ H))
    (h : Tr C c iprop(H ∗ C) p fun _ => iprop(|={Set.univ}=> Q)) :
    P ⊢ wp frame (wpE (defs₀ (F := F)) 𝒱₀ (c : Thread nD τ) none) Set.univ p fun _ => Q := by
  unfold Tr at h
  exact (hP.trans ((dup _ _).trans h)).trans (wp_fupd _ _ _ _ _)

theorem sound_prog (c : Dev nD) : bodyPre m ρ c ⊢ wp frame (wpE (defs₀ (F := F)) 𝒱₀ c none) Set.univ
    (Cert.Kernel.prog c (Memref.whole cc0_stg0_0) (Memref.whole cc0_stg1_0) (Memref.whole cc0_stg2_0) (Memref.whole cc0_stg3_0)
      (Memref.whole cc0_stg4_0) (Memref.whole cc0_stg5_0) (Memref.whole cc0_stg6_0) outM) (fun _ => bodyPost m ρ c) := by
  refine (pre m ρ c).trans (sProp.exists_elim fun g => sProp.exists_elim fun K => ?_)
  have T := Tr.prog (I := inp m) (K := K) (c := c) (X := Memref.whole cc0_stg0_0) (Memref.isWhole_whole _) (W0 := Memref.whole cc0_stg1_0) (Memref.isWhole_whole _) (U0 := Memref.whole cc0_stg2_0) (Memref.isWhole_whole _)
          (W1 := Memref.whole cc0_stg3_0) (Memref.isWhole_whole _) (U1 := Memref.whole cc0_stg4_0) (Memref.isWhole_whole _)
          (W2 := Memref.whole cc0_stg5_0) (Memref.isWhole_whole _) (U2 := Memref.whole cc0_stg6_0) (Memref.isWhole_whole _) g
  have T' := ((T.pre (Entails.of_eq (held_in m c _ _ (outM.view.loc (c : Thread nD τ) ↦{fullShare} g)))).frame (Ctx (inp m) K)).post (R' := fun _ => iprop(|={Set.univ}=> bodyPost m ρ c)) (fun _ => (BIClass.sep_mono (Entails.of_eq (held_in m c _ _ (buf0 c cc0_stg7_0 (Out (inp m)))).symm) (Entails.refl _)).trans (post m ρ K c))
  exact wp_close _ c _ _ _ _ (Entails.refl _) T'

/-- The program of loops on the staging buffers. -/
def onStage (c : Dev nD) : PR F :=
  Cert.Kernel.prog c (Memref.whole cc0_stg0_0) (Memref.whole cc0_stg1_0) (Memref.whole cc0_stg2_0) (Memref.whole cc0_stg3_0)
      (Memref.whole cc0_stg4_0) (Memref.whole cc0_stg5_0) (Memref.whole cc0_stg6_0) outM

/-- At the point the call runs that program on the device it is on. -/
theorem call_eq : (defs₀ (F := F) Proc.tc 0 (t0_0, cfg0.slots t0_0)) = Prog.op .deviceId (onStage (F := F)) :=
  (show (defs₀ (F := F) Proc.tc 0 (t0_0, cfg0.slots t0_0)) = bodyAt0 t0_0 from rfl).trans (body_eq _ _ _ _ _ _ _ _ _ _ _ _ _ _ _ _)

theorem sound_call (q : PR F) (e : q = Prog.op .deviceId (onStage (F := F))) (c : Dev nD) :
    bodyPre m ρ c ⊢ wp frame (wpE (defs₀ (F := F)) 𝒱₀ (c : Thread nD τ) none) Set.univ q fun _ => bodyPost m ρ c :=
  wp_same _ _ c _ _ e (wp_device _ c _ _ (sound_prog m ρ c))

theorem pre_eq (c : Dev nD) : (iprop((dats m ρ 0 c).Φ t0_0.castSucc ∗ (dats m ρ 0 c).owesAt 0 t0_0.castSucc
    ∗ bigSep Finset.univ fun w => iprop(∃ d, owns (c : Thread nD τ) ((cfg0.win w).stage (cfg0.slots t0_0 w)) fullShare ((dats m ρ 0 c).before w t0_0 d))) : PP F)
    = bodyPre m ρ c := by
  rw [bigSep_W]
  simp only [owns_whole_eq]
  rfl

theorem post_eq (c : Dev nD) : (iprop((dats m ρ 0 c).Φ t0_0.succ ∗ (dats m ρ 0 c).owesAt 0 t0_0.succ
    ∗ bigSep Finset.univ fun w => owns (c : Thread nD τ) ((cfg0.win w).stage (cfg0.slots t0_0 w)) fullShare ((dats m ρ 0 c).after w t0_0)) : PP F)
    = bodyPost m ρ c := by
  rw [bigSep_W]
  simp only [owns_whole_eq]
  rfl

/-- What the pipeline asks of the body on each device. -/
theorem body_obligation (c : Dev nD) : BodyObligation (dats (F := F) m ρ 0 c) (defs₀ (F := F)) 𝒱₀ 0 Set.univ := fun t => by
  rw [show t = t0_0 from fin_N0 t]
  have s := sound_call m ρ _ (call_eq (F := F)) c
  have s' := s.trans (wp_mono _ _ _ fun _ => Entails.of_eq (post_eq m ρ c).symm)
  refine (Entails.of_eq (pre_eq m ρ c)).trans ?_
  with_reducible exact s'

end Cert.Kernel

end
-- ==== Proof.Kernel.Deal.lean ====
module

public import proofs.«01_k».proof.Proof.Kernel.Start

@[expose] public section

/-! # The protocol at launch

The cells' counters at zero turned into the shared invariants, all devices at once, with positions and tokens dealt. -/

noncomputable section

namespace Cert.Kernel

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F] [Facts] (I : Inp F)

/-- The kernel's own semaphores. -/
abbrev osem (k : Bool × XI) : SemLoc sig := csem (some k)

def ringCells : Finset (GSem nD τ sig) := Finset.univ.map ⟨kcell, kcell_injective⟩
def ringToks : Finset (GSem nD τ sig × ℕ × Bool) := Finset.univ.map ⟨tokOf, tokOf_injective⟩

abbrev cellsOf (c : Dev nD) (Φ : GSem nD τ sig → PP F) : PP F := bigSep Finset.univ fun cs : CS => Φ (kcell (c, cs))

/-- The tokens of a device's own cells. -/
def toks (c : Dev nD) : PP F := bigSep Finset.univ fun t : TK => dutyTok ER (kcell (c, tcell t.2)) t.1.val (tduty t.2)

/-- What the launch deals a device. -/
def G (c : Dev nD) : PP F :=
  iprop(cellsOf c (fun g => roundState ER (Rd I) g 0) ∗ (cellsOf c (fun g => atPos ER g 0 ∅ 0) ∗ cellsOf c fun g => reached ER g 0) ∗ toks c)

theorem fund_ring : BI.own (ER (F := F) (initOf ringCells ringToks)) ⊢ (|==> bigSep Finset.univ (G I) : PP F) := by
  have hX (Φ : GSem nD τ sig → PP F) : bigSep ringCells Φ = bigSep Finset.univ fun c : Dev nD => cellsOf c Φ := by
    unfold ringCells; rw [bigSep_map, BI.bigSep_univ_prod]; rfl
  have hT : bigSep ringToks (fun x => (dutyTok ER x.1 x.2.1 x.2.2 : PP F)) = bigSep Finset.univ fun c : Dev nD => toks c := by
    unfold ringToks; rw [bigSep_map, BI.bigSep_univ_prod]; rfl
  iintro HX
  imod (Rounds.fund ER (Rd I) ringCells ringToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier's counter is the launch's one unscoped counter. -/
theorem unscoped_eq (c : Dev nD) : (unscopedSems0 c : PP F) = semVal (barC c) 0 := by
  unfold unscopedSems0
  rw [bigSep_eq_bigSepL_of_eq [csem none] (of_decide_eq_true (by chain_rfl)) (of_decide_eq_true (by chain_rfl)), bigSepL_singleton]
  rfl

theorem sems_eq (c : Dev nD) : (cellsOf c fun g => semVal g 0 : PP F)
    = iprop(unscopedSems0 c ∗ Pipeline.ownSems0 (Ix := ℕ) (Name := ℕ) (U := UU) (Lvl := ℕ) (Val := Elt F) (τ := τ) osem c) := by
  rw [unscoped_eq, cellsOf, option_univ]
  rfl

theorem core_alloc (c : Dev nD) :
    iprop(Pipeline.ownSems0 (Ix := ℕ) (Name := ℕ) (U := UU) (Lvl := ℕ) (Val := Elt F) (τ := τ) osem c ∗ unscopedSems0 c ∗ G I c)
      ⊢ (|={Set.univ}=> iprop((cellsOf c fun g => iprop(∃ κ : ℕ, cellInv ER (Rd I) κ g))
          ∗ (cellsOf c (fun g => atPos ER g 0 ∅ 0) ∗ cellsOf c fun g => reached ER g 0) ∗ toks c) : PP F) := by
  unfold G
  iintro ⟨Hos, Hus, Hst, Hat, Htok⟩
  ihave Hv := (Entails.of_eq (sems_eq (F := F) c).symm) $$ [Hos Hus]
  · isplitl [Hus] <;> iassumption
  imod (show iprop((cellsOf c fun g => semVal g 0) ∗ cellsOf c fun g => roundState ER (Rd I) g 0)
      ⊢ (|={Set.univ}=> cellsOf c fun g => iprop(∃ κ : ℕ, cellInv ER (Rd I) κ g) : PP F) from by
        rw [← bigSep_sep']
        exact (BI.bigSep_mono fun k _ => (Rounds.body_intro ER (Rd I) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What a device then has: the invariants, its first positions, the tokens of the duties it pays. -/
def G' (c : Dev nD) : PP F :=
  iprop(∃ K : Dev nD × CS → ℕ, (bigSep Finset.univ fun y => cellInv ER (Rd I) (K y) (kcell y)) ∗ PS 0 c ∗ bigSep Finset.univ fun p : Fin 7 => pays p.val c)

def records (K : Dev nD × CS → ℕ) : PP F :=
  iprop((bigSep Finset.univ fun y => cellInv ER (Rd I) (K y) (kcell y)) ∗ bigSep Finset.univ fun y : Dev nD × CS => reached ER (kcell y) 0)

instance (K : Dev nD × CS → ℕ) : BI.Persistent (records I K) := by unfold records; infer_instance

theorem with_persistent {ι : Type} [DecidableEq ι] {S : Finset ι} {R : PP F} [BI.Persistent R] {Φ Ψ : ι → PP F}
    (h : ∀ i ∈ S, iprop(R ∗ Φ i) ⊢ Ψ i) : iprop(R ∗ bigSep S Φ) ⊢ bigSep S Ψ :=
  (sep_mono_left (BI.bigSep_of_persistent S R)).trans (by rw [← bigSep_sep']; exact BI.bigSep_mono h)

theorem ghost_intro (K : Dev nD × CS → ℕ) (c : Dev nD) :
    iprop(records I K ∗ cellsOf c (fun g => atPos ER g 0 ∅ 0) ∗ bigSep Finset.univ fun p : Fin 7 => pays p.val c) ⊢ G' I c := by
  unfold records G'
  iintro ⟨⟨HI, HR⟩, Ha, Ht⟩
  iexists K
  isplitl [HI]; · iexact HI
  isplitl [HR Ha]
  · iapply (ps_intro c)
    isplitl [HR] <;> iassumption
  iexact Ht

theorem regroup :
    (bigSep Finset.univ fun c : Dev nD => iprop((cellsOf c fun g => iprop(∃ κ : ℕ, cellInv ER (Rd I) κ g))
          ∗ (cellsOf c (fun g => atPos ER g 0 ∅ 0) ∗ cellsOf c fun g => reached ER g 0) ∗ toks c) : PP F)
      ⊢ bigSep Finset.univ (G' I) := by
  rw [bigSep_sep', bigSep_sep', bigSep_sep', ← BI.bigSep_univ_prod (fun y : Dev nD × CS => iprop(∃ κ : ℕ, cellInv ER (Rd I) κ (kcell y))),
    ← BI.bigSep_univ_prod (fun y : Dev nD × CS => (reached ER (kcell y) 0 : PP F))]
  iintro ⟨HI, ⟨Hat, HR⟩, Htok⟩
  ihave HK := (BI.bigSep_exists_pi Finset.univ (fun (y : Dev nD × CS) (κ : ℕ) => (cellInv ER (Rd I) κ (kcell y) : PP F))) $$ HI
  icases HK with ⟨%K, HI⟩
  ihave Htk := (Entails.of_eq (show (bigSep Finset.univ toks : PP F) = _ from deal)) $$ Htok
  iapply (with_persistent (R := records I K) fun c _ => ghost_intro I K c)
  isplitl [HI HR]
  · unfold records
    isplitl [HI] <;> iassumption
  · iapply (Entails.of_eq (bigSep_sep' Finset.univ (fun c : Dev nD => (cellsOf c (fun g => atPos ER g 0 ∅ 0) : PP F)) fun c => bigSep Finset.univ fun p : Fin 7 => pays p.val c).symm)
    isplitl [Hat]; · iexact Hat
    iexact Htk

/-- All devices' counters become the shared invariants at once. -/
theorem glob : (bigSep Finset.univ fun c => iprop(Pipeline.ownSems0 (Ix := ℕ) (Name := ℕ) (U := UU) (Lvl := ℕ) (Val := Elt F) (τ := τ) osem c ∗ unscopedSems0 c ∗ G I c) : PP F)
    ⊢ (|={Set.univ}=> bigSep Finset.univ (G' I) : PP F) :=
  ((BI.bigSep_mono fun c _ => core_alloc I c).trans (bigSep_fupd _ _)).trans (BI.fupd_mono (regroup I))

/-- The invariants, the levels, the credit and the tokens are what the body starts from. -/
theorem start_intro (c : Dev nD) : iprop(levAts LL lv ∗ launchCred (fun d => owe d allO) c ∗ G' I c)
    ⊢ (iprop(∃ K, Ctx I K ∗ PS 0 c ∗ FutAll c) : PP F) := by
  unfold G' Ctx
  iintro ⟨HL, Hc, %K, HI, HP, Ht⟩
  iexists K
  isplitl [HI HL]
  · isplitl [HI] <;> iassumption
  isplitl [HP]; · iexact HP
  ihave Hcr := (all_creds c) $$ Hc
  have e : iprop((creds 0 c ∗ creds 1 c ∗ creds 2 c ∗ creds 3 c ∗ creds 4 c ∗ creds 5 c ∗ creds 6 c) ∗ bigSep Finset.univ fun p : Fin 7 => pays p.val c) = FutAll (F := F) c := by
    rw [seven_univ]
    unfold FutAll
    simp only [← fut_intro]
    exact fourteen _ _ _ _ _ _ _ _ _ _ _ _ _ _
  iapply (Entails.of_eq e)
  isplitl [Hcr] <;> iassumption
where
  fourteen (a₀ a₁ a₂ a₃ a₄ a₅ a₆ b₀ b₁ b₂ b₃ b₄ b₅ b₆ : PP F) :
      iprop((a₀ ∗ a₁ ∗ a₂ ∗ a₃ ∗ a₄ ∗ a₅ ∗ a₆) ∗ b₀ ∗ b₁ ∗ b₂ ∗ b₃ ∗ b₄ ∗ b₅ ∗ b₆)
        = iprop((a₀ ∗ b₀) ∗ (a₁ ∗ b₁) ∗ (a₂ ∗ b₂) ∗ (a₃ ∗ b₃) ∗ (a₄ ∗ b₄) ∗ (a₅ ∗ b₅) ∗ (a₆ ∗ b₆)) := by ac_rfl

end Cert.Kernel

end
-- ==== Proof.Kernel.Launch.lean ====
module

public import proofs.«01_k».proof.Proof.Kernel.Point
public import proofs.«01_k».proof.Proof.Kernel.Deal
public import Idealize.ShloMosaic.Lib.Pipeline.CollectiveSegs

@[expose] public section

/-! # The run

Every execution of the kernel ends, with the arguments as they were, every counter at zero, and on every device the
result that `Out` states. -/

noncomputable section

namespace Cert.Kernel

open Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf ringCells ringToks)

theorem start (c : Dev nD) :
    iprop(Pipeline.unscopedRestP Pipeline.Prefetch.none cfg0.spec c (fun b => m ((c : Thread nD τ).loc b)) ∗ levAts LL lv
        ∗ Pipeline.launchCred (fun d => owe d allO) c ∗ prngReg c (ρ c) ∗ G' (inp m) c)
      ⊢ (|={Set.univ}=> iprop((∃ K, Ctx (inp m) K ∗ PS 0 c ∗ FutAll c) ∗ emp) : PP F) := by
  iintro ⟨-, Hlev, Hcr, -, HG⟩
  ihave H := (start_intro (inp m) c) $$ [Hlev Hcr HG]
  · isplitl [Hlev]; · iexact Hlev
    isplitl [Hcr] <;> iassumption
  imodintro
  isplitl
  · iexact H
  · iempintro

theorem scratch_eq (c : Dev nD) : (scratch c : PP F) = Pipeline.scopedRest cfg0.spec c := by
  rw [scopedRest0_eq]
  rfl

theorem enter (c : Dev nD) :
    iprop((∃ K, Ctx (inp m) K ∗ PS 0 c ∗ FutAll c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← scratch_eq]
  unfold Φ₀
  iintro ⟨Hs, -, Hr⟩
  isplitl [Hs] <;> iassumption

theorem close_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← scratch_eq]
  unfold Φ₁
  rw [show (bigSep Finset.univ fun cs : CS => (semVal (kcell (c, cs)) 0 : PP F)) = _ from sems_eq c]
  iintro ⟨Hr, Hu, Ho⟩
  isplitl [Hu]; · iexact Hu
  isplitl [Ho] <;> iassumption

/-- A staging semaphore is none of the protocol's. -/
theorem stage_sem : ∀ (cs : CS) (w : Fin 8) (s : Fin (spec0 w).nbuf), csem cs ≠ .dma ((spec0 w).sem s) := by decide +kernel

theorem lv_stage (c : Dev nD) (w : Fin 8) (s : Fin (spec0 w).nbuf) : lv ((c : Thread nD τ), .dma ((spec0 w).sem s)) 0 = 0 := by
  have h : find ((c : Thread nD τ), SemLoc.dma ((spec0 w).sem s)) = none :=
    find_none fun y h => stage_sem y.2 w s (congrArg (fun g : GSem nD τ sig => g.2) h)
  unfold lv
  rw [h]

theorem waits (c : Dev nD) : (levAts LL lv : PP F) ⊢ Pipeline.cellsWaits cfgs (dats m ρ) 0 0 c :=
  Pipeline.cellsWaits_intro cfgs (dats m ρ) 0 0 c fun w s t => by
    rcases t with ⟨_ | _, ht⟩
    · exact may_wait c _ (by decide) (lv_stage c w s) above_allO
    · show (levAts LL lv : PP F) ⊢ MayWait _ _ _ 0
      rw [MayWait_zero]; iintro -; iempintro

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 60000 in
/-- From any memory with zero counters, every fair execution of the kernel ends, each device's arrays as the call leaves
them and every counter at zero. -/
theorem run_main : θ_run defs (onTc (τ := τ) (main (F := F))) (s₀ m ρ) (fun r => QC m ρ r ∧ r.2.sem = fun _ => 0) := by
  refine Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := ?hmain)
    (hbody := ?hbody) (hne := ?hne) (harr := ?harr) (hstage := ?hstage) (hshare := ?hshare)
    (hdistinct := ?hd)
    (O₀ := fun d => owe d allO) (howed₀ := ?h0) (howedN := ?hN)
    (L := LL) (lv := lv) (hL := ?hL) (hwaits := ?hw)
    (G := G (inp m)) (G' := G' (inp m)) (u₀ := u₀)
    (hu₀ := ?hu)
    (hglob := ?hglob)
    (hA := ?hA) (hpf := ?hpf)
    (X := fun c => iprop(∃ K, Ctx (inp m) K ∗ PS 0 c ∗ FutAll c)) (Y := fun c => unscopedSems0 c) (Z := fun _ => iprop(emp))
    (hX := ?hX) (hin := ?hin) (hout := ?hout)
    (QY := fun c s => ∀ sm : SemLoc sig, sm.isScoped .tc = false → s.sem ((c.tc : Thread nD τ), sm) = 0)
    (hY := ?hY) (hQ := ?hQ)
  case hmain => exact fun _ => rfl
  case hbody =>
    intro c
    exact Eq.mp (by chain_rfl) (body_obligation m ρ c)
  case hne => exact block_pos0
  case harr => exact arr_whole0
  case hstage => exact stage_whole0
  case hshare => exact share_eq m ρ
  case hd => exact winFacts0.arr_inj
  case h0 => exact fun _ => rfl
  case hN => exact fun _ => rfl
  case hL => exact LL_of_ne
  case hw => exact waits m ρ
  case hglob => exact glob (inp m)
  case hA => exact fun _ _ => rfl
  case hpf => exact fun _ k => k.elim0
  case hX => exact start m ρ
  case hin => exact enter m ρ
  case hout => exact close_out m ρ
  case hu =>
    unfold u₀
    iintro Hu
    ihave H := (ownU_pair _ _) $$ Hu
    icases H with ⟨HP, HX⟩
    imod (fund_ring (inp m)) $$ HX with HG
    imodintro
    isplitl [HP] <;> iassumption
  case hY =>
    intro c s'
    iintro ⟨Hu, -, HSI⟩
    iapply (Pipeline.unscopedSems0_read (X := unscopedSems0 c) (c := c) fupd_intro s')
    isplitl [Hu] <;> iassumption
  case hQ => exact fun _ h hs => ⟨fun c w => (h c).1 w, sem_eq_zero hs fun c => (h c).2.2⟩

/-- An argument's array is left as it was. -/
theorem finalA_in (c : Dev nD) (w : Fin 8) (hw : w ≠ 7) : finalA m ρ c w = (s₀ m ρ).mem ((cfg0.win w).arr.view.loc (c : Thread nD τ)) :=
  (dats (F := F) m ρ 0 c).arrAt_in w (by revert w; decide) _

end Cert.Kernel

end
-- ==== Proof.Final.lean ====
module

public import proofs.«01_k».proof.Proof.Kernel.Launch
public import Idealize.ShloMosaic.Lib.Pipeline.Value

@[expose] public section

/-! # What the kernel's run leaves

The arguments are kept, every semaphore counter is zero, and every device's result is the last layer's activations. -/

noncomputable section

namespace Cert.Kernel

open Cert.Kernel.Gen
open Idealize.ShloMosaic Idealize.ShloMosaic.TcCoe Idealize.SL.Sem
open Idealize.ShloMosaic.Pipeline (Dat Cfg Window BodyObligation cellOf)

variable {F : FTy → Type} [FloatOps F]

/-- The devices' inputs as their buffers hold them. -/
def inputs (m : (ℓ : Loc nD τ sig) → Buf (Elt F) ℓ) : Inp F where
  x := fun c => m ((c.tc : Thread nD τ).loc main_arg0)
  W := fun l c => match l with
    | 0 => m ((c.tc : Thread nD τ).loc main_arg1)
    | 1 => m ((c.tc : Thread nD τ).loc main_arg2)
    | 2 => m ((c.tc : Thread nD τ).loc main_arg3)
  U := fun l c => match l with
    | 0 => m ((c.tc : Thread nD τ).loc main_arg4)
    | 1 => m ((c.tc : Thread nD τ).loc main_arg5)
    | 2 => m ((c.tc : Thread nD τ).loc main_arg6)

variable (m : (ℓ : Loc nD τ sig) → Buf (Elt F) ℓ) (ρ : Dev nD → PrngReg)

theorem blk_emb_0 (i : S512x256.Idx) : (win0_0.blk (0 : Fin 1)).view.emb i = i :=
  funext fun a => Fin.ext (Pipeline.Window.rect_emb_val_of_index_zero win0_0 (0 : Fin 1) a rfl i)

theorem blk_emb_7 (t : Fin 1) (i : S16x4x128x256.Idx) : (win0_7.blk t).view.emb i = i :=
  funext fun a => Fin.ext (Pipeline.Window.rect_emb_val_of_index_zero win0_7 t a rfl i)

/-- The inputs read through the windows are the buffers' contents. -/
theorem inp_eq : inp m = inputs m := by
  unfold inp inputs
  congr 1
  · funext c i
    exact congrArg (m ((c.tc : Thread nD τ).loc main_arg0)) (blk_emb_0 i)
  · funext l c i
    match l with
    | 0 => exact congrArg (m ((c.tc : Thread nD τ).loc main_arg1)) (funext fun a => Fin.ext (Pipeline.Window.rect_emb_val_of_index_zero win0_1 (0 : Fin 1) a rfl i))
    | 1 => exact congrArg (m ((c.tc : Thread nD τ).loc main_arg2)) (funext fun a => Fin.ext (Pipeline.Window.rect_emb_val_of_index_zero win0_3 (0 : Fin 1) a rfl i))
    | 2 => exact congrArg (m ((c.tc : Thread nD τ).loc main_arg3)) (funext fun a => Fin.ext (Pipeline.Window.rect_emb_val_of_index_zero win0_5 (0 : Fin 1) a rfl i))
  · funext l c i
    match l with
    | 0 => exact congrArg (m ((c.tc : Thread nD τ).loc main_arg4)) (funext fun a => Fin.ext (Pipeline.Window.rect_emb_val_of_index_zero win0_2 (0 : Fin 1) a rfl i))
    | 1 => exact congrArg (m ((c.tc : Thread nD τ).loc main_arg5)) (funext fun a => Fin.ext (Pipeline.Window.rect_emb_val_of_index_zero win0_4 (0 : Fin 1) a rfl i))
    | 2 => exact congrArg (m ((c.tc : Thread nD τ).loc main_arg6)) (funext fun a => Fin.ext (Pipeline.Window.rect_emb_val_of_index_zero win0_6 (0 : Fin 1) a rfl i))

/-- The result's buffer at the end. -/
theorem finalA_out (c : Dev nD) : finalA m ρ c (7 : Fin 8) = Out (inp m) := by
  refine Dat.arrAt_eq_of_cover (dats m ρ 0 c) (7 : Fin 8) (Out (inp m)) (fun t _ => ?_) (fun i => ?_)
  · funext i
    exact (congrArg (Out (inp m)) (blk_emb_7 t i)).symm
  · exact ⟨(0 : Fin 1), flush0_7 _, by
      have h := View.emb_mem_set (win0_7.blk (0 : Fin 1)).view i
      rw [blk_emb_7] at h
      exact h⟩

/-- The kernel's run: every device's result, its arguments kept, and every semaphore counter at zero. -/
theorem run : θ_run defs (onTc (τ := τ) (main (F := F))) ⟨m, fun _ => 0, ρ⟩ fun r =>
    (∀ c : Dev nD, r.2.mem ((c.tc : Thread nD τ).loc main_v1) = Out (inputs m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0 := by
  refine (θ_run defs _ _).mono (fun r h => ⟨fun c => ?_, h.2⟩) (run_main m ρ)
  have a := h.1 c
  exact ⟨((a (7 : Fin 8)).trans (finalA_out m ρ c)).trans (congrArg Out (inp_eq m)),
    (a (0 : Fin 8)).trans (finalA_in m ρ c 0 (by decide)), (a (1 : Fin 8)).trans (finalA_in m ρ c 1 (by decide)),
    (a (3 : Fin 8)).trans (finalA_in m ρ c 3 (by decide)), (a (5 : Fin 8)).trans (finalA_in m ρ c 5 (by decide)),
    (a (2 : Fin 8)).trans (finalA_in m ρ c 2 (by decide)), (a (4 : Fin 8)).trans (finalA_in m ρ c 4 (by decide)),
    (a (6 : Fin 8)).trans (finalA_in m ρ c 6 (by decide))⟩

end Cert.Kernel

end
-- ==== Proof.Transport.lean ====
module

public import proofs.«01_k».proof.Kernel
public import proofs.«01_k».proof.KernelIdeal
public import Idealize.ShloMosaic.Lib.Pipeline.Regions
public import Idealize.ShloMosaic.Adequacy
public import Idealize.ShloMosaic.PureOps.Ideal

@[expose] public section

/-! # The two printed kernels are one text

The idealization rewrote no operation, so the program printed for reading over the reals is the kernel's own text.
What is proved of one, for whatever floats, is proved of the other. -/

noncomputable section

namespace Cert

open Idealize.ShloMosaic Idealize.SL.Sem

/-- A run of the idealized kernel is a run of the kernel read over the reals. -/
theorem ideal_run [Kernel.Facts] [KernelIdeal.Facts] (m : (ℓ : Loc Kernel.nD Kernel.τ Kernel.sig) → Buf (Elt Ideal) ℓ)
    (g : Dev Kernel.nD → PrngReg) (Q : PUnit × MemSt Kernel.nD Kernel.τ Kernel.sig (Elt Ideal) → Prop) :
    θ_run (KernelIdeal.defs (F := Ideal)) (onTc (τ := KernelIdeal.τ) (KernelIdeal.main (F := Ideal))) ⟨m, fun _ => 0, g⟩ Q
      = θ_run (Kernel.defs (F := Ideal)) (onTc (τ := Kernel.τ) (Kernel.main (F := Ideal))) ⟨m, fun _ => 0, g⟩ Q := by
  chain_rfl

end Cert

end
-- ==== Proof.Algebraic.lean ====
module

public import proofs.«01_k».proof.Proof.Ideal.Equation
public import proofs.«01_k».proof.Proof.Final
public import proofs.«01_k».proof.Proof.Transport
public import proofs.«01_k».proof.Proof.Gen.KernelIdeal
public import proofs.«01_k».proof.Defs

@[expose] public section

/-! # The claims

The frames of the kernel, of its ideal form and of the reference, and the equality of the last two's results. -/

noncomputable section

namespace Cert

open Idealize.ShloMosaic Idealize.SL.Sem Idealize.ShloMosaic.TcCoe

/-- The devices' parts of the rows, in coordinates. -/
theorem block_rows (c : Fin 16) (v : (⟨2, ![8192, 256]⟩ : Shape).Idx → EReal) (r : Fin 512) (j : Fin 256) :
    Layout.block ⟨2, ![512, 256]⟩ ⟨2, ![8192, 256]⟩ 0 16 c v (by decide) (ix2 r j) = v (ix2 (Kernel.at16 c r) j) := by
  rw [Layout.block_apply]
  refine congrArg v (funext fun b => Fin.ext ?_)
  rw [Layout.Tiles.idx_val]
  match b with
  | 0 => show c.val * 512 + r.val = 512 * c.val + r.val; omega
  | 1 => rfl

/-- The devices' parts of the columns, in coordinates. -/
theorem block_cols (c : Fin 16) (v : (⟨2, ![256, 8192]⟩ : Shape).Idx → EReal) (d : Fin 256) (h : Fin 512) :
    Layout.block ⟨2, ![256, 512]⟩ ⟨2, ![256, 8192]⟩ 1 16 c v (by decide) (ix2 d h) = v (ix2 d (Kernel.at16 c h)) := by
  rw [Layout.block_apply]
  refine congrArg v (funext fun b => Fin.ext ?_)
  rw [Layout.Tiles.idx_val]
  match b with
  | 0 => rfl
  | 1 => show c.val * 512 + h.val = 512 * c.val + h.val; omega

/-- Every execution of the kernel ends, its arguments kept and every semaphore counter at zero. -/
theorem frame_Kernel : quiescent_Kernel (hKernel := Kernel.Gen.facts) := fun m g _ =>
  (θ_run Kernel.defs _ _).mono (fun _ h => ⟨fun c => (h.1 c).2, h.2⟩) (Kernel.run (F := Bits) m g)

/-- The same of its ideal form, which is the same program. -/
theorem frame_KernelIdeal : quiescent_KernelIdeal (hKernelIdeal := KernelIdeal.Gen.facts) := fun m g _ => by
  letI := KernelIdeal.Gen.facts
  rw [ideal_run]
  exact (θ_run Kernel.defs _ _).mono (fun _ h => ⟨fun c => (h.1 c).2, h.2⟩) (Kernel.run (F := Ideal) m g)

/-- The same of the reference. -/
theorem frame_ReferenceIdeal : quiescent_ReferenceIdeal (hReferenceIdeal := ReferenceIdeal.Gen.facts) := fun m g _ =>
  ReferenceIdeal.Run.frame (F := Ideal) m g

section

variable (m : (ℓ : Loc Kernel.nD Kernel.τ Kernel.sig) → Buf (Elt Ideal) ℓ)
variable (m' : (ℓ : Loc ReferenceIdeal.nD ReferenceIdeal.τ ReferenceIdeal.sig) → Buf (Elt Ideal) ℓ)

/-- The reference's rows of `x`. -/
abbrev refX : FVec Ideal ReferenceIdeal.S8192x256 .f32 :=
  m' (((0 : Dev ReferenceIdeal.nD).tc : Thread ReferenceIdeal.nD ReferenceIdeal.τ).loc ReferenceIdeal.main_arg0)

/-- The reference's first weights of each layer. -/
def refW : Fin 3 → FVec Ideal ReferenceIdeal.S256x8192 .f32
  | 0 => m' (((0 : Dev ReferenceIdeal.nD).tc : Thread ReferenceIdeal.nD ReferenceIdeal.τ).loc ReferenceIdeal.main_arg1)
  | 1 => m' (((0 : Dev ReferenceIdeal.nD).tc : Thread ReferenceIdeal.nD ReferenceIdeal.τ).loc ReferenceIdeal.main_arg2)
  | 2 => m' (((0 : Dev ReferenceIdeal.nD).tc : Thread ReferenceIdeal.nD ReferenceIdeal.τ).loc ReferenceIdeal.main_arg3)

/-- The reference's second weights of each layer. -/
def refU : Fin 3 → FVec Ideal ReferenceIdeal.S8192x256 .f32
  | 0 => m' (((0 : Dev ReferenceIdeal.nD).tc : Thread ReferenceIdeal.nD ReferenceIdeal.τ).loc ReferenceIdeal.main_arg4)
  | 1 => m' (((0 : Dev ReferenceIdeal.nD).tc : Thread ReferenceIdeal.nD ReferenceIdeal.τ).loc ReferenceIdeal.main_arg5)
  | 2 => m' (((0 : Dev ReferenceIdeal.nD).tc : Thread ReferenceIdeal.nD ReferenceIdeal.τ).loc ReferenceIdeal.main_arg6)

/-- The devices' buffers hold their blocks of the reference's arrays. -/
def Agree : Prop := ∀ c : Dev Kernel.nD,
  (Kernel.inputs m).x c = Layout.block ⟨2, ![512, 256]⟩ ⟨2, ![8192, 256]⟩ 0 16 c (refX m') (by decide)
  ∧ (∀ l, (Kernel.inputs m).W l c = Layout.block ⟨2, ![256, 512]⟩ ⟨2, ![256, 8192]⟩ 1 16 c (refW m' l) (by decide))
  ∧ ∀ l, (Kernel.inputs m).U l c = Layout.block ⟨2, ![512, 256]⟩ ⟨2, ![8192, 256]⟩ 0 16 c (refU m' l) (by decide)

variable {m m'}

/-- The same in coordinates. -/
theorem held (H : Agree m m') : Kernel.Held (Kernel.inputs m) (refX m') (refW m') (refU m') where
  x c r j := (congrFun (H c).1 (ix2 r j)).trans (block_rows c _ r j)
  W l c d h := (congrFun ((H c).2.1 l) (ix2 d h)).trans (block_cols c _ d h)
  U l c h j := (congrFun ((H c).2.2 l) (ix2 h j)).trans (block_rows c _ h j)

open ReferenceIdeal.Run (refLayer) in
/-- The reference's three layers. -/
theorem refAct_three (x : FVec Ideal ReferenceIdeal.S8192x256 .f32) (W : Fin 3 → FVec Ideal ReferenceIdeal.S256x8192 .f32)
    (U : Fin 3 → FVec Ideal ReferenceIdeal.S8192x256 .f32) :
    Kernel.refAct x W U 3 = refLayer (refLayer (refLayer x (W 0) (U 0)) (W 1) (U 1)) (W 2) (U 2) := rfl

/-- The reference's result as the kernel's run leaves it. -/
def refOut (m' : (ℓ : Loc ReferenceIdeal.nD ReferenceIdeal.τ ReferenceIdeal.sig) → Buf (Elt Ideal) ℓ) : FVec Ideal ReferenceIdeal.S16x4x128x256 .f32 :=
  ReferenceIdeal.Run.result (Kernel.refAct (refX m') (refW m') (refU m') 3)

theorem out_eq (H : Agree m m') : Kernel.Out (Kernel.inputs m) = refOut m' := Kernel.Out_eq (held H)

end

/-- In exact arithmetic, with the devices holding their blocks of the reference's arrays, every device's result is the
    reference's whole result. -/
theorem algebraic : algebraic_KernelIdeal_ReferenceIdeal (hKernelIdeal := KernelIdeal.Gen.facts) (hReferenceIdeal := ReferenceIdeal.Gen.facts) := by
  intro m g m' g' _ H
  have hH : Agree m m' := fun c => ⟨(H c).1,
    fun l => match l with
      | 0 => (H c).2.1
      | 1 => (H c).2.2.1
      | 2 => (H c).2.2.2.1,
    fun l => match l with
      | 0 => (H c).2.2.2.2.1
      | 1 => (H c).2.2.2.2.2.1
      | 2 => (H c).2.2.2.2.2.2⟩
  have e := out_eq hH
  refine ⟨refOut m', ?_, ?_⟩
  · letI := KernelIdeal.Gen.facts
    rw [ideal_run]
    refine (θ_run Kernel.defs _ _).mono (fun _ h c => ?_) (Kernel.run (F := Ideal) m g)
    rw [← e]
    exact h.1 c
  · have e' := congrArg ReferenceIdeal.Run.result (refAct_three (refX m') (refW m') (refU m'))
    refine (θ_run ReferenceIdeal.defs _ _).mono (fun _ h => ⟨?_, h.2⟩) (ReferenceIdeal.Run.run_main (F := Ideal) m' g')
    exact h.1.trans e'.symm

end Cert

end
-- ==== Proof.lean ====
module

public import proofs.«01_k».proof.Defs
public import proofs.«01_k».proof.Proof.Algebraic

@[expose] public section

noncomputable section

namespace Cert.Proof

/-- Everything that is claimed. -/
theorem claim : Cert.Claim :=
  ⟨Cert.Kernel.Gen.facts, Cert.KernelIdeal.Gen.facts, Cert.ReferenceIdeal.Gen.facts,
    Cert.frame_Kernel, Cert.frame_KernelIdeal, Cert.frame_ReferenceIdeal, trivial, Cert.algebraic⟩

end Cert.Proof

end
